-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_bounded [hPre_bounded : Cert.Pre_bounded.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_bounded.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_bounded [hPre_bounded : Cert.Pre_bounded.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_bounded.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_bounded [hKernel3Ideal : Cert.Kernel3Ideal.Facts] [hPre_bounded : Cert.Pre_bounded.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_bounded m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_bounded [hReference3Ideal : Cert.Reference3Ideal.Facts] [hPre_bounded : Cert.Pre_bounded.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_bounded m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_bounded [hKernel3Ideal : Cert.Kernel3Ideal.Facts] [hReference3Ideal : Cert.Reference3Ideal.Facts] [hPre_bounded : Cert.Pre_bounded.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_bounded m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)) (v1 : (c : Dev Cert.Kernel3Ideal.nD) → Buf (Elt Ideal) ((c.tc : Thread Cert.Kernel3Ideal.nD Cert.Kernel3Ideal.τ).loc Cert.Kernel3Ideal.main_v3)) (v2 : (c : Dev Cert.Kernel3Ideal.nD) → Buf (Elt Ideal) ((c.tc : Thread Cert.Kernel3Ideal.nD Cert.Kernel3Ideal.τ).loc Cert.Kernel3Ideal.main_v4)) (v3 : (c : Dev Cert.Kernel3Ideal.nD) → Buf (Elt Ideal) ((c.tc : Thread Cert.Kernel3Ideal.nD Cert.Kernel3Ideal.τ).loc Cert.Kernel3Ideal.main_v2)) (v4 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_v3) = v1 c
          ∧ r.2.mem ((c.tc : Thread Cert.Kernel3Ideal.nD Cert.Kernel3Ideal.τ).loc Cert.Kernel3Ideal.main_v4) = v2 c
          ∧ r.2.mem ((c.tc : Thread Cert.Kernel3Ideal.nD Cert.Kernel3Ideal.τ).loc Cert.Kernel3Ideal.main_v2) = v3 c
          ∧ r.2.mem ((c.tc : Thread Cert.Kernel3Ideal.nD Cert.Kernel3Ideal.τ).loc Cert.Kernel3Ideal.main_v6) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_v10) = v3 c
          ∧ r.2.mem ((c.tc : Thread Cert.Reference3Ideal.nD Cert.Reference3Ideal.τ).loc Cert.Reference3Ideal.main_v23) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)) (v4 : (c : Dev Cert.Kernel4Ideal.nD) → Buf (Elt Ideal) ((c.tc : Thread Cert.Kernel4Ideal.nD Cert.Kernel4Ideal.τ).loc Cert.Kernel4Ideal.main_v4)) (v5 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_v5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v8) = v4 c
          ∧ r.2.mem ((c.tc : Thread Cert.Reference4Ideal.nD Cert.Reference4Ideal.τ).loc Cert.Reference4Ideal.main_v16) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)) (v1 : (c : Dev Cert.Kernel5Ideal.nD) → Buf (Elt Ideal) ((c.tc : Thread Cert.Kernel5Ideal.nD Cert.Kernel5Ideal.τ).loc Cert.Kernel5Ideal.main_v2_0)) (v2 : (c : Dev Cert.Kernel5Ideal.nD) → Buf (Elt Ideal) ((c.tc : Thread Cert.Kernel5Ideal.nD Cert.Kernel5Ideal.τ).loc Cert.Kernel5Ideal.main_v5)) (v3 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_v2_0) = v1 c
          ∧ r.2.mem ((c.tc : Thread Cert.Kernel5Ideal.nD Cert.Kernel5Ideal.τ).loc Cert.Kernel5Ideal.main_v5) = v2 c
          ∧ r.2.mem ((c.tc : Thread Cert.Kernel5Ideal.nD Cert.Kernel5Ideal.τ).loc Cert.Kernel5Ideal.main_v4) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v70) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v2)) (v2 : (c : Dev Cert.Kernel6Ideal.nD) → Buf (Elt Ideal) ((c.tc : Thread Cert.Kernel6Ideal.nD Cert.Kernel6Ideal.τ).loc Cert.Kernel6Ideal.main_v3_0)) (v3 : (c : Dev Cert.Kernel6Ideal.nD) → Buf (Elt Ideal) ((c.tc : Thread Cert.Kernel6Ideal.nD Cert.Kernel6Ideal.τ).loc Cert.Kernel6Ideal.main_v3_1)) (v4 : (c : Dev Cert.Kernel6Ideal.nD) → Buf (Elt Ideal) ((c.tc : Thread Cert.Kernel6Ideal.nD Cert.Kernel6Ideal.τ).loc Cert.Kernel6Ideal.main_v3_2)) (v5 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v2) = v1 c
          ∧ r.2.mem ((c.tc : Thread Cert.Kernel6Ideal.nD Cert.Kernel6Ideal.τ).loc Cert.Kernel6Ideal.main_v3_0) = v2 c
          ∧ r.2.mem ((c.tc : Thread Cert.Kernel6Ideal.nD Cert.Kernel6Ideal.τ).loc Cert.Kernel6Ideal.main_v3_1) = v3 c
          ∧ r.2.mem ((c.tc : Thread Cert.Kernel6Ideal.nD Cert.Kernel6Ideal.τ).loc Cert.Kernel6Ideal.main_v3_2) = v4 c
          ∧ r.2.mem ((c.tc : Thread Cert.Kernel6Ideal.nD Cert.Kernel6Ideal.τ).loc Cert.Kernel6Ideal.main_v3_3) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v40) = v3 c
          ∧ r.2.mem ((c.tc : Thread Cert.Reference6Ideal.nD Cert.Reference6Ideal.τ).loc Cert.Reference6Ideal.main_v21) = v4 c
          ∧ r.2.mem ((c.tc : Thread Cert.Reference6Ideal.nD Cert.Reference6Ideal.τ).loc Cert.Reference6Ideal.main_v27) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v1_0)) (v5 : (c : Dev Cert.Kernel7Ideal.nD) → Buf (Elt Ideal) ((c.tc : Thread Cert.Kernel7Ideal.nD Cert.Kernel7Ideal.τ).loc Cert.Kernel7Ideal.main_v1_1)) (v6 : (c : Dev Cert.Kernel7Ideal.nD) → Buf (Elt Ideal) ((c.tc : Thread Cert.Kernel7Ideal.nD Cert.Kernel7Ideal.τ).loc Cert.Kernel7Ideal.main_v1_2)) (v7 : (c : Dev Cert.Kernel7Ideal.nD) → Buf (Elt Ideal) ((c.tc : Thread Cert.Kernel7Ideal.nD Cert.Kernel7Ideal.τ).loc Cert.Kernel7Ideal.main_v1_3)) (v8 : (c : Dev Cert.Kernel7Ideal.nD) → Buf (Elt Ideal) ((c.tc : Thread Cert.Kernel7Ideal.nD Cert.Kernel7Ideal.τ).loc Cert.Kernel7Ideal.main_v2_0)) (v9 : (c : Dev Cert.Kernel7Ideal.nD) → Buf (Elt Ideal) ((c.tc : Thread Cert.Kernel7Ideal.nD Cert.Kernel7Ideal.τ).loc Cert.Kernel7Ideal.main_v2_1)) (v10 : (c : Dev Cert.Kernel7Ideal.nD) → Buf (Elt Ideal) ((c.tc : Thread Cert.Kernel7Ideal.nD Cert.Kernel7Ideal.τ).loc Cert.Kernel7Ideal.main_v2_2)) (v11 : (c : Dev Cert.Kernel7Ideal.nD) → Buf (Elt Ideal) ((c.tc : Thread Cert.Kernel7Ideal.nD Cert.Kernel7Ideal.τ).loc Cert.Kernel7Ideal.main_v2_3)) (v12 : (c : Dev Cert.Kernel7Ideal.nD) → Buf (Elt Ideal) ((c.tc : Thread Cert.Kernel7Ideal.nD Cert.Kernel7Ideal.τ).loc Cert.Kernel7Ideal.main_v3_0)) (v13 : (c : Dev Cert.Kernel7Ideal.nD) → Buf (Elt Ideal) ((c.tc : Thread Cert.Kernel7Ideal.nD Cert.Kernel7Ideal.τ).loc Cert.Kernel7Ideal.main_v3_1)) (v14 : (c : Dev Cert.Kernel7Ideal.nD) → Buf (Elt Ideal) ((c.tc : Thread Cert.Kernel7Ideal.nD Cert.Kernel7Ideal.τ).loc Cert.Kernel7Ideal.main_v3_2)) (v15 : (c : Dev Cert.Kernel7Ideal.nD) → Buf (Elt Ideal) ((c.tc : Thread Cert.Kernel7Ideal.nD Cert.Kernel7Ideal.τ).loc Cert.Kernel7Ideal.main_v3_3)) (v16 : (c : Dev Cert.Kernel7Ideal.nD) → Buf (Elt Ideal) ((c.tc : Thread Cert.Kernel7Ideal.nD Cert.Kernel7Ideal.τ).loc Cert.Kernel7Ideal.main_v4_0)) (v17 : (c : Dev Cert.Kernel7Ideal.nD) → Buf (Elt Ideal) ((c.tc : Thread Cert.Kernel7Ideal.nD Cert.Kernel7Ideal.τ).loc Cert.Kernel7Ideal.main_v4_1)) (v18 : (c : Dev Cert.Kernel7Ideal.nD) → Buf (Elt Ideal) ((c.tc : Thread Cert.Kernel7Ideal.nD Cert.Kernel7Ideal.τ).loc Cert.Kernel7Ideal.main_v4_2)) (v19 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v1_0) = v4 c
          ∧ r.2.mem ((c.tc : Thread Cert.Kernel7Ideal.nD Cert.Kernel7Ideal.τ).loc Cert.Kernel7Ideal.main_v1_1) = v5 c
          ∧ r.2.mem ((c.tc : Thread Cert.Kernel7Ideal.nD Cert.Kernel7Ideal.τ).loc Cert.Kernel7Ideal.main_v1_2) = v6 c
          ∧ r.2.mem ((c.tc : Thread Cert.Kernel7Ideal.nD Cert.Kernel7Ideal.τ).loc Cert.Kernel7Ideal.main_v1_3) = v7 c
          ∧ r.2.mem ((c.tc : Thread Cert.Kernel7Ideal.nD Cert.Kernel7Ideal.τ).loc Cert.Kernel7Ideal.main_v2_0) = v8 c
          ∧ r.2.mem ((c.tc : Thread Cert.Kernel7Ideal.nD Cert.Kernel7Ideal.τ).loc Cert.Kernel7Ideal.main_v2_1) = v9 c
          ∧ r.2.mem ((c.tc : Thread Cert.Kernel7Ideal.nD Cert.Kernel7Ideal.τ).loc Cert.Kernel7Ideal.main_v2_2) = v10 c
          ∧ r.2.mem ((c.tc : Thread Cert.Kernel7Ideal.nD Cert.Kernel7Ideal.τ).loc Cert.Kernel7Ideal.main_v2_3) = v11 c
          ∧ r.2.mem ((c.tc : Thread Cert.Kernel7Ideal.nD Cert.Kernel7Ideal.τ).loc Cert.Kernel7Ideal.main_v3_0) = v12 c
          ∧ r.2.mem ((c.tc : Thread Cert.Kernel7Ideal.nD Cert.Kernel7Ideal.τ).loc Cert.Kernel7Ideal.main_v3_1) = v13 c
          ∧ r.2.mem ((c.tc : Thread Cert.Kernel7Ideal.nD Cert.Kernel7Ideal.τ).loc Cert.Kernel7Ideal.main_v3_2) = v14 c
          ∧ r.2.mem ((c.tc : Thread Cert.Kernel7Ideal.nD Cert.Kernel7Ideal.τ).loc Cert.Kernel7Ideal.main_v3_3) = v15 c
          ∧ r.2.mem ((c.tc : Thread Cert.Kernel7Ideal.nD Cert.Kernel7Ideal.τ).loc Cert.Kernel7Ideal.main_v4_0) = v16 c
          ∧ r.2.mem ((c.tc : Thread Cert.Kernel7Ideal.nD Cert.Kernel7Ideal.τ).loc Cert.Kernel7Ideal.main_v4_1) = v17 c
          ∧ r.2.mem ((c.tc : Thread Cert.Kernel7Ideal.nD Cert.Kernel7Ideal.τ).loc Cert.Kernel7Ideal.main_v4_2) = v18 c
          ∧ r.2.mem ((c.tc : Thread Cert.Kernel7Ideal.nD Cert.Kernel7Ideal.τ).loc Cert.Kernel7Ideal.main_v4_3) = v19 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_v27) = v4 c
          ∧ r.2.mem ((c.tc : Thread Cert.Reference7Ideal.nD Cert.Reference7Ideal.τ).loc Cert.Reference7Ideal.main_v51) = v5 c
          ∧ r.2.mem ((c.tc : Thread Cert.Reference7Ideal.nD Cert.Reference7Ideal.τ).loc Cert.Reference7Ideal.main_v32) = v6 c
          ∧ r.2.mem ((c.tc : Thread Cert.Reference7Ideal.nD Cert.Reference7Ideal.τ).loc Cert.Reference7Ideal.main_v38) = v7 c
          ∧ r.2.mem ((c.tc : Thread Cert.Reference7Ideal.nD Cert.Reference7Ideal.τ).loc Cert.Reference7Ideal.main_v53) = v8 c
          ∧ r.2.mem ((c.tc : Thread Cert.Reference7Ideal.nD Cert.Reference7Ideal.τ).loc Cert.Reference7Ideal.main_v77) = v9 c
          ∧ r.2.mem ((c.tc : Thread Cert.Reference7Ideal.nD Cert.Reference7Ideal.τ).loc Cert.Reference7Ideal.main_v58) = v10 c
          ∧ r.2.mem ((c.tc : Thread Cert.Reference7Ideal.nD Cert.Reference7Ideal.τ).loc Cert.Reference7Ideal.main_v64) = v11 c
          ∧ r.2.mem ((c.tc : Thread Cert.Reference7Ideal.nD Cert.Reference7Ideal.τ).loc Cert.Reference7Ideal.main_v79) = v12 c
          ∧ r.2.mem ((c.tc : Thread Cert.Reference7Ideal.nD Cert.Reference7Ideal.τ).loc Cert.Reference7Ideal.main_v103) = v13 c
          ∧ r.2.mem ((c.tc : Thread Cert.Reference7Ideal.nD Cert.Reference7Ideal.τ).loc Cert.Reference7Ideal.main_v84) = v14 c
          ∧ r.2.mem ((c.tc : Thread Cert.Reference7Ideal.nD Cert.Reference7Ideal.τ).loc Cert.Reference7Ideal.main_v90) = v15 c
          ∧ r.2.mem ((c.tc : Thread Cert.Reference7Ideal.nD Cert.Reference7Ideal.τ).loc Cert.Reference7Ideal.main_v104) = v16 c
          ∧ r.2.mem ((c.tc : Thread Cert.Reference7Ideal.nD Cert.Reference7Ideal.τ).loc Cert.Reference7Ideal.main_v128) = v17 c
          ∧ r.2.mem ((c.tc : Thread Cert.Reference7Ideal.nD Cert.Reference7Ideal.τ).loc Cert.Reference7Ideal.main_v109) = v18 c
          ∧ r.2.mem ((c.tc : Thread Cert.Reference7Ideal.nD Cert.Reference7Ideal.τ).loc Cert.Reference7Ideal.main_v115) = v19 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19))

def preserves_Kernel_KernelIdeal : Prop :=
  True

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel : Cert.Kernel.Facts) (hKernelIdeal : Cert.KernelIdeal.Facts) (hReferenceIdeal : Cert.ReferenceIdeal.Facts) (hPre_bounded : Cert.Pre_bounded.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_bounded (hKernel3Ideal := hKernel3Ideal) (hPre_bounded := hPre_bounded)
    ∧ quiescent_Reference3Ideal (hReference3Ideal := hReference3Ideal)
    ∧ quiescent_Reference3Ideal_pre_bounded (hReference3Ideal := hReference3Ideal) (hPre_bounded := hPre_bounded)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel (hKernel := hKernel)
    ∧ quiescent_KernelIdeal (hKernelIdeal := hKernelIdeal)
    ∧ quiescent_ReferenceIdeal (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_bounded (hKernel3Ideal := hKernel3Ideal) (hReference3Ideal := hReference3Ideal) (hPre_bounded := hPre_bounded)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel_KernelIdeal
-- ==== Pre_bounded.lean ====
abbrev S16384x1024 : Shape := ⟨2, ![16384, 1024]⟩
abbrev S1024x2816 : Shape := ⟨2, ![1024, 2816]⟩
abbrev S2816x1024 : Shape := ⟨2, ![2816, 1024]⟩
abbrev S38400x1024 : Shape := ⟨2, ![38400, 1024]⟩
abbrev S_ : Shape := ⟨0, ![]⟩

class Facts : Prop where
  transposes_S1024x2816_S2816x1024_1_0 : S1024x2816.Transposes [1, 0] S2816x1024
  bitsLt_bf16_f32 : FTy.bits .bf16 < FTy.bits .f32
  concatenates_S16384x1024_S2816x1024_S2816x1024_S16384x1024_S38400x1024_d0 : Shape.Concatenates [S16384x1024, S2816x1024, S2816x1024, S16384x1024] S38400x1024 0
  bcast_S_S38400x1024 : S_.BroadcastsInDim S38400x1024 (![] : Fin 0 → Fin S38400x1024.rank)

variable [Facts]

def fn {F : FTy → Type} [FloatOps F] (main_arg0 : FVec F S16384x1024 .bf16) (main_arg1 : FVec F S1024x2816 .bf16) (main_arg2 : FVec F S1024x2816 .bf16) (main_arg3 : FVec F S2816x1024 .bf16) (main_arg4 : FVec F S16384x1024 .f32) (main_arg5 : FVec F S16384x1024 .f32) : IVec S38400x1024 1 :=
  let main_v0 : FVec F S2816x1024 .bf16 := (transpose S2816x1024 [1, 0] · transposes_S1024x2816_S2816x1024_1_0) main_arg2
  let main_v1 : FVec F S16384x1024 .f32 := (extf .f32 · bitsLt_bf16_f32) main_arg0
  let main_v2 : FVec F S2816x1024 .f32 := (extf .f32 · bitsLt_bf16_f32) main_v0
  let main_v3 : FVec F S2816x1024 .f32 := (extf .f32 · bitsLt_bf16_f32) main_arg3
  let main_v4 : FVec F S38400x1024 .f32 := concatenate S38400x1024 0 [⟨S16384x1024, main_v1⟩, ⟨S2816x1024, main_v2⟩, ⟨S2816x1024, main_v3⟩, ⟨S16384x1024, main_arg4⟩] concatenates_S16384x1024_S2816x1024_S2816x1024_S16384x1024_S38400x1024_d0
  let main_v5 : FVec F S38400x1024 .f32 := Host.absf main_v4
  let main_cst : FVec F S_ .f32 := constant S_ .f32 0x7F800000#32
  let main_v6 : FVec F S38400x1024 .f32 := broadcastInDim S38400x1024 ![] bcast_S_S38400x1024 main_cst
  let main_v7 : IVec S38400x1024 1 := cmpf .olt main_v5 main_v6
  main_v7
-- ==== Kernel2.lean ====
abbrev S16384x3072 : Shape := ⟨2, ![16384, 3072]⟩
abbrev S16384x1024 : Shape := ⟨2, ![16384, 1024]⟩
abbrev S3x256 : Shape := ⟨2, ![3, 256]⟩
abbrev S_ : Shape := ⟨0, ![]⟩
abbrev S8x256 : Shape := ⟨2, ![8, 256]⟩
abbrev S16384x256 : Shape := ⟨2, ![16384, 256]⟩
abbrev S512x256 : Shape := ⟨2, ![512, 256]⟩
abbrev S1x256 : Shape := ⟨2, ![1, 256]⟩
abbrev S256 : Shape := ⟨1, ![256]⟩

abbrev nBuf : Space → Nat
  | .hbm => 10
  | .vmem => 24
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3x256, .f32⟩
  | .hbm, ⟨3, _⟩ => ⟨S_, .i32⟩
  | .hbm, ⟨4, _⟩ => ⟨S_, .f32⟩
  | .hbm, ⟨5, _⟩ => ⟨S8x256, .f32⟩
  | .hbm, ⟨6, _⟩ => ⟨S16384x256, .bf16⟩
  | .hbm, ⟨7, _⟩ => ⟨S16384x256, .bf16⟩
  | .hbm, ⟨8, _⟩ => ⟨S16384x256, .bf16⟩
  | .hbm, ⟨9, _⟩ => ⟨S8x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S8x256, .bf16⟩
  | .local _ .vmem, ⟨9, _⟩ => ⟨S8x256, .bf16⟩
  | .local _ .vmem, ⟨10, _⟩ => ⟨S8x256, .bf16⟩
  | .local _ .vmem, ⟨11, _⟩ => ⟨S8x256, .bf16⟩
  | .local _ .vmem, ⟨12, _⟩ => ⟨S8x256, .bf16⟩
  | .local _ .vmem, ⟨13, _⟩ => ⟨S8x256, .bf16⟩
  | .local _ .vmem, ⟨14, _⟩ => ⟨S8x256, .bf16⟩
  | .local _ .vmem, ⟨15, _⟩ => ⟨S8x256, .bf16⟩
  | .local _ .vmem, ⟨16, _⟩ => ⟨S8x256, .f32⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S8x256, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c9_i32 : BitVec 32 := 9#32
  let c0_i32 : BitVec 32 := 0#32
  ![v2.toNat, c9_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c3_i32 : BitVec 32 := 3#32
  let c0_i32 : BitVec 32 := 0#32
  ![v2.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S16384x3072 : Shape := ⟨2, ![16384, 3072]⟩
abbrev S16384x1024 : Shape := ⟨2, ![16384, 1024]⟩
abbrev S3x256 : Shape := ⟨2, ![3, 256]⟩
abbrev S16384x256 : Shape := ⟨2, ![16384, 256]⟩
abbrev S_ : Shape := ⟨0, ![]⟩
abbrev S2x256 : Shape := ⟨2, ![2, 256]⟩
abbrev S16382x256 : Shape := ⟨2, ![16382, 256]⟩
abbrev S1x256 : Shape := ⟨2, ![1, 256]⟩
abbrev S16383x256 : Shape := ⟨2, ![16383, 256]⟩
abbrev S256 : Shape := ⟨1, ![256]⟩
abbrev S8x256 : Shape := ⟨2, ![8, 256]⟩

abbrev nBuf : Space → Nat
  | .hbm => 97
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3x256, .f32⟩
  | .hbm, ⟨3, _⟩ => ⟨S16384x256, .bf16⟩
  | .hbm, ⟨4, _⟩ => ⟨S16384x256, .f32⟩
  | .hbm, ⟨5, _⟩ => ⟨S16384x256, .bf16⟩
  | .hbm, ⟨6, _⟩ => ⟨S16384x256, .f32⟩
  | .hbm, ⟨7, _⟩ => ⟨S16384x256, .bf16⟩
  | .hbm, ⟨8, _⟩ => ⟨S16384x256, .f32⟩
  | .hbm, ⟨9, _⟩ => ⟨S16384x256, .bf16⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S2x256, .f32⟩
  | .hbm, ⟨14, _⟩ => ⟨S16382x256, .f32⟩
  | .hbm, ⟨15, _⟩ => ⟨S16384x256, .f32⟩
  | .hbm, ⟨16, _⟩ => ⟨S_, .f32⟩
  | .hbm, ⟨17, _⟩ => ⟨S2x256, .f32⟩
  | .hbm, ⟨18, _⟩ => ⟨S_, .f32⟩
  | .hbm, ⟨19, _⟩ => ⟨S1x256, .f32⟩
  | .hbm, ⟨20, _⟩ => ⟨S16383x256, .f32⟩
  | .hbm, ⟨21, _⟩ => ⟨S16384x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S256, .f32⟩
  | .hbm, ⟨26, _⟩ => ⟨S1x256, .f32⟩
  | .hbm, ⟨27, _⟩ => ⟨S16384x256, .f32⟩
  | .hbm, ⟨28, _⟩ => ⟨S16384x256, .f32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S1x256, .f32⟩
  | .hbm, ⟨36, _⟩ => ⟨S256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S256, .f32⟩
  | .hbm, ⟨49, _⟩ => ⟨S1x256, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S_, .f32⟩
  | .hbm, ⟨54, _⟩ => ⟨S3x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S_, .f32⟩
  | .hbm, ⟨59, _⟩ => ⟨S256, .f32⟩
  | .hbm, ⟨60, _⟩ => ⟨S1x256, .f32⟩
  | .hbm, ⟨61, _⟩ => ⟨S_, .f32⟩
  | .hbm, ⟨62, _⟩ => ⟨S256, .f32⟩
  | .hbm, ⟨63, _⟩ => ⟨S1x256, .f32⟩
  | .hbm, ⟨64, _⟩ => ⟨S_, .f32⟩
  | .hbm, ⟨65, _⟩ => ⟨S3x256, .f32⟩
  | .hbm, ⟨66, _⟩ => ⟨S3x256, .f32⟩
  | .hbm, ⟨67, _⟩ => ⟨S16384x256, .f32⟩
  | .hbm, ⟨68, _⟩ => ⟨S16384x256, .f32⟩
  | .hbm, ⟨69, _⟩ => ⟨S16384x256, .f32⟩
  | .hbm, ⟨70, _⟩ => ⟨S_, .f32⟩
  | .hbm, ⟨71, _⟩ => ⟨S256, .f32⟩
  | .hbm, ⟨72, _⟩ => ⟨S1x256, .f32⟩
  | .hbm, ⟨73, _⟩ => ⟨S_, .f32⟩
  | .hbm, ⟨74, _⟩ => ⟨S256, .f32⟩
  | .hbm, ⟨75, _⟩ => ⟨S1x256, .f32⟩
  | .hbm, ⟨76, _⟩ => ⟨S_, .f32⟩
  | .hbm, ⟨77, _⟩ => ⟨S3x256, .f32⟩
  | .hbm, ⟨78, _⟩ => ⟨S3x256, .f32⟩
  | .hbm, ⟨79, _⟩ => ⟨S1x256, .f32⟩
  | .hbm, ⟨80, _⟩ => ⟨S16383x256, .f32⟩
  | .hbm, ⟨81, _⟩ => ⟨S_, .f32⟩
  | .hbm, ⟨82, _⟩ => ⟨S16384x256, .f32⟩
  | .hbm, ⟨83, _⟩ => ⟨S16384x256, .f32⟩
  | .hbm, ⟨84, _⟩ => ⟨S2x256, .f32⟩
  | .hbm, ⟨85, _⟩ => ⟨S16382x256, .f32⟩
  | .hbm, ⟨86, _⟩ => ⟨S_, .f32⟩
  | .hbm, ⟨87, _⟩ => ⟨S16384x256, .f32⟩
  | .hbm, ⟨88, _⟩ => ⟨S16384x256, .f32⟩
  | .hbm, ⟨89, _⟩ => ⟨S16384x256, .f32⟩
  | .hbm, ⟨90, _⟩ => ⟨S16384x256, .f32⟩
  | .hbm, ⟨91, _⟩ => ⟨S16384x256, .bf16⟩
  | .hbm, ⟨92, _⟩ => ⟨S16384x256, .bf16⟩
  | .hbm, ⟨93, _⟩ => ⟨S16384x256, .bf16⟩
  | .hbm, ⟨94, _⟩ => ⟨S_, .i32⟩
  | .hbm, ⟨95, _⟩ => ⟨S_, .f32⟩
  | .hbm, ⟨96, _⟩ => ⟨S8x256, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c : Ref sig .tc := ⟨.hbm, 94, rfl⟩
abbrev main_call0_v0 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Kernel3.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S1024x1024 : Shape := ⟨2, ![1024, 1024]⟩
abbrev S512x2816 : Shape := ⟨2, ![512, 2816]⟩
abbrev S512x512 : Shape := ⟨2, ![512, 512]⟩

abbrev nBuf : Space → Nat
  | .hbm => 16
  | .vmem => 59
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S16384x1024, .f32⟩
  | .hbm, ⟨5, _⟩ => ⟨S16384x1024, .f32⟩
  | .hbm, ⟨6, _⟩ => ⟨S16384x2816, .bf16⟩
  | .hbm, ⟨7, _⟩ => ⟨S16384x2816, .bf16⟩
  | .hbm, ⟨8, _⟩ => ⟨S16384x2816, .bf16⟩
  | .hbm, ⟨9, _⟩ => ⟨S16384x2816, .bf16⟩
  | .hbm, ⟨10, _⟩ => ⟨S16384x2816, .bf16⟩
  | .hbm, ⟨11, _⟩ => ⟨S2816x1024, .f32⟩
  | .hbm, ⟨12, _⟩ => ⟨S1024x2816, .f32⟩
  | .hbm, ⟨13, _⟩ => ⟨S1024x2816, .f32⟩
  | .hbm, ⟨14, _⟩ => ⟨S16384x1024, .bf16⟩
  | .hbm, ⟨15, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .f32⟩
  | .local _ .vmem, ⟨13, _⟩ => ⟨S512x1024, .f32⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S1024x1408, .bf16⟩
  | .local _ .vmem, ⟨25, _⟩ => ⟨S1024x1408, .bf16⟩
  | .local _ .vmem, ⟨26, _⟩ => ⟨S1024x1024, .f32⟩
  | .local _ .vmem, ⟨27, _⟩ => ⟨S1024x1024, .f32⟩
  | .local _ .vmem, ⟨28, _⟩ => ⟨S1408x1024, .f32⟩
  | .local _ .vmem, ⟨29, _⟩ => ⟨S1408x1024, .f32⟩
  | .local _ .vmem, ⟨30, _⟩ => ⟨S1024x1024, .bf16⟩
  | .local _ .vmem, ⟨31, _⟩ => ⟨S1024x1024, .bf16⟩
  | .local _ .vmem, ⟨32, _⟩ => ⟨S1024x1408, .bf16⟩
  | .local _ .vmem, ⟨33, _⟩ => ⟨S1024x1408, .bf16⟩
  | .local _ .vmem, ⟨34, _⟩ => ⟨S1024x1408, .f32⟩
  | .local _ .vmem, ⟨35, _⟩ => ⟨S1024x1408, .f32⟩
  | .local _ .vmem, ⟨36, _⟩ => ⟨S1024x1024, .bf16⟩
  | .local _ .vmem, ⟨37, _⟩ => ⟨S1024x1024, .bf16⟩
  | .local _ .vmem, ⟨38, _⟩ => ⟨S1024x1408, .bf16⟩
  | .local _ .vmem, ⟨39, _⟩ => ⟨S1024x1408, .bf16⟩
  | .local _ .vmem, ⟨40, _⟩ => ⟨S1024x1408, .f32⟩
  | .local _ .vmem, ⟨41, _⟩ => ⟨S1024x1408, .f32⟩
  | .local _ .vmem, ⟨42, _⟩ => ⟨S512x2816, .bf16⟩
  | .local _ .vmem, ⟨43, _⟩ => ⟨S512x2816, .bf16⟩
  | .local _ .vmem, ⟨44, _⟩ => ⟨S512x2816, .bf16⟩
  | .local _ .vmem, ⟨45, _⟩ => ⟨S512x2816, .bf16⟩
  | .local _ .vmem, ⟨46, _⟩ => ⟨S512x2816, .bf16⟩
  | .local _ .vmem, ⟨47, _⟩ => ⟨S512x2816, .bf16⟩
  | .local _ .vmem, ⟨48, _⟩ => ⟨S512x2816, .bf16⟩
  | .local _ .vmem, ⟨49, _⟩ => ⟨S512x2816, .bf16⟩
  | .local _ .vmem, ⟨50, _⟩ => ⟨S512x512, .bf16⟩
  | .local _ .vmem, ⟨51, _⟩ => ⟨S512x512, .bf16⟩
  | .local _ .vmem, ⟨52, _⟩ => ⟨S512x2816, .bf16⟩
  | .local _ .vmem, ⟨53, _⟩ => ⟨S512x2816, .bf16⟩
  | .local _ .vmem, ⟨54, _⟩ => ⟨S2816x1024, .bf16⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg3_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem2_1 : DmaSem sig := 56
abbrev cc6_sem3_0 : DmaSem sig := 57
abbrev cc6_sem3_1 : DmaSem sig := 58

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![2, 1, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 16], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 16], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![2, 32], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S512x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x2816 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x2816 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S512x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![1, 32], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S2816x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]
-- ==== Reference3Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x1024, .f32⟩
  | .hbm, ⟨27, _⟩ => ⟨S1024x2816, .f32⟩
  | .hbm, ⟨28, _⟩ => ⟨S2816x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S2816x1024, .f32⟩
  | .hbm, ⟨33, _⟩ => ⟨S1024x2816, .f32⟩
  | .hbm, ⟨34, _⟩ => ⟨S16384x1024, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S2816x1024, .f32⟩
  | .hbm, ⟨40, _⟩ => ⟨S1024x2816, .f32⟩
  | .hbm, ⟨41, _⟩ => ⟨S16384x1024, .f32⟩
  | .hbm, ⟨42, _⟩ => ⟨S16384x1024, .f32⟩
  | .hbm, ⟨43, _⟩ => ⟨S16384x1024, .bf16⟩
  | .hbm, ⟨44, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel4.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩
abbrev S512x1024 : Shape := ⟨2, ![512, 1024]⟩
abbrev S512x3072 : Shape := ⟨2, ![512, 3072]⟩
abbrev S1024x1536 : Shape := ⟨2, ![1024, 1536]⟩

abbrev nBuf : Space → Nat
  | .hbm => 13
  | .vmem => 33
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S16384x1024, .bf16⟩
  | .hbm, ⟨4, _⟩ => ⟨S1024x1024, .bf16⟩
  | .hbm, ⟨5, _⟩ => ⟨S16384x1024, .f32⟩
  | .hbm, ⟨6, _⟩ => ⟨S16384x1024, .f32⟩
  | .hbm, ⟨7, _⟩ => ⟨S16384x3072, .bf16⟩
  | .hbm, ⟨8, _⟩ => ⟨S16384x1024, .f32⟩
  | .hbm, ⟨9, _⟩ => ⟨S1024x1024, .f32⟩
  | .hbm, ⟨10, _⟩ => ⟨S16384x1024, .bf16⟩
  | .hbm, ⟨11, _⟩ => ⟨S1024x3072, .f32⟩
  | .hbm, ⟨12, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S512x1024, .f32⟩
  | .local _ .vmem, ⟨18, _⟩ => ⟨S512x1024, .f32⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1536, .bf16⟩
  | .local _ .vmem, ⟨25, _⟩ => ⟨S1024x1536, .bf16⟩
  | .local _ .vmem, ⟨26, _⟩ => ⟨S1024x1536, .f32⟩
  | .local _ .vmem, ⟨27, _⟩ => ⟨S1024x1536, .f32⟩
  | .local _ .vmem, ⟨28, _⟩ => ⟨S512x3072, .bf16⟩
  | .local _ .vmem, ⟨29, _⟩ => ⟨S512x3072, .bf16⟩
  | .local _ .vmem, ⟨30, _⟩ => ⟨S1024x3072, .bf16⟩
  | .local _ .vmem, ⟨31, _⟩ => ⟨S512x1024, .bf16⟩
  | .local _ .vmem, ⟨32, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![1, 1, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨2, ![1, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![1, 2, 16], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1536 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1536 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![1, 32], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x3072 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S1024x3072 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference4Ideal.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .hbm, ⟨3, _⟩ => ⟨S16384x1024, .bf16⟩
  | .hbm, ⟨4, _⟩ => ⟨S1024x1024, .bf16⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x3072, .f32⟩
  | .hbm, ⟨9, _⟩ => ⟨S16384x3072, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x3072, .f32⟩
  | .hbm, ⟨14, _⟩ => ⟨S3072x1024, .f32⟩
  | .hbm, ⟨15, _⟩ => ⟨S1024x3072, .f32⟩
  | .hbm, ⟨16, _⟩ => ⟨S16384x1024, .f32⟩
  | .hbm, ⟨17, _⟩ => ⟨S1024x1024, .f32⟩
  | .hbm, ⟨18, _⟩ => ⟨S1024x1024, .f32⟩
  | .hbm, ⟨19, _⟩ => ⟨S16384x1024, .f32⟩
  | .hbm, ⟨20, _⟩ => ⟨S16384x3072, .bf16⟩
  | .hbm, ⟨21, _⟩ => ⟨S16384x1024, .f32⟩
  | .hbm, ⟨22, _⟩ => ⟨S16384x1024, .bf16⟩
  | .hbm, ⟨23, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S16384x3072 : Shape := ⟨2, ![16384, 3072]⟩
abbrev S3x256 : Shape := ⟨2, ![3, 256]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S64x8x1024 : Shape := ⟨3, ![64, 8, 1024]⟩
abbrev S_ : Shape := ⟨0, ![]⟩
abbrev S8x256 : Shape := ⟨2, ![8, 256]⟩
abbrev S16384x256 : Shape := ⟨2, ![16384, 256]⟩
abbrev S512x256 : Shape := ⟨2, ![512, 256]⟩
abbrev S1x256 : Shape := ⟨2, ![1, 256]⟩

abbrev nBuf : Space → Nat
  | .hbm => 16
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .bf16⟩
  | .hbm, ⟨3, _⟩ => ⟨S16384x1024, .f32⟩
  | .hbm, ⟨4, _⟩ => ⟨S16384x3072, .bf16⟩
  | .hbm, ⟨5, _⟩ => ⟨S3x256, .f32⟩
  | .hbm, ⟨6, _⟩ => ⟨S1x1024, .f32⟩
  | .hbm, ⟨7, _⟩ => ⟨S16384x1024, .bf16⟩
  | .hbm, ⟨8, _⟩ => ⟨S16384x1024, .f32⟩
  | .hbm, ⟨9, _⟩ => ⟨S8x1024, .f32⟩
  | .hbm, ⟨10, _⟩ => ⟨S_, .i32⟩
  | .hbm, ⟨11, _⟩ => ⟨S_, .f32⟩
  | .hbm, ⟨12, _⟩ => ⟨S8x256, .f32⟩
  | .hbm, ⟨13, _⟩ => ⟨S16384x256, .bf16⟩
  | .hbm, ⟨14, _⟩ => ⟨S_, .f32⟩
  | .hbm, ⟨15, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S8x256, .bf16⟩
  | .local _ .vmem, ⟨22, _⟩ => ⟨S8x256, .bf16⟩
  | .local _ .vmem, ⟨23, _⟩ => ⟨S8x256, .bf16⟩
  | .local _ .vmem, ⟨24, _⟩ => ⟨S8x256, .bf16⟩
  | .local _ .vmem, ⟨25, _⟩ => ⟨S8x256, .f32⟩
  | .local _ .vmem, ⟨26, _⟩ => ⟨S512x256, .bf16⟩
  | .local _ .vmem, ⟨27, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c9_i32 : BitVec 32 := 9#32
  let c0_i32 : BitVec 32 := 0#32
  ![arg0.toNat, c9_i32.toNat]

def cc2_transform_1 (i : grid2.Coords) : Fin 2 → Nat :=
  let arg0 : BitVec 32 := BitVec.ofNat 32 (i 0).val
  let c10_i32 : BitVec 32 := 10#32
  let c0_i32 : BitVec 32 := 0#32
  ![arg0.toNat, c10_i32.toNat]

def cc2_transform_2 (i : grid2.Coords) : Fin 2 → Nat :=
  let arg0 : BitVec 32 := BitVec.ofNat 32 (i 0).val
  let c11_i32 : BitVec 32 := 11#32
  let c0_i32 : BitVec 32 := 0#32
  ![arg0.toNat, c11_i32.toNat]

def cc2_transform_3 (i : grid2.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc2_transform_4 (i : grid2.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S8x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== Reference5Ideal.lean ====
abbrev S16384x1024 : Shape := ⟨2, ![16384, 1024]⟩
abbrev S1024 : Shape := ⟨1, ![1024]⟩
abbrev S16384x3072 : Shape := ⟨2, ![16384, 3072]⟩
abbrev S3x256 : Shape := ⟨2, ![3, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩
abbrev S2x256 : Shape := ⟨2, ![2, 256]⟩
abbrev S16382x256 : Shape := ⟨2, ![16382, 256]⟩
abbrev S1x256 : Shape := ⟨2, ![1, 256]⟩
abbrev S16383x256 : Shape := ⟨2, ![16383, 256]⟩
abbrev S256 : Shape := ⟨1, ![256]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .bf16⟩
  | .hbm, ⟨3, _⟩ => ⟨S16384x1024, .f32⟩
  | .hbm, ⟨4, _⟩ => ⟨S16384x3072, .bf16⟩
  | .hbm, ⟨5, _⟩ => ⟨S3x256, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x256, .bf16⟩
  | .hbm, ⟨53, _⟩ => ⟨S16384x256, .f32⟩
  | .hbm, ⟨54, _⟩ => ⟨S16384x256, .bf16⟩
  | .hbm, ⟨55, _⟩ => ⟨S16384x256, .f32⟩
  | .hbm, ⟨56, _⟩ => ⟨S16384x256, .bf16⟩
  | .hbm, ⟨57, _⟩ => ⟨S16384x256, .f32⟩
  | .hbm, ⟨58, _⟩ => ⟨S16384x1024, .bf16⟩
  | .hbm, ⟨59, _⟩ => ⟨S16384x1024, .f32⟩
  | .hbm, ⟨60, _⟩ => ⟨S16384x256, .f32⟩
  | .hbm, ⟨61, _⟩ => ⟨S_, .f32⟩
  | .hbm, ⟨62, _⟩ => ⟨S2x256, .f32⟩
  | .hbm, ⟨63, _⟩ => ⟨S16382x256, .f32⟩
  | .hbm, ⟨64, _⟩ => ⟨S16384x256, .f32⟩
  | .hbm, ⟨65, _⟩ => ⟨S_, .f32⟩
  | .hbm, ⟨66, _⟩ => ⟨S1x256, .f32⟩
  | .hbm, ⟨67, _⟩ => ⟨S16383x256, .f32⟩
  | .hbm, ⟨68, _⟩ => ⟨S16384x256, .f32⟩
  | .hbm, ⟨69, _⟩ => ⟨S1x256, .f32⟩
  | .hbm, ⟨70, _⟩ => ⟨S256, .f32⟩
  | .hbm, ⟨71, _⟩ => ⟨S1x256, .f32⟩
  | .hbm, ⟨72, _⟩ => ⟨S16384x256, .f32⟩
  | .hbm, ⟨73, _⟩ => ⟨S16384x256, .f32⟩
  | .hbm, ⟨74, _⟩ => ⟨S1x256, .f32⟩
  | .hbm, ⟨75, _⟩ => ⟨S256, .f32⟩
  | .hbm, ⟨76, _⟩ => ⟨S1x256, .f32⟩
  | .hbm, ⟨77, _⟩ => ⟨S16384x256, .f32⟩
  | .hbm, ⟨78, _⟩ => ⟨S16384x256, .f32⟩
  | .hbm, ⟨79, _⟩ => ⟨S16384x256, .f32⟩
  | .hbm, ⟨80, _⟩ => ⟨S1x256, .f32⟩
  | .hbm, ⟨81, _⟩ => ⟨S256, .f32⟩
  | .hbm, ⟨82, _⟩ => ⟨S1x256, .f32⟩
  | .hbm, ⟨83, _⟩ => ⟨S16384x256, .f32⟩
  | .hbm, ⟨84, _⟩ => ⟨S16384x256, .f32⟩
  | .hbm, ⟨85, _⟩ => ⟨S16384x256, .f32⟩
  | .hbm, ⟨86, _⟩ => ⟨S16384x256, .f32⟩
  | .hbm, ⟨87, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel6.lean ====
abbrev S16384x1024 : Shape := ⟨2, ![16384, 1024]⟩
abbrev S8x4096x384 : Shape := ⟨3, ![8, 4096, 384]⟩
abbrev S4096x384 : Shape := ⟨2, ![4096, 384]⟩
abbrev S8x1024 : Shape := ⟨2, ![8, 1024]⟩
abbrev S512x1024 : Shape := ⟨2, ![512, 1024]⟩
abbrev S64x8x1024 : Shape := ⟨3, ![64, 8, 1024]⟩
abbrev S_ : Shape := ⟨0, ![]⟩
abbrev S8x512x384 : Shape := ⟨3, ![8, 512, 384]⟩
abbrev S512x384 : Shape := ⟨2, ![512, 384]⟩
abbrev S1x512x384 : Shape := ⟨3, ![1, 512, 384]⟩

abbrev nBuf : Space → Nat
  | .hbm => 16
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x4096x384, .bf16⟩
  | .hbm, ⟨3, _⟩ => ⟨S4096x384, .f32⟩
  | .hbm, ⟨4, _⟩ => ⟨S4096x384, .f32⟩
  | .hbm, ⟨5, _⟩ => ⟨S4096x384, .f32⟩
  | .hbm, ⟨6, _⟩ => ⟨S16384x1024, .f32⟩
  | .hbm, ⟨7, _⟩ => ⟨S8x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x384, .f32⟩
  | .hbm, ⟨13, _⟩ => ⟨S4096x384, .f32⟩
  | .hbm, ⟨14, _⟩ => ⟨S4096x384, .f32⟩
  | .hbm, ⟨15, _⟩ => ⟨S4096x384, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x512x384, .bf16⟩
  | .local _ .vmem, ⟨8, _⟩ => ⟨S8x512x384, .bf16⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S512x384, .f32⟩
  | .local _ .vmem, ⟨21, _⟩ => ⟨S512x384, .f32⟩
  | .local _ .vmem, ⟨22, _⟩ => ⟨S512x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference6Ideal.lean ====
abbrev S16384x1024 : Shape := ⟨2, ![16384, 1024]⟩
abbrev S8x4096x384 : Shape := ⟨3, ![8, 4096, 384]⟩
abbrev S4096x384 : Shape := ⟨2, ![4096, 384]⟩
abbrev S_ : Shape := ⟨0, ![]⟩
abbrev S16384 : Shape := ⟨1, ![16384]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x4096x384, .bf16⟩
  | .hbm, ⟨3, _⟩ => ⟨S4096x384, .f32⟩
  | .hbm, ⟨4, _⟩ => ⟨S4096x384, .f32⟩
  | .hbm, ⟨5, _⟩ => ⟨S4096x384, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x4096x384, .f32⟩
  | .hbm, ⟨21, _⟩ => ⟨S_, .f32⟩
  | .hbm, ⟨22, _⟩ => ⟨S4096x384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S4096x384, .f32⟩
  | .hbm, ⟨34, _⟩ => ⟨S4096x384, .f32⟩
  | .hbm, ⟨35, _⟩ => ⟨S_, .f32⟩
  | .hbm, ⟨36, _⟩ => ⟨S4096x384, .f32⟩
  | .hbm, ⟨37, _⟩ => ⟨S4096x384, .f32⟩
  | .hbm, ⟨38, _⟩ => ⟨S4096x384, .f32⟩
  | .hbm, ⟨39, _⟩ => ⟨S_, .f32⟩
  | .hbm, ⟨40, _⟩ => ⟨S4096x384, .f32⟩
  | .hbm, ⟨41, _⟩ => ⟨S4096x384, .f32⟩
  | .hbm, ⟨42, _⟩ => ⟨S4096x384, .f32⟩
  | .hbm, ⟨43, _⟩ => ⟨S_, .f32⟩
  | .hbm, ⟨44, _⟩ => ⟨S4096x384, .f32⟩
  | .hbm, ⟨45, _⟩ => ⟨S4096x384, .f32⟩
  | .hbm, ⟨46, _⟩ => ⟨S4096x384, .f32⟩
  | .hbm, ⟨47, _⟩ => ⟨S_, .f32⟩
  | .hbm, ⟨48, _⟩ => ⟨S4096x384, .f32⟩
  | .hbm, ⟨49, _⟩ => ⟨S4096x384, .f32⟩
  | .hbm, ⟨50, _⟩ => ⟨S_, .f32⟩
  | .hbm, ⟨51, _⟩ => ⟨S4096x384, .f32⟩
  | .hbm, ⟨52, _⟩ => ⟨S4096x384, .f32⟩
  | .hbm, ⟨53, _⟩ => ⟨S4096x384, .f32⟩
  | .hbm, ⟨54, _⟩ => ⟨S_, .f32⟩
  | .hbm, ⟨55, _⟩ => ⟨S4096x384, .f32⟩
  | .hbm, ⟨56, _⟩ => ⟨S4096x384, .f32⟩
  | .hbm, ⟨57, _⟩ => ⟨S4096x384, .f32⟩
  | .hbm, ⟨58, _⟩ => ⟨S_, .f32⟩
  | .hbm, ⟨59, _⟩ => ⟨S4096x384, .f32⟩
  | .hbm, ⟨60, _⟩ => ⟨S4096x384, .f32⟩
  | .hbm, ⟨61, _⟩ => ⟨S4096x384, .f32⟩
  | .hbm, ⟨62, _⟩ => ⟨S_, .f32⟩
  | .hbm, ⟨63, _⟩ => ⟨S4096x384, .f32⟩
  | .hbm, ⟨64, _⟩ => ⟨S4096x384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_cst_5 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev main_cst_7 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_10 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_11 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_v29 : Ref sig .tc := ⟨.hbm, 49, rfl⟩
abbrev main_cst_13 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_14 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_16 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Kernel7.lean ====
abbrev S8x4096x352 : Shape := ⟨3, ![8, 4096, 352]⟩
abbrev S4096x352 : Shape := ⟨2, ![4096, 352]⟩
abbrev S8x512x1024 : Shape := ⟨3, ![8, 512, 1024]⟩
abbrev S512x1024 : Shape := ⟨2, ![512, 1024]⟩
abbrev S8x1408x1024 : Shape := ⟨3, ![8, 1408, 1024]⟩
abbrev S1408x1024 : Shape := ⟨2, ![1408, 1024]⟩
abbrev S8x192x128 : Shape := ⟨3, ![8, 192, 128]⟩
abbrev S192x128 : Shape := ⟨2, ![192, 128]⟩
abbrev S8x512x352 : Shape := ⟨3, ![8, 512, 352]⟩
abbrev S512x352 : Shape := ⟨2, ![512, 352]⟩
abbrev S1x512x352 : Shape := ⟨3, ![1, 512, 352]⟩
abbrev S1x512x1024 : Shape := ⟨3, ![1, 512, 1024]⟩
abbrev S8x128x1024 : Shape := ⟨3, ![8, 128, 1024]⟩
abbrev S128x1024 : Shape := ⟨2, ![128, 1024]⟩
abbrev S1x128x1024 : Shape := ⟨3, ![1, 128, 1024]⟩
abbrev S1x192x128 : Shape := ⟨3, ![1, 192, 128]⟩

abbrev nBuf : Space → Nat
  | .hbm => 40
  | .vmem => 64
  | .smem => 0
  | _ => 0

abbrev bufTy : (tb : Table) → Fin (tcTables nBuf tb) → BufTy
  | .hbm, ⟨0, _⟩ => ⟨S8x4096x352, .bf16⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S8x4096x352, .bf16⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S8x512x1024, .bf16⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S8x1408x1024, .bf16⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S8x192x128, .f32⟩
  | .hbm, ⟨17, _⟩ => ⟨S192x128, .f32⟩
  | .hbm, ⟨18, _⟩ => ⟨S192x128, .f32⟩
  | .hbm, ⟨19, _⟩ => ⟨S192x128, .f32⟩
  | .hbm, ⟨20, _⟩ => ⟨S4096x352, .f32⟩
  | .hbm, ⟨21, _⟩ => ⟨S4096x352, .f32⟩
  | .hbm, ⟨22, _⟩ => ⟨S4096x352, .f32⟩
  | .hbm, ⟨23, _⟩ => ⟨S4096x352, .f32⟩
  | .hbm, ⟨24, _⟩ => ⟨S4096x352, .f32⟩
  | .hbm, ⟨25, _⟩ => ⟨S4096x352, .f32⟩
  | .hbm, ⟨26, _⟩ => ⟨S4096x352, .f32⟩
  | .hbm, ⟨27, _⟩ => ⟨S4096x352, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S1408x1024, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S192x128, .f32⟩
  | .hbm, ⟨37, _⟩ => ⟨S192x128, .f32⟩
  | .hbm, ⟨38, _⟩ => ⟨S192x128, .f32⟩
  | .hbm, ⟨39, _⟩ => ⟨S192x128, .f32⟩
  | .local _ .vmem, ⟨0, _⟩ => ⟨S8x512x352, .bf16⟩
  | .local _ .vmem, ⟨1, _⟩ => ⟨S8x512x352, .bf16⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | .local _ .vmem, ⟨16, _⟩ => ⟨S8x512x352, .bf16⟩
  | .local _ .vmem, ⟨17, _⟩ => ⟨S8x512x352, .bf16⟩
  | .local _ .vmem, ⟨18, _⟩ => ⟨S512x352, .f32⟩
  | .local _ .vmem, ⟨19, _⟩ => ⟨S512x352, .f32⟩
  | .local _ .vmem, ⟨20, _⟩ => ⟨S512x352, .f32⟩
  | .local _ .vmem, ⟨21, _⟩ => ⟨S512x352, .f32⟩
  | .local _ .vmem, ⟨22, _⟩ => ⟨S512x352, .f32⟩
  | .local _ .vmem, ⟨23, _⟩ => ⟨S512x352, .f32⟩
  | .local _ .vmem, ⟨24, _⟩ => ⟨S512x352, .f32⟩
  | .local _ .vmem, ⟨25, _⟩ => ⟨S512x352, .f32⟩
  | .local _ .vmem, ⟨26, _⟩ => ⟨S512x352, .f32⟩
  | .local _ .vmem, ⟨27, _⟩ => ⟨S512x352, .f32⟩
  | .local _ .vmem, ⟨28, _⟩ => ⟨S512x352, .f32⟩
  | .local _ .vmem, ⟨29, _⟩ => ⟨S512x352, .f32⟩
  | .local _ .vmem, ⟨30, _⟩ => ⟨S512x352, .f32⟩
  | .local _ .vmem, ⟨31, _⟩ => ⟨S512x352, .f32⟩
  | .local _ .vmem, ⟨32, _⟩ => ⟨S8x512x1024, .bf16⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S8x128x1024, .bf16⟩
  | .local _ .vmem, ⟨41, _⟩ => ⟨S8x128x1024, .bf16⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | .local _ .vmem, ⟨48, _⟩ => ⟨S128x1024, .f32⟩
  | .local _ .vmem, ⟨49, _⟩ => ⟨S128x1024, .f32⟩
  | .local _ .vmem, ⟨50, _⟩ => ⟨S128x1024, .f32⟩
  | .local _ .vmem, ⟨51, _⟩ => ⟨S128x1024, .f32⟩
  | .local _ .vmem, ⟨52, _⟩ => ⟨S128x1024, .f32⟩
  | .local _ .vmem, ⟨53, _⟩ => ⟨S128x1024, .f32⟩
  | .local _ .vmem, ⟨54, _⟩ => ⟨S128x1024, .f32⟩
  | .local _ .vmem, ⟨55, _⟩ => ⟨S128x1024, .f32⟩
  | .local _ .vmem, ⟨56, _⟩ => ⟨S8x192x128, .f32⟩
  | .local _ .vmem, ⟨57, _⟩ => ⟨S192x128, .f32⟩
  | .local _ .vmem, ⟨58, _⟩ => ⟨S192x128, .f32⟩
  | .local _ .vmem, ⟨59, _⟩ => ⟨S192x128, .f32⟩
  | .local _ .vmem, ⟨60, _⟩ => ⟨S192x128, .f32⟩
  | .local _ .vmem, ⟨61, _⟩ => ⟨S192x128, .f32⟩
  | .local _ .vmem, ⟨62, _⟩ => ⟨S192x128, .f32⟩
  | .local _ .vmem, ⟨63, _⟩ => ⟨S192x128, .f32⟩
  | _, _ => ⟨S8x4096x352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v1_0 : Ref sig .tc := ⟨.hbm, 24, rfl⟩
abbrev main_v1_1 : Ref sig .tc := ⟨.hbm, 25, rfl⟩
abbrev main_v1_2 : Ref sig .tc := ⟨.hbm, 26, rfl⟩
abbrev main_v1_3 : Ref sig .tc := ⟨.hbm, 27, rfl⟩
abbrev main_v2_0 : Ref sig .tc := ⟨.hbm, 28, rfl⟩
abbrev main_v2_1 : Ref sig .tc := ⟨.hbm, 29, rfl⟩
abbrev main_v2_2 : Ref sig .tc := ⟨.hbm, 30, rfl⟩
abbrev main_v2_3 : Ref sig .tc := ⟨.hbm, 31, rfl⟩
abbrev main_v3_0 : Ref sig .tc := ⟨.hbm, 32, rfl⟩
abbrev main_v3_1 : Ref sig .tc := ⟨.hbm, 33, rfl⟩
abbrev main_v3_2 : Ref sig .tc := ⟨.hbm, 34, rfl⟩
abbrev main_v3_3 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v4_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg5_1 : Ref sig .tc := ⟨.vmem, 51, rfl⟩
abbrev cc3_stg6_0 : Ref sig .tc := ⟨.vmem, 52, rfl⟩
abbrev cc3_stg6_1 : Ref sig .tc := ⟨.vmem, 53, rfl⟩
abbrev cc3_stg7_0 : Ref sig .tc := ⟨.vmem, 54, rfl⟩
abbrev cc3_stg7_1 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem1_0 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem5_1 : DmaSem sig := 51
abbrev cc3_sem6_0 : DmaSem sig := 52
abbrev cc3_sem6_1 : DmaSem sig := 53
abbrev cc3_sem7_0 : DmaSem sig := 54
abbrev cc3_sem7_1 : DmaSem sig := 55
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x352 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x352 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x352 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x352 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x352 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x352 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x352 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x352 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8x512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![11], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x128x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S8x192x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S192x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S192x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S192x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S192x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S192x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S192x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev stage4_7 : Fin 1 → Memref sig .tc .vmem S192x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]
-- ==== Reference7Ideal.lean ====
abbrev S8x4096x352 : Shape := ⟨3, ![8, 4096, 352]⟩
abbrev S4096x352 : Shape := ⟨2, ![4096, 352]⟩
abbrev S8x512x1024 : Shape := ⟨3, ![8, 512, 1024]⟩
abbrev S512x1024 : Shape := ⟨2, ![512, 1024]⟩
abbrev S8x1408x1024 : Shape := ⟨3, ![8, 1408, 1024]⟩
abbrev S1408x1024 : Shape := ⟨2, ![1408, 1024]⟩
abbrev S8x192x128 : Shape := ⟨3, ![8, 192, 128]⟩
abbrev S192x128 : Shape := ⟨2, ![192, 128]⟩
abbrev S_ : Shape := ⟨0, ![]⟩

abbrev nBuf : Space → Nat
  | .hbm => 199
  | .vmem => 0
  | .smem => 0
  | _ => 0

abbrev hbmTy0_0 (i : Nat) : BufTy := match i % 128 with
  | 0 => ⟨S8x4096x352, .bf16⟩
  | 1 => ⟨S4096x352, .f32⟩
  | 2 => ⟨S4096x352, .f32⟩
  | 3 => ⟨S4096x352, .f32⟩
  | 4 => ⟨S8x4096x352, .bf16⟩
  | 5 => ⟨S4096x352, .f32⟩
  | 6 => ⟨S4096x352, .f32⟩
  | 7 => ⟨S4096x352, .f32⟩
  | 8 => ⟨S8x512x1024, .bf16⟩
  | 9 => ⟨S512x1024, .f32⟩
  | 10 => ⟨S512x1024, .f32⟩
  | 11 => ⟨S512x1024, .f32⟩
  | 12 => ⟨S8x1408x1024, .bf16⟩
  | 13 => ⟨S1408x1024, .f32⟩
  | 14 => ⟨S1408x1024, .f32⟩
  | 15 => ⟨S1408x1024, .f32⟩
  | 16 => ⟨S8x192x128, .f32⟩
  | 17 => ⟨S192x128, .f32⟩
  | 18 => ⟨S192x128, .f32⟩
  | 19 => ⟨S192x128, .f32⟩
  | 20 => ⟨S8x4096x352, .f32⟩
  | 21 => ⟨S_, .f32⟩
  | 22 => ⟨S4096x352, .f32⟩
  | 23 => ⟨S_, .f32⟩
  | 24 => ⟨S4096x352, .f32⟩
  | 25 => ⟨S4096x352, .f32⟩
  | 26 => ⟨S_, .f32⟩
  | 27 => ⟨S4096x352, .f32⟩
  | 28 => ⟨S4096x352, .f32⟩
  | 29 => ⟨S4096x352, .f32⟩
  | 30 => ⟨S_, .f32⟩
  | 31 => ⟨S4096x352, .f32⟩
  | 32 => ⟨S4096x352, .f32⟩
  | 33 => ⟨S4096x352, .f32⟩
  | 34 => ⟨S_, .f32⟩
  | 35 => ⟨S4096x352, .f32⟩
  | 36 => ⟨S4096x352, .f32⟩
  | 37 => ⟨S4096x352, .f32⟩
  | 38 => ⟨S_, .f32⟩
  | 39 => ⟨S4096x352, .f32⟩
  | 40 => ⟨S4096x352, .f32⟩
  | 41 => ⟨S_, .f32⟩
  | 42 => ⟨S4096x352, .f32⟩
  | 43 => ⟨S4096x352, .f32⟩
  | 44 => ⟨S4096x352, .f32⟩
  | 45 => ⟨S_, .f32⟩
  | 46 => ⟨S4096x352, .f32⟩
  | 47 => ⟨S4096x352, .f32⟩
  | 48 => ⟨S4096x352, .f32⟩
  | 49 => ⟨S_, .f32⟩
  | 50 => ⟨S4096x352, .f32⟩
  | 51 => ⟨S4096x352, .f32⟩
  | 52 => ⟨S4096x352, .f32⟩
  | 53 => ⟨S_, .f32⟩
  | 54 => ⟨S4096x352, .f32⟩
  | 55 => ⟨S4096x352, .f32⟩
  | 56 => ⟨S8x4096x352, .f32⟩
  | 57 => ⟨S_, .f32⟩
  | 58 => ⟨S4096x352, .f32⟩
  | 59 => ⟨S_, .f32⟩
  | 60 => ⟨S4096x352, .f32⟩
  | 61 => ⟨S4096x352, .f32⟩
  | 62 => ⟨S_, .f32⟩
  | 63 => ⟨S4096x352, .f32⟩
  | 64 => ⟨S4096x352, .f32⟩
  | 65 => ⟨S4096x352, .f32⟩
  | 66 => ⟨S_, .f32⟩
  | 67 => ⟨S4096x352, .f32⟩
  | 68 => ⟨S4096x352, .f32⟩
  | 69 => ⟨S4096x352, .f32⟩
  | 70 => ⟨S_, .f32⟩
  | 71 => ⟨S4096x352, .f32⟩
  | 72 => ⟨S4096x352, .f32⟩
  | 73 => ⟨S4096x352, .f32⟩
  | 74 => ⟨S_, .f32⟩
  | 75 => ⟨S4096x352, .f32⟩
  | 76 => ⟨S4096x352, .f32⟩
  | 77 => ⟨S_, .f32⟩
  | 78 => ⟨S4096x352, .f32⟩
  | 79 => ⟨S4096x352, .f32⟩
  | 80 => ⟨S4096x352, .f32⟩
  | 81 => ⟨S_, .f32⟩
  | 82 => ⟨S4096x352, .f32⟩
  | 83 => ⟨S4096x352, .f32⟩
  | 84 => ⟨S4096x352, .f32⟩
  | 85 => ⟨S_, .f32⟩
  | 86 => ⟨S4096x352, .f32⟩
  | 87 => ⟨S4096x352, .f32⟩
  | 88 => ⟨S4096x352, .f32⟩
  | 89 => ⟨S_, .f32⟩
  | 90 => ⟨S4096x352, .f32⟩
  | 91 => ⟨S4096x352, .f32⟩
  | 92 => ⟨S8x512x1024, .f32⟩
  | 93 => ⟨S_, .f32⟩
  | 94 => ⟨S512x1024, .f32⟩
  | 95 => ⟨S_, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S512x1024, .f32⟩
  | 102 => ⟨S_, .f32⟩
  | 103 => ⟨S512x1024, .f32⟩
  | 104 => ⟨S512x1024, .f32⟩
  | 105 => ⟨S512x1024, .f32⟩
  | 106 => ⟨S_, .f32⟩
  | 107 => ⟨S512x1024, .f32⟩
  | 108 => ⟨S512x1024, .f32⟩
  | 109 => ⟨S512x1024, .f32⟩
  | 110 => ⟨S_, .f32⟩
  | 111 => ⟨S512x1024, .f32⟩
  | 112 => ⟨S512x1024, .f32⟩
  | 113 => ⟨S_, .f32⟩
  | 114 => ⟨S512x1024, .f32⟩
  | 115 => ⟨S512x1024, .f32⟩
  | 116 => ⟨S512x1024, .f32⟩
  | 117 => ⟨S_, .f32⟩
  | 118 => ⟨S512x1024, .f32⟩
  | 119 => ⟨S512x1024, .f32⟩
  | 120 => ⟨S512x1024, .f32⟩
  | 121 => ⟨S_, .f32⟩
  | 122 => ⟨S512x1024, .f32⟩
  | 123 => ⟨S512x1024, .f32⟩
  | 124 => ⟨S512x1024, .f32⟩
  | 125 => ⟨S_, .f32⟩
  | 126 => ⟨S512x1024, .f32⟩
  | 127 => ⟨S512x1024, .f32⟩
  | _ => ⟨S8x4096x352, .bf16⟩

abbrev hbmTy0_1 (i : Nat) : BufTy := match i % 128 with
  | 0 => ⟨S8x1408x1024, .f32⟩
  | 1 => ⟨S_, .f32⟩
  | 2 => ⟨S1408x1024, .f32⟩
  | 3 => ⟨S_, .f32⟩
  | 4 => ⟨S1408x1024, .f32⟩
  | 5 => ⟨S1408x1024, .f32⟩
  | 6 => ⟨S_, .f32⟩
  | 7 => ⟨S1408x1024, .f32⟩
  | 8 => ⟨S1408x1024, .f32⟩
  | 9 => ⟨S1408x1024, .f32⟩
  | 10 => ⟨S_, .f32⟩
  | 11 => ⟨S1408x1024, .f32⟩
  | 12 => ⟨S1408x1024, .f32⟩
  | 13 => ⟨S1408x1024, .f32⟩
  | 14 => ⟨S_, .f32⟩
  | 15 => ⟨S1408x1024, .f32⟩
  | 16 => ⟨S1408x1024, .f32⟩
  | 17 => ⟨S1408x1024, .f32⟩
  | 18 => ⟨S_, .f32⟩
  | 19 => ⟨S1408x1024, .f32⟩
  | 20 => ⟨S1408x1024, .f32⟩
  | 21 => ⟨S_, .f32⟩
  | 22 => ⟨S1408x1024, .f32⟩
  | 23 => ⟨S1408x1024, .f32⟩
  | 24 => ⟨S1408x1024, .f32⟩
  | 25 => ⟨S_, .f32⟩
  | 26 => ⟨S1408x1024, .f32⟩
  | 27 => ⟨S1408x1024, .f32⟩
  | 28 => ⟨S1408x1024, .f32⟩
  | 29 => ⟨S_, .f32⟩
  | 30 => ⟨S1408x1024, .f32⟩
  | 31 => ⟨S1408x1024, .f32⟩
  | 32 => ⟨S1408x1024, .f32⟩
  | 33 => ⟨S_, .f32⟩
  | 34 => ⟨S1408x1024, .f32⟩
  | 35 => ⟨S1408x1024, .f32⟩
  | 36 => ⟨S_, .f32⟩
  | 37 => ⟨S192x128, .f32⟩
  | 38 => ⟨S_, .f32⟩
  | 39 => ⟨S192x128, .f32⟩
  | 40 => ⟨S192x128, .f32⟩
  | 41 => ⟨S_, .f32⟩
  | 42 => ⟨S192x128, .f32⟩
  | 43 => ⟨S192x128, .f32⟩
  | 44 => ⟨S192x128, .f32⟩
  | 45 => ⟨S_, .f32⟩
  | 46 => ⟨S192x128, .f32⟩
  | 47 => ⟨S192x128, .f32⟩
  | 48 => ⟨S192x128, .f32⟩
  | 49 => ⟨S_, .f32⟩
  | 50 => ⟨S192x128, .f32⟩
  | 51 => ⟨S192x128, .f32⟩
  | 52 => ⟨S192x128, .f32⟩
  | 53 => ⟨S_, .f32⟩
  | 54 => ⟨S192x128, .f32⟩
  | 55 => ⟨S192x128, .f32⟩
  | 56 => ⟨S_, .f32⟩
  | 57 => ⟨S192x128, .f32⟩
  | 58 => ⟨S192x128, .f32⟩
  | 59 => ⟨S192x128, .f32⟩
  | 60 => ⟨S_, .f32⟩
  | 61 => ⟨S192x128, .f32⟩
  | 62 => ⟨S192x128, .f32⟩
  | 63 => ⟨S192x128, .f32⟩
  | 64 => ⟨S_, .f32⟩
  | 65 => ⟨S192x128, .f32⟩
  | 66 => ⟨S192x128, .f32⟩
  | 67 => ⟨S192x128, .f32⟩
  | 68 => ⟨S_, .f32⟩
  | 69 => ⟨S192x128, .f32⟩
  | 70 => ⟨S192x128, .f32⟩
  | _ => ⟨S8x4096x352, .bf16⟩

abbrev hbmTy (i : Nat) : BufTy := match i / 128 with
  | 0 => hbmTy0_0 i
  | 1 => hbmTy0_1 i
  | _ => ⟨S8x4096x352, .bf16⟩

abbrev bufTy : (tb : Table) → Fin (tcTables nBuf tb) → BufTy
  | .hbm, ⟨i, _⟩ => hbmTy i
  | _, _ => ⟨S8x4096x352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_3 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_cst_5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_6 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_7 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_9 : Ref sig .tc := ⟨.hbm, 57, rfl⟩
abbrev main_v27 : Ref sig .tc := ⟨.hbm, 58, rfl⟩
abbrev main_cst_10 : Ref sig .tc := ⟨.hbm, 59, rfl⟩
abbrev main_v28 : Ref sig .tc := ⟨.hbm, 60, rfl⟩
abbrev main_v29 : Ref sig .tc := ⟨.hbm, 61, rfl⟩
abbrev main_cst_11 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_12 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_13 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_14 : Ref sig .tc := ⟨.hbm, 74, rfl⟩
abbrev main_v39 : Ref sig .tc := ⟨.hbm, 75, rfl⟩
abbrev main_v40 : Ref sig .tc := ⟨.hbm, 76, rfl⟩
abbrev main_cst_15 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_16 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_17 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_cst_20 : Ref sig .tc := ⟨.hbm, 95, rfl⟩
abbrev main_v54 : Ref sig .tc := ⟨.hbm, 96, rfl⟩
abbrev main_v55 : Ref sig .tc := ⟨.hbm, 97, rfl⟩
abbrev main_cst_21 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_22 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_23 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_24 : Ref sig .tc := ⟨.hbm, 110, rfl⟩
abbrev main_v65 : Ref sig .tc := ⟨.hbm, 111, rfl⟩
abbrev main_v66 : Ref sig .tc := ⟨.hbm, 112, rfl⟩
abbrev main_cst_25 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_26 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_27 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_28 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_29 : Ref sig .tc := ⟨.hbm, 129, rfl⟩
abbrev main_v79 : Ref sig .tc := ⟨.hbm, 130, rfl⟩
abbrev main_cst_30 : Ref sig .tc := ⟨.hbm, 131, rfl⟩
abbrev main_v80 : Ref sig .tc := ⟨.hbm, 132, rfl⟩
abbrev main_v81 : Ref sig .tc := ⟨.hbm, 133, rfl⟩
abbrev main_cst_31 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_32 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_33 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_34 : Ref sig .tc := ⟨.hbm, 146, rfl⟩
abbrev main_v91 : Ref sig .tc := ⟨.hbm, 147, rfl⟩
abbrev main_v92 : Ref sig .tc := ⟨.hbm, 148, rfl⟩
abbrev main_cst_35 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_36 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_37 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_38 : Ref sig .tc := ⟨.hbm, 161, rfl⟩
abbrev main_v102 : Ref sig .tc := ⟨.hbm, 162, rfl⟩
abbrev main_v103 : Ref sig .tc := ⟨.hbm, 163, rfl⟩
abbrev main_cst_39 : Ref sig .tc := ⟨.hbm, 164, rfl⟩
abbrev main_v104 : Ref sig .tc := ⟨.hbm, 165, rfl⟩
abbrev main_cst_40 : Ref sig .tc := ⟨.hbm, 166, rfl⟩
abbrev main_v105 : Ref sig .tc := ⟨.hbm, 167, rfl⟩
abbrev main_v106 : Ref sig .tc := ⟨.hbm, 168, rfl⟩
abbrev main_cst_41 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_42 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_43 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_cst_44 : Ref sig .tc := ⟨.hbm, 181, rfl⟩
abbrev main_v116 : Ref sig .tc := ⟨.hbm, 182, rfl⟩
abbrev main_v117 : Ref sig .tc := ⟨.hbm, 183, rfl⟩
abbrev main_cst_45 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_46 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_47 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_cst_48 : Ref sig .tc := ⟨.hbm, 196, rfl⟩
abbrev main_v127 : Ref sig .tc := ⟨.hbm, 197, rfl⟩
abbrev main_v128 : Ref sig .tc := ⟨.hbm, 198, rfl⟩

abbrev nD : Nat := 1
abbrev τ : Topo := Topo.v7x

variable {F : FTy → Type} [FloatOps F]
-- ==== Kernel.lean ====
abbrev S16384x3072 : Shape := ⟨2, ![16384, 3072]⟩
abbrev S16384x1024 : Shape := ⟨2, ![16384, 1024]⟩
abbrev S16384x128 : Shape := ⟨2, ![16384, 128]⟩
abbrev S16384x64 : Shape := ⟨2, ![16384, 64]⟩
abbrev S_ : Shape := ⟨0, ![]⟩
abbrev S64x16384 : Shape := ⟨2, ![64, 16384]⟩
abbrev S16384x16384 : Shape := ⟨2, ![16384, 16384]⟩
abbrev S16384x16x128 : Shape := ⟨3, ![16384, 16, 128]⟩
abbrev S16384x16x1024 : Shape := ⟨3, ![16384, 16, 1024]⟩
abbrev S16384x16 : Shape := ⟨2, ![16384, 16]⟩
abbrev S16384x16x1 : Shape := ⟨3, ![16384, 16, 1]⟩
abbrev S16384 : Shape := ⟨1, ![16384]⟩
abbrev S16384x1 : Shape := ⟨2, ![16384, 1]⟩
abbrev S512x128 : Shape := ⟨2, ![512, 128]⟩
abbrev S2 : Shape := ⟨1, ![2]⟩
abbrev S1 : Shape := ⟨1, ![1]⟩
abbrev S128x128 : Shape := ⟨2, ![128, 128]⟩
abbrev S256x128 : Shape := ⟨2, ![256, 128]⟩
abbrev S128x1 : Shape := ⟨2, ![128, 1]⟩
abbrev S2048x128 : Shape := ⟨2, ![2048, 128]⟩
abbrev S128 : Shape := ⟨1, ![128]⟩
abbrev S128x1024 : Shape := ⟨2, ![128, 1024]⟩
abbrev S256x1024 : Shape := ⟨2, ![256, 1024]⟩
abbrev S1024x128 : Shape := ⟨2, ![1024, 128]⟩
abbrev S128x512 : Shape := ⟨2, ![128, 512]⟩
abbrev S256x512 : Shape := ⟨2, ![256, 512]⟩

abbrev nBuf : Space → Nat
  | .hbm => 182
  | .vmem => 14
  | .smem => 0
  | _ => 0

abbrev hbmTy0_0 (i : Nat) : BufTy := match i % 128 with
  | 0 => ⟨S16384x3072, .bf16⟩
  | 1 => ⟨S16384x3072, .bf16⟩
  | 2 => ⟨S16384x1024, .bf16⟩
  | 3 => ⟨S16384x128, .bf16⟩
  | 4 => ⟨S16384x64, .bf16⟩
  | 5 => ⟨S16384x64, .f32⟩
  | 6 => ⟨S16384x64, .bf16⟩
  | 7 => ⟨S16384x64, .f32⟩
  | 8 => ⟨S16384x128, .bf16⟩
  | 9 => ⟨S16384x64, .bf16⟩
  | 10 => ⟨S16384x64, .f32⟩
  | 11 => ⟨S16384x64, .bf16⟩
  | 12 => ⟨S16384x64, .f32⟩
  | 13 => ⟨S_, .f32⟩
  | 14 => ⟨S16384x64, .f32⟩
  | 15 => ⟨S16384x64, .f32⟩
  | 16 => ⟨S64x16384, .f32⟩
  | 17 => ⟨S16384x16384, .f32⟩
  | 18 => ⟨S16384x16384, .i32⟩
  | 19 => ⟨S16384x16384, .i32⟩
  | 20 => ⟨S16384x16384, .i1⟩
  | 21 => ⟨S16384x16384, .f32⟩
  | 22 => ⟨S16384x16384, .f32⟩
  | 23 => ⟨S_, .f32⟩
  | 24 => ⟨S16384x16384, .f32⟩
  | 25 => ⟨S16384x16384, .f32⟩
  | 26 => ⟨S16384x16384, .f32⟩
  | 27 => ⟨S16384x16384, .f32⟩
  | 28 => ⟨S16384x16384, .i1⟩
  | 29 => ⟨S16384x16384, .f32⟩
  | 30 => ⟨S16384x16384, .f32⟩
  | 31 => ⟨S16384x16384, .f32⟩
  | 32 => ⟨S16384x16384, .f32⟩
  | 33 => ⟨S16384x16384, .f32⟩
  | 34 => ⟨S16384x16384, .f32⟩
  | 35 => ⟨S16384x16384, .f32⟩
  | 36 => ⟨S16384x16384, .f32⟩
  | 37 => ⟨S16384x16384, .f32⟩
  | 38 => ⟨S_, .f32⟩
  | 39 => ⟨S_, .f32⟩
  | 40 => ⟨S16384x16384, .f32⟩
  | 41 => ⟨S16384x16384, .f32⟩
  | 42 => ⟨S16384x16x128, .i32⟩
  | 43 => ⟨S16384x16x128, .i32⟩
  | 44 => ⟨S16384x16x1024, .f32⟩
  | 45 => ⟨S_, .f32⟩
  | 46 => ⟨S16384x16, .f32⟩
  | 47 => ⟨S16384x16x128, .i1⟩
  | 48 => ⟨S16384x16x1, .f32⟩
  | 49 => ⟨S_, .f32⟩
  | 50 => ⟨S_, .f32⟩
  | 51 => ⟨S16384x16x128, .f32⟩
  | 52 => ⟨S16384x16x128, .f32⟩
  | 53 => ⟨S16384x16x128, .f32⟩
  | 54 => ⟨S_, .f32⟩
  | 55 => ⟨S16384x128, .f32⟩
  | 56 => ⟨S16384x16384, .i32⟩
  | 57 => ⟨S16384x16384, .i32⟩
  | 58 => ⟨S_, .i32⟩
  | 59 => ⟨S_, .i32⟩
  | 60 => ⟨S16384x16384, .i32⟩
  | 61 => ⟨S16384x16384, .i32⟩
  | 62 => ⟨S16384x16384, .i32⟩
  | 63 => ⟨S_, .i32⟩
  | 64 => ⟨S16384x16384, .i32⟩
  | 65 => ⟨S16384x16384, .i1⟩
  | 66 => ⟨S16384x16384, .i32⟩
  | 67 => ⟨S16384x16384, .i32⟩
  | 68 => ⟨S_, .i32⟩
  | 69 => ⟨S16384x16384, .i32⟩
  | 70 => ⟨S16384x16384, .i1⟩
  | 71 => ⟨S16384x16384, .i1⟩
  | 72 => ⟨S_, .i32⟩
  | 73 => ⟨S16384x16384, .i32⟩
  | 74 => ⟨S16384x16384, .i32⟩
  | 75 => ⟨S16384x16384, .i32⟩
  | 76 => ⟨S_, .i32⟩
  | 77 => ⟨S16384x16384, .i32⟩
  | 78 => ⟨S16384x16384, .i32⟩
  | 79 => ⟨S_, .i32⟩
  | 80 => ⟨S16384x16384, .i32⟩
  | 81 => ⟨S16384x16384, .i32⟩
  | 82 => ⟨S16384x16384, .i1⟩
  | 83 => ⟨S_, .f32⟩
  | 84 => ⟨S_, .f32⟩
  | 85 => ⟨S16384x16384, .f32⟩
  | 86 => ⟨S16384x16384, .f32⟩
  | 87 => ⟨S_, .f32⟩
  | 88 => ⟨S16384, .f32⟩
  | 89 => ⟨S16384x1, .f32⟩
  | 90 => ⟨S16384x128, .i32⟩
  | 91 => ⟨S_, .i32⟩
  | 92 => ⟨S16384x128, .i32⟩
  | 93 => ⟨S16384x128, .i1⟩
  | 94 => ⟨S16384x128, .f32⟩
  | 95 => ⟨S16384x128, .f32⟩
  | 96 => ⟨S_, .f32⟩
  | 97 => ⟨S16384x64, .f32⟩
  | 98 => ⟨S16384x64, .f32⟩
  | 99 => ⟨S64x16384, .f32⟩
  | 100 => ⟨S16384x16384, .f32⟩
  | 101 => ⟨S16384x16384, .i32⟩
  | 102 => ⟨S16384x16384, .i32⟩
  | 103 => ⟨S16384x16384, .i1⟩
  | 104 => ⟨S16384x16384, .f32⟩
  | 105 => ⟨S16384x16384, .f32⟩
  | 106 => ⟨S_, .f32⟩
  | 107 => ⟨S16384x16384, .f32⟩
  | 108 => ⟨S16384x16384, .f32⟩
  | 109 => ⟨S16384x16384, .f32⟩
  | 110 => ⟨S16384x16384, .f32⟩
  | 111 => ⟨S16384x16384, .i1⟩
  | 112 => ⟨S16384x16384, .f32⟩
  | 113 => ⟨S16384x16384, .f32⟩
  | 114 => ⟨S16384x16384, .f32⟩
  | 115 => ⟨S16384x16384, .f32⟩
  | 116 => ⟨S16384x16384, .f32⟩
  | 117 => ⟨S16384x16384, .f32⟩
  | 118 => ⟨S16384x16384, .f32⟩
  | 119 => ⟨S16384x16384, .f32⟩
  | 120 => ⟨S16384x16384, .f32⟩
  | 121 => ⟨S_, .f32⟩
  | 122 => ⟨S_, .f32⟩
  | 123 => ⟨S16384x16384, .f32⟩
  | 124 => ⟨S16384x16384, .f32⟩
  | 125 => ⟨S16384x16x128, .i32⟩
  | 126 => ⟨S16384x16x128, .i32⟩
  | 127 => ⟨S16384x16x1024, .f32⟩
  | _ => ⟨S16384x3072, .bf16⟩

abbrev hbmTy0_1 (i : Nat) : BufTy := match i % 128 with
  | 0 => ⟨S_, .f32⟩
  | 1 => ⟨S16384x16, .f32⟩
  | 2 => ⟨S16384x16x128, .i1⟩
  | 3 => ⟨S16384x16x1, .f32⟩
  | 4 => ⟨S_, .f32⟩
  | 5 => ⟨S_, .f32⟩
  | 6 => ⟨S16384x16x128, .f32⟩
  | 7 => ⟨S16384x16x128, .f32⟩
  | 8 => ⟨S16384x16x128, .f32⟩
  | 9 => ⟨S_, .f32⟩
  | 10 => ⟨S16384x128, .f32⟩
  | 11 => ⟨S16384x16384, .i32⟩
  | 12 => ⟨S16384x16384, .i32⟩
  | 13 => ⟨S_, .i32⟩
  | 14 => ⟨S_, .i32⟩
  | 15 => ⟨S16384x16384, .i32⟩
  | 16 => ⟨S16384x16384, .i32⟩
  | 17 => ⟨S16384x16384, .i32⟩
  | 18 => ⟨S_, .i32⟩
  | 19 => ⟨S16384x16384, .i32⟩
  | 20 => ⟨S16384x16384, .i1⟩
  | 21 => ⟨S16384x16384, .i32⟩
  | 22 => ⟨S16384x16384, .i32⟩
  | 23 => ⟨S_, .i32⟩
  | 24 => ⟨S16384x16384, .i32⟩
  | 25 => ⟨S16384x16384, .i1⟩
  | 26 => ⟨S16384x16384, .i1⟩
  | 27 => ⟨S_, .i32⟩
  | 28 => ⟨S16384x16384, .i32⟩
  | 29 => ⟨S16384x16384, .i32⟩
  | 30 => ⟨S16384x16384, .i32⟩
  | 31 => ⟨S_, .i32⟩
  | 32 => ⟨S16384x16384, .i32⟩
  | 33 => ⟨S16384x16384, .i32⟩
  | 34 => ⟨S_, .i32⟩
  | 35 => ⟨S16384x16384, .i32⟩
  | 36 => ⟨S16384x16384, .i32⟩
  | 37 => ⟨S16384x16384, .i1⟩
  | 38 => ⟨S_, .f32⟩
  | 39 => ⟨S_, .f32⟩
  | 40 => ⟨S16384x16384, .f32⟩
  | 41 => ⟨S16384x16384, .f32⟩
  | 42 => ⟨S_, .f32⟩
  | 43 => ⟨S16384, .f32⟩
  | 44 => ⟨S16384x1, .f32⟩
  | 45 => ⟨S16384x128, .i32⟩
  | 46 => ⟨S_, .i32⟩
  | 47 => ⟨S16384x128, .i32⟩
  | 48 => ⟨S16384x128, .i1⟩
  | 49 => ⟨S16384x128, .f32⟩
  | 50 => ⟨S16384x128, .f32⟩
  | 51 => ⟨S16384x128, .bf16⟩
  | 52 => ⟨S16384x128, .f32⟩
  | 53 => ⟨S16384x128, .f32⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S16384x128, .bf16⟩
  | .local _ .vmem, ⟨11, _⟩ => ⟨S16384x128, .bf16⟩
  | .local _ .vmem, ⟨12, _⟩ => ⟨S16384x128, .f32⟩
  | .local _ .vmem, ⟨13, _⟩ => ⟨S16384x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v30 : Ref sig .tc := ⟨.hbm, 75, rfl⟩
abbrev main_c_4 : Ref sig .tc := ⟨.hbm, 76, rfl⟩
abbrev main_v31 : Ref sig .tc := ⟨.hbm, 77, rfl⟩
abbrev main_v32 : Ref sig .tc := ⟨.hbm, 78, rfl⟩
abbrev main_c_5 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_8 : Ref sig .tc := ⟨.hbm, 91, rfl⟩
abbrev main_v40 : Ref sig .tc := ⟨.hbm, 92, rfl⟩
abbrev main_v41 : Ref sig .tc := ⟨.hbm, 93, rfl⟩
abbrev main_call5_v0 : Ref sig .tc := ⟨.hbm, 94, rfl⟩
abbrev main_v42 : Ref sig .tc := ⟨.hbm, 95, rfl⟩
abbrev main_cst_9 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_call6_v0 : Ref sig .tc := ⟨.hbm, 105, rfl⟩
abbrev main_call6_call0_cst : Ref sig .tc := ⟨.hbm, 106, rfl⟩
abbrev main_call6_call0_v0 : Ref sig .tc := ⟨.hbm, 107, rfl⟩
abbrev main_call6_call0_v1 : Ref sig .tc := ⟨.hbm, 108, rfl⟩
abbrev main_call6_call0_v2 : Ref sig .tc := ⟨.hbm, 109, rfl⟩
abbrev main_call6_call0_v3 : Ref sig .tc := ⟨.hbm, 110, rfl⟩
abbrev main_call6_call0_v4 : Ref sig .tc := ⟨.hbm, 111, rfl⟩
abbrev main_call6_call0_v5 : Ref sig .tc := ⟨.hbm, 112, rfl⟩
abbrev main_call6_call0_v6 : Ref sig .tc := ⟨.hbm, 113, rfl⟩
abbrev main_call6_call0_v7 : Ref sig .tc := ⟨.hbm, 114, rfl⟩
abbrev main_call6_call0_v8 : Ref sig .tc := ⟨.hbm, 115, rfl⟩
abbrev main_call6_call0_v9 : Ref sig .tc := ⟨.hbm, 116, rfl⟩
abbrev main_call6_call0_v10 : Ref sig .tc := ⟨.hbm, 117, rfl⟩
abbrev main_call6_call0_v11 : Ref sig .tc := ⟨.hbm, 118, rfl⟩
abbrev main_call6_v1 : Ref sig .tc := ⟨.hbm, 119, rfl⟩
abbrev main_v51 : Ref sig .tc := ⟨.hbm, 120, rfl⟩
abbrev main_cst_10 : Ref sig .tc := ⟨.hbm, 121, rfl⟩
abbrev main_call7_v0 : Ref sig .tc := ⟨.hbm, 122, rfl⟩
abbrev main_call7_v1 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_cst_11 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_12 : Ref sig .tc := ⟨.hbm, 132, rfl⟩
abbrev main_call8_v0 : Ref sig .tc := ⟨.hbm, 133, rfl⟩
abbrev main_call8_v1 : Ref sig .tc := ⟨.hbm, 134, rfl⟩
abbrev main_call8_v2 : Ref sig .tc := ⟨.hbm, 135, rfl⟩
abbrev main_v59 : Ref sig .tc := ⟨.hbm, 136, rfl⟩
abbrev main_cst_13 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_c_14 : Ref sig .tc := ⟨.hbm, 141, rfl⟩
abbrev main_call9_v0 : Ref sig .tc := ⟨.hbm, 142, rfl⟩
abbrev main_call9_v1 : Ref sig .tc := ⟨.hbm, 143, rfl⟩
abbrev main_call9_v2 : Ref sig .tc := ⟨.hbm, 144, rfl⟩
abbrev main_call9_v3 : Ref sig .tc := ⟨.hbm, 145, rfl⟩
abbrev main_call9_v4 : Ref sig .tc := ⟨.hbm, 146, rfl⟩
abbrev main_call9_v5 : Ref sig .tc := ⟨.hbm, 147, rfl⟩
abbrev main_call9_v6 : Ref sig .tc := ⟨.hbm, 148, rfl⟩
abbrev main_call9_v7 : Ref sig .tc := ⟨.hbm, 149, rfl⟩
abbrev main_call9_v8 : Ref sig .tc := ⟨.hbm, 150, rfl⟩
abbrev main_call9_c : Ref sig .tc := ⟨.hbm, 151, rfl⟩
abbrev main_call9_v9 : Ref sig .tc := ⟨.hbm, 152, rfl⟩
abbrev main_call9_v10 : Ref sig .tc := ⟨.hbm, 153, rfl⟩
abbrev main_call9_v11 : Ref sig .tc := ⟨.hbm, 154, rfl⟩
abbrev main_call9_c_0 : Ref sig .tc := ⟨.hbm, 155, rfl⟩
abbrev main_call9_v12 : Ref sig .tc := ⟨.hbm, 156, rfl⟩
abbrev main_call9_v13 : Ref sig .tc := ⟨.hbm, 157, rfl⟩
abbrev main_v63 : Ref sig .tc := ⟨.hbm, 158, rfl⟩
abbrev main_c_15 : Ref sig .tc := ⟨.hbm, 159, rfl⟩
abbrev main_v64 : Ref sig .tc := ⟨.hbm, 160, rfl⟩
abbrev main_v65 : Ref sig .tc := ⟨.hbm, 161, rfl⟩
abbrev main_c_16 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_cst_17 : Ref sig .tc := ⟨.hbm, 166, rfl⟩
abbrev main_call10_v0 : Ref sig .tc := ⟨.hbm, 167, rfl⟩
abbrev main_call10_v1 : Ref sig .tc := ⟨.hbm, 168, rfl⟩
abbrev main_v69 : Ref sig .tc := ⟨.hbm, 169, rfl⟩
abbrev main_cst_18 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_c_19 : Ref sig .tc := ⟨.hbm, 174, rfl⟩
abbrev main_v73 : Ref sig .tc := ⟨.hbm, 175, rfl⟩
abbrev main_v74 : Ref sig .tc := ⟨.hbm, 176, rfl⟩
abbrev main_call11_v0 : Ref sig .tc := ⟨.hbm, 177, rfl⟩
abbrev main_v75 : Ref sig .tc := ⟨.hbm, 178, rfl⟩
abbrev main_v76_0 : Ref sig .tc := ⟨.hbm, 179, rfl⟩
abbrev main_v76_1 : Ref sig .tc := ⟨.hbm, 180, rfl⟩
abbrev main_v76_2 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v1 : BitVec 32 := Scalar.muli arg14 c128_i32
  v1
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v1 : BitVec 32 := Scalar.muli arg14 c128_i32
  let v2 : BitVec 32 := v1
  let v20 : Index := Scalar.indexCast v2
  let c0 : Index := 0#32
  ![v20.toNat, 0]
@[reducible] def k0_t2_loop (i : grid0.Coords) (k0_t1 : Fin k0_t1_loop.trips) : Scf.Loop 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_25 : BitVec 32 := 1#32
  ⟨c0_i32_23, v80, c1_i32_25⟩
def k0_mult2 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c0_i32_149 : BitVec 32 := 0#32
  let v550 : BitVec 32 := Scalar.addi v549 c0_i32_149
  let c128_i32_154 : BitVec 32 := 128#32
  let v558 : BitVec 32 := Scalar.muli v550 c128_i32_154
  v558
def k0_mult3 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c1_i32_150 : BitVec 32 := 1#32
  let v551 : BitVec 32 := Scalar.addi v549 c1_i32_150
  let c128_i32_155 : BitVec 32 := 128#32
  let v560 : BitVec 32 := Scalar.muli v551 c128_i32_155
  v560
def k0_mult4 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c2_i32_151 : BitVec 32 := 2#32
  let v552 : BitVec 32 := Scalar.addi v549 c2_i32_151
  let c128_i32_156 : BitVec 32 := 128#32
  let v562 : BitVec 32 := Scalar.muli v552 c128_i32_156
  v562
def k0_mult5 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c3_i32_152 : BitVec 32 := 3#32
  let v553 : BitVec 32 := Scalar.addi v549 c3_i32_152
  let c128_i32_157 : BitVec 32 := 128#32
  let v564 : BitVec 32 := Scalar.muli v553 c128_i32_157
  v564
def k0_mult6 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c4_i32_153 : BitVec 32 := 4#32
  let v554 : BitVec 32 := Scalar.addi v549 c4_i32_153
  let c128_i32_158 : BitVec 32 := 128#32
  let v566 : BitVec 32 := Scalar.muli v554 c128_i32_158
  v566
def k0_mult7 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c5_i32 : BitVec 32 := 5#32
  let v555 : BitVec 32 := Scalar.addi v549 c5_i32
  let c128_i32_159 : BitVec 32 := 128#32
  let v568 : BitVec 32 := Scalar.muli v555 c128_i32_159
  v568
def k0_mult8 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c6_i32 : BitVec 32 := 6#32
  let v556 : BitVec 32 := Scalar.addi v549 c6_i32
  let c128_i32_160 : BitVec 32 := 128#32
  let v570 : BitVec 32 := Scalar.muli v556 c128_i32_160
  v570
def k0_mult9 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c7_i32 : BitVec 32 := 7#32
  let v557 : BitVec 32 := Scalar.addi v549 c7_i32
  let c128_i32_161 : BitVec 32 := 128#32
  let v572 : BitVec 32 := Scalar.muli v557 c128_i32_161
  v572
def k0_off2 (i : grid0.Coords) (k0_t1 : Fin k0_t1_loop.trips) (k0_t2 : Fin (k0_t2_loop i k0_t1).trips) (c0_i32_149 : BitVec 32) : Fin 2 → Nat :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let v550 : BitVec 32 := Scalar.addi v549 c0_i32_149
  let c128_i32_154 : BitVec 32 := 128#32
  let v558 : BitVec 32 := Scalar.muli v550 c128_i32_154
  let v559 : BitVec 32 := v558
  let v574 : Index := Scalar.indexCast v559
  let c0_162 : Index := 0#32
  ![v574.toNat, 0]
def k0_mult10 (i : grid0.Coords) (k0_t1 : Fin k0_t1_loop.trips) (k0_t2 : Fin (k0_t2_loop i k0_t1).trips) : BitVec 32 :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c128_i32_280 : BitVec 32 := 128#32
  let v1198 : BitVec 32 := Scalar.muli v549 c128_i32_280
  v1198
def k0_off3 (i : grid0.Coords) (k0_t1 : Fin k0_t1_loop.trips) (k0_t2 : Fin (k0_t2_loop i k0_t1).trips) : Fin 2 → Nat :=
  let c0_i32_23 : BitVec 32 := 0#32
  let c1_i32_25 : BitVec 32 := 1#32
  let arg15 : BitVec 32 := Scf.iv c0_i32_23 c1_i32_25 k0_t2
  let c8_i32_148 : BitVec 32 := 8#32
  let v549 : BitVec 32 := Scalar.muli arg15 c8_i32_148
  let c128_i32_280 : BitVec 32 := 128#32
  let v1198 : BitVec 32 := Scalar.muli v549 c128_i32_280
  let v1199 : BitVec 32 := v1198
  let v1221 : Index := Scalar.indexCast v1199
  let c0_281 : Index := 0#32
  ![v1221.toNat, 0]
@[reducible] def k0_t3_loop (i : grid0.Coords) (k0_t1 : Fin k0_t1_loop.trips) : Scf.Loop 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let v77 : BitVec 32 := Scalar.addi c0_i32_23 v76
  let c1_i32_26 : BitVec 32 := 1#32
  ⟨v80, v77, c1_i32_26⟩
def k0_mult11 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c0_i32_149 : BitVec 32 := 0#32
  let v550 : BitVec 32 := Scalar.addi v549 c0_i32_149
  let c128_i32_154 : BitVec 32 := 128#32
  let v558 : BitVec 32 := Scalar.muli v550 c128_i32_154
  v558
def k0_mult12 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c1_i32_150 : BitVec 32 := 1#32
  let v551 : BitVec 32 := Scalar.addi v549 c1_i32_150
  let c128_i32_155 : BitVec 32 := 128#32
  let v560 : BitVec 32 := Scalar.muli v551 c128_i32_155
  v560
def k0_mult13 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c2_i32_151 : BitVec 32 := 2#32
  let v552 : BitVec 32 := Scalar.addi v549 c2_i32_151
  let c128_i32_156 : BitVec 32 := 128#32
  let v562 : BitVec 32 := Scalar.muli v552 c128_i32_156
  v562
def k0_mult14 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c3_i32_152 : BitVec 32 := 3#32
  let v553 : BitVec 32 := Scalar.addi v549 c3_i32_152
  let c128_i32_157 : BitVec 32 := 128#32
  let v564 : BitVec 32 := Scalar.muli v553 c128_i32_157
  v564
def k0_mult15 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c4_i32_153 : BitVec 32 := 4#32
  let v554 : BitVec 32 := Scalar.addi v549 c4_i32_153
  let c128_i32_158 : BitVec 32 := 128#32
  let v566 : BitVec 32 := Scalar.muli v554 c128_i32_158
  v566
def k0_mult16 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c5_i32 : BitVec 32 := 5#32
  let v555 : BitVec 32 := Scalar.addi v549 c5_i32
  let c128_i32_159 : BitVec 32 := 128#32
  let v568 : BitVec 32 := Scalar.muli v555 c128_i32_159
  v568
def k0_mult17 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c6_i32 : BitVec 32 := 6#32
  let v556 : BitVec 32 := Scalar.addi v549 c6_i32
  let c128_i32_160 : BitVec 32 := 128#32
  let v570 : BitVec 32 := Scalar.muli v556 c128_i32_160
  v570
def k0_mult18 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c7_i32 : BitVec 32 := 7#32
  let v557 : BitVec 32 := Scalar.addi v549 c7_i32
  let c128_i32_161 : BitVec 32 := 128#32
  let v572 : BitVec 32 := Scalar.muli v557 c128_i32_161
  v572
def k0_off4 (i : grid0.Coords) (k0_t1 : Fin k0_t1_loop.trips) (k0_t3 : Fin (k0_t3_loop i k0_t1).trips) (c0_i32_149 : BitVec 32) : Fin 2 → Nat :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let v550 : BitVec 32 := Scalar.addi v549 c0_i32_149
  let c128_i32_154 : BitVec 32 := 128#32
  let v558 : BitVec 32 := Scalar.muli v550 c128_i32_154
  let v559 : BitVec 32 := v558
  let v574 : Index := Scalar.indexCast v559
  let c0_162 : Index := 0#32
  ![v574.toNat, 0]
def k0_mult19 (i : grid0.Coords) (k0_t1 : Fin k0_t1_loop.trips) (k0_t3 : Fin (k0_t3_loop i k0_t1).trips) : BitVec 32 :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c128_i32_280 : BitVec 32 := 128#32
  let v1198 : BitVec 32 := Scalar.muli v549 c128_i32_280
  v1198
def k0_off5 (i : grid0.Coords) (k0_t1 : Fin k0_t1_loop.trips) (k0_t3 : Fin (k0_t3_loop i k0_t1).trips) : Fin 2 → Nat :=
  let c0_i32_23 : BitVec 32 := 0#32
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let v76 : BitVec 32 := Scalar.subi v75 c0_i32_23
  let c1_i32_24 : BitVec 32 := 1#32
  let v78 : BitVec 32 := Scalar.divsi v76 c1_i32_24
  let v79 : BitVec 32 := Scalar.muli v78 c1_i32_24
  let v80 : BitVec 32 := Scalar.addi c0_i32_23 v79
  let c1_i32_26 : BitVec 32 := 1#32
  let arg15 : BitVec 32 := Scf.iv v80 c1_i32_26 k0_t3
  let c8_i32_148 : BitVec 32 := 8#32
  let v549 : BitVec 32 := Scalar.muli arg15 c8_i32_148
  let c128_i32_280 : BitVec 32 := 128#32
  let v1198 : BitVec 32 := Scalar.muli v549 c128_i32_280
  let v1199 : BitVec 32 := v1198
  let v1221 : Index := Scalar.indexCast v1199
  let c0_281 : Index := 0#32
  ![v1221.toNat, 0]
def k0_mult20 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_27 : BitVec 32 := 8#32
  let v83 : BitVec 32 := Scalar.muli v75 c8_i32_27
  let c0_i32_28 : BitVec 32 := 0#32
  let v84 : BitVec 32 := Scalar.addi v83 c0_i32_28
  let c128_i32_30 : BitVec 32 := 128#32
  let v88 : BitVec 32 := Scalar.muli v84 c128_i32_30
  v88
def k0_mult21 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_27 : BitVec 32 := 8#32
  let v83 : BitVec 32 := Scalar.muli v75 c8_i32_27
  let c1_i32_29 : BitVec 32 := 1#32
  let v85 : BitVec 32 := Scalar.addi v83 c1_i32_29
  let c128_i32_31 : BitVec 32 := 128#32
  let v90 : BitVec 32 := Scalar.muli v85 c128_i32_31
  v90
def k0_mult22 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_27 : BitVec 32 := 8#32
  let v83 : BitVec 32 := Scalar.muli v75 c8_i32_27
  let c2_i32 : BitVec 32 := 2#32
  let v86 : BitVec 32 := Scalar.addi v83 c2_i32
  let c128_i32_32 : BitVec 32 := 128#32
  let v92 : BitVec 32 := Scalar.muli v86 c128_i32_32
  v92
def k0_mult23 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_27 : BitVec 32 := 8#32
  let v83 : BitVec 32 := Scalar.muli v75 c8_i32_27
  let c3_i32 : BitVec 32 := 3#32
  let v87 : BitVec 32 := Scalar.addi v83 c3_i32
  let c128_i32_33 : BitVec 32 := 128#32
  let v94 : BitVec 32 := Scalar.muli v87 c128_i32_33
  v94
def k0_off6 (i : grid0.Coords) (k0_t1 : Fin k0_t1_loop.trips) (c0_i32_28 : BitVec 32) : Fin 2 → Nat :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_27 : BitVec 32 := 8#32
  let v83 : BitVec 32 := Scalar.muli v75 c8_i32_27
  let v84 : BitVec 32 := Scalar.addi v83 c0_i32_28
  let c128_i32_30 : BitVec 32 := 128#32
  let v88 : BitVec 32 := Scalar.muli v84 c128_i32_30
  let v89 : BitVec 32 := v88
  let v124 : Index := Scalar.indexCast v89
  let c0_42 : Index := 0#32
  ![v124.toNat, 0]
def k0_mult24 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_27 : BitVec 32 := 8#32
  let v83 : BitVec 32 := Scalar.muli v75 c8_i32_27
  let c128_i32_127 : BitVec 32 := 128#32
  let v486 : BitVec 32 := Scalar.muli v83 c128_i32_127
  v486
def k0_off7 (i : grid0.Coords) (k0_t1 : Fin k0_t1_loop.trips) : Fin 2 → Nat :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_27 : BitVec 32 := 8#32
  let v83 : BitVec 32 := Scalar.muli v75 c8_i32_27
  let c128_i32_127 : BitVec 32 := 128#32
  let v486 : BitVec 32 := Scalar.muli v83 c128_i32_127
  let v487 : BitVec 32 := v486
  let v501 : Index := Scalar.indexCast v487
  let c0_128 : Index := 0#32
  ![v501.toNat, 0]
def k0_cond2 (i : grid0.Coords) (k0_t1 : Fin k0_t1_loop.trips) : BitVec 1 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c8_i32_136 : BitVec 32 := 8#32
  let c0_i32_137 : BitVec 32 := 0#32
  let v526 : BitVec 1 := Scalar.cmpi .eq c8_i32_136 c0_i32_137
  let c1_i32_138 : BitVec 32 := 1#32
  let v527 : BitVec 32 := Scalar.select v526 c1_i32_138 c8_i32_136
  let v528 : BitVec 32 := Scalar.remsi v4 v527
  let c0_i32_140 : BitVec 32 := 0#32
  let v530 : BitVec 1 := Scalar.cmpi .slt v528 c0_i32_140
  let c0_i32_141 : BitVec 32 := 0#32
  let v531 : BitVec 1 := Scalar.cmpi .slt v527 c0_i32_141
  let v532 : BitVec 1 := Scalar.xori v530 v531
  let c0_i32_139 : BitVec 32 := 0#32
  let v529 : BitVec 1 := Scalar.cmpi .ne v528 c0_i32_139
  let v533 : BitVec 1 := Scalar.andi v532 v529
  let v534 : BitVec 32 := Scalar.addi v528 v527
  let v535 : BitVec 32 := Scalar.select v533 v534 v528
  let c4_i32_142 : BitVec 32 := 4#32
  let v536 : BitVec 1 := Scalar.cmpi .sge v535 c4_i32_142
  let v537 : BitVec 32 := Scalar.extui v536
  let c0_i32_143 : BitVec 32 := 0#32
  let v538 : BitVec 1 := Scalar.cmpi .ne v537 c0_i32_143
  v538

def k0_mult25 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_148 : BitVec 32 := 8#32
  let v549 : BitVec 32 := Scalar.muli v75 c8_i32_148
  let c4_i32_149 : BitVec 32 := 4#32
  let v550 : BitVec 32 := Scalar.addi v549 c4_i32_149
  let c0_i32_150 : BitVec 32 := 0#32
  let v551 : BitVec 32 := Scalar.addi v550 c0_i32_150
  let c128_i32_154 : BitVec 32 := 128#32
  let v555 : BitVec 32 := Scalar.muli v551 c128_i32_154
  v555
def k0_mult26 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_148 : BitVec 32 := 8#32
  let v549 : BitVec 32 := Scalar.muli v75 c8_i32_148
  let c4_i32_149 : BitVec 32 := 4#32
  let v550 : BitVec 32 := Scalar.addi v549 c4_i32_149
  let c1_i32_151 : BitVec 32 := 1#32
  let v552 : BitVec 32 := Scalar.addi v550 c1_i32_151
  let c128_i32_155 : BitVec 32 := 128#32
  let v557 : BitVec 32 := Scalar.muli v552 c128_i32_155
  v557
def k0_mult27 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_148 : BitVec 32 := 8#32
  let v549 : BitVec 32 := Scalar.muli v75 c8_i32_148
  let c4_i32_149 : BitVec 32 := 4#32
  let v550 : BitVec 32 := Scalar.addi v549 c4_i32_149
  let c2_i32_152 : BitVec 32 := 2#32
  let v553 : BitVec 32 := Scalar.addi v550 c2_i32_152
  let c128_i32_156 : BitVec 32 := 128#32
  let v559 : BitVec 32 := Scalar.muli v553 c128_i32_156
  v559
def k0_mult28 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_148 : BitVec 32 := 8#32
  let v549 : BitVec 32 := Scalar.muli v75 c8_i32_148
  let c4_i32_149 : BitVec 32 := 4#32
  let v550 : BitVec 32 := Scalar.addi v549 c4_i32_149
  let c3_i32_153 : BitVec 32 := 3#32
  let v554 : BitVec 32 := Scalar.addi v550 c3_i32_153
  let c128_i32_157 : BitVec 32 := 128#32
  let v561 : BitVec 32 := Scalar.muli v554 c128_i32_157
  v561
def k0_off8 (i : grid0.Coords) (k0_t1 : Fin k0_t1_loop.trips) (c0_i32_150 : BitVec 32) : Fin 2 → Nat :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_148 : BitVec 32 := 8#32
  let v549 : BitVec 32 := Scalar.muli v75 c8_i32_148
  let c4_i32_149 : BitVec 32 := 4#32
  let v550 : BitVec 32 := Scalar.addi v549 c4_i32_149
  let v551 : BitVec 32 := Scalar.addi v550 c0_i32_150
  let c128_i32_154 : BitVec 32 := 128#32
  let v555 : BitVec 32 := Scalar.muli v551 c128_i32_154
  let v556 : BitVec 32 := v555
  let v591 : Index := Scalar.indexCast v556
  let c0_166 : Index := 0#32
  ![v591.toNat, 0]
def k0_mult29 (i : grid0.Coords) (k0_t1 : Fin k0_t1_loop.trips) : BitVec 32 :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_148 : BitVec 32 := 8#32
  let v549 : BitVec 32 := Scalar.muli v75 c8_i32_148
  let c4_i32_149 : BitVec 32 := 4#32
  let v550 : BitVec 32 := Scalar.addi v549 c4_i32_149
  let c128_i32_249 : BitVec 32 := 128#32
  let v947 : BitVec 32 := Scalar.muli v550 c128_i32_249
  v947
def k0_off9 (i : grid0.Coords) (k0_t1 : Fin k0_t1_loop.trips) : Fin 2 → Nat :=
  let arg0 : BitVec 32 := BitVec.ofNat 32 (i 0).val
  let c4_i32_1 : BitVec 32 := 4#32
  let v3 : BitVec 32 := Scalar.muli arg0 c4_i32_1
  let c0_i32 : BitVec 32 := 0#32
  let c1_i32 : BitVec 32 := 1#32
  let arg14 : BitVec 32 := Scf.iv c0_i32 c1_i32 k0_t1
  let v4 : BitVec 32 := Scalar.addi v3 arg14
  let c0_i32_17 : BitVec 32 := 0#32
  let v60 : BitVec 1 := Scalar.cmpi .sgt v4 c0_i32_17
  let v61 : BitVec 32 := Scalar.extui v60
  let c0_i32_18 : BitVec 32 := 0#32
  let v62 : BitVec 1 := Scalar.cmpi .slt v4 c0_i32_18
  let v63 : BitVec 32 := Scalar.extui v62
  let v64 : BitVec 32 := Scalar.subi v61 v63
  let c8_i32 : BitVec 32 := 8#32
  let c0_i32_19 : BitVec 32 := 0#32
  let v65 : BitVec 1 := Scalar.cmpi .sgt c8_i32 c0_i32_19
  let v66 : BitVec 32 := Scalar.extui v65
  let c0_i32_20 : BitVec 32 := 0#32
  let v67 : BitVec 1 := Scalar.cmpi .slt c8_i32 c0_i32_20
  let v68 : BitVec 32 := Scalar.extui v67
  let v69 : BitVec 32 := Scalar.subi v66 v68
  let v70 : BitVec 1 := Scalar.cmpi .ne v64 v69
  let v71 : BitVec 32 := Scalar.remsi v4 c8_i32
  let c0_i32_21 : BitVec 32 := 0#32
  let v72 : BitVec 1 := Scalar.cmpi .ne v71 c0_i32_21
  let v73 : BitVec 1 := Scalar.andi v70 v72
  let v59 : BitVec 32 := Scalar.divsi v4 c8_i32
  let c1_i32_22 : BitVec 32 := 1#32
  let v74 : BitVec 32 := Scalar.subi v59 c1_i32_22
  let v75 : BitVec 32 := Scalar.select v73 v74 v59
  let c8_i32_148 : BitVec 32 := 8#32
  let v549 : BitVec 32 := Scalar.muli v75 c8_i32_148
  let c4_i32_149 : BitVec 32 := 4#32
  let v550 : BitVec 32 := Scalar.addi v549 c4_i32_149
  let c128_i32_249 : BitVec 32 := 128#32
  let v947 : BitVec 32 := Scalar.muli v550 c128_i32_249
  let v948 : BitVec 32 := v947
  let v962 : Index := Scalar.indexCast v948
  let c0_250 : Index := 0#32
  ![v962.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x3072 : Shape := ⟨2, ![16384, 3072]⟩
abbrev S16384x1024 : Shape := ⟨2, ![16384, 1024]⟩
abbrev S16384x128 : Shape := ⟨2, ![16384, 128]⟩
abbrev S16384x64 : Shape := ⟨2, ![16384, 64]⟩
abbrev S_ : Shape := ⟨0, ![]⟩
abbrev S64x16384 : Shape := ⟨2, ![64, 16384]⟩
abbrev S16384x16384 : Shape := ⟨2, ![16384, 16384]⟩

abbrev nBuf : Space → Nat
  | .hbm => 337
  | .vmem => 0
  | .smem => 0
  | _ => 0

abbrev hbmTy0_0 (i : Nat) : BufTy := match i % 128 with
  | 0 => ⟨S16384x3072, .bf16⟩
  | 1 => ⟨S16384x3072, .bf16⟩
  | 2 => ⟨S16384x1024, .bf16⟩
  | 3 => ⟨S16384x128, .bf16⟩
  | 4 => ⟨S16384x64, .bf16⟩
  | 5 => ⟨S16384x64, .f32⟩
  | 6 => ⟨S16384x64, .bf16⟩
  | 7 => ⟨S16384x64, .f32⟩
  | 8 => ⟨S16384x128, .bf16⟩
  | 9 => ⟨S16384x64, .bf16⟩
  | 10 => ⟨S16384x64, .f32⟩
  | 11 => ⟨S16384x64, .bf16⟩
  | 12 => ⟨S16384x64, .f32⟩
  | 13 => ⟨S16384x128, .bf16⟩
  | 14 => ⟨S16384x64, .bf16⟩
  | 15 => ⟨S16384x64, .f32⟩
  | 16 => ⟨S16384x64, .bf16⟩
  | 17 => ⟨S16384x64, .f32⟩
  | 18 => ⟨S16384x128, .bf16⟩
  | 19 => ⟨S16384x64, .bf16⟩
  | 20 => ⟨S16384x64, .f32⟩
  | 21 => ⟨S16384x64, .bf16⟩
  | 22 => ⟨S16384x64, .f32⟩
  | 23 => ⟨S_, .f32⟩
  | 24 => ⟨S16384x64, .f32⟩
  | 25 => ⟨S16384x64, .f32⟩
  | 26 => ⟨S64x16384, .f32⟩
  | 27 => ⟨S16384x16384, .f32⟩
  | 28 => ⟨S16384x16384, .i32⟩
  | 29 => ⟨S16384x16384, .i32⟩
  | 30 => ⟨S16384x16384, .i1⟩
  | 31 => ⟨S16384x16384, .f32⟩
  | 32 => ⟨S16384x16384, .f32⟩
  | 33 => ⟨S_, .f32⟩
  | 34 => ⟨S16384x16384, .f32⟩
  | 35 => ⟨S16384x16384, .f32⟩
  | 36 => ⟨S16384x16384, .f32⟩
  | 37 => ⟨S16384x16384, .f32⟩
  | 38 => ⟨S16384x16384, .i1⟩
  | 39 => ⟨S16384x16384, .f32⟩
  | 40 => ⟨S16384x16384, .f32⟩
  | 41 => ⟨S16384x16384, .f32⟩
  | 42 => ⟨S16384x16384, .f32⟩
  | 43 => ⟨S16384x16384, .f32⟩
  | 44 => ⟨S16384x16384, .f32⟩
  | 45 => ⟨S16384x16384, .f32⟩
  | 46 => ⟨S16384x16384, .f32⟩
  | 47 => ⟨S_, .f32⟩
  | 48 => ⟨S16384x16384, .f32⟩
  | 49 => ⟨S16384x16384, .i1⟩
  | 50 => ⟨S_, .f32⟩
  | 51 => ⟨S16384x16384, .f32⟩
  | 52 => ⟨S16384x16384, .f32⟩
  | 53 => ⟨S_, .f32⟩
  | 54 => ⟨S16384x16384, .f32⟩
  | 55 => ⟨S16384x16384, .i1⟩
  | 56 => ⟨S_, .f32⟩
  | 57 => ⟨S16384x16384, .f32⟩
  | 58 => ⟨S16384x16384, .f32⟩
  | 59 => ⟨S16384x16384, .f32⟩
  | 60 => ⟨S16384x16384, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S_, .f32⟩
  | 68 => ⟨S16384x16384, .f32⟩
  | 69 => ⟨S16384x16384, .i1⟩
  | 70 => ⟨S_, .f32⟩
  | 71 => ⟨S16384x16384, .f32⟩
  | 72 => ⟨S16384x16384, .f32⟩
  | 73 => ⟨S16384x16384, .f32⟩
  | 74 => ⟨S16384x16384, .f32⟩
  | 75 => ⟨S16384x16384, .f32⟩
  | 76 => ⟨S_, .f32⟩
  | 77 => ⟨S16384x16384, .f32⟩
  | 78 => ⟨S16384x16384, .f32⟩
  | 79 => ⟨S16384x16384, .f32⟩
  | 80 => ⟨S_, .f32⟩
  | 81 => ⟨S_, .f32⟩
  | 82 => ⟨S16384x16384, .f32⟩
  | 83 => ⟨S16384x16384, .f32⟩
  | 84 => ⟨S_, .f32⟩
  | 85 => ⟨S16384x16384, .f32⟩
  | 86 => ⟨S16384x16384, .i32⟩
  | 87 => ⟨S16384x16384, .i32⟩
  | 88 => ⟨S16384x16384, .i1⟩
  | 89 => ⟨S16384x16384, .i1⟩
  | 90 => ⟨S16384x16384, .f32⟩
  | 91 => ⟨S16384x16384, .f32⟩
  | 92 => ⟨S16384x16384, .i32⟩
  | 93 => ⟨S16384x16384, .i32⟩
  | 94 => ⟨S16384x16384, .i1⟩
  | 95 => ⟨S16384x16384, .f32⟩
  | 96 => ⟨S_, .f32⟩
  | 97 => ⟨S16384x16384, .f32⟩
  | 98 => ⟨S16384x16384, .f32⟩
  | 99 => ⟨S16384x16384, .f32⟩
  | 100 => ⟨S16384x16384, .f32⟩
  | 101 => ⟨S16384x16384, .i1⟩
  | 102 => ⟨S16384x16384, .f32⟩
  | 103 => ⟨S16384x16384, .f32⟩
  | 104 => ⟨S16384x16384, .f32⟩
  | 105 => ⟨S16384x16384, .f32⟩
  | 106 => ⟨S16384x16384, .f32⟩
  | 107 => ⟨S16384x16384, .f32⟩
  | 108 => ⟨S16384x16384, .f32⟩
  | 109 => ⟨S16384x16384, .f32⟩
  | 110 => ⟨S_, .f32⟩
  | 111 => ⟨S16384x16384, .f32⟩
  | 112 => ⟨S16384x16384, .i1⟩
  | 113 => ⟨S_, .f32⟩
  | 114 => ⟨S16384x16384, .f32⟩
  | 115 => ⟨S16384x16384, .f32⟩
  | 116 => ⟨S_, .f32⟩
  | 117 => ⟨S16384x16384, .f32⟩
  | 118 => ⟨S16384x16384, .i1⟩
  | 119 => ⟨S_, .f32⟩
  | 120 => ⟨S16384x16384, .f32⟩
  | 121 => ⟨S16384x16384, .f32⟩
  | 122 => ⟨S16384x16384, .f32⟩
  | 123 => ⟨S16384x16384, .f32⟩
  | 124 => ⟨S_, .f32⟩
  | 125 => ⟨S_, .f32⟩
  | 126 => ⟨S_, .i1⟩
  | 127 => ⟨S_, .f32⟩
  | _ => ⟨S16384x3072, .bf16⟩

abbrev hbmTy0_1 (i : Nat) : BufTy := match i % 128 with
  | 0 => ⟨S_, .f32⟩
  | 1 => ⟨S_, .f32⟩
  | 2 => ⟨S_, .f32⟩
  | 3 => ⟨S16384x16384, .f32⟩
  | 4 => ⟨S16384x16384, .i1⟩
  | 5 => ⟨S_, .f32⟩
  | 6 => ⟨S16384x16384, .f32⟩
  | 7 => ⟨S16384x16384, .f32⟩
  | 8 => ⟨S16384x16384, .f32⟩
  | 9 => ⟨S16384x16384, .f32⟩
  | 10 => ⟨S16384x16384, .f32⟩
  | 11 => ⟨S_, .f32⟩
  | 12 => ⟨S16384x16384, .f32⟩
  | 13 => ⟨S16384x16384, .f32⟩
  | 14 => ⟨S16384x16384, .f32⟩
  | 15 => ⟨S16384x16384, .f32⟩
  | 16 => ⟨S16384x16384, .f32⟩
  | 17 => ⟨S_, .f32⟩
  | 18 => ⟨S_, .f32⟩
  | 19 => ⟨S16384x16384, .f32⟩
  | 20 => ⟨S16384x16384, .f32⟩
  | 21 => ⟨S_, .f32⟩
  | 22 => ⟨S16384x16384, .f32⟩
  | 23 => ⟨S16384x64, .f32⟩
  | 24 => ⟨S64x16384, .f32⟩
  | 25 => ⟨S16384x64, .f32⟩
  | 26 => ⟨S16384x16384, .f32⟩
  | 27 => ⟨S_, .f32⟩
  | 28 => ⟨S16384x16384, .f32⟩
  | 29 => ⟨S16384x16384, .f32⟩
  | 30 => ⟨S16384x16384, .f32⟩
  | 31 => ⟨S16384x16384, .f32⟩
  | 32 => ⟨S16384x16384, .f32⟩
  | 33 => ⟨S16384x16384, .f32⟩
  | 34 => ⟨S16384x16384, .f32⟩
  | 35 => ⟨S_, .f32⟩
  | 36 => ⟨S16384x16384, .f32⟩
  | 37 => ⟨S16384x16384, .f32⟩
  | 38 => ⟨S16384x16384, .f32⟩
  | 39 => ⟨S16384x16384, .f32⟩
  | 40 => ⟨S16384x16384, .f32⟩
  | 41 => ⟨S16384x16384, .f32⟩
  | 42 => ⟨S16384x16384, .f32⟩
  | 43 => ⟨S16384x64, .f32⟩
  | 44 => ⟨S64x16384, .f32⟩
  | 45 => ⟨S16384x64, .f32⟩
  | 46 => ⟨S16384x64, .f32⟩
  | 47 => ⟨S_, .f32⟩
  | 48 => ⟨S16384x64, .f32⟩
  | 49 => ⟨S16384x64, .f32⟩
  | 50 => ⟨S_, .f32⟩
  | 51 => ⟨S16384x64, .f32⟩
  | 52 => ⟨S16384x64, .f32⟩
  | 53 => ⟨S64x16384, .f32⟩
  | 54 => ⟨S16384x16384, .f32⟩
  | 55 => ⟨S16384x16384, .i32⟩
  | 56 => ⟨S16384x16384, .i32⟩
  | 57 => ⟨S16384x16384, .i1⟩
  | 58 => ⟨S16384x16384, .f32⟩
  | 59 => ⟨S16384x16384, .f32⟩
  | 60 => ⟨S_, .f32⟩
  | 61 => ⟨S16384x16384, .f32⟩
  | 62 => ⟨S16384x16384, .f32⟩
  | 63 => ⟨S16384x16384, .f32⟩
  | 64 => ⟨S16384x16384, .f32⟩
  | 65 => ⟨S16384x16384, .i1⟩
  | 66 => ⟨S16384x16384, .f32⟩
  | 67 => ⟨S16384x16384, .f32⟩
  | 68 => ⟨S16384x16384, .f32⟩
  | 69 => ⟨S16384x16384, .f32⟩
  | 70 => ⟨S16384x16384, .f32⟩
  | 71 => ⟨S16384x16384, .f32⟩
  | 72 => ⟨S16384x16384, .f32⟩
  | 73 => ⟨S16384x16384, .f32⟩
  | 74 => ⟨S_, .f32⟩
  | 75 => ⟨S16384x16384, .f32⟩
  | 76 => ⟨S16384x16384, .i1⟩
  | 77 => ⟨S_, .f32⟩
  | 78 => ⟨S16384x16384, .f32⟩
  | 79 => ⟨S16384x16384, .f32⟩
  | 80 => ⟨S_, .f32⟩
  | 81 => ⟨S16384x16384, .f32⟩
  | 82 => ⟨S16384x16384, .i1⟩
  | 83 => ⟨S_, .f32⟩
  | 84 => ⟨S16384x16384, .f32⟩
  | 85 => ⟨S16384x16384, .f32⟩
  | 86 => ⟨S16384x16384, .f32⟩
  | 87 => ⟨S16384x16384, .f32⟩
  | 88 => ⟨S_, .f32⟩
  | 89 => ⟨S_, .f32⟩
  | 90 => ⟨S_, .i1⟩
  | 91 => ⟨S_, .f32⟩
  | 92 => ⟨S_, .f32⟩
  | 93 => ⟨S_, .f32⟩
  | 94 => ⟨S_, .f32⟩
  | 95 => ⟨S16384x16384, .f32⟩
  | 96 => ⟨S16384x16384, .i1⟩
  | 97 => ⟨S_, .f32⟩
  | 98 => ⟨S16384x16384, .f32⟩
  | 99 => ⟨S16384x16384, .f32⟩
  | 100 => ⟨S16384x16384, .f32⟩
  | 101 => ⟨S16384x16384, .f32⟩
  | 102 => ⟨S16384x16384, .f32⟩
  | 103 => ⟨S_, .f32⟩
  | 104 => ⟨S16384x16384, .f32⟩
  | 105 => ⟨S16384x16384, .f32⟩
  | 106 => ⟨S16384x16384, .f32⟩
  | 107 => ⟨S_, .f32⟩
  | 108 => ⟨S_, .f32⟩
  | 109 => ⟨S16384x16384, .f32⟩
  | 110 => ⟨S16384x16384, .f32⟩
  | 111 => ⟨S_, .f32⟩
  | 112 => ⟨S16384x16384, .f32⟩
  | 113 => ⟨S16384x16384, .i32⟩
  | 114 => ⟨S16384x16384, .i32⟩
  | 115 => ⟨S16384x16384, .i1⟩
  | 116 => ⟨S16384x16384, .i1⟩
  | 117 => ⟨S16384x16384, .f32⟩
  | 118 => ⟨S16384x16384, .f32⟩
  | 119 => ⟨S16384x16384, .i32⟩
  | 120 => ⟨S16384x16384, .i32⟩
  | 121 => ⟨S16384x16384, .i1⟩
  | 122 => ⟨S16384x16384, .f32⟩
  | 123 => ⟨S_, .f32⟩
  | 124 => ⟨S16384x16384, .f32⟩
  | 125 => ⟨S16384x16384, .f32⟩
  | 126 => ⟨S16384x16384, .f32⟩
  | 127 => ⟨S16384x16384, .f32⟩
  | _ => ⟨S16384x3072, .bf16⟩

abbrev hbmTy0_2 (i : Nat) : BufTy := match i % 128 with
  | 0 => ⟨S16384x16384, .i1⟩
  | 1 => ⟨S16384x16384, .f32⟩
  | 2 => ⟨S16384x16384, .f32⟩
  | 3 => ⟨S16384x16384, .f32⟩
  | 4 => ⟨S16384x16384, .f32⟩
  | 5 => ⟨S16384x16384, .f32⟩
  | 6 => ⟨S16384x16384, .f32⟩
  | 7 => ⟨S16384x16384, .f32⟩
  | 8 => ⟨S16384x16384, .f32⟩
  | 9 => ⟨S_, .f32⟩
  | 10 => ⟨S16384x16384, .f32⟩
  | 11 => ⟨S16384x16384, .i1⟩
  | 12 => ⟨S_, .f32⟩
  | 13 => ⟨S16384x16384, .f32⟩
  | 14 => ⟨S16384x16384, .f32⟩
  | 15 => ⟨S_, .f32⟩
  | 16 => ⟨S16384x16384, .f32⟩
  | 17 => ⟨S16384x16384, .i1⟩
  | 18 => ⟨S_, .f32⟩
  | 19 => ⟨S16384x16384, .f32⟩
  | 20 => ⟨S16384x16384, .f32⟩
  | 21 => ⟨S16384x16384, .f32⟩
  | 22 => ⟨S16384x16384, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S16384x16384, .f32⟩
  | 31 => ⟨S16384x16384, .i1⟩
  | 32 => ⟨S_, .f32⟩
  | 33 => ⟨S16384x16384, .f32⟩
  | 34 => ⟨S16384x16384, .f32⟩
  | 35 => ⟨S16384x16384, .f32⟩
  | 36 => ⟨S16384x16384, .f32⟩
  | 37 => ⟨S16384x16384, .f32⟩
  | 38 => ⟨S_, .f32⟩
  | 39 => ⟨S16384x16384, .f32⟩
  | 40 => ⟨S16384x16384, .f32⟩
  | 41 => ⟨S16384x16384, .f32⟩
  | 42 => ⟨S16384x16384, .f32⟩
  | 43 => ⟨S16384x16384, .f32⟩
  | 44 => ⟨S_, .f32⟩
  | 45 => ⟨S_, .f32⟩
  | 46 => ⟨S16384x16384, .f32⟩
  | 47 => ⟨S16384x16384, .f32⟩
  | 48 => ⟨S_, .f32⟩
  | 49 => ⟨S16384x16384, .f32⟩
  | 50 => ⟨S16384x64, .f32⟩
  | 51 => ⟨S64x16384, .f32⟩
  | 52 => ⟨S16384x64, .f32⟩
  | 53 => ⟨S16384x16384, .f32⟩
  | 54 => ⟨S_, .f32⟩
  | 55 => ⟨S16384x16384, .f32⟩
  | 56 => ⟨S16384x16384, .f32⟩
  | 57 => ⟨S16384x16384, .f32⟩
  | 58 => ⟨S16384x16384, .f32⟩
  | 59 => ⟨S16384x16384, .f32⟩
  | 60 => ⟨S16384x16384, .f32⟩
  | 61 => ⟨S16384x16384, .f32⟩
  | 62 => ⟨S_, .f32⟩
  | 63 => ⟨S16384x16384, .f32⟩
  | 64 => ⟨S16384x16384, .f32⟩
  | 65 => ⟨S16384x16384, .f32⟩
  | 66 => ⟨S16384x16384, .f32⟩
  | 67 => ⟨S16384x16384, .f32⟩
  | 68 => ⟨S16384x16384, .f32⟩
  | 69 => ⟨S16384x16384, .f32⟩
  | 70 => ⟨S16384x64, .f32⟩
  | 71 => ⟨S64x16384, .f32⟩
  | 72 => ⟨S16384x64, .f32⟩
  | 73 => ⟨S16384x64, .f32⟩
  | 74 => ⟨S_, .f32⟩
  | 75 => ⟨S16384x64, .f32⟩
  | 76 => ⟨S16384x64, .f32⟩
  | 77 => ⟨S16384x128, .f32⟩
  | 78 => ⟨S16384x128, .f32⟩
  | 79 => ⟨S16384x128, .f32⟩
  | 80 => ⟨S16384x128, .bf16⟩
  | _ => ⟨S16384x3072, .bf16⟩

abbrev hbmTy (i : Nat) : BufTy := match i / 128 with
  | 0 => hbmTy0_0 i
  | 1 => hbmTy0_1 i
  | 2 => hbmTy0_2 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1_0 : Ref sig .tc := ⟨.hbm, 46, rfl⟩
abbrev main_call0_call0_cst_0 : Ref sig .tc := ⟨.hbm, 47, rfl⟩
abbrev main_call0_call0_v13 : Ref sig .tc := ⟨.hbm, 48, rfl⟩
abbrev main_call0_call0_v14 : Ref sig .tc := ⟨.hbm, 49, rfl⟩
abbrev main_call0_call0_cst_1 : Ref sig .tc := ⟨.hbm, 50, rfl⟩
abbrev main_call0_call0_v15 : Ref sig .tc := ⟨.hbm, 51, rfl⟩
abbrev main_call0_call0_v16 : Ref sig .tc := ⟨.hbm, 52, rfl⟩
abbrev main_call0_call0_cst_2 : Ref sig .tc := ⟨.hbm, 53, rfl⟩
abbrev main_call0_call0_v17 : Ref sig .tc := ⟨.hbm, 54, rfl⟩
abbrev main_call0_call0_v18 : Ref sig .tc := ⟨.hbm, 55, rfl⟩
abbrev main_call0_call0_cst_3 : Ref sig .tc := ⟨.hbm, 56, rfl⟩
abbrev main_call0_call0_v19 : Ref sig .tc := ⟨.hbm, 57, rfl⟩
abbrev main_call0_call0_v20 : Ref sig .tc := ⟨.hbm, 58, rfl⟩
abbrev main_call0_call0_v21 : Ref sig .tc := ⟨.hbm, 59, rfl⟩
abbrev main_v28_1 : Ref sig .tc := ⟨.hbm, 60, rfl⟩
abbrev main_call0_call0_cst_4 : Ref sig .tc := ⟨.hbm, 61, rfl⟩
abbrev main_call0_call0_cst_5 : Ref sig .tc := ⟨.hbm, 62, rfl⟩
abbrev main_call0_call0_v23 : Ref sig .tc := ⟨.hbm, 63, rfl⟩
abbrev main_call0_call0_cst_6 : Ref sig .tc := ⟨.hbm, 64, rfl⟩
abbrev main_call0_call0_cst_7 : Ref sig .tc := ⟨.hbm, 65, rfl⟩
abbrev main_call0_call0_v24 : Ref sig .tc := ⟨.hbm, 66, rfl⟩
abbrev main_call0_call0_cst_8 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_cst_9 : Ref sig .tc := ⟨.hbm, 70, rfl⟩
abbrev main_call0_call0_v27 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_cst_10 : Ref sig .tc := ⟨.hbm, 76, rfl⟩
abbrev main_call0_call0_v32 : Ref sig .tc := ⟨.hbm, 77, rfl⟩
abbrev main_v28_2 : Ref sig .tc := ⟨.hbm, 78, rfl⟩
abbrev main_v28_0 : Ref sig .tc := ⟨.hbm, 79, rfl⟩
abbrev main_cst_0 : Ref sig .tc := ⟨.hbm, 80, rfl⟩
abbrev main_call1_v0 : Ref sig .tc := ⟨.hbm, 81, rfl⟩
abbrev main_call1_v1 : Ref sig .tc := ⟨.hbm, 82, rfl⟩
abbrev main_v29_0 : Ref sig .tc := ⟨.hbm, 83, rfl⟩
abbrev main_call1_cst : Ref sig .tc := ⟨.hbm, 84, rfl⟩
abbrev main_v29_1 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_call2_v0 : Ref sig .tc := ⟨.hbm, 95, rfl⟩
abbrev main_call2_call0_cst : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_call0_v2 : Ref sig .tc := ⟨.hbm, 99, rfl⟩
abbrev main_call2_call0_v3 : Ref sig .tc := ⟨.hbm, 100, rfl⟩
abbrev main_call2_call0_v4 : Ref sig .tc := ⟨.hbm, 101, rfl⟩
abbrev main_call2_call0_v5 : Ref sig .tc := ⟨.hbm, 102, rfl⟩
abbrev main_call2_call0_v6 : Ref sig .tc := ⟨.hbm, 103, rfl⟩
abbrev main_call2_call0_v7 : Ref sig .tc := ⟨.hbm, 104, rfl⟩
abbrev main_call2_call0_v8 : Ref sig .tc := ⟨.hbm, 105, rfl⟩
abbrev main_call2_call0_v9 : Ref sig .tc := ⟨.hbm, 106, rfl⟩
abbrev main_call2_call0_v10 : Ref sig .tc := ⟨.hbm, 107, rfl⟩
abbrev main_call2_call0_v11 : Ref sig .tc := ⟨.hbm, 108, rfl⟩
abbrev main_call2_v1_0 : Ref sig .tc := ⟨.hbm, 109, rfl⟩
abbrev main_call2_call0_cst_0 : Ref sig .tc := ⟨.hbm, 110, rfl⟩
abbrev main_call2_call0_v13 : Ref sig .tc := ⟨.hbm, 111, rfl⟩
abbrev main_call2_call0_v14 : Ref sig .tc := ⟨.hbm, 112, rfl⟩
abbrev main_call2_call0_cst_1 : Ref sig .tc := ⟨.hbm, 113, rfl⟩
abbrev main_call2_call0_v15 : Ref sig .tc := ⟨.hbm, 114, rfl⟩
abbrev main_call2_call0_v16 : Ref sig .tc := ⟨.hbm, 115, rfl⟩
abbrev main_call2_call0_cst_2 : Ref sig .tc := ⟨.hbm, 116, rfl⟩
abbrev main_call2_call0_v17 : Ref sig .tc := ⟨.hbm, 117, rfl⟩
abbrev main_call2_call0_v18 : Ref sig .tc := ⟨.hbm, 118, rfl⟩
abbrev main_call2_call0_cst_3 : Ref sig .tc := ⟨.hbm, 119, rfl⟩
abbrev main_call2_call0_v19 : Ref sig .tc := ⟨.hbm, 120, rfl⟩
abbrev main_call2_call0_v20 : Ref sig .tc := ⟨.hbm, 121, rfl⟩
abbrev main_call2_call0_v21 : Ref sig .tc := ⟨.hbm, 122, rfl⟩
abbrev main_v39_1 : Ref sig .tc := ⟨.hbm, 123, rfl⟩
abbrev main_call2_call0_cst_4 : Ref sig .tc := ⟨.hbm, 124, rfl⟩
abbrev main_call2_call0_cst_5 : Ref sig .tc := ⟨.hbm, 125, rfl⟩
abbrev main_call2_call0_v23 : Ref sig .tc := ⟨.hbm, 126, rfl⟩
abbrev main_call2_call0_cst_6 : Ref sig .tc := ⟨.hbm, 127, rfl⟩
abbrev main_call2_call0_cst_7 : Ref sig .tc := ⟨.hbm, 128, rfl⟩
abbrev main_call2_call0_v24 : Ref sig .tc := ⟨.hbm, 129, rfl⟩
abbrev main_call2_call0_cst_8 : Ref sig .tc := ⟨.hbm, 130, rfl⟩
abbrev main_call2_call0_v25 : Ref sig .tc := ⟨.hbm, 131, rfl⟩
abbrev main_call2_call0_v26 : Ref sig .tc := ⟨.hbm, 132, rfl⟩
abbrev main_call2_call0_cst_9 : Ref sig .tc := ⟨.hbm, 133, rfl⟩
abbrev main_call2_call0_v27 : Ref sig .tc := ⟨.hbm, 134, rfl⟩
abbrev main_call2_call0_v28 : Ref sig .tc := ⟨.hbm, 135, rfl⟩
abbrev main_call2_call0_v29 : Ref sig .tc := ⟨.hbm, 136, rfl⟩
abbrev main_call2_call0_v30 : Ref sig .tc := ⟨.hbm, 137, rfl⟩
abbrev main_call2_call0_v31 : Ref sig .tc := ⟨.hbm, 138, rfl⟩
abbrev main_call2_call0_cst_10 : Ref sig .tc := ⟨.hbm, 139, rfl⟩
abbrev main_call2_call0_v32 : Ref sig .tc := ⟨.hbm, 140, rfl⟩
abbrev main_v39_2 : Ref sig .tc := ⟨.hbm, 141, rfl⟩
abbrev main_v39_0 : Ref sig .tc := ⟨.hbm, 142, rfl⟩
abbrev main_v40 : Ref sig .tc := ⟨.hbm, 143, rfl⟩
abbrev main_v41 : Ref sig .tc := ⟨.hbm, 144, rfl⟩
abbrev main_cst_1 : Ref sig .tc := ⟨.hbm, 145, rfl⟩
abbrev main_call3_v0 : Ref sig .tc := ⟨.hbm, 146, rfl⟩
abbrev main_call3_v1 : Ref sig .tc := ⟨.hbm, 147, rfl⟩
abbrev main_v42_0 : Ref sig .tc := ⟨.hbm, 148, rfl⟩
abbrev main_call3_cst : Ref sig .tc := ⟨.hbm, 149, rfl⟩
abbrev main_v42_1 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_call4_cst : Ref sig .tc := ⟨.hbm, 155, rfl⟩
abbrev main_call4_v0 : Ref sig .tc := ⟨.hbm, 156, rfl⟩
abbrev main_v47 : Ref sig .tc := ⟨.hbm, 157, rfl⟩
abbrev main_v48 : Ref sig .tc := ⟨.hbm, 158, rfl⟩
abbrev main_call5_v0 : Ref sig .tc := ⟨.hbm, 159, rfl⟩
abbrev main_call5_v1 : Ref sig .tc := ⟨.hbm, 160, rfl⟩
abbrev main_v49 : Ref sig .tc := ⟨.hbm, 161, rfl⟩
abbrev main_v50 : Ref sig .tc := ⟨.hbm, 162, rfl⟩
abbrev main_call6_cst : Ref sig .tc := ⟨.hbm, 163, rfl⟩
abbrev main_call6_v0 : Ref sig .tc := ⟨.hbm, 164, rfl⟩
abbrev main_v51 : Ref sig .tc := ⟨.hbm, 165, rfl⟩
abbrev main_call7_v0 : Ref sig .tc := ⟨.hbm, 166, rfl⟩
abbrev main_call7_v1 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_cst_2 : Ref sig .tc := ⟨.hbm, 175, rfl⟩
abbrev main_v59 : Ref sig .tc := ⟨.hbm, 176, rfl⟩
abbrev main_v60 : Ref sig .tc := ⟨.hbm, 177, rfl⟩
abbrev main_cst_3 : Ref sig .tc := ⟨.hbm, 178, rfl⟩
abbrev main_v61 : Ref sig .tc := ⟨.hbm, 179, rfl⟩
abbrev main_v62 : Ref sig .tc := ⟨.hbm, 180, rfl⟩
abbrev main_v63 : Ref sig .tc := ⟨.hbm, 181, rfl⟩
abbrev main_v64 : Ref sig .tc := ⟨.hbm, 182, rfl⟩
abbrev main_v65 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_call8_v0 : Ref sig .tc := ⟨.hbm, 187, rfl⟩
abbrev main_call8_call0_cst : Ref sig .tc := ⟨.hbm, 188, rfl⟩
abbrev main_call8_call0_v0 : Ref sig .tc := ⟨.hbm, 189, rfl⟩
abbrev main_call8_call0_v1 : Ref sig .tc := ⟨.hbm, 190, rfl⟩
abbrev main_call8_call0_v2 : Ref sig .tc := ⟨.hbm, 191, rfl⟩
abbrev main_call8_call0_v3 : Ref sig .tc := ⟨.hbm, 192, rfl⟩
abbrev main_call8_call0_v4 : Ref sig .tc := ⟨.hbm, 193, rfl⟩
abbrev main_call8_call0_v5 : Ref sig .tc := ⟨.hbm, 194, rfl⟩
abbrev main_call8_call0_v6 : Ref sig .tc := ⟨.hbm, 195, rfl⟩
abbrev main_call8_call0_v7 : Ref sig .tc := ⟨.hbm, 196, rfl⟩
abbrev main_call8_call0_v8 : Ref sig .tc := ⟨.hbm, 197, rfl⟩
abbrev main_call8_call0_v9 : Ref sig .tc := ⟨.hbm, 198, rfl⟩
abbrev main_call8_call0_v10 : Ref sig .tc := ⟨.hbm, 199, rfl⟩
abbrev main_call8_call0_v11 : Ref sig .tc := ⟨.hbm, 200, rfl⟩
abbrev main_call8_v1_0 : Ref sig .tc := ⟨.hbm, 201, rfl⟩
abbrev main_call8_call0_cst_0 : Ref sig .tc := ⟨.hbm, 202, rfl⟩
abbrev main_call8_call0_v13 : Ref sig .tc := ⟨.hbm, 203, rfl⟩
abbrev main_call8_call0_v14 : Ref sig .tc := ⟨.hbm, 204, rfl⟩
abbrev main_call8_call0_cst_1 : Ref sig .tc := ⟨.hbm, 205, rfl⟩
abbrev main_call8_call0_v15 : Ref sig .tc := ⟨.hbm, 206, rfl⟩
abbrev main_call8_call0_v16 : Ref sig .tc := ⟨.hbm, 207, rfl⟩
abbrev main_call8_call0_cst_2 : Ref sig .tc := ⟨.hbm, 208, rfl⟩
abbrev main_call8_call0_v17 : Ref sig .tc := ⟨.hbm, 209, rfl⟩
abbrev main_call8_call0_v18 : Ref sig .tc := ⟨.hbm, 210, rfl⟩
abbrev main_call8_call0_cst_3 : Ref sig .tc := ⟨.hbm, 211, rfl⟩
abbrev main_call8_call0_v19 : Ref sig .tc := ⟨.hbm, 212, rfl⟩
abbrev main_call8_call0_v20 : Ref sig .tc := ⟨.hbm, 213, rfl⟩
abbrev main_call8_call0_v21 : Ref sig .tc := ⟨.hbm, 214, rfl⟩
abbrev main_v69_1 : Ref sig .tc := ⟨.hbm, 215, rfl⟩
abbrev main_call8_call0_cst_4 : Ref sig .tc := ⟨.hbm, 216, rfl⟩
abbrev main_call8_call0_cst_5 : Ref sig .tc := ⟨.hbm, 217, rfl⟩
abbrev main_call8_call0_v23 : Ref sig .tc := ⟨.hbm, 218, rfl⟩
abbrev main_call8_call0_cst_6 : Ref sig .tc := ⟨.hbm, 219, rfl⟩
abbrev main_call8_call0_cst_7 : Ref sig .tc := ⟨.hbm, 220, rfl⟩
abbrev main_call8_call0_v24 : Ref sig .tc := ⟨.hbm, 221, rfl⟩
abbrev main_call8_call0_cst_8 : Ref sig .tc := ⟨.hbm, 222, rfl⟩
abbrev main_call8_call0_v25 : Ref sig .tc := ⟨.hbm, 223, rfl⟩
abbrev main_call8_call0_v26 : Ref sig .tc := ⟨.hbm, 224, rfl⟩
abbrev main_call8_call0_cst_9 : Ref sig .tc := ⟨.hbm, 225, rfl⟩
abbrev main_call8_call0_v27 : Ref sig .tc := ⟨.hbm, 226, rfl⟩
abbrev main_call8_call0_v28 : Ref sig .tc := ⟨.hbm, 227, rfl⟩
abbrev main_call8_call0_v29 : Ref sig .tc := ⟨.hbm, 228, rfl⟩
abbrev main_call8_call0_v30 : Ref sig .tc := ⟨.hbm, 229, rfl⟩
abbrev main_call8_call0_v31 : Ref sig .tc := ⟨.hbm, 230, rfl⟩
abbrev main_call8_call0_cst_10 : Ref sig .tc := ⟨.hbm, 231, rfl⟩
abbrev main_call8_call0_v32 : Ref sig .tc := ⟨.hbm, 232, rfl⟩
abbrev main_v69_2 : Ref sig .tc := ⟨.hbm, 233, rfl⟩
abbrev main_v69_0 : Ref sig .tc := ⟨.hbm, 234, rfl⟩
abbrev main_cst_4 : Ref sig .tc := ⟨.hbm, 235, rfl⟩
abbrev main_call9_v0 : Ref sig .tc := ⟨.hbm, 236, rfl⟩
abbrev main_call9_v1 : Ref sig .tc := ⟨.hbm, 237, rfl⟩
abbrev main_v70_0 : Ref sig .tc := ⟨.hbm, 238, rfl⟩
abbrev main_call9_cst : Ref sig .tc := ⟨.hbm, 239, rfl⟩
abbrev main_v70_1 : Ref sig .tc := ⟨.hbm, 240, rfl⟩
abbrev main_v71 : Ref sig .tc := ⟨.hbm, 241, rfl⟩
abbrev main_v72 : Ref sig .tc := ⟨.hbm, 242, rfl⟩
abbrev main_v73 : Ref sig .tc := ⟨.hbm, 243, rfl⟩
abbrev main_v74 : Ref sig .tc := ⟨.hbm, 244, rfl⟩
abbrev main_v75 : Ref sig .tc := ⟨.hbm, 245, rfl⟩
abbrev main_v76 : Ref sig .tc := ⟨.hbm, 246, rfl⟩
abbrev main_v77 : Ref sig .tc := ⟨.hbm, 247, rfl⟩
abbrev main_v78 : Ref sig .tc := ⟨.hbm, 248, rfl⟩
abbrev main_v79 : Ref sig .tc := ⟨.hbm, 249, rfl⟩
abbrev main_call10_v0 : Ref sig .tc := ⟨.hbm, 250, rfl⟩
abbrev main_call10_call0_cst : Ref sig .tc := ⟨.hbm, 251, rfl⟩
abbrev main_call10_call0_v0 : Ref sig .tc := ⟨.hbm, 252, rfl⟩
abbrev main_call10_call0_v1 : Ref sig .tc := ⟨.hbm, 253, rfl⟩
abbrev main_call10_call0_v2 : Ref sig .tc := ⟨.hbm, 254, rfl⟩
abbrev main_call10_call0_v3 : Ref sig .tc := ⟨.hbm, 255, rfl⟩
abbrev main_call10_call0_v4 : Ref sig .tc := ⟨.hbm, 256, rfl⟩
abbrev main_call10_call0_v5 : Ref sig .tc := ⟨.hbm, 257, rfl⟩
abbrev main_call10_call0_v6 : Ref sig .tc := ⟨.hbm, 258, rfl⟩
abbrev main_call10_call0_v7 : Ref sig .tc := ⟨.hbm, 259, rfl⟩
abbrev main_call10_call0_v8 : Ref sig .tc := ⟨.hbm, 260, rfl⟩
abbrev main_call10_call0_v9 : Ref sig .tc := ⟨.hbm, 261, rfl⟩
abbrev main_call10_call0_v10 : Ref sig .tc := ⟨.hbm, 262, rfl⟩
abbrev main_call10_call0_v11 : Ref sig .tc := ⟨.hbm, 263, rfl⟩
abbrev main_call10_v1_0 : Ref sig .tc := ⟨.hbm, 264, rfl⟩
abbrev main_call10_call0_cst_0 : Ref sig .tc := ⟨.hbm, 265, rfl⟩
abbrev main_call10_call0_v13 : Ref sig .tc := ⟨.hbm, 266, rfl⟩
abbrev main_call10_call0_v14 : Ref sig .tc := ⟨.hbm, 267, rfl⟩
abbrev main_call10_call0_cst_1 : Ref sig .tc := ⟨.hbm, 268, rfl⟩
abbrev main_call10_call0_v15 : Ref sig .tc := ⟨.hbm, 269, rfl⟩
abbrev main_call10_call0_v16 : Ref sig .tc := ⟨.hbm, 270, rfl⟩
abbrev main_call10_call0_cst_2 : Ref sig .tc := ⟨.hbm, 271, rfl⟩
abbrev main_call10_call0_v17 : Ref sig .tc := ⟨.hbm, 272, rfl⟩
abbrev main_call10_call0_v18 : Ref sig .tc := ⟨.hbm, 273, rfl⟩
abbrev main_call10_call0_cst_3 : Ref sig .tc := ⟨.hbm, 274, rfl⟩
abbrev main_call10_call0_v19 : Ref sig .tc := ⟨.hbm, 275, rfl⟩
abbrev main_call10_call0_v20 : Ref sig .tc := ⟨.hbm, 276, rfl⟩
abbrev main_call10_call0_v21 : Ref sig .tc := ⟨.hbm, 277, rfl⟩
abbrev main_v80_1 : Ref sig .tc := ⟨.hbm, 278, rfl⟩
abbrev main_call10_call0_cst_4 : Ref sig .tc := ⟨.hbm, 279, rfl⟩
abbrev main_call10_call0_cst_5 : Ref sig .tc := ⟨.hbm, 280, rfl⟩
abbrev main_call10_call0_v23 : Ref sig .tc := ⟨.hbm, 281, rfl⟩
abbrev main_call10_call0_cst_6 : Ref sig .tc := ⟨.hbm, 282, rfl⟩
abbrev main_call10_call0_cst_7 : Ref sig .tc := ⟨.hbm, 283, rfl⟩
abbrev main_call10_call0_v24 : Ref sig .tc := ⟨.hbm, 284, rfl⟩
abbrev main_call10_call0_cst_8 : Ref sig .tc := ⟨.hbm, 285, rfl⟩
abbrev main_call10_call0_v25 : Ref sig .tc := ⟨.hbm, 286, rfl⟩
abbrev main_call10_call0_v26 : Ref sig .tc := ⟨.hbm, 287, rfl⟩
abbrev main_call10_call0_cst_9 : Ref sig .tc := ⟨.hbm, 288, rfl⟩
abbrev main_call10_call0_v27 : Ref sig .tc := ⟨.hbm, 289, rfl⟩
abbrev main_call10_call0_v28 : Ref sig .tc := ⟨.hbm, 290, rfl⟩
abbrev main_call10_call0_v29 : Ref sig .tc := ⟨.hbm, 291, rfl⟩
abbrev main_call10_call0_v30 : Ref sig .tc := ⟨.hbm, 292, rfl⟩
abbrev main_call10_call0_v31 : Ref sig .tc := ⟨.hbm, 293, rfl⟩
abbrev main_call10_call0_cst_10 : Ref sig .tc := ⟨.hbm, 294, rfl⟩
abbrev main_call10_call0_v32 : Ref sig .tc := ⟨.hbm, 295, rfl⟩
abbrev main_v80_2 : Ref sig .tc := ⟨.hbm, 296, rfl⟩
abbrev main_v80_0 : Ref sig .tc := ⟨.hbm, 297, rfl⟩
abbrev main_v81 : Ref sig .tc := ⟨.hbm, 298, rfl⟩
abbrev main_v82 : Ref sig .tc := ⟨.hbm, 299, rfl⟩
abbrev main_cst_5 : Ref sig .tc := ⟨.hbm, 300, rfl⟩
abbrev main_call11_v0 : Ref sig .tc := ⟨.hbm, 301, rfl⟩
abbrev main_call11_v1 : Ref sig .tc := ⟨.hbm, 302, rfl⟩
abbrev main_v83_0 : Ref sig .tc := ⟨.hbm, 303, rfl⟩
abbrev main_call11_cst : Ref sig .tc := ⟨.hbm, 304, rfl⟩
abbrev main_v83_1 : Ref sig .tc := ⟨.hbm, 305, rfl⟩
abbrev main_v84 : Ref sig .tc := ⟨.hbm, 306, rfl⟩
abbrev main_v85 : Ref sig .tc := ⟨.hbm, 307, rfl⟩
abbrev main_v86 : Ref sig .tc := ⟨.hbm, 308, rfl⟩
abbrev main_v87 : Ref sig .tc := ⟨.hbm, 309, rfl⟩
abbrev main_call12_cst : Ref sig .tc := ⟨.hbm, 310, rfl⟩
abbrev main_call12_v0 : Ref sig .tc := ⟨.hbm, 311, rfl⟩
abbrev main_v88 : Ref sig .tc := ⟨.hbm, 312, rfl⟩
abbrev main_v89 : Ref sig .tc := ⟨.hbm, 313, rfl⟩
abbrev main_call13_v0 : Ref sig .tc := ⟨.hbm, 314, rfl⟩
abbrev main_call13_v1 : Ref sig .tc := ⟨.hbm, 315, rfl⟩
abbrev main_v90 : Ref sig .tc := ⟨.hbm, 316, rfl⟩
abbrev main_v91 : Ref sig .tc := ⟨.hbm, 317, rfl⟩
abbrev main_call14_cst : Ref sig .tc := ⟨.hbm, 318, rfl⟩
abbrev main_call14_v0 : Ref sig .tc := ⟨.hbm, 319, rfl⟩
abbrev main_v92 : Ref sig .tc := ⟨.hbm, 320, rfl⟩
abbrev main_call15_v0 : Ref sig .tc := ⟨.hbm, 321, rfl⟩
abbrev main_call15_v1 : Ref sig .tc := ⟨.hbm, 322, rfl⟩
abbrev main_v93 : Ref sig .tc := ⟨.hbm, 323, rfl⟩
abbrev main_v94 : Ref sig .tc := ⟨.hbm, 324, rfl⟩
abbrev main_v95 : Ref sig .tc := ⟨.hbm, 325, rfl⟩
abbrev main_v96 : Ref sig .tc := ⟨.hbm, 326, rfl⟩
abbrev main_v97 : Ref sig .tc := ⟨.hbm, 327, rfl⟩
abbrev main_v98 : Ref sig .tc := ⟨.hbm, 328, rfl⟩
abbrev main_v99 : Ref sig .tc := ⟨.hbm, 329, rfl⟩
abbrev main_cst_6 : Ref sig .tc := ⟨.hbm, 330, rfl⟩
abbrev main_v100 : Ref sig .tc := ⟨.hbm, 331, rfl⟩
abbrev main_v101 : Ref sig .tc := ⟨.hbm, 332, rfl⟩
abbrev main_v102 : Ref sig .tc := ⟨.hbm, 333, rfl⟩
abbrev main_v103 : Ref sig .tc := ⟨.hbm, 334, rfl⟩
abbrev main_v104 : Ref sig .tc := ⟨.hbm, 335, rfl⟩
abbrev main_v105 : Ref sig .tc := ⟨.hbm, 336, rfl⟩

abbrev nD : Nat := 1
abbrev τ : Topo := Topo.v7x

variable {F : FTy → Type} [FloatOps F]
-- ==== Proof.ConvPoint.lean ====
/- What one point of the convolution's backward call leaves in its four results' staged blocks, as functions of the
   staged blocks it reads. -/
module

public import proofs.«01_k».proof.Proof.Gen.Kernel2Ideal.Value
public import Idealize.ShloMosaic.Lib.WritesUnit

@[expose] public section

set_option maxRecDepth 16384
set_option maxHeartbeats 400000

noncomputable section

namespace Cert.Kernel2Ideal.Conv

open Cert.Kernel2Ideal Cert.Kernel2Ideal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- Row `k` of an eight-row array. -/
def rowOf (k : Fin 8) (x : Vec F S8x256 .f32) : Vec F S1x256 .f32 := fun j => x (fun a => match a with
  | ⟨0, _⟩ => k
  | ⟨1, _⟩ => j 1)

theorem ld_row (k : Fin 8) (x : Vec F S8x256 .f32) (o : Nat) (ho : o = k.val) (inb : ∀ a, (![o, 0] : Fin 2 → Nat) a + (![1, 256] : Fin 2 → Nat) a ≤ S8x256.size a) :
    View.ld x (Rect.unit (s := S8x256) ![o, 0] ![1, 256] inb) = rowOf k x := by
  subst ho
  refine funext fun j => congrArg x (funext fun a => Fin.ext ?_)
  match a with
  | ⟨0, _⟩ =>
    have h : (j 0).val < 1 := (j 0).isLt
    show k.val + 1 * (j 0).val = k.val
    omega
  | ⟨1, _⟩ =>
    show 0 + 1 * (j 1).val = (j 1).val
    omega

/-- A load of one row does not see a store of another row. -/
theorem load_other {sp : Space} {κ : Kind} (v : View sig κ sp S8x256 .f32) (f : v.ty.Contents (Elt F)) (o o' : Nat) (h : o' < o ∨ o < o')
    (inb : ∀ a, (![o, 0] : Fin 2 → Nat) a + (![1, 256] : Fin 2 → Nat) a ≤ S8x256.size a)
    (inb' : ∀ a, (![o', 0] : Fin 2 → Nat) a + (![1, 256] : Fin 2 → Nat) a ≤ S8x256.size a)
    (p : (Rect.unit (s := S8x256) ![o', 0] ![1, 256] inb').shape.Idx → Elt F .f32) (L : List (View.Piece (Elt F) S8x256 .f32)) :
    v.readAt (Elt F) (Rect.unit (s := S8x256) ![o, 0] ![1, 256] inb).toLoadRect (v.writes (Elt F) f (⟨Rect.unit (s := S8x256) ![o', 0] ![1, 256] inb', p⟩ :: L))
      = v.readAt (Elt F) (Rect.unit (s := S8x256) ![o, 0] ![1, 256] inb).toLoadRect (v.writes (Elt F) f L) := by
  funext j
  rw [View.readAt_apply, View.readAt_apply]
  refine View.read_writes_cons_unit_of_not_mem v f inb' p L _ rfl 0 ?_
  have h0 : (j 0).val < 1 := (j 0).isLt
  show o + 1 * (j 0).val < o' ∨ o' + 1 ≤ o + 1 * (j 0).val
  omega

/-- The same after stores over nothing. -/
theorem load_other_cov {sp : Space} {κ : Kind} (v : View sig κ sp S8x256 .f32) (o o' : Nat) (h : o' < o ∨ o < o')
    (inb : ∀ a, (![o, 0] : Fin 2 → Nat) a + (![1, 256] : Fin 2 → Nat) a ≤ S8x256.size a)
    (inb' : ∀ a, (![o', 0] : Fin 2 → Nat) a + (![1, 256] : Fin 2 → Nat) a ≤ S8x256.size a)
    (p : (Rect.unit (s := S8x256) ![o', 0] ![1, 256] inb').shape.Idx → Elt F .f32) (L : List (View.Piece (Elt F) S8x256 .f32)) :
    v.readCov (⟨Rect.unit (s := S8x256) ![o', 0] ![1, 256] inb', p⟩ :: L) (Rect.unit (s := S8x256) ![o, 0] ![1, 256] inb).toLoadRect
      = v.readCov L (Rect.unit (s := S8x256) ![o, 0] ![1, 256] inb).toLoadRect := load_other v v.junk o o' h inb inb' p L

/-- A load after a fill of the whole buffer reads the fill. -/
theorem load_fill {sp : Space} {κ : Kind} (v : View sig κ sp S8x256 .f32) (Z : Vec F S8x256 .f32) (r : Rect S8x256) :
    v.readCov [⟨Rect.unit (s := S8x256) ![0, 0] ![8, 256] inb_S8x256_S8x256_0_0, Z⟩] r.toLoadRect = View.ld Z r := by
  rw [View.readCov_eq_canon', View.canon_unit_zero hz]

/-- The one-row array's index under a column. -/
def colOf (y : S8x256.Idx) : S1x256.Idx := fun a => match a with
  | ⟨0, _⟩ => (0 : Fin 1)
  | ⟨1, _⟩ => y 1

/-- Rows 0, 1 and 2 replaced. -/
def setRows (p0 p1 p2 : Vec F S1x256 .f32) (x : Vec F S8x256 .f32) : Vec F S8x256 .f32 := fun y =>
  if (y 0).val = 0 then p0 (colOf y) else if (y 0).val = 1 then p1 (colOf y) else if (y 0).val = 2 then p2 (colOf y) else x y

theorem read_rows {sp : Space} {κ : Kind} (v : View sig κ sp S8x256 .f32) (f : v.ty.Contents (Elt F)) (L : List (View.Piece (Elt F) S8x256 .f32)) (p0 p1 p2 : Vec F S1x256 .f32) :
    v.read (Elt F) (v.writes (Elt F) f (⟨Rect.unit (s := S8x256) ![2, 0] ![1, 256] inb_S8x256_S1x256_2_0, p2⟩ :: ⟨Rect.unit (s := S8x256) ![1, 0] ![1, 256] inb_S8x256_S1x256_1_0, p1⟩ :: ⟨Rect.unit (s := S8x256) ![0, 0] ![1, 256] inb_S8x256_S1x256_0_0, p0⟩ :: L))
      = setRows p0 p1 p2 (v.read (Elt F) (v.writes (Elt F) f L)) := by
  funext y
  unfold setRows
  have h1 : (y 1).val = (colOf y 1).val := rfl
  have h0 : (colOf y 0).val = 0 := rfl
  have out : ∀ (o : Nat) (inb : ∀ a, (![o, 0] : Fin 2 → Nat) a + (![1, 256] : Fin 2 → Nat) a ≤ S8x256.size a) (p : Vec F S1x256 .f32) (L), (y 0).val ≠ o →
      v.read (Elt F) (v.writes (Elt F) f (⟨Rect.unit (s := S8x256) ![o, 0] ![1, 256] inb, p⟩ :: L)) y = v.read (Elt F) (v.writes (Elt F) f L) y := fun o inb p L h =>
    View.read_writes_cons_rows_of_not_mem (d := ![8, 256]) (W := 1) v f inb p L y rfl rfl (by omega)
  have into : ∀ (o : Nat) (inb : ∀ a, (![o, 0] : Fin 2 → Nat) a + (![1, 256] : Fin 2 → Nat) a ≤ S8x256.size a) (p : Vec F S1x256 .f32) (L), (y 0).val = o →
      v.read (Elt F) (v.writes (Elt F) f (⟨Rect.unit (s := S8x256) ![o, 0] ![1, 256] inb, p⟩ :: L)) y = p (colOf y) := fun o inb p L h =>
    View.read_writes_cons_rows_of_mem (d := ![8, 256]) v f inb p L y (colOf y) rfl (by rw [h, h0, Nat.add_zero]) h1
  by_cases e0 : (y 0).val = 0
  · rw [if_pos e0, out 2 _ _ _ (by omega), out 1 _ _ _ (by omega), into 0 _ _ _ e0]
  · rw [if_neg e0]
    by_cases e1 : (y 0).val = 1
    · rw [if_pos e1, out 2 _ _ _ (by omega), into 1 _ _ _ e1]
    · rw [if_neg e1]
      by_cases e2 : (y 0).val = 2
      · rw [if_pos e2, into 2 _ _ _ e2]
      · rw [if_neg e2, out 2 _ _ _ e2, out 1 _ _ _ e1, out 0 _ _ _ e0]

/-- The gated input moved down by one row, the row above the block from the block above. -/
abbrev down1 (i : grid0.Coords) (x1 x2 : Vec F S512x256 .bf16) (x4 x5 : Vec F S8x256 .bf16) : FVec F S512x256 .f32 := k0_pay9 i x1 x2 x4 x5
/-- The gated input moved down by two rows. -/
abbrev down2 (i : grid0.Coords) (x1 x2 : Vec F S512x256 .bf16) (x4 x5 : Vec F S8x256 .bf16) : FVec F S512x256 .f32 := k0_pay10 i x1 x2 x4 x5
/-- The convolution of the gated input. -/
def convolved (i : grid0.Coords) (x1 x2 : Vec F S512x256 .bf16) (x4 x5 : Vec F S8x256 .bf16) (x8 : Vec F S8x256 .f32) : FVec F S512x256 .f32 :=
  k0_pay11 (k0_pay7 x1 x2) (down1 i x1 x2 x4 x5) (down2 i x1 x2 x4 x5) (rowOf 0 x8) (rowOf 1 x8) (rowOf 2 x8)
/-- The convolution's gradient. -/
abbrev gradU (x0 x3 : Vec F S512x256 .bf16) : FVec F S512x256 .f32 := k0_pay12 (k0_pay3 x0) (k0_pay6 x3)
/-- The two later terms of the gated input's gradient, before the third. -/
def partU (i : grid0.Coords) (x0 x3 : Vec F S512x256 .bf16) (x6 x7 : Vec F S8x256 .bf16) (x8 : Vec F S8x256 .f32) : FVec F S512x256 .f32 :=
  k0_pay14 (BitVec.ofNat 32 (i 0).val) (k0_pay3 x0) (k0_pay6 x3) x7 x6 (rowOf 2 x8) (rowOf 1 x8)
/-- The first result's block. -/
def outB (i : grid0.Coords) (x1 x2 x3 : Vec F S512x256 .bf16) (x4 x5 : Vec F S8x256 .bf16) (x8 : Vec F S8x256 .f32) : FVec F S512x256 .bf16 :=
  k0_pay16 (k0_pay6 x3) (convolved i x1 x2 x4 x5 x8)
/-- The second result's block. -/
def outC (i : grid0.Coords) (x0 x2 x3 : Vec F S512x256 .bf16) (x6 x7 : Vec F S8x256 .bf16) (x8 : Vec F S8x256 .f32) : FVec F S512x256 .bf16 :=
  k0_pay17 (k0_pay5 x2) (gradU x0 x3) (k0_pay13 (BitVec.ofNat 32 (i 0).val) x7 x6) (partU i x0 x3 x6 x7 x8) (rowOf 0 x8)
/-- The third result's block. -/
def outX (i : grid0.Coords) (x0 x1 x3 : Vec F S512x256 .bf16) (x6 x7 : Vec F S8x256 .bf16) (x8 : Vec F S8x256 .f32) : FVec F S512x256 .bf16 :=
  k0_pay18 (k0_pay4 x1) (gradU x0 x3) (k0_pay13 (BitVec.ofNat 32 (i 0).val) x7 x6) (partU i x0 x3 x6 x7 x8) (rowOf 0 x8)
/-- The fourth result's block: a point's sums added to rows 0, 1 and 2. -/
def addW (i : grid0.Coords) (x0 x1 x2 x3 : Vec F S512x256 .bf16) (x4 x5 : Vec F S8x256 .bf16) (acc : Vec F S8x256 .f32) : Vec F S8x256 .f32 :=
  setRows (k0_pay20 (down2 i x1 x2 x4 x5) (gradU x0 x3) (rowOf 0 acc)) (k0_pay1 (down1 i x1 x2 x4 x5) (gradU x0 x3) (rowOf 1 acc)) (k0_pay2 (k0_pay7 x1 x2) (gradU x0 x3) (rowOf 2 acc)) acc

theorem out_A_9 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) :
    out0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = outB i x1 x2 x3 x4 x5 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

theorem out_A_10 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) :
    out0_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = outC i x0 x2 x3 x6 x7 x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

theorem out_A_11 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) :
    out0_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = outX i x0 x1 x3 x6 x7 x8 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

theorem out_B_9 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : ¬cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) (xo : Vec F S8x256 .f32) :
    out0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo = outB i x1 x2 x3 x4 x5 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

theorem out_B_10 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : ¬cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) (xo : Vec F S8x256 .f32) :
    out0_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo = outC i x0 x2 x3 x6 x7 x8 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

theorem out_B_11 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : ¬cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) (xo : Vec F S8x256 .f32) :
    out0_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo = outX i x0 x1 x3 x6 x7 x8 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

theorem out_A_12 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) :
    out0_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = addW i x0 x1 x2 x3 x4 x5 k0_pay19 := by
  unfold out0_A_12
  unfold kernelRun0_A
  dsimp only
  sl_unfold_words
  simp only [load_other_cov _ 1 0 (by omega), load_other_cov _ 2 0 (by omega), load_other_cov _ 2 1 (by omega)]
  refine (read_rows _ _ _ _ _ _).trans ?_
  rw [View.read_writes_junk_eq_canon, View.canon_unit_zero hz]
  simp only [load_fill]
  simp only [View.readAt_eq_ld, harg13.read_unread, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

theorem out_B_12 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8x256 .bf16) (harg5 : arg5.IsWhole) (arg6 : Memref sig .tc .vmem S8x256 .bf16) (harg6 : arg6.IsWhole) (arg7 : Memref sig .tc .vmem S8x256 .bf16) (harg7 : arg7.IsWhole) (arg8 : Memref sig .tc .vmem S8x256 .bf16) (harg8 : arg8.IsWhole) (arg9 : Memref sig .tc .vmem S8x256 .f32) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S8x256 .f32) (harg13 : arg13.IsWhole) (hc : ¬cond0_0 i) (x0 : Vec F S512x256 .bf16) (x1 : Vec F S512x256 .bf16) (x2 : Vec F S512x256 .bf16) (x3 : Vec F S512x256 .bf16) (x4 : Vec F S8x256 .bf16) (x5 : Vec F S8x256 .bf16) (x6 : Vec F S8x256 .bf16) (x7 : Vec F S8x256 .bf16) (x8 : Vec F S8x256 .f32) (xo : Vec F S8x256 .f32) :
    out0_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo = addW i x0 x1 x2 x3 x4 x5 xo := by
  unfold out0_B_12
  unfold kernelRun0_B
  dsimp only
  sl_unfold_words
  simp only [load_other _ _ 1 0 (by omega), load_other _ _ 2 0 (by omega), load_other _ _ 2 1 (by omega), View.writes_nil]
  refine (read_rows _ _ _ _ _ _).trans ?_
  refine (congrArg (setRows _ _ _) (harg13.read_unread xo)).trans ?_
  simp only [View.readAt_eq_ld, harg13.read_unread, harg1.read_unread, harg2.read_unread, harg3.read_unread, harg4.read_unread, harg5.read_unread, harg6.read_unread, harg7.read_unread, harg8.read_unread, harg9.read_unread, View.ld_unit_zero (S := S512x256) hz, View.ld_unit_zero (S := S8x256) hz, ld_row 0 _ 0 rfl, ld_row 1 _ 1 rfl, ld_row 2 _ 2 rfl]
  rfl

end Cert.Kernel2Ideal.Conv
-- ==== Proof.ConvSpec.lean ====
/- The gradient of a gated causal convolution of three taps, over extended reals: rows and columns are natural numbers. -/
module

public import Idealize.ShloMosaic.PureOps.Ideal.Laws

@[expose] public section

noncomputable section

namespace Cert.Conv

/-- An array read at a row and a column, 0 outside. -/
def at2 {m n : Nat} (x : (⟨2, ![m, n]⟩ : Idealize.ShloMosaic.Shape).Idx → EReal) (r c : Nat) : EReal :=
  if h : r < m ∧ c < n then x (fun a => match a with
    | ⟨0, _⟩ => ⟨r, h.1⟩
    | ⟨1, _⟩ => ⟨c, h.2⟩) else 0

theorem at2_eq {m n : Nat} (x : (⟨2, ![m, n]⟩ : Idealize.ShloMosaic.Shape).Idx → EReal) (j : (⟨2, ![m, n]⟩ : Idealize.ShloMosaic.Shape).Idx)
    (r c : Nat) (hr : (j 0).val = r) (hc : (j 1).val = c) : x j = at2 x r c := by
  subst hr; subst hc
  unfold at2
  rw [dif_pos ⟨(j 0).isLt, (j 1).isLt⟩]
  exact congrArg x (funext fun a => Fin.ext (match a with | ⟨0, _⟩ => rfl | ⟨1, _⟩ => rfl))

section
variable (G C X D W : Nat → Nat → EReal)

/-- The gated input. -/
def hc (r c : Nat) : EReal := C r c * X r c
/-- The gated input `n` rows earlier, 0 above the first row. -/
def hcd (n r c : Nat) : EReal := if n ≤ r then hc C X (r - n) c else 0
/-- The convolution. -/
def u (r c : Nat) : EReal := W 0 c * hcd C X 2 r c + W 1 c * hcd C X 1 r c + W 2 c * hc C X r c
/-- The convolution's gradient. -/
def du (r c : Nat) : EReal := D r c * G r c
/-- The convolution's gradient `n` rows later, 0 below the last row. -/
def duu (n r c : Nat) : EReal := if r + n < 16384 then du G D (r + n) c else 0
/-- The gated input's gradient. -/
def dhc (r c : Nat) : EReal := W 2 c * du G D r c + W 1 c * duu G D 1 r c + W 0 c * duu G D 2 r c
/-- The gradient of tap `k` of column `c`, summed over the rows below `n`. -/
def dw (k n c : Nat) : EReal := ∑ r ∈ Finset.range n, du G D r c * hcd C X (2 - k) r c

theorem hcd_zero (r c : Nat) : hcd C X 0 r c = hc C X r c := by unfold hcd; rw [if_pos (Nat.zero_le _), Nat.sub_zero]
end

end Cert.Conv
-- ==== Proof.ConvBody.lean ====
/- The convolution's backward call at one point of its grid, read at an index at the ideal values: the blocks it writes
   are blocks of the gradient's formulas. -/
module

public import proofs.«01_k».proof.Proof.ConvPoint
public import proofs.«01_k».proof.Proof.ConvSpec
public import Idealize.ShloMosaic.Lib.KernelVsHost
public import Idealize.ShloMosaic.Lib.ValueIdx
public import Idealize.ShloMosaic.PureOps.Ideal.Laws

@[expose] public section

set_option maxRecDepth 16384
set_option maxHeartbeats 400000

noncomputable section

namespace Cert.Kernel2Ideal.Conv

open Cert.Kernel2Ideal Cert.Kernel2Ideal.Gen Idealize.ShloMosaic Idealize.ShloMosaic.TcCoe Idealize.ShloMosaic.Tactic Idealize.SL.Sem
open Cert.Conv

section Shapes
variable {α : Type}

/-- A row of an eight-row array, at a column of a block. -/
def cell8 (k : Fin 8) (j : S512x256.Idx) : S8x256.Idx := fun a => match a with
  | ⟨0, _⟩ => k
  | ⟨1, _⟩ => j 1
/-- The one row's index at a column of a block. -/
def cell1 (j : S512x256.Idx) : S1x256.Idx := fun a => match a with
  | ⟨0, _⟩ => (0 : Fin 1)
  | ⟨1, _⟩ => j 1
/-- Another row of a block, in the same column. -/
def inRow (j : S512x256.Idx) (p : Nat) (hp : p < 512) : S512x256.Idx := fun a => match a with
  | ⟨0, _⟩ => ⟨p, hp⟩
  | ⟨1, _⟩ => j 1

/-- A block whose row `k` is replaced. -/
theorem sel_row (k : Nat) (hk : k < 512) (a b : S512x256.Idx → α) (h) (j : S512x256.Idx) :
    select (cmpi .eq (iota .tc S512x256 32 [0] h) (broadcast S512x256 (BitVec.ofNat 32 k))) a b j = if (j 0).val = k then a j else b j := by
  have hj : (j 0).val < 512 := (j 0).isLt
  show Scalar.select (IntOp.cmpi .eq (iota .tc S512x256 32 [0] h j) (BitVec.ofNat 32 k)) (a j) (b j) = _
  rw [iota_single_apply]
  by_cases e : (j 0).val = k
  · rw [if_pos e, e]
    simp [IntOp.cmpi, Scalar.select]
  · rw [if_neg e]
    have ne : BitVec.ofNat 32 (j 0).val ≠ BitVec.ofNat 32 k := fun q => e (by
      have := congrArg BitVec.toNat q
      rw [BitVec.toNat_ofNat, BitVec.toNat_ofNat, Nat.mod_eq_of_lt (by omega), Nat.mod_eq_of_lt (by omega)] at this
      exact this)
    have nb : (BitVec.ofNat 32 (j 0).val == BitVec.ofNat 32 k) = false := beq_false_of_ne ne
    simp [IntOp.cmpi, Scalar.select, nb]

/-- One row spread over a block. -/
theorem spread_row (x : S1x256.Idx → α) (h) (h') (j : S512x256.Idx) : broadcastTo S512x256 (shapeCast S1x256 x h) h' j = x (cell1 j) := by
  rw [shapeCast_self]
  exact broadcastTo_apply x h' j (cell1 j) (fun a => match a with | ⟨0, _⟩ => rfl | ⟨1, _⟩ => rfl)

/-- One row of an eight-row array spread over a block. -/
theorem spread_cut (k : Fin 8) (o : Nat) (ho : o = k.val) (x : S8x256.Idx → α) (hs) (h) (h') (j : S512x256.Idx) :
    broadcastTo S512x256 (shapeCast S1x256 (extractStridedSlice S1x256 ![o, 0] x hs) h) h' j = x (cell8 k j) := by
  rw [spread_row]
  exact extractStridedSlice_apply _ x hs (cell1 j) (cell8 k j) (fun a => match a with
    | ⟨0, _⟩ => by show k.val = o + 0; omega
    | ⟨1, _⟩ => by show (j 1).val = 0 + (j 1).val; omega)

/-- A block turned by `n` rows. -/
theorem turned (n : Nat) (hn : n < 512) (x : S512x256.Idx → α) (h) (j : S512x256.Idx) (p : Nat) (hp : p < 512) (e : p = ((j 0).val + 512 - n) % 512) :
    dynamicRotate 0 (BitVec.ofNat 32 n) none x h j = x (inRow j p hp) := by
  refine dynamicRotate_apply 0 _ x h j _ (fun b => ?_)
  match b with
  | ⟨0, _⟩ =>
    refine Eq.trans ?_ (if_pos rfl).symm
    show p = ((j 0).val + 512 - (BitVec.ofNat 32 n).toNat % 512) % 512
    rw [BitVec.toNat_ofNat, Nat.mod_eq_of_lt (by omega : n < 2 ^ 32), Nat.mod_eq_of_lt hn, e]
  | ⟨1, _⟩ => exact (if_neg (fun q => Nat.one_ne_zero (congrArg Fin.val q))).symm

end Shapes

/-- A choice by a comparison of two small numbers. -/
theorem sel_gt {α : Type} (t : Nat) (ht : t < 32) (a b : α) : Scalar.select (Scalar.cmpi .sgt (BitVec.ofNat 32 t) 0#32) a b = if 0 < t then a else b := by
  interval_cases t <;> rfl
theorem sel_lt {α : Type} (t : Nat) (ht : t < 32) (a b : α) : Scalar.select (Scalar.cmpi .slt (BitVec.ofNat 32 t) 31#32) a b = if t < 31 then a else b := by
  interval_cases t <;> rfl

variable (G C X D W : Nat → Nat → EReal) (i : grid0.Coords)
variable (x0 x1 x2 x3 : Vec Ideal S512x256 .bf16) (x4 x5 x6 x7 : Vec Ideal S8x256 .bf16) (x8 : Vec Ideal S8x256 .f32)

/-- A block of an array, at point `i`. -/
def IsBlock (Y : Nat → Nat → EReal) (x : Vec Ideal S512x256 .bf16) : Prop := ∀ j : S512x256.Idx, x j = Y ((i 0).val * 512 + (j 0).val) (j 1).val
/-- The eight rows above the block. -/
def IsAbove (Y : Nat → Nat → EReal) (x : Vec Ideal S8x256 .bf16) : Prop := ∀ j : S8x256.Idx, 0 < (i 0).val → x j = Y ((i 0).val * 512 - 8 + (j 0).val) (j 1).val
/-- The eight rows below the block. -/
def IsBelow (Y : Nat → Nat → EReal) (x : Vec Ideal S8x256 .bf16) : Prop := ∀ j : S8x256.Idx, (i 0).val < 31 → x j = Y ((i 0).val * 512 + 512 + (j 0).val) (j 1).val

theorem lt32 : (i 0).val < 32 := (i 0).isLt

variable {G C X D W i x0 x1 x2 x3 x4 x5 x6 x7 x8}

theorem gated_apply (h1 : IsBlock i C x1) (h2 : IsBlock i X x2) (j : S512x256.Idx) :
    k0_pay7 x1 x2 j = hc C X ((i 0).val * 512 + (j 0).val) (j 1).val := by
  unfold hc
  rw [← h1 j, ← h2 j]
  rfl

/-- Row `k` of the eight rows above the block, of the gated input: 0 above the first block. -/
theorem top_apply (h4 : IsAbove i C x4) (h5 : IsAbove i X x5) (k : Fin 8) (j : S512x256.Idx) :
    k0_pay8 i x4 x5 (cell8 k j) = if 0 < (i 0).val then hc C X ((i 0).val * 512 - 8 + k.val) (j 1).val else 0 := by
  have e : k0_pay8 i x4 x5 = if 0 < (i 0).val then (fun y => x4 y * x5 y : FVec Ideal S8x256 .f32) else (broadcast S8x256 (Scalar.ofBits (F := Ideal) .f32 0x00000000#32) : FVec Ideal S8x256 .f32) := by
    unfold k0_pay8
    exact sel_gt _ (lt32 i) _ _
  rw [e]
  by_cases h : 0 < (i 0).val
  · rw [if_pos h, if_pos h]
    show x4 _ * x5 _ = _
    rw [h4 _ h, h5 _ h]
    rfl
  · rw [if_neg h, if_neg h]
    exact Ideal.ofBits_zero_f32

/-- Row `k` of the eight rows below the block, of the convolution's gradient: 0 below the last block. -/
theorem bottom_apply (h6 : IsBelow i G x6) (h7 : IsBelow i D x7) (k : Fin 8) (j : S512x256.Idx) :
    k0_pay13 (BitVec.ofNat 32 (i 0).val) x7 x6 (cell8 k j) = if (i 0).val < 31 then du G D ((i 0).val * 512 + 512 + k.val) (j 1).val else 0 := by
  have e : k0_pay13 (BitVec.ofNat 32 (i 0).val) x7 x6 = if (i 0).val < 31 then (fun y => x7 y * x6 y : FVec Ideal S8x256 .f32) else (broadcast S8x256 (Scalar.ofBits (F := Ideal) .f32 0x00000000#32) : FVec Ideal S8x256 .f32) := by
    unfold k0_pay13
    exact sel_lt _ (lt32 i) _ _
  rw [e]
  by_cases h : (i 0).val < 31
  · rw [if_pos h, if_pos h]
    show x7 _ * x6 _ = _
    rw [h6 _ h, h7 _ h]
    rfl
  · rw [if_neg h, if_neg h]
    exact Ideal.ofBits_zero_f32

/-- The gated input one row earlier. -/
theorem down1_apply (h1 : IsBlock i C x1) (h2 : IsBlock i X x2) (h4 : IsAbove i C x4) (h5 : IsAbove i X x5) (j : S512x256.Idx) :
    down1 i x1 x2 x4 x5 j = hcd C X 1 ((i 0).val * 512 + (j 0).val) (j 1).val := by
  have hj : (j 0).val < 512 := (j 0).isLt
  unfold down1 k0_pay9
  refine (sel_row 0 (by omega) _ _ _ j).trans ?_
  unfold hcd
  by_cases e : (j 0).val = 0
  · rw [if_pos e]
    refine (spread_cut 7 7 rfl _ _ _ _ j).trans ((top_apply h4 h5 7 j).trans ?_)
    by_cases h : 0 < (i 0).val
    · rw [if_pos h, if_pos (by omega)]
      exact congrArg (fun r => hc C X r _) (by show (i 0).val * 512 - 8 + 7 = _; omega)
    · rw [if_neg h, if_neg (by omega)]
  · rw [if_neg e]
    refine (turned 1 (by omega) _ _ j ((j 0).val - 1) (by omega) (by omega)).trans ((gated_apply h1 h2 _).trans ?_)
    rw [if_pos (by omega)]
    exact congrArg (fun r => hc C X r _) (by show (i 0).val * 512 + ((j 0).val - 1) = _; omega)

/-- The gated input two rows earlier. -/
theorem down2_apply (h1 : IsBlock i C x1) (h2 : IsBlock i X x2) (h4 : IsAbove i C x4) (h5 : IsAbove i X x5) (j : S512x256.Idx) :
    down2 i x1 x2 x4 x5 j = hcd C X 2 ((i 0).val * 512 + (j 0).val) (j 1).val := by
  have hj : (j 0).val < 512 := (j 0).isLt
  unfold down2 k0_pay10
  refine (sel_row 1 (by omega) _ _ _ j).trans ?_
  unfold hcd
  by_cases e : (j 0).val = 1
  · rw [if_pos e]
    refine (spread_cut 7 7 rfl _ _ _ _ j).trans ((top_apply h4 h5 7 j).trans ?_)
    by_cases h : 0 < (i 0).val
    · rw [if_pos h, if_pos (by omega)]
      exact congrArg (fun r => hc C X r _) (by show (i 0).val * 512 - 8 + 7 = _; omega)
    · rw [if_neg h, if_neg (by omega)]
  rw [if_neg e]
  refine (sel_row 0 (by omega) _ _ _ j).trans ?_
  by_cases e : (j 0).val = 0
  · rw [if_pos e]
    refine (spread_cut 6 6 rfl _ _ _ _ j).trans ((top_apply h4 h5 6 j).trans ?_)
    by_cases h : 0 < (i 0).val
    · rw [if_pos h, if_pos (by omega)]
      exact congrArg (fun r => hc C X r _) (by show (i 0).val * 512 - 8 + 6 = _; omega)
    · rw [if_neg h, if_neg (by omega)]
  · rw [if_neg e]
    refine (turned 2 (by omega) _ _ j ((j 0).val - 2) (by omega) (by omega)).trans ((gated_apply h1 h2 _).trans ?_)
    rw [if_pos (by omega)]
    exact congrArg (fun r => hc C X r _) (by show (i 0).val * 512 + ((j 0).val - 2) = _; omega)

/-- The convolution. -/
theorem convolved_apply (h1 : IsBlock i C x1) (h2 : IsBlock i X x2) (h4 : IsAbove i C x4) (h5 : IsAbove i X x5)
    (h8 : ∀ j : S8x256.Idx, x8 j = W (j 0).val (j 1).val) (j : S512x256.Idx) :
    convolved i x1 x2 x4 x5 x8 j = u C X W ((i 0).val * 512 + (j 0).val) (j 1).val := by
  have e : convolved i x1 x2 x4 x5 x8 j = rowOf 0 x8 (cell1 j) * down2 i x1 x2 x4 x5 j + rowOf 1 x8 (cell1 j) * down1 i x1 x2 x4 x5 j + rowOf 2 x8 (cell1 j) * k0_pay7 x1 x2 j := by
    unfold convolved k0_pay11
    show broadcastTo S512x256 _ _ j * _ + broadcastTo S512x256 _ _ j * _ + broadcastTo S512x256 _ _ j * _ = _
    rw [spread_row, spread_row, spread_row]
  rw [e, down2_apply h1 h2 h4 h5, down1_apply h1 h2 h4 h5, gated_apply h1 h2]
  unfold rowOf u
  rw [h8, h8, h8]
  rfl

theorem gradU_apply (h0 : IsBlock i G x0) (h3 : IsBlock i D x3) (j : S512x256.Idx) :
    gradU x0 x3 j = du G D ((i 0).val * 512 + (j 0).val) (j 1).val := by
  unfold du
  rw [← h0 j, ← h3 j]
  rfl

/-- The gated input's gradient. -/
theorem gradH_apply (h0 : IsBlock i G x0) (h3 : IsBlock i D x3) (h6 : IsBelow i G x6) (h7 : IsBelow i D x7)
    (h8 : ∀ j : S8x256.Idx, x8 j = W (j 0).val (j 1).val) (j : S512x256.Idx) :
    k0_pay15 (gradU x0 x3) (k0_pay13 (BitVec.ofNat 32 (i 0).val) x7 x6) (partU i x0 x3 x6 x7 x8) (rowOf 0 x8) j
      = dhc G D W ((i 0).val * 512 + (j 0).val) (j 1).val := by
  have hj : (j 0).val < 512 := (j 0).isLt
  have ht := lt32 i
  have up2 : ∀ (ha hb hc hd he hf hg hh),
      select (cmpi .eq (iota .tc S512x256 32 [0] ha) (broadcast S512x256 (BitVec.ofNat 32 511)))
        (broadcastTo S512x256 (shapeCast S1x256 (extractStridedSlice S1x256 ![1, 0] (k0_pay13 (BitVec.ofNat 32 (i 0).val) x7 x6) hb) hc) hd)
        (select (cmpi .eq (iota .tc S512x256 32 [0] ha) (broadcast S512x256 (BitVec.ofNat 32 510)))
          (broadcastTo S512x256 (shapeCast S1x256 (extractStridedSlice S1x256 ![0, 0] (k0_pay13 (BitVec.ofNat 32 (i 0).val) x7 x6) he) hf) hg)
          (dynamicRotate 0 (BitVec.ofNat 32 510) none (gradU x0 x3) hh)) j
      = duu G D 2 ((i 0).val * 512 + (j 0).val) (j 1).val := by
    intro ha hb hc hd he hf hg hh
    refine (sel_row 511 (by omega) _ _ _ j).trans ?_
    unfold duu
    by_cases e : (j 0).val = 511
    · rw [if_pos e]
      refine (spread_cut 1 1 rfl _ _ _ _ j).trans ((bottom_apply h6 h7 1 j).trans ?_)
      by_cases h : (i 0).val < 31
      · rw [if_pos h, if_pos (by omega)]
        exact congrArg (fun r => du G D r _) (by show (i 0).val * 512 + 512 + 1 = _; omega)
      · rw [if_neg h, if_neg (by omega)]
    rw [if_neg e]
    refine (sel_row 510 (by omega) _ _ _ j).trans ?_
    by_cases e : (j 0).val = 510
    · rw [if_pos e]
      refine (spread_cut 0 0 rfl _ _ _ _ j).trans ((bottom_apply h6 h7 0 j).trans ?_)
      by_cases h : (i 0).val < 31
      · rw [if_pos h, if_pos (by omega)]
        exact congrArg (fun r => du G D r _) (by show (i 0).val * 512 + 512 + 0 = _; omega)
      · rw [if_neg h, if_neg (by omega)]
    · rw [if_neg e]
      refine (turned 510 (by omega) _ _ j ((j 0).val + 2) (by omega) (by omega)).trans ((gradU_apply h0 h3 _).trans ?_)
      rw [if_pos (by omega)]
      exact congrArg (fun r => du G D r _) (by show (i 0).val * 512 + ((j 0).val + 2) = _; omega)
  have up1 : ∀ (ha hb hc hd hh),
      select (cmpi .eq (iota .tc S512x256 32 [0] ha) (broadcast S512x256 (BitVec.ofNat 32 511)))
        (broadcastTo S512x256 (shapeCast S1x256 (extractStridedSlice S1x256 ![0, 0] (k0_pay13 (BitVec.ofNat 32 (i 0).val) x7 x6) hb) hc) hd)
        (dynamicRotate 0 (BitVec.ofNat 32 511) none (gradU x0 x3) hh) j
      = duu G D 1 ((i 0).val * 512 + (j 0).val) (j 1).val := by
    intro ha hb hc hd hh
    refine (sel_row 511 (by omega) _ _ _ j).trans ?_
    unfold duu
    by_cases e : (j 0).val = 511
    · rw [if_pos e]
      refine (spread_cut 0 0 rfl _ _ _ _ j).trans ((bottom_apply h6 h7 0 j).trans ?_)
      by_cases h : (i 0).val < 31
      · rw [if_pos h, if_pos (by omega)]
        exact congrArg (fun r => du G D r _) (by show (i 0).val * 512 + 512 + 0 = _; omega)
      · rw [if_neg h, if_neg (by omega)]
    · rw [if_neg e]
      refine (turned 511 (by omega) _ _ j ((j 0).val + 1) (by omega) (by omega)).trans ((gradU_apply h0 h3 _).trans ?_)
      rw [if_pos (by omega)]
      exact congrArg (fun r => du G D r _) (by show (i 0).val * 512 + ((j 0).val + 1) = _; omega)
  unfold k0_pay15 partU k0_pay14 dhc
  refine congrArg₂ (· + ·) (congrArg₂ (· + ·) (congrArg₂ (· * ·) ?_ (gradU_apply h0 h3 j)) (congrArg₂ (· * ·) ?_ (up1 _ _ _ _ _))) (congrArg₂ (· * ·) ?_ (up2 _ _ _ _ _ _ _ _))
  all_goals
    refine (spread_row _ _ _ j).trans ?_
    unfold rowOf
    rw [h8]
    rfl

/-- A sum over a block's rows, as one row. -/
theorem rowSum (y : FVec Ideal S512x256 .f32) (a h hφ hacc b) (k : S1x256.Idx) :
    shapeCast S1x256 (multiReduction .add [0] S256 y a h hφ hacc) b k = ∑ r : Fin 512, y (fun a => match a with
      | ⟨0, _⟩ => r
      | ⟨1, _⟩ => k 1) := by
  have hk : (k 0).val < 1 := (k 0).isLt
  refine (shapeCast_apply _ b k (fun a => match a with | ⟨0, _⟩ => k 1) ?_).trans ?_
  · rw [Shape.rowMajor_val_one, Shape.rowMajor_val_two]
    show (k 1).val = (k 0).val * 256 + (k 1).val
    omega
  rw [Ideal.multiReduction_add_single]
  refine Finset.sum_congr rfl fun r _ => congrArg y (funext fun a => Fin.ext ?_)
  match a with
  | ⟨0, _⟩ => rfl
  | ⟨1, _⟩ => rfl

/-- A point's sums, added to the rows of the three taps. -/
theorem addW_apply (h0 : IsBlock i G x0) (h1 : IsBlock i C x1) (h2 : IsBlock i X x2) (h3 : IsBlock i D x3) (h4 : IsAbove i C x4) (h5 : IsAbove i X x5)
    (acc : Vec Ideal S8x256 .f32) (y : S8x256.Idx) :
    addW i x0 x1 x2 x3 x4 x5 acc y = if (y 0).val < 3 then
      acc y + ∑ r ∈ Finset.range 512, du G D ((i 0).val * 512 + r) (y 1).val * hcd C X (2 - (y 0).val) ((i 0).val * 512 + r) (y 1).val else acc y := by
  have sum : ∀ (n : Nat) (z : FVec Ideal S512x256 .f32) (hz : ∀ j, z j = hcd C X n ((i 0).val * 512 + (j 0).val) (j 1).val) (a h hφ hacc b),
      shapeCast S1x256 (multiReduction .add [0] S256 (mulf (gradU x0 x3) z) a h hφ hacc) b (colOf y)
        = ∑ r ∈ Finset.range 512, du G D ((i 0).val * 512 + r) (y 1).val * hcd C X n ((i 0).val * 512 + r) (y 1).val := by
    intro n z hz a h hφ hacc b
    rw [rowSum, ← Fin.sum_univ_eq_sum_range (fun r => du G D ((i 0).val * 512 + r) (y 1).val * hcd C X n ((i 0).val * 512 + r) (y 1).val)]
    refine Finset.sum_congr rfl fun r _ => ?_
    exact congrArg₂ (· * ·) (gradU_apply h0 h3 _) (hz _)
  have row : ∀ (k : Fin 8) (b), k.val = (y 0).val → shapeCast S1x256 (rowOf k acc) b (colOf y) = acc y := by
    intro k b hk
    rw [shapeCast_self]
    refine congrArg acc (funext fun a => Fin.ext ?_)
    match a with
    | ⟨0, _⟩ => exact hk
    | ⟨1, _⟩ => rfl
  unfold addW setRows
  by_cases e0 : (y 0).val = 0
  · rw [if_pos e0, if_pos (by omega), e0]
    exact congrArg₂ (· + ·) (row 0 _ e0.symm) (sum 2 _ (down2_apply h1 h2 h4 h5) _ _ _ _ _)
  rw [if_neg e0]
  by_cases e1 : (y 0).val = 1
  · rw [if_pos e1, if_pos (by omega), e1]
    exact congrArg₂ (· + ·) (row 1 _ e1.symm) (sum 1 _ (down1_apply h1 h2 h4 h5) _ _ _ _ _)
  rw [if_neg e1]
  by_cases e2 : (y 0).val = 2
  · rw [if_pos e2, if_pos (by omega), e2]
    exact congrArg₂ (· + ·) (row 2 _ e2.symm) (sum 0 _ (fun j => (gated_apply h1 h2 j).trans (hcd_zero _ _ _ _).symm) _ _ _ _ _)
  rw [if_neg e2, if_neg (by omega)]

end Cert.Kernel2Ideal.Conv
-- ==== Proof.ConvBlocks.lean ====
/- The blocks the convolution's backward call stages, as blocks of its arguments. -/
module

public import proofs.«01_k».proof.Proof.ConvBody
public import Idealize.ShloMosaic.Lib.Pipeline.ValueKit.Geometry
public import Idealize.ShloMosaic.Lib.Claim
public import Idealize.ShloMosaic.Lib.StableHlo.ReadAt

@[expose] public section

set_option maxRecDepth 16384
set_option maxHeartbeats 400000

noncomputable section

namespace Cert.Kernel2Ideal.Conv

open Cert.Kernel2Ideal Cert.Kernel2Ideal.Gen Idealize.ShloMosaic Idealize.ShloMosaic.TcCoe Idealize.ShloMosaic.Tactic Idealize.SL.Sem
open Cert.Conv

theorem place0 : ∀ t : Fin cfg0.N, win0_0.index t = ![(grid0.coords t 0).val, 9] := (by decide +kernel : ∀ t : Fin grid0.N, win0_0.index t = ![(grid0.coords t 0).val, 9])
theorem place1 : ∀ t : Fin cfg0.N, win0_1.index t = ![(grid0.coords t 0).val, 10] := (by decide +kernel : ∀ t : Fin grid0.N, win0_1.index t = ![(grid0.coords t 0).val, 10])
theorem place2 : ∀ t : Fin cfg0.N, win0_2.index t = ![(grid0.coords t 0).val, 11] := (by decide +kernel : ∀ t : Fin grid0.N, win0_2.index t = ![(grid0.coords t 0).val, 11])
theorem place3 : ∀ t : Fin cfg0.N, win0_3.index t = ![(grid0.coords t 0).val, 3] := (by decide +kernel : ∀ t : Fin grid0.N, win0_3.index t = ![(grid0.coords t 0).val, 3])
theorem place4 : ∀ t : Fin cfg0.N, win0_4.index t = ![(grid0.coords t 0).val * 64 - 1, 10] := (by decide +kernel : ∀ t : Fin grid0.N, win0_4.index t = ![(grid0.coords t 0).val * 64 - 1, 10])
theorem place5 : ∀ t : Fin cfg0.N, win0_5.index t = ![(grid0.coords t 0).val * 64 - 1, 11] := (by decide +kernel : ∀ t : Fin grid0.N, win0_5.index t = ![(grid0.coords t 0).val * 64 - 1, 11])
theorem place6 : ∀ t : Fin cfg0.N, win0_6.index t = ![min ((grid0.coords t 0).val * 64 + 64) 2047, 9] := (by decide +kernel : ∀ t : Fin grid0.N, win0_6.index t = ![min ((grid0.coords t 0).val * 64 + 64) 2047, 9])
theorem place7 : ∀ t : Fin cfg0.N, win0_7.index t = ![min ((grid0.coords t 0).val * 64 + 64) 2047, 3] := (by decide +kernel : ∀ t : Fin grid0.N, win0_7.index t = ![min ((grid0.coords t 0).val * 64 + 64) 2047, 3])
theorem place8 : ∀ t : Fin cfg0.N, win0_8.index t = ![0, 0] := (by decide +kernel : ∀ t : Fin grid0.N, win0_8.index t = ![0, 0])
theorem place9 : ∀ t : Fin cfg0.N, win0_9.index t = ![(grid0.coords t 0).val, 0] := (by decide +kernel : ∀ t : Fin grid0.N, win0_9.index t = ![(grid0.coords t 0).val, 0])
theorem place10 : ∀ t : Fin cfg0.N, win0_10.index t = ![(grid0.coords t 0).val, 0] := (by decide +kernel : ∀ t : Fin grid0.N, win0_10.index t = ![(grid0.coords t 0).val, 0])
theorem place11 : ∀ t : Fin cfg0.N, win0_11.index t = ![(grid0.coords t 0).val, 0] := (by decide +kernel : ∀ t : Fin grid0.N, win0_11.index t = ![(grid0.coords t 0).val, 0])
theorem place12 : ∀ t : Fin cfg0.N, win0_12.index t = ![0, 0] := (by decide +kernel : ∀ t : Fin grid0.N, win0_12.index t = ![0, 0])

variable (m : (l : Loc nD τ sig) → Buf (Elt Ideal) l) (c : Dev nD)

/-- The output gate. -/
def gateB (r k : Nat) : EReal := at2 (m := 16384) (n := 3072) (m ((c : Thread nD τ).loc main_arg0)) r (2304 + k)
/-- The input gate. -/
def gateC (r k : Nat) : EReal := at2 (m := 16384) (n := 3072) (m ((c : Thread nD τ).loc main_arg0)) r (2560 + k)
/-- The convolution's input. -/
def inX (r k : Nat) : EReal := at2 (m := 16384) (n := 3072) (m ((c : Thread nD τ).loc main_arg0)) r (2816 + k)
/-- The gradient that arrives. -/
def ct (r k : Nat) : EReal := at2 (m := 16384) (n := 1024) (m ((c : Thread nD τ).loc main_arg1)) r (768 + k)
/-- The taps' weights: row 0 for the earliest. -/
def taps (r k : Nat) : EReal := at2 (m := 3) (n := 256) (m ((c : Thread nD τ).loc main_arg2)) r k

theorem block0 (t : Fin cfg0.N) : IsBlock (grid0.coords t) (gateB m c) (iblk m c 0 t) := fun j => by
  show V m c main_arg0 (((cfg0.win 0).blk t).view.emb j) = _
  rw [V_main_arg0]
  refine at2_eq (m := 16384) (n := 3072) _ _ _ _ ?_ ?_
  · blk_simp [place0]
  · blk_simp [place0]
theorem block1 (t : Fin cfg0.N) : IsBlock (grid0.coords t) (gateC m c) (iblk m c 1 t) := fun j => by
  show V m c main_arg0 (((cfg0.win 1).blk t).view.emb j) = _
  rw [V_main_arg0]
  refine at2_eq (m := 16384) (n := 3072) _ _ _ _ ?_ ?_
  · blk_simp [place1]
  · blk_simp [place1]
theorem block2 (t : Fin cfg0.N) : IsBlock (grid0.coords t) (inX m c) (iblk m c 2 t) := fun j => by
  show V m c main_arg0 (((cfg0.win 2).blk t).view.emb j) = _
  rw [V_main_arg0]
  refine at2_eq (m := 16384) (n := 3072) _ _ _ _ ?_ ?_
  · blk_simp [place2]
  · blk_simp [place2]
theorem block3 (t : Fin cfg0.N) : IsBlock (grid0.coords t) (ct m c) (iblk m c 3 t) := fun j => by
  show V m c main_arg1 (((cfg0.win 3).blk t).view.emb j) = _
  rw [V_main_arg1]
  refine at2_eq (m := 16384) (n := 1024) _ _ _ _ ?_ ?_
  · blk_simp [place3]
  · blk_simp [place3]
theorem block4 (t : Fin cfg0.N) : IsAbove (grid0.coords t) (gateC m c) (iblk m c 4 t) := fun j h => by
  show V m c main_arg0 (((cfg0.win 4).blk t).view.emb j) = _
  rw [V_main_arg0]
  refine at2_eq (m := 16384) (n := 3072) _ _ _ _ ?_ ?_
  · blk_simp [place4]
    omega
  · blk_simp [place4]
theorem block5 (t : Fin cfg0.N) : IsAbove (grid0.coords t) (inX m c) (iblk m c 5 t) := fun j h => by
  show V m c main_arg0 (((cfg0.win 5).blk t).view.emb j) = _
  rw [V_main_arg0]
  refine at2_eq (m := 16384) (n := 3072) _ _ _ _ ?_ ?_
  · blk_simp [place5]
    omega
  · blk_simp [place5]
theorem block6 (t : Fin cfg0.N) : IsBelow (grid0.coords t) (gateB m c) (iblk m c 6 t) := fun j h => by
  show V m c main_arg0 (((cfg0.win 6).blk t).view.emb j) = _
  rw [V_main_arg0]
  refine at2_eq (m := 16384) (n := 3072) _ _ _ _ ?_ ?_
  · blk_simp [place6]
    omega
  · blk_simp [place6]
theorem block7 (t : Fin cfg0.N) : IsBelow (grid0.coords t) (ct m c) (iblk m c 7 t) := fun j h => by
  show V m c main_arg1 (((cfg0.win 7).blk t).view.emb j) = _
  rw [V_main_arg1]
  refine at2_eq (m := 16384) (n := 1024) _ _ _ _ ?_ ?_
  · blk_simp [place7]
    omega
  · blk_simp [place7]

theorem taps8 (t : Fin cfg0.N) (j : S8x256.Idx) : (iblk m c 8 t : Vec Ideal S8x256 .f32) j = taps m c (j 0).val (j 1).val := by
  show V m c main_v0 (((cfg0.win 8).blk t).view.emb j) = _
  unfold V
  after_reads_at
  have e0 : (((View.whole main_v0).slice ((win0 8).rect t)).emb j 0).val = (j 0).val := by blk_simp [place8]
  have e1 : (((View.whole main_v0).slice ((win0 8).rect t)).emb j 1).val = (j 1).val := by blk_simp [place8]
  unfold taps
  by_cases h : (j 0).val < 3
  · rw [dif_pos (by rw [e0]; exact h)]
    exact at2_eq (m := 3) (n := 256) _ _ _ _ e0 e1
  · rw [dif_neg (by rw [e0]; exact h)]
    unfold at2
    rw [dif_neg (fun q => h q.1)]
    show (((0#32 : BitVec 32).toInt : ℝ) : EReal) = 0
    simp

end Cert.Kernel2Ideal.Conv
-- ==== Proof.ConvValue.lean ====
/- What the convolution's backward call leaves in its four results. -/
module

public import proofs.«01_k».proof.Proof.ConvBlocks

@[expose] public section

set_option maxRecDepth 16384
set_option maxHeartbeats 400000

noncomputable section

namespace Cert.Kernel2Ideal.Conv

open Cert.Kernel2Ideal Cert.Kernel2Ideal.Gen Cert.Kernel2Ideal.Value Idealize.ShloMosaic Idealize.ShloMosaic.TcCoe Idealize.ShloMosaic.Tactic Idealize.SL.Sem
open Cert.Conv

variable (m : (l : Loc nD τ sig) → Buf (Elt Ideal) l) (c : Dev nD)

theorem coord (t : Fin cfg0.N) : (grid0.coords t 0).val = t.val :=
  (by decide +kernel : ∀ t : Fin grid0.N, (grid0.coords t 0).val = t.val) t

/-- The first result's blocks at a point. -/
theorem outs_B (t : Fin cfg0.N) : (outsAt0 m c t.val t.isLt).1 = outB (grid0.coords t) (iblk m c 1 t) (iblk m c 2 t) (iblk m c 3 t) (iblk m c 4 t) (iblk m c 5 t) (iblk m c 8 t) := by
  by_cases h0 : t.val % 32 = 0
  · rw [outsAt0_A m c t h0]
    dsimp only
    apply out_A_9
  · rw [outsAt0_B m c t h0]
    dsimp only
    apply out_B_9
/-- The second result's blocks at a point. -/
theorem outs_C (t : Fin cfg0.N) : (outsAt0 m c t.val t.isLt).2.1 = outC (grid0.coords t) (iblk m c 0 t) (iblk m c 2 t) (iblk m c 3 t) (iblk m c 6 t) (iblk m c 7 t) (iblk m c 8 t) := by
  by_cases h0 : t.val % 32 = 0
  · rw [outsAt0_A m c t h0]
    dsimp only
    apply out_A_10
  · rw [outsAt0_B m c t h0]
    dsimp only
    apply out_B_10
/-- The third result's blocks at a point. -/
theorem outs_X (t : Fin cfg0.N) : (outsAt0 m c t.val t.isLt).2.2.1 = outX (grid0.coords t) (iblk m c 0 t) (iblk m c 1 t) (iblk m c 3 t) (iblk m c 6 t) (iblk m c 7 t) (iblk m c 8 t) := by
  by_cases h0 : t.val % 32 = 0
  · rw [outsAt0_A m c t h0]
    dsimp only
    apply out_A_11
  · rw [outsAt0_B m c t h0]
    dsimp only
    apply out_B_11

/-- The fourth result's block after a point: the taps' gradients summed over the rows so far. -/
theorem outs_W : ∀ (n : Nat) (hn : n < cfg0.N) (y : S8x256.Idx), ((outsAt0 m c n hn).2.2.2 : Vec Ideal S8x256 .f32) y
    = if (y 0).val < 3 then dw (gateB m c) (gateC m c) (inX m c) (ct m c) (y 0).val (n * 512 + 512) (y 1).val else 0
  | n, hn, y => by
    have hN : n < 32 := hn
    have hco : (grid0.coords ⟨n, hn⟩ 0).val = n := coord ⟨n, hn⟩
    by_cases h0 : n % 32 = 0
    · have e : (outsAt0 m c n hn).2.2.2 = addW (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (k0_pay19 (F := Ideal)) := by
        rw [outsAt0_A m c ⟨n, hn⟩ h0]
        dsimp only
        apply out_A_12
      have z : (k0_pay19 (F := Ideal)) y = 0 := Ideal.ofBits_zero_f32
      rw [e, addW_apply (block0 m c _) (block1 m c _) (block2 m c _) (block3 m c _) (block4 m c _) (block5 m c _), z, hco]
      have n0 : n = 0 := by omega
      subst n0
      unfold dw
      simp only [Nat.zero_mul, Nat.zero_add, zero_add]
    · have e : (outsAt0 m c n hn).2.2.2 = addW (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2 := by
        rw [outsAt0_B m c ⟨n, hn⟩ h0]
        dsimp only
        apply out_B_12
      rw [e, addW_apply (block0 m c _) (block1 m c _) (block2 m c _) (block3 m c _) (block4 m c _) (block5 m c _), hco,
        outs_W (n - 1) (Nat.lt_of_le_of_lt (Nat.sub_le _ _) hn) y]
      by_cases hy : (y 0).val < 3
      · rw [if_pos hy, if_pos hy, if_pos hy]
        unfold dw
        rw [Finset.sum_range_add _ (n * 512) 512, show (n - 1) * 512 + 512 = n * 512 by omega]
      · rw [if_neg hy, if_neg hy, if_neg hy]
  termination_by n => n
  decreasing_by omega

/-- The first result. -/
def resB : S16384x256.Idx → Ideal .bf16 := fun j => ct m c (j 0).val (j 1).val * u (gateC m c) (inX m c) (taps m c) (j 0).val (j 1).val
/-- The second result. -/
def resC : S16384x256.Idx → Ideal .bf16 := fun j => dhc (gateB m c) (ct m c) (taps m c) (j 0).val (j 1).val * inX m c (j 0).val (j 1).val
/-- The third result. -/
def resX : S16384x256.Idx → Ideal .bf16 := fun j => dhc (gateB m c) (ct m c) (taps m c) (j 0).val (j 1).val * gateC m c (j 0).val (j 1).val
/-- The fourth result. -/
def resW : S8x256.Idx → Ideal .f32 := fun y => if (y 0).val < 3 then dw (gateB m c) (gateC m c) (inX m c) (ct m c) (y 0).val 16384 (y 1).val else 0

/-- The first result at the end of the run. -/
theorem final_B : (dats m 0 c).arrAt 9 cfg0.N = resB m c := by
  refine (dats m 0 c).arrAt_eq_of_covers 9 _ (by decide +kernel) fun t hf y => ?_
  have e0 : (((cfg0.win 9).blk t).view.emb y 0).val = (grid0.coords t 0).val * 512 + (y 0).val := by blk_simp [place9]
  have e1 : (((cfg0.win 9).blk t).view.emb y 1).val = (y 1).val := by blk_simp [place9]
  have h : resB m c (((cfg0.win 9).blk t).view.emb y) = ct m c ((grid0.coords t 0).val * 512 + (y 0).val) (y 1).val * u (gateC m c) (inX m c) (taps m c) ((grid0.coords t 0).val * 512 + (y 0).val) (y 1).val := by
    unfold resB
    rw [e0, e1]
  blk_simp
  rw [after0_9, outs_B]
  refine Eq.trans ?_ h.symm
  have q := convolved_apply (block1 m c t) (block2 m c t) (block4 m c t) (block5 m c t) (taps8 m c t) (y : S512x256.Idx)
  have d := block3 m c t (y : S512x256.Idx)
  rw [← q, ← d]
  rfl

/-- The second result at the end of the run. -/
theorem final_C : (dats m 0 c).arrAt 10 cfg0.N = resC m c := by
  refine (dats m 0 c).arrAt_eq_of_covers 10 _ (by decide +kernel) fun t hf y => ?_
  have e0 : (((cfg0.win 10).blk t).view.emb y 0).val = (grid0.coords t 0).val * 512 + (y 0).val := by blk_simp [place10]
  have e1 : (((cfg0.win 10).blk t).view.emb y 1).val = (y 1).val := by blk_simp [place10]
  have h : resC m c (((cfg0.win 10).blk t).view.emb y) = dhc (gateB m c) (ct m c) (taps m c) ((grid0.coords t 0).val * 512 + (y 0).val) (y 1).val * inX m c ((grid0.coords t 0).val * 512 + (y 0).val) (y 1).val := by
    unfold resC
    rw [e0, e1]
  blk_simp
  rw [after0_10, outs_C]
  refine Eq.trans ?_ h.symm
  have q := gradH_apply (block0 m c t) (block3 m c t) (block6 m c t) (block7 m c t) (taps8 m c t) (y : S512x256.Idx)
  have d := block2 m c t (y : S512x256.Idx)
  rw [← q, ← d]
  rfl

/-- The third result at the end of the run. -/
theorem final_X : (dats m 0 c).arrAt 11 cfg0.N = resX m c := by
  refine (dats m 0 c).arrAt_eq_of_covers 11 _ (by decide +kernel) fun t hf y => ?_
  have e0 : (((cfg0.win 11).blk t).view.emb y 0).val = (grid0.coords t 0).val * 512 + (y 0).val := by blk_simp [place11]
  have e1 : (((cfg0.win 11).blk t).view.emb y 1).val = (y 1).val := by blk_simp [place11]
  have h : resX m c (((cfg0.win 11).blk t).view.emb y) = dhc (gateB m c) (ct m c) (taps m c) ((grid0.coords t 0).val * 512 + (y 0).val) (y 1).val * gateC m c ((grid0.coords t 0).val * 512 + (y 0).val) (y 1).val := by
    unfold resX
    rw [e0, e1]
  blk_simp
  rw [after0_11, outs_X]
  refine Eq.trans ?_ h.symm
  have q := gradH_apply (block0 m c t) (block3 m c t) (block6 m c t) (block7 m c t) (taps8 m c t) (y : S512x256.Idx)
  have d := block1 m c t (y : S512x256.Idx)
  rw [← q, ← d]
  rfl

/-- The fourth result at the end of the run. -/
theorem final_W : (dats m 0 c).arrAt 12 cfg0.N = resW m c := by
  refine (dats m 0 c).arrAt_eq_of_covers 12 _ (by decide +kernel) fun t hf y => ?_
  have e0 : (((cfg0.win 12).blk t).view.emb y 0).val = (y 0).val := by blk_simp [place12]
  have e1 : (((cfg0.win 12).blk t).view.emb y 1).val = (y 1).val := by blk_simp [place12]
  have ht : t.val = 31 := (by decide +kernel : ∀ t : Fin cfg0.N, (cfg0.win 12).flush t = true → t.val = 31) t hf
  have h : resW m c (((cfg0.win 12).blk t).view.emb y) = if (y 0).val < 3 then dw (gateB m c) (gateC m c) (inX m c) (ct m c) (y 0).val 16384 (y 1).val else 0 := by
    unfold resW
    rw [e0, e1]
  blk_simp
  rw [after0_12]
  refine Eq.trans ?_ h.symm
  refine (outs_W m c t.val t.isLt y).trans ?_
  rw [ht]

end Cert.Kernel2Ideal.Conv
-- ==== Proof.ConvRef.lean ====
/- What the reference's four results are, element by element. -/
module

public import proofs.«01_k».proof.Proof.ConvSpec
public import proofs.«01_k».proof.Proof.Gen.Reference2Ideal.Read
public import Idealize.ShloMosaic.Lib.Pipeline.Value
public import Idealize.ShloMosaic.Lib.KernelVsHost

@[expose] public section

set_option maxRecDepth 16384
set_option maxHeartbeats 400000

noncomputable section

namespace Cert.Reference2Ideal.Conv

open Cert.Reference2Ideal Cert.Reference2Ideal.Read Idealize.ShloMosaic Idealize.ShloMosaic.TcCoe
open Cert.Conv

variable (x0 : (⟨S16384x3072, .bf16⟩ : BufTy).Contents (Elt Ideal)) (x1 : (⟨S16384x1024, .bf16⟩ : BufTy).Contents (Elt Ideal)) (x2 : (⟨S3x256, .f32⟩ : BufTy).Contents (Elt Ideal))

/-- The output gate. -/
def G (r k : Nat) : EReal := at2 (m := 16384) (n := 3072) x0 r (2304 + k)
/-- The input gate. -/
def C (r k : Nat) : EReal := at2 (m := 16384) (n := 3072) x0 r (2560 + k)
/-- The convolution's input. -/
def X (r k : Nat) : EReal := at2 (m := 16384) (n := 3072) x0 r (2816 + k)
/-- The gradient that arrives. -/
def D (r k : Nat) : EReal := at2 (m := 16384) (n := 1024) x1 r (768 + k)
/-- The taps' weights. -/
def W (r k : Nat) : EReal := at2 (m := 3) (n := 256) x2 r k

theorem gateB_apply (i : S16384x256.Idx) : val_main_v1 (F := Ideal) x0 i = G x0 (i 0).val (i 1).val := by
  rw [val_main_v1_apply, val_main_v0_apply]
  exact at2_eq (m := 16384) (n := 3072) _ _ _ _ rfl rfl
theorem gateC_apply (i : S16384x256.Idx) : val_main_v3 (F := Ideal) x0 i = C x0 (i 0).val (i 1).val := by
  rw [val_main_v3_apply, val_main_v2_apply]
  exact at2_eq (m := 16384) (n := 3072) _ _ _ _ rfl rfl
theorem inX_apply (i : S16384x256.Idx) : val_main_v5 (F := Ideal) x0 i = X x0 (i 0).val (i 1).val := by
  rw [val_main_v5_apply, val_main_v4_apply]
  exact at2_eq (m := 16384) (n := 3072) _ _ _ _ rfl rfl
theorem ct_apply (i : S16384x256.Idx) : val_main_v7 (F := Ideal) x1 i = D x1 (i 0).val (i 1).val := by
  rw [val_main_v7_apply, val_main_v6_apply]
  exact at2_eq (m := 16384) (n := 1024) _ _ _ _ rfl rfl

/-- The gated input. -/
theorem hc_apply (i : S16384x256.Idx) : val_main_v8 (F := Ideal) x0 i = hc (C x0) (X x0) (i 0).val (i 1).val := by
  rw [val_main_v8_apply, gateC_apply, inX_apply]
  rfl

/-- An index of a block of `k` rows. -/
abbrev cell {k : Nat} (r : Nat) (hr : r < k) (c : Nat) (hc : c < 256) : (⟨2, ![k, 256]⟩ : Shape).Idx := fun a => match a with
  | ⟨0, _⟩ => ⟨r, hr⟩
  | ⟨1, _⟩ => ⟨c, hc⟩

/-- The gated input 2 rows down. -/
theorem hcd2_apply (i : S16384x256.Idx) : val_main_v11 (F := Ideal) x0 i = hcd (C x0) (X x0) 2 (i 0).val (i 1).val := by
  have hi : (i 0).val < 16384 := (i 0).isLt
  have h1 : (i 1).val < 256 := (i 1).isLt
  unfold hcd val_main_v11
  by_cases h : 2 ≤ (i 0).val
  · rw [if_pos h]
    refine (concatenate_pair_apply_right (s₁ := S2x256) (s₂ := S16382x256) _ _ _ _ i rfl rfl (cell ((i 0).val - 2) (by omega) (i 1).val h1) (fun b hb => ?_) ?_).trans ?_
    · match b with
      | ⟨0, _⟩ => exact absurd rfl hb
      | ⟨1, _⟩ => rfl
    · show (i 0).val - 2 + 2 = (i 0).val
      omega
    · rw [val_main_v10_apply, hc_apply]
  · rw [if_neg h]
    refine (concatenate_pair_apply_left (s₁ := S2x256) (s₂ := S16382x256) _ _ _ _ i rfl (cell (i 0).val (by omega) (i 1).val h1) (fun b => ?_)).trans ?_
    · match b with
      | ⟨0, _⟩ => rfl
      | ⟨1, _⟩ => rfl
    · rw [val_main_v9_apply]
      exact Ideal.ofBits_zero_f32

/-- The gated input 1 row down. -/
theorem hcd1_apply (i : S16384x256.Idx) : val_main_v15 (F := Ideal) x0 i = hcd (C x0) (X x0) 1 (i 0).val (i 1).val := by
  have hi : (i 0).val < 16384 := (i 0).isLt
  have h1 : (i 1).val < 256 := (i 1).isLt
  unfold hcd val_main_v15
  by_cases h : 1 ≤ (i 0).val
  · rw [if_pos h]
    refine (concatenate_pair_apply_right (s₁ := S1x256) (s₂ := S16383x256) _ _ _ _ i rfl rfl (cell ((i 0).val - 1) (by omega) (i 1).val h1) (fun b hb => ?_) ?_).trans ?_
    · match b with
      | ⟨0, _⟩ => exact absurd rfl hb
      | ⟨1, _⟩ => rfl
    · show (i 0).val - 1 + 1 = (i 0).val
      omega
    · rw [val_main_v14_apply, hc_apply]
  · rw [if_neg h]
    refine (concatenate_pair_apply_left (s₁ := S1x256) (s₂ := S16383x256) _ _ _ _ i rfl (cell (i 0).val (by omega) (i 1).val h1) (fun b => ?_)).trans ?_
    · match b with
      | ⟨0, _⟩ => rfl
      | ⟨1, _⟩ => rfl
    · rw [val_main_v13_apply]
      exact Ideal.ofBits_zero_f32

theorem v20_apply (i : S16384x256.Idx) : val_main_v20 (F := Ideal) x2 i = W x2 0 (i 1).val := by
  have h1 : (i 1).val < 256 := (i 1).isLt
  rw [val_main_v20_apply, val_main_v19_apply, val_main_v18_apply, val_main_v17_apply]
  exact at2_eq (m := 3) (n := 256) _ _ _ _ rfl (Nat.mod_eq_of_lt h1)
theorem v54_apply (i : S16384x256.Idx) : val_main_v54 (F := Ideal) x2 i = W x2 0 (i 1).val := by
  have h1 : (i 1).val < 256 := (i 1).isLt
  rw [val_main_v54_apply, val_main_v19_apply, val_main_v18_apply, val_main_v17_apply]
  exact at2_eq (m := 3) (n := 256) _ _ _ _ rfl (Nat.mod_eq_of_lt h1)
theorem v25_apply (i : S16384x256.Idx) : val_main_v25 (F := Ideal) x2 i = W x2 1 (i 1).val := by
  have h1 : (i 1).val < 256 := (i 1).isLt
  rw [val_main_v25_apply, val_main_v24_apply, val_main_v23_apply, val_main_v22_apply]
  exact at2_eq (m := 3) (n := 256) _ _ _ _ rfl (Nat.mod_eq_of_lt h1)
theorem v45_apply (i : S16384x256.Idx) : val_main_v45 (F := Ideal) x2 i = W x2 1 (i 1).val := by
  have h1 : (i 1).val < 256 := (i 1).isLt
  rw [val_main_v45_apply, val_main_v24_apply, val_main_v23_apply, val_main_v22_apply]
  exact at2_eq (m := 3) (n := 256) _ _ _ _ rfl (Nat.mod_eq_of_lt h1)
theorem v31_apply (i : S16384x256.Idx) : val_main_v31 (F := Ideal) x2 i = W x2 2 (i 1).val := by
  have h1 : (i 1).val < 256 := (i 1).isLt
  rw [val_main_v31_apply, val_main_v30_apply, val_main_v29_apply, val_main_v28_apply]
  exact at2_eq (m := 3) (n := 256) _ _ _ _ rfl (Nat.mod_eq_of_lt h1)
theorem v37_apply (i : S16384x256.Idx) : val_main_v37 (F := Ideal) x2 i = W x2 2 (i 1).val := by
  have h1 : (i 1).val < 256 := (i 1).isLt
  rw [val_main_v37_apply, val_main_v30_apply, val_main_v29_apply, val_main_v28_apply]
  exact at2_eq (m := 3) (n := 256) _ _ _ _ rfl (Nat.mod_eq_of_lt h1)

/-- The convolution. -/
theorem u_apply (i : S16384x256.Idx) : val_main_v33 (F := Ideal) x0 x2 i = u (C x0) (X x0) (W x2) (i 0).val (i 1).val := by
  rw [val_main_v33_apply, val_main_v27_apply, val_main_v21_apply, val_main_v26_apply, val_main_v32_apply, v20_apply, v25_apply, v31_apply, hcd2_apply, hcd1_apply, hc_apply]
  rfl

/-- The convolution's gradient. -/
theorem du_apply (i : S16384x256.Idx) : val_main_v35 (F := Ideal) x0 x1 i = du (G x0) (D x1) (i 0).val (i 1).val := by
  rw [val_main_v35_apply, gateB_apply, ct_apply]
  exact mul_comm _ _

/-- The first result. -/
theorem resB_apply (i : S16384x256.Idx) : val_main_v73 (F := Ideal) x0 x1 x2 i = D x1 (i 0).val (i 1).val * u (C x0) (X x0) (W x2) (i 0).val (i 1).val := by
  rw [val_main_v73_apply, val_main_v36_apply, ct_apply, u_apply]
  rfl

/-- A tap's share of the gated input's gradient, 1 row up. -/
theorem duu1_apply (i : S16384x256.Idx) : val_main_v65 (F := Ideal) x0 x1 x2 i = W x2 1 (i 1).val * duu (G x0) (D x1) 1 (i 0).val (i 1).val := by
  have hi : (i 0).val < 16384 := (i 0).isLt
  have h1 : (i 1).val < 256 := (i 1).isLt
  unfold duu val_main_v65
  by_cases h : (i 0).val + 1 < 16384
  · rw [if_pos h]
    refine (pad_apply_of_inside _ _ _ _ _ _ _ i (cell (i 0).val (by omega) (i 1).val h1) (fun a => ?_)).trans ?_
    · match a with
      | ⟨0, _⟩ => show (i 0).val = 0 + (i 0).val * (0 + 1); omega
      | ⟨1, _⟩ => show (i 1).val = 0 + (i 1).val * (0 + 1); omega
    · rw [val_main_v64_apply, val_main_v46_apply, v45_apply, du_apply]
      show _ * du (G x0) (D x1) (1 + (i 0).val) (i 1).val = _
      rw [Nat.add_comm]
  · rw [if_neg h, mul_zero]
    refine (pad_apply_of_not_inside _ _ _ _ _ _ _ i 0 (fun q => ?_)).trans Ideal.ofBits_zero_f32
    have q2 := q.2.2
    have q3 : ((i 0).val - 0) / (0 + 1) < 16384 - 1 := q2
    omega

/-- A tap's share of the gated input's gradient, 2 rows up. -/
theorem duu2_apply (i : S16384x256.Idx) : val_main_v69 (F := Ideal) x0 x1 x2 i = W x2 0 (i 1).val * duu (G x0) (D x1) 2 (i 0).val (i 1).val := by
  have hi : (i 0).val < 16384 := (i 0).isLt
  have h1 : (i 1).val < 256 := (i 1).isLt
  unfold duu val_main_v69
  by_cases h : (i 0).val + 2 < 16384
  · rw [if_pos h]
    refine (pad_apply_of_inside _ _ _ _ _ _ _ i (cell (i 0).val (by omega) (i 1).val h1) (fun a => ?_)).trans ?_
    · match a with
      | ⟨0, _⟩ => show (i 0).val = 0 + (i 0).val * (0 + 1); omega
      | ⟨1, _⟩ => show (i 1).val = 0 + (i 1).val * (0 + 1); omega
    · rw [val_main_v68_apply, val_main_v55_apply, v54_apply, du_apply]
      show _ * du (G x0) (D x1) (2 + (i 0).val) (i 1).val = _
      rw [Nat.add_comm]
  · rw [if_neg h, mul_zero]
    refine (pad_apply_of_not_inside _ _ _ _ _ _ _ i 0 (fun q => ?_)).trans Ideal.ofBits_zero_f32
    have q2 := q.2.2
    have q3 : ((i 0).val - 0) / (0 + 1) < 16384 - 2 := q2
    omega

/-- The gated input's gradient. -/
theorem dhc_apply (i : S16384x256.Idx) : val_main_v70 (F := Ideal) x0 x1 x2 i = dhc (G x0) (D x1) (W x2) (i 0).val (i 1).val := by
  rw [val_main_v70_apply, val_main_v66_apply, val_main_v38_apply, v37_apply, du_apply, duu1_apply, duu2_apply]
  rfl

/-- The second result. -/
theorem resC_apply (i : S16384x256.Idx) : val_main_v74 (F := Ideal) x0 x1 x2 i = dhc (G x0) (D x1) (W x2) (i 0).val (i 1).val * X x0 (i 0).val (i 1).val := by
  rw [val_main_v74_apply, val_main_v72_apply, inX_apply, dhc_apply]
  rfl
/-- The third result. -/
theorem resX_apply (i : S16384x256.Idx) : val_main_v75 (F := Ideal) x0 x1 x2 i = dhc (G x0) (D x1) (W x2) (i 0).val (i 1).val * C x0 (i 0).val (i 1).val := by
  rw [val_main_v75_apply, val_main_v71_apply, gateC_apply, dhc_apply]
  exact mul_comm _ _

/-- A tap's gradient, the sum over all rows. -/
theorem sum2_apply (i : S1x256.Idx) : val_main_v43 (F := Ideal) x0 x1 i = dw (G x0) (C x0) (X x0) (D x1) 2 16384 (i 1).val := by
  rw [val_main_v43_apply, val_main_v42_apply]
  rw [show (val_main_cst_4 (F := Ideal)) (Shape.Idx.first Gen.h_S_) = 0 from Ideal.ofBits_zero_f32, zero_add, Fin.sum_univ_one, val_main_v41_apply, val_main_v40_apply,
    show (val_main_cst_3 (F := Ideal)) (Shape.Idx.first Gen.h_S_) = 0 from Ideal.ofBits_zero_f32, zero_add]
  unfold dw
  rw [Finset.sum_range]
  refine Finset.sum_congr rfl fun r _ => ?_
  rw [val_main_v39_apply, du_apply, hc_apply]
  show du (G x0) (D x1) r.val (0 * 256 + (i 1).val) * hc (C x0) (X x0) r.val (0 * 256 + (i 1).val) = _
  rw [Nat.zero_mul, Nat.zero_add, Nat.sub_self, hcd_zero]

/-- That tap's gradient in its row of three. -/
theorem pad2_apply (j : S3x256.Idx) : val_main_v44 (F := Ideal) x0 x1 j = if (j 0).val = 2 then dw (G x0) (C x0) (X x0) (D x1) 2 16384 (j 1).val else 0 := by
  have h1 : (j 1).val < 256 := (j 1).isLt
  have h0 : (j 0).val < 3 := (j 0).isLt
  unfold val_main_v44
  by_cases h : (j 0).val = 2
  · rw [if_pos h]
    refine (pad_apply_of_inside _ _ _ _ _ _ _ j (cell 0 (by omega) (j 1).val h1) (fun a => ?_)).trans (sum2_apply x0 x1 _)
    match a with
    | ⟨0, _⟩ => show (j 0).val = 2 + 0 * (0 + 1); omega
    | ⟨1, _⟩ => show (j 1).val = 0 + (j 1).val * (0 + 1); omega
  · rw [if_neg h]
    refine (pad_apply_of_not_inside _ _ _ _ _ _ _ j 0 (fun q => ?_)).trans Ideal.ofBits_zero_f32
    have q1 : 2 ≤ (j 0).val := q.1
    have q3 : ((j 0).val - 2) / (0 + 1) < 1 := q.2.2
    omega

/-- A tap's gradient, the sum over all rows. -/
theorem sum1_apply (i : S1x256.Idx) : val_main_v51 (F := Ideal) x0 x1 i = dw (G x0) (C x0) (X x0) (D x1) 1 16384 (i 1).val := by
  rw [val_main_v51_apply, val_main_v50_apply]
  rw [show (val_main_cst_7 (F := Ideal)) (Shape.Idx.first Gen.h_S_) = 0 from Ideal.ofBits_zero_f32, zero_add, Fin.sum_univ_one, val_main_v49_apply, val_main_v48_apply,
    show (val_main_cst_6 (F := Ideal)) (Shape.Idx.first Gen.h_S_) = 0 from Ideal.ofBits_zero_f32, zero_add]
  unfold dw
  rw [Finset.sum_range]
  refine Finset.sum_congr rfl fun r _ => ?_
  rw [val_main_v47_apply, du_apply, hcd1_apply]
  show du (G x0) (D x1) r.val (0 * 256 + (i 1).val) * hcd (C x0) (X x0) 1 r.val (0 * 256 + (i 1).val) = _
  rw [Nat.zero_mul, Nat.zero_add]

/-- That tap's gradient in its row of three. -/
theorem pad1_apply (j : S3x256.Idx) : val_main_v52 (F := Ideal) x0 x1 j = if (j 0).val = 1 then dw (G x0) (C x0) (X x0) (D x1) 1 16384 (j 1).val else 0 := by
  have h1 : (j 1).val < 256 := (j 1).isLt
  have h0 : (j 0).val < 3 := (j 0).isLt
  unfold val_main_v52
  by_cases h : (j 0).val = 1
  · rw [if_pos h]
    refine (pad_apply_of_inside _ _ _ _ _ _ _ j (cell 0 (by omega) (j 1).val h1) (fun a => ?_)).trans (sum1_apply x0 x1 _)
    match a with
    | ⟨0, _⟩ => show (j 0).val = 1 + 0 * (0 + 1); omega
    | ⟨1, _⟩ => show (j 1).val = 0 + (j 1).val * (0 + 1); omega
  · rw [if_neg h]
    refine (pad_apply_of_not_inside _ _ _ _ _ _ _ j 0 (fun q => ?_)).trans Ideal.ofBits_zero_f32
    have q1 : 1 ≤ (j 0).val := q.1
    have q3 : ((j 0).val - 1) / (0 + 1) < 1 := q.2.2
    omega

/-- A tap's gradient, the sum over all rows. -/
theorem sum0_apply (i : S1x256.Idx) : val_main_v60 (F := Ideal) x0 x1 i = dw (G x0) (C x0) (X x0) (D x1) 0 16384 (i 1).val := by
  rw [val_main_v60_apply, val_main_v59_apply]
  rw [show (val_main_cst_10 (F := Ideal)) (Shape.Idx.first Gen.h_S_) = 0 from Ideal.ofBits_zero_f32, zero_add, Fin.sum_univ_one, val_main_v58_apply, val_main_v57_apply,
    show (val_main_cst_9 (F := Ideal)) (Shape.Idx.first Gen.h_S_) = 0 from Ideal.ofBits_zero_f32, zero_add]
  unfold dw
  rw [Finset.sum_range]
  refine Finset.sum_congr rfl fun r _ => ?_
  rw [val_main_v56_apply, du_apply, hcd2_apply]
  show du (G x0) (D x1) r.val (0 * 256 + (i 1).val) * hcd (C x0) (X x0) 2 r.val (0 * 256 + (i 1).val) = _
  rw [Nat.zero_mul, Nat.zero_add]

/-- That tap's gradient in its row of three. -/
theorem pad0_apply (j : S3x256.Idx) : val_main_v61 (F := Ideal) x0 x1 j = if (j 0).val = 0 then dw (G x0) (C x0) (X x0) (D x1) 0 16384 (j 1).val else 0 := by
  have h1 : (j 1).val < 256 := (j 1).isLt
  have h0 : (j 0).val < 3 := (j 0).isLt
  unfold val_main_v61
  by_cases h : (j 0).val = 0
  · rw [if_pos h]
    refine (pad_apply_of_inside _ _ _ _ _ _ _ j (cell 0 (by omega) (j 1).val h1) (fun a => ?_)).trans (sum0_apply x0 x1 _)
    match a with
    | ⟨0, _⟩ => show (j 0).val = 0 + 0 * (0 + 1); omega
    | ⟨1, _⟩ => show (j 1).val = 0 + (j 1).val * (0 + 1); omega
  · rw [if_neg h]
    refine (pad_apply_of_not_inside _ _ _ _ _ _ _ j 0 (fun q => ?_)).trans Ideal.ofBits_zero_f32
    have q1 : 0 ≤ (j 0).val := q.1
    have q3 : ((j 0).val - 0) / (0 + 1) < 1 := q.2.2
    omega

/-- The fourth result. -/
theorem resW_apply (j : S8x256.Idx) : val_main_v76 (F := Ideal) x0 x1 j = if (j 0).val < 3 then dw (G x0) (C x0) (X x0) (D x1) (j 0).val 16384 (j 1).val else 0 := by
  have h1 : (j 1).val < 256 := (j 1).isLt
  have h0 : (j 0).val < 8 := (j 0).isLt
  unfold val_main_v76
  by_cases h : (j 0).val < 3
  · rw [if_pos h]
    refine (pad_apply_of_inside _ _ _ _ _ _ _ j (cell (j 0).val h (j 1).val h1) (fun a => ?_)).trans ?_
    · match a with
      | ⟨0, _⟩ => show (j 0).val = 0 + (j 0).val * (0 + 1); omega
      | ⟨1, _⟩ => show (j 1).val = 0 + (j 1).val * (0 + 1); omega
    · rw [val_main_v62_apply, val_main_v53_apply, pad2_apply, pad1_apply, pad0_apply]
      show ((if (j 0).val = 2 then dw (G x0) (C x0) (X x0) (D x1) 2 16384 (j 1).val else (0 : EReal)) + (if (j 0).val = 1 then dw (G x0) (C x0) (X x0) (D x1) 1 16384 (j 1).val else 0))
        + (if (j 0).val = 0 then dw (G x0) (C x0) (X x0) (D x1) 0 16384 (j 1).val else 0) = _
      generalize (j 0).val = k at h
      interval_cases k <;> simp
  · rw [if_neg h]
    refine (pad_apply_of_not_inside _ _ _ _ _ _ _ j 0 (fun q => ?_)).trans ?_
    · have q3 : ((j 0).val - 0) / (0 + 1) < 3 := q.2.2
      omega
    · show (((0#32 : BitVec 32).toInt : ℝ) : EReal) = 0
      simp

end Cert.Reference2Ideal.Conv
-- ==== Proof.ConvSame.lean ====
/- The convolution's backward call computes what its reference computes. -/
module

public import proofs.«01_k».proof.Defs
public import proofs.«01_k».proof.Proof.ConvValue
public import proofs.«01_k».proof.Proof.ConvRef

@[expose] public section

set_option maxRecDepth 16384
set_option maxHeartbeats 1000000

noncomputable section

namespace Cert.Proof.Conv

open Idealize.ShloMosaic Idealize.ShloMosaic.TcCoe Idealize.SL.Sem
open Cert.Kernel2Ideal.Conv (gateB gateC inX ct taps resB resC resX resW final_B final_C final_X final_W)

/-- The four gradients are the reference's, element by element. -/
theorem same : Cert.algebraic_Kernel2Ideal_Reference2Ideal (hKernel2Ideal := Cert.Kernel2Ideal.Gen.facts) (hReference2Ideal := Cert.Reference2Ideal.Gen.facts) := by
  intro m g m' g' _ hin
  refine ⟨fun c => resB m c, fun c => resC m c, fun c => resX m c, fun c => resW m c,
    (θ_run Cert.Kernel2Ideal.defs _ _).mono (fun r h c => ?_) (Cert.Kernel2Ideal.Value.run_blocks (F := Ideal) m g),
    (θ_run Cert.Reference2Ideal.defs _ _).mono (fun r h c => ?_) (Cert.Reference2Ideal.Value.run (F := Ideal) m' g')⟩
  · obtain ⟨h0, h1, h2, h3, k⟩ := h c
    exact ⟨h0.trans (final_B m c), h1.trans (final_C m c), h2.trans (final_X m c), h3.trans (final_W m c), k⟩
  · obtain ⟨h0, h1, h2, h3, k⟩ := h c
    obtain ⟨a0, a1, a2⟩ := hin c
    refine ⟨h0.trans ((Cert.Reference2Ideal.Read.val_main_v73_eq _ _ _).trans (funext fun i => (Cert.Reference2Ideal.Conv.resB_apply _ _ _ i).trans ?_)),
      h1.trans ((Cert.Reference2Ideal.Read.val_main_v74_eq _ _ _).trans (funext fun i => (Cert.Reference2Ideal.Conv.resC_apply _ _ _ i).trans ?_)),
      h2.trans ((Cert.Reference2Ideal.Read.val_main_v75_eq _ _ _).trans (funext fun i => (Cert.Reference2Ideal.Conv.resX_apply _ _ _ i).trans ?_)),
      h3.trans ((Cert.Reference2Ideal.Read.val_main_v76_eq _ _).trans (funext fun i => (Cert.Reference2Ideal.Conv.resW_apply _ _ i).trans ?_)), k⟩
    · rw [a0, a1, a2]; rfl
    · rw [a0, a1, a2]; rfl
    · rw [a0, a1, a2]; rfl
    · rw [a0, a1]; rfl

end Cert.Proof.Conv
-- ==== Proof.FfnRun.lean ====
/- The whole run of the feed-forward layer's seven calls: what every array holds at the end. -/
module

public import proofs.«01_k».proof.Proof.Gen.Kernel3Ideal.Frame

@[expose] public section

set_option maxRecDepth 16384
set_option maxHeartbeats 1000000

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- Every weakly fair run ends with the five results as the last call leaves them, and the arguments unchanged. -/
theorem run : θ_run defs (onTc (τ := τ) (main (F := F))) ⟨m, fun _ => 0, ρ⟩ (fun r => ∀ c : Dev nD,
      r.2.mem ((c.tc : Thread nD τ).loc main_v5) = W7 m ρ c (Proc.devRef .tc main_v5)
      ∧ r.2.mem ((c.tc : Thread nD τ).loc main_v3) = W7 m ρ c (Proc.devRef .tc main_v3)
      ∧ r.2.mem ((c.tc : Thread nD τ).loc main_v4) = W7 m ρ c (Proc.devRef .tc main_v4)
      ∧ r.2.mem ((c.tc : Thread nD τ).loc main_v2) = W7 m ρ c (Proc.devRef .tc main_v2)
      ∧ r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v5 (by decide)), h c _ (mem_uc main_v3 (by decide)), h c _ (mem_uc main_v4 (by decide)), h c _ (mem_uc main_v2 (by decide)), h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Kernel3Ideal.Ffn
-- ==== Proof.FfnSpec.lean ====
/- The forward and the backward pass of a gated feed-forward layer, over extended reals: rows and columns are natural numbers. -/
module

public import proofs.«01_k».proof.Proof.ConvSpec
public import Idealize.ShloMosaic.PureOps.Ideal

@[expose] public section

noncomputable section

namespace Cert.Ffn

open Idealize.ShloMosaic

/-- A matrix: its entry at a row and a column. -/
abbrev Mat := Nat → Nat → EReal

/-- The product of two matrices, `n` terms to an entry. -/
def nn (A B : Mat) (n : Nat) : Mat := fun r c => ∑ k ∈ Finset.range n, A r k * B k c
/-- The product with the second matrix transposed. -/
def nt (A B : Mat) (n : Nat) : Mat := fun r c => ∑ k ∈ Finset.range n, A r k * B c k
/-- The product with the first matrix transposed. -/
def tn (A B : Mat) (n : Nat) : Mat := fun r c => ∑ k ∈ Finset.range n, A k r * B k c

/-- The activation: the gate's swish times the other branch. -/
def act (G U : Mat) : Mat := fun r c => G r c * Ideal.logistic (G r c) * U r c
/-- The gate's gradient, from the activation's. -/
def dgate (DA G U : Mat) : Mat := fun r c => DA r c * U r c * Ideal.logistic (G r c) * (1 + G r c * (1 - Ideal.logistic (G r c)))
/-- The other branch's gradient, from the activation's. -/
def dbranch (DA G : Mat) : Mat := fun r c => DA r c * G r c * Ideal.logistic (G r c)

section
variable (H WG WU WD DX XM : Mat)

/-- The gate before its swish. -/
def g : Mat := nn H WG 1024
/-- The other branch. -/
def u : Mat := nn H WU 1024
/-- The activation's gradient. -/
def da : Mat := nt DX WD 1024
/-- The gate's gradient. -/
def dg : Mat := dgate (da WD DX) (g H WG) (u H WU)
/-- The other branch's gradient. -/
def du : Mat := dbranch (da WD DX) (g H WG)
/-- The input's gradient. -/
def dh : Mat := fun r c => nt (dg H WG WU WD DX) WG 2816 r c + nt (du H WG WD DX) WU 2816 r c
/-- The gate weights' gradient. -/
def dwg : Mat := tn H (dg H WG WU WD DX) 16384
/-- The other branch's weights' gradient. -/
def dwu : Mat := tn H (du H WG WD DX) 16384
/-- The last weights' gradient. -/
def dwd : Mat := tn (act (g H WG) (u H WU)) DX 16384
/-- The layer's output: what came in, and the activation times the last weights. -/
def xout : Mat := fun r c => XM r c + nn (act (g H WG) (u H WU)) WD 2816 r c
end

/-- An array's block whose first entry is at row `r` and column `c` of a matrix. -/
def IsTile {m n : Nat} (X : Mat) (r c : Nat) (x : (⟨2, ![m, n]⟩ : Shape).Idx → EReal) : Prop :=
  ∀ j, x j = X (r + (j 0).val) (c + (j 1).val)

/-- Offsets that are zero. -/
theorem hz : (![0, 0] : Fin 2 → Nat) = fun _ => 0 := funext fun a => by fin_cases a <;> rfl

/-- An array that holds a matrix from its first entry. -/
theorem whole {m n : Nat} {X : Mat} {x : (⟨2, ![m, n]⟩ : Shape).Idx → EReal} (h : x = fun j => X (j 0).val (j 1).val) : IsTile X 0 0 x := fun j => by
  rw [h, Nat.zero_add, Nat.zero_add]

/-- An array holds the matrix of its entries. -/
theorem of_entries {p q : Nat} {X : Mat} {x : (⟨2, ![p, q]⟩ : Shape).Idx → EReal} (h : ∀ j, x j = X (j 0).val (j 1).val) : IsTile X 0 0 x :=
  whole (funext h)

/-- An array read by row and column. -/
theorem tile_at2 {p q : Nat} (x : (⟨2, ![p, q]⟩ : Shape).Idx → EReal) : IsTile (Cert.Conv.at2 x) 0 0 x := fun j =>
  Cert.Conv.at2_eq x j _ _ (Nat.zero_add _).symm (Nat.zero_add _).symm

/-- An array known to hold a matrix. -/
theorem of_tile {p q : Nat} {X : Mat} {x : (⟨2, ![p, q]⟩ : Shape).Idx → EReal} (h : IsTile X 0 0 x) : x = fun j => X (j 0).val (j 1).val :=
  funext fun j => by rw [h, Nat.zero_add, Nat.zero_add]

/-- An entry of an array that holds a matrix. -/
theorem entry {p q : Nat} {X : Mat} {x : (⟨2, ![p, q]⟩ : Shape).Idx → EReal} (h : IsTile X 0 0 x) (j : (⟨2, ![p, q]⟩ : Shape).Idx) (r c : Nat)
    (hr : (j 0).val = r) (hc : (j 1).val = c) : x j = X r c := by
  rw [h, hr, hc, Nat.zero_add, Nat.zero_add]

/-- A block of an array that holds a matrix. -/
theorem block {p q p' q' : Nat} {X : Mat} {x : (⟨2, ![p, q]⟩ : Shape).Idx → EReal} (h : IsTile X 0 0 x) {r c : Nat}
    (e : (⟨2, ![p', q']⟩ : Shape).Idx → (⟨2, ![p, q]⟩ : Shape).Idx) (hr : ∀ j, (e j 0).val = r + (j 0).val) (hc : ∀ j, (e j 1).val = c + (j 1).val) :
    IsTile X r c (fun j => x (e j)) := fun j => entry h (e j) _ _ (hr j) (hc j)

/-- A product summed over the rows below `n + k` is the one summed over the rows below `n` and that of the next `k` rows. -/
theorem tn_add (A B : Mat) (n k r c : Nat) : tn A B (n + k) r c = tn A B n r c + ∑ i ∈ Finset.range k, A (n + i) r * B (n + i) c :=
  Finset.sum_range_add _ n k

/-- The logistic function's values are reals. -/
theorem logistic_real (x : EReal) : ∃ s : ℝ, Ideal.logistic x = s := by
  induction x using EReal.rec with
  | bot => exact ⟨0, Ideal.logistic_bot⟩
  | coe r => exact ⟨_, Ideal.logistic_coe r⟩
  | top => exact ⟨1, Ideal.logistic_top⟩

/-- The derivative of the swish, as one product and as a sum of two, at any gate and a finite factor. -/
theorem swish_grad (x : ℝ) (y : EReal) :
    (x : EReal) * Ideal.logistic y * (1 + y * (1 - Ideal.logistic y)) = (x : EReal) * Ideal.logistic y + y * x * (Ideal.logistic y * (1 - Ideal.logistic y)) := by
  induction y using EReal.rec with
  | bot => simp [Ideal.logistic_bot]
  | top =>
    have h : (1 : EReal) - 1 = 0 := by rw [← EReal.coe_one, ← EReal.coe_sub, sub_self, EReal.coe_zero]
    simp [Ideal.logistic_top, h]
  | coe r =>
    obtain ⟨s, hs⟩ := logistic_real (r : EReal)
    rw [hs]
    norm_cast
    ring

/-- A finite sum of reals is a real. -/
theorem sum_real (n : Nat) (f : Nat → EReal) (h : ∀ k, ∃ x : ℝ, f k = x) : ∃ x : ℝ, ∑ k ∈ Finset.range n, f k = x := by
  induction n with
  | zero => exact ⟨0, by simp⟩
  | succ n ih =>
    obtain ⟨x, hx⟩ := ih
    obtain ⟨y, hy⟩ := h n
    exact ⟨x + y, by rw [Finset.sum_range_succ, hx, hy, EReal.coe_add]⟩

/-- A product of two reals is a real. -/
theorem mul_real {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

end Cert.Ffn
-- ==== Proof.FfnTiles.lean ====
/- What the blocks that a point of the feed-forward layer's seven calls reads and writes hold, as blocks of matrices. -/
module

public import proofs.«01_k».proof.Proof.FfnSpec
public import proofs.«01_k».proof.Proof.Gen.Kernel3Ideal.Skeleton
public import Idealize.ShloMosaic.Lib.Pointwise

@[expose] public section

set_option maxRecDepth 16384
set_option maxHeartbeats 400000

noncomputable section

namespace Cert.Kernel3Ideal.Ffn

open Cert.Kernel3Ideal Cert.Kernel3Ideal.Gen Idealize.ShloMosaic Idealize.ShloMosaic.TcCoe Idealize.SL.Sem
open Cert.Ffn

/-- A block of a product is the product of a block of rows and a block of columns. -/
theorem up_g {H W : Mat} {r c : Nat} {x : Vec Ideal S512x1024 .bf16} {w : Vec Ideal S1024x1408 .bf16} (hx : IsTile H r 0 x) (hw : IsTile W 0 c w) :
    IsTile (nn H W 1024) r c (k0_pay1 x w) := fun j => by
  pointwise [k0_pay1]
  unfold nn
  rw [Finset.sum_range]
  refine Finset.sum_congr rfl fun k _ => ?_
  rw [hx, hw]
  simp

/-- The gate before its swish, as it is stored. -/
theorem g_tile {H W : Mat} {r c : Nat} {x : Vec Ideal S512x1024 .bf16} {w : Vec Ideal S1024x1408 .bf16} (hx : IsTile H r 0 x) (hw : IsTile W 0 c w) :
    IsTile (nn H W 1024) r c (k0_pay3 x w) := fun j => (show k0_pay3 x w j = k0_pay1 x w j from rfl).trans (up_g hx hw j)

/-- The other branch, as it is stored. -/
theorem u_tile {H W : Mat} {r c : Nat} {x : Vec Ideal S512x1024 .bf16} {w : Vec Ideal S1024x1408 .bf16} (hx : IsTile H r 0 x) (hw : IsTile W 0 c w) :
    IsTile (nn H W 1024) r c (k0_pay4 x w) := fun j => (show k0_pay4 x w j = k0_pay1 x w j from rfl).trans (up_g hx hw j)

/-- The activation. -/
theorem act_tile {H G U : Mat} {r c : Nat} {x : Vec Ideal S512x1024 .bf16} {w w' : Vec Ideal S1024x1408 .bf16} (hx : IsTile H r 0 x) (hw : IsTile G 0 c w) (hw' : IsTile U 0 c w') :
    IsTile (act (nn H G 1024) (nn H U 1024)) r c (k0_pay5 x w w') := fun j => by
  have a := up_g hx hw j
  have b : k0_pay2 x w' j = _ := up_g hx hw' j
  show k0_pay1 x w j * Ideal.logistic (k0_pay1 x w j) * k0_pay2 x w' j = _
  rw [a, b]
  rfl

/-- The activation's gradient: the second factor's rows are its columns. -/
theorem da_tile {D W : Mat} {r c : Nat} {x : Vec Ideal S512x1024 .f32} {w : Vec Ideal S1408x1024 .bf16} (hx : IsTile D r 0 x) (hw : IsTile W c 0 w) :
    IsTile (nt D W 1024) r c (k1_pay1 x w) := fun j => by
  pointwise [k1_pay1]
  unfold nt
  rw [Finset.sum_range]
  refine Finset.sum_congr rfl fun k _ => ?_
  rw [hx, hw]
  simp

/-- The gate's gradient. -/
theorem dg_tile {D W G U : Mat} {r c : Nat} {x : Vec Ideal S512x1024 .f32} {w : Vec Ideal S1408x1024 .bf16} {y y' : Vec Ideal S512x1408 .bf16}
    (hx : IsTile D r 0 x) (hw : IsTile W c 0 w) (hy : IsTile G r c y) (hy' : IsTile U r c y') :
    IsTile (dgate (nt D W 1024) G U) r c (k1_pay4 x w y y') := fun j => by
  have a := da_tile hx hw j
  have h : k1_pay4 x w y y' j = k1_pay1 x w j * y' j * Ideal.logistic (y j) * (1 + y j * (1 - Ideal.logistic (y j))) := by
    pointwise [k1_pay4, k1_pay3, k1_pay2]
  rw [h, a, hy, hy']
  rfl

/-- The other branch's gradient. -/
theorem du_tile {D W G : Mat} {r c : Nat} {x : Vec Ideal S512x1024 .f32} {w : Vec Ideal S1408x1024 .bf16} {y : Vec Ideal S512x1408 .bf16}
    (hx : IsTile D r 0 x) (hw : IsTile W c 0 w) (hy : IsTile G r c y) :
    IsTile (dbranch (nt D W 1024) G) r c (k1_pay5 x w y) := fun j => by
  have a := da_tile hx hw j
  have h : k1_pay5 x w y j = k1_pay1 x w j * y j * Ideal.logistic (y j) := by
    pointwise [k1_pay5, k1_pay3, k1_pay2]
  rw [h, a, hy]
  rfl

/-- The input's gradient. -/
theorem dh_tile {A B C D : Mat} {r c : Nat} {x w y z : Vec Ideal S512x2816 .bf16}
    (hx : IsTile A r 0 x) (hw : IsTile B c 0 w) (hy : IsTile C r 0 y) (hz : IsTile D c 0 z) :
    IsTile (fun i k => nt A B 2816 i k + nt C D 2816 i k) r c (k5_pay1 x w y z) := fun j => by
  pointwise [k5_pay1]
  unfold nt
  rw [Finset.sum_range, Finset.sum_range]
  refine congrArg₂ (· + ·) (Finset.sum_congr rfl fun k _ => ?_) (Finset.sum_congr rfl fun k _ => ?_)
  · rw [hx, hw]
    simp
  · rw [hy, hz]
    simp

/-- The layer's output. -/
theorem xout_tile {A W X : Mat} {r c : Nat} {x : Vec Ideal S512x2816 .bf16} {w : Vec Ideal S2816x1024 .bf16} {y : Vec Ideal S512x1024 .f32}
    (hx : IsTile A r 0 x) (hw : IsTile W 0 c w) (hy : IsTile X r c y) : IsTile (fun i k => X i k + nn A W 2816 i k) r c (k6_pay1 x w y) := fun j => by
  pointwise [k6_pay1]
  unfold nn
  rw [Finset.sum_range, hy, add_comm]
  refine congrArg (_ + ·) (Finset.sum_congr rfl fun k _ => ?_)
  rw [hx, hw]
  simp

/-- A block summed over one more block of rows: the last weights' gradient. -/
theorem down_tile {A D : Mat} {n r c : Nat} {z : Vec Ideal S1408x1024 .f32} {x : Vec Ideal S1024x1408 .bf16} {y : Vec Ideal S1024x1024 .f32}
    (hz : IsTile (tn A D n) r c z) (hx : IsTile A n r x) (hy : IsTile D n c y) : IsTile (tn A D (n + 1024)) r c (k2_pay2 z x y) := fun j => by
  pointwise [k2_pay2]
  rw [tn_add, Finset.sum_range, hz]
  refine congrArg (_ + ·) (Finset.sum_congr rfl fun k _ => ?_)
  rw [hx, hy]
  simp

/-- The same of the gate weights' gradient. -/
theorem gate_tile {A D : Mat} {n r c : Nat} {z : Vec Ideal S1024x1408 .f32} {x : Vec Ideal S1024x1024 .bf16} {y : Vec Ideal S1024x1408 .bf16}
    (hz : IsTile (tn A D n) r c z) (hx : IsTile A n r x) (hy : IsTile D n c y) : IsTile (tn A D (n + 1024)) r c (k3_pay2 z x y) := fun j => by
  pointwise [k3_pay2]
  rw [tn_add, Finset.sum_range, hz]
  refine congrArg (_ + ·) (Finset.sum_congr rfl fun k _ => ?_)
  rw [hx, hy]
  simp

/-- The same of the other branch's weights' gradient, whose call has the same body. -/
theorem branch_tile {A D : Mat} {n r c : Nat} {z : Vec Ideal S1024x1408 .f32} {x : Vec Ideal S1024x1024 .bf16} {y : Vec Ideal S1024x1408 .bf16}
    (hz : IsTile (tn A D n) r c z) (hx : IsTile A n r x) (hy : IsTile D n c y) : IsTile (tn A D (n + 1024)) r c (k4_pay2 z x y) :=
  gate_tile hz hx hy

/-- A sum over no rows. -/
theorem down_zero (A D : Mat) (r c : Nat) : IsTile (tn A D 0) r c (k2_pay1 (F := Ideal)) := fun _ => Ideal.ofBits_zero_f32
/-- A sum over no rows. -/
theorem gate_zero (A D : Mat) (r c : Nat) : IsTile (tn A D 0) r c (k3_pay1 (F := Ideal)) := fun _ => Ideal.ofBits_zero_f32
/-- A sum over no rows. -/
theorem branch_zero (A D : Mat) (r c : Nat) : IsTile (tn A D 0) r c (k4_pay1 (F := Ideal)) := fun _ => Ideal.ofBits_zero_f32

end Cert.Kernel3Ideal.Ffn
-- ==== Proof.FfnBlocks.lean ====
/- The blocks that the feed-forward layer's seven calls read at a point, as blocks of matrices. -/
module

public import proofs.«01_k».proof.Proof.FfnTiles
public import proofs.«01_k».proof.Proof.Gen.Kernel3Ideal.Frame
public import Idealize.ShloMosaic.Lib.Pipeline.ValueKit.Geometry
public import Idealize.ShloMosaic.Lib.Pipeline.Value

@[expose] public section

set_option maxRecDepth 16384
set_option maxHeartbeats 400000

noncomputable section

namespace Cert.Kernel3Ideal.Ffn

open Cert.Kernel3Ideal Cert.Kernel3Ideal.Gen Idealize.ShloMosaic Idealize.ShloMosaic.TcCoe Idealize.ShloMosaic.Tactic Idealize.SL.Sem
open Cert.Ffn

/- Where call 0's blocks lie. -/
theorem place0_0 : ∀ t : Fin cfg0.N, win0_0.index t = ![t.val % 32, 0] := (by decide +kernel : ∀ t : Fin grid0.N, win0_0.index t = ![t.val % 32, 0])
theorem place0_1 : ∀ t : Fin cfg0.N, win0_1.index t = ![0, t.val / 32] := (by decide +kernel : ∀ t : Fin grid0.N, win0_1.index t = ![0, t.val / 32])
theorem place0_2 : ∀ t : Fin cfg0.N, win0_2.index t = ![0, t.val / 32] := (by decide +kernel : ∀ t : Fin grid0.N, win0_2.index t = ![0, t.val / 32])
theorem place0_3 : ∀ t : Fin cfg0.N, win0_3.index t = ![t.val % 32, t.val / 32] := (by decide +kernel : ∀ t : Fin grid0.N, win0_3.index t = ![t.val % 32, t.val / 32])
theorem place0_4 : ∀ t : Fin cfg0.N, win0_4.index t = ![t.val % 32, t.val / 32] := (by decide +kernel : ∀ t : Fin grid0.N, win0_4.index t = ![t.val % 32, t.val / 32])
theorem place0_5 : ∀ t : Fin cfg0.N, win0_5.index t = ![t.val % 32, t.val / 32] := (by decide +kernel : ∀ t : Fin grid0.N, win0_5.index t = ![t.val % 32, t.val / 32])
/- Where call 1's blocks lie. -/
theorem place1_0 : ∀ t : Fin cfg1.N, win1_0.index t = ![t.val % 32, 0] := (by decide +kernel : ∀ t : Fin grid1.N, win1_0.index t = ![t.val % 32, 0])
theorem place1_1 : ∀ t : Fin cfg1.N, win1_1.index t = ![t.val / 32, 0] := (by decide +kernel : ∀ t : Fin grid1.N, win1_1.index t = ![t.val / 32, 0])
theorem place1_2 : ∀ t : Fin cfg1.N, win1_2.index t = ![t.val % 32, t.val / 32] := (by decide +kernel : ∀ t : Fin grid1.N, win1_2.index t = ![t.val % 32, t.val / 32])
theorem place1_3 : ∀ t : Fin cfg1.N, win1_3.index t = ![t.val % 32, t.val / 32] := (by decide +kernel : ∀ t : Fin grid1.N, win1_3.index t = ![t.val % 32, t.val / 32])
theorem place1_4 : ∀ t : Fin cfg1.N, win1_4.index t = ![t.val % 32, t.val / 32] := (by decide +kernel : ∀ t : Fin grid1.N, win1_4.index t = ![t.val % 32, t.val / 32])
theorem place1_5 : ∀ t : Fin cfg1.N, win1_5.index t = ![t.val % 32, t.val / 32] := (by decide +kernel : ∀ t : Fin grid1.N, win1_5.index t = ![t.val % 32, t.val / 32])
/- Where call 2's blocks lie. -/
theorem place2_0 : ∀ t : Fin cfg2.N, win2_0.index t = ![t.val % 16, t.val / 16] := (by decide +kernel : ∀ t : Fin grid2.N, win2_0.index t = ![t.val % 16, t.val / 16])
theorem place2_1 : ∀ t : Fin cfg2.N, win2_1.index t = ![t.val % 16, 0] := (by decide +kernel : ∀ t : Fin grid2.N, win2_1.index t = ![t.val % 16, 0])
theorem place2_2 : ∀ t : Fin cfg2.N, win2_2.index t = ![t.val / 16, 0] := (by decide +kernel : ∀ t : Fin grid2.N, win2_2.index t = ![t.val / 16, 0])
/- Where call 3's blocks lie. -/
theorem place3_0 : ∀ t : Fin cfg3.N, win3_0.index t = ![t.val % 16, 0] := (by decide +kernel : ∀ t : Fin grid3.N, win3_0.index t = ![t.val % 16, 0])
theorem place3_1 : ∀ t : Fin cfg3.N, win3_1.index t = ![t.val % 16, t.val / 16] := (by decide +kernel : ∀ t : Fin grid3.N, win3_1.index t = ![t.val % 16, t.val / 16])
theorem place3_2 : ∀ t : Fin cfg3.N, win3_2.index t = ![0, t.val / 16] := (by decide +kernel : ∀ t : Fin grid3.N, win3_2.index t = ![0, t.val / 16])
/- Where call 4's blocks lie. -/
theorem place4_0 : ∀ t : Fin cfg4.N, win4_0.index t = ![t.val % 16, 0] := (by decide +kernel : ∀ t : Fin grid4.N, win4_0.index t = ![t.val % 16, 0])
theorem place4_1 : ∀ t : Fin cfg4.N, win4_1.index t = ![t.val % 16, t.val / 16] := (by decide +kernel : ∀ t : Fin grid4.N, win4_1.index t = ![t.val % 16, t.val / 16])
theorem place4_2 : ∀ t : Fin cfg4.N, win4_2.index t = ![0, t.val / 16] := (by decide +kernel : ∀ t : Fin grid4.N, win4_2.index t = ![0, t.val / 16])
/- Where call 5's blocks lie. -/
theorem place5_0 : ∀ t : Fin cfg5.N, win5_0.index t = ![t.val % 32, 0] := (by decide +kernel : ∀ t : Fin grid5.N, win5_0.index t = ![t.val % 32, 0])
theorem place5_1 : ∀ t : Fin cfg5.N, win5_1.index t = ![t.val / 32, 0] := (by decide +kernel : ∀ t : Fin grid5.N, win5_1.index t = ![t.val / 32, 0])
theorem place5_2 : ∀ t : Fin cfg5.N, win5_2.index t = ![t.val % 32, 0] := (by decide +kernel : ∀ t : Fin grid5.N, win5_2.index t = ![t.val % 32, 0])
theorem place5_3 : ∀ t : Fin cfg5.N, win5_3.index t = ![t.val / 32, 0] := (by decide +kernel : ∀ t : Fin grid5.N, win5_3.index t = ![t.val / 32, 0])
theorem place5_4 : ∀ t : Fin cfg5.N, win5_4.index t = ![t.val % 32, t.val / 32] := (by decide +kernel : ∀ t : Fin grid5.N, win5_4.index t = ![t.val % 32, t.val / 32])
/- Where call 6's blocks lie. -/
theorem place6_0 : ∀ t : Fin cfg6.N, win6_0.index t = ![t.val, 0] := (by decide +kernel : ∀ t : Fin grid6.N, win6_0.index t = ![t.val, 0])
theorem place6_1 : ∀ t : Fin cfg6.N, win6_1.index t = ![0, 0] := (by decide +kernel : ∀ t : Fin grid6.N, win6_1.index t = ![0, 0])
theorem place6_2 : ∀ t : Fin cfg6.N, win6_2.index t = ![t.val, 0] := (by decide +kernel : ∀ t : Fin grid6.N, win6_2.index t = ![t.val, 0])
theorem place6_3 : ∀ t : Fin cfg6.N, win6_3.index t = ![t.val, 0] := (by decide +kernel : ∀ t : Fin grid6.N, win6_3.index t = ![t.val, 0])

variable (V : (c : Dev nD) → (b : Ref sig .tc) → Buf (Elt Ideal) ((c : Thread nD τ).loc b)) (c : Dev nD)

/- What call 0 reads. -/
theorem tile0_0 {X : Mat} (h : IsTile X 0 0 (V c main_arg0)) (t : Fin cfg0.N) : IsTile X (t.val % 32 * 512) 0 (iblk0 V c 0 t) :=
  block h (((cfg0.win 0).blk t).view.emb) (fun j => by blk_simp [place0_0]) (fun j => by blk_simp [place0_0])
theorem tile0_1 {X : Mat} (h : IsTile X 0 0 (V c main_arg1)) (t : Fin cfg0.N) : IsTile X 0 (t.val / 32 * 1408) (iblk0 V c 1 t) :=
  block h (((cfg0.win 1).blk t).view.emb) (fun j => by blk_simp [place0_1]) (fun j => by blk_simp [place0_1])
theorem tile0_2 {X : Mat} (h : IsTile X 0 0 (V c main_arg2)) (t : Fin cfg0.N) : IsTile X 0 (t.val / 32 * 1408) (iblk0 V c 2 t) :=
  block h (((cfg0.win 2).blk t).view.emb) (fun j => by blk_simp [place0_2]) (fun j => by blk_simp [place0_2])
/- What call 1 reads. -/
theorem tile1_0 {X : Mat} (h : IsTile X 0 0 (V c main_arg4)) (t : Fin cfg1.N) : IsTile X (t.val % 32 * 512) 0 (iblk1 V c 0 t) :=
  block h (((cfg1.win 0).blk t).view.emb) (fun j => by blk_simp [place1_0]) (fun j => by blk_simp [place1_0])
theorem tile1_1 {X : Mat} (h : IsTile X 0 0 (V c main_arg3)) (t : Fin cfg1.N) : IsTile X (t.val / 32 * 1408) 0 (iblk1 V c 1 t) :=
  block h (((cfg1.win 1).blk t).view.emb) (fun j => by blk_simp [place1_1]) (fun j => by blk_simp [place1_1])
theorem tile1_2 {X : Mat} (h : IsTile X 0 0 (V c main_v0_0)) (t : Fin cfg1.N) : IsTile X (t.val % 32 * 512) (t.val / 32 * 1408) (iblk1 V c 2 t) :=
  block h (((cfg1.win 2).blk t).view.emb) (fun j => by blk_simp [place1_2]) (fun j => by blk_simp [place1_2])
theorem tile1_3 {X : Mat} (h : IsTile X 0 0 (V c main_v0_1)) (t : Fin cfg1.N) : IsTile X (t.val % 32 * 512) (t.val / 32 * 1408) (iblk1 V c 3 t) :=
  block h (((cfg1.win 3).blk t).view.emb) (fun j => by blk_simp [place1_3]) (fun j => by blk_simp [place1_3])
/- What call 2 reads. -/
theorem tile2_0 {X : Mat} (h : IsTile X 0 0 (V c main_v0_2)) (t : Fin cfg2.N) : IsTile X (t.val % 16 * 1024) (t.val / 16 * 1408) (iblk2 V c 0 t) :=
  block h (((cfg2.win 0).blk t).view.emb) (fun j => by blk_simp [place2_0]) (fun j => by blk_simp [place2_0])
theorem tile2_1 {X : Mat} (h : IsTile X 0 0 (V c main_arg4)) (t : Fin cfg2.N) : IsTile X (t.val % 16 * 1024) 0 (iblk2 V c 1 t) :=
  block h (((cfg2.win 1).blk t).view.emb) (fun j => by blk_simp [place2_1]) (fun j => by blk_simp [place2_1])
/- What call 3 reads. -/
theorem tile3_0 {X : Mat} (h : IsTile X 0 0 (V c main_arg0)) (t : Fin cfg3.N) : IsTile X (t.val % 16 * 1024) 0 (iblk3 V c 0 t) :=
  block h (((cfg3.win 0).blk t).view.emb) (fun j => by blk_simp [place3_0]) (fun j => by blk_simp [place3_0])
theorem tile3_1 {X : Mat} (h : IsTile X 0 0 (V c main_v1_0)) (t : Fin cfg3.N) : IsTile X (t.val % 16 * 1024) (t.val / 16 * 1408) (iblk3 V c 1 t) :=
  block h (((cfg3.win 1).blk t).view.emb) (fun j => by blk_simp [place3_1]) (fun j => by blk_simp [place3_1])
/- What call 4 reads. -/
theorem tile4_0 {X : Mat} (h : IsTile X 0 0 (V c main_arg0)) (t : Fin cfg4.N) : IsTile X (t.val % 16 * 1024) 0 (iblk4 V c 0 t) :=
  block h (((cfg4.win 0).blk t).view.emb) (fun j => by blk_simp [place4_0]) (fun j => by blk_simp [place4_0])
theorem tile4_1 {X : Mat} (h : IsTile X 0 0 (V c main_v1_1)) (t : Fin cfg4.N) : IsTile X (t.val % 16 * 1024) (t.val / 16 * 1408) (iblk4 V c 1 t) :=
  block h (((cfg4.win 1).blk t).view.emb) (fun j => by blk_simp [place4_1]) (fun j => by blk_simp [place4_1])
/- What call 5 reads. -/
theorem tile5_0 {X : Mat} (h : IsTile X 0 0 (V c main_v1_0)) (t : Fin cfg5.N) : IsTile X (t.val % 32 * 512) 0 (iblk5 V c 0 t) :=
  block h (((cfg5.win 0).blk t).view.emb) (fun j => by blk_simp [place5_0]) (fun j => by blk_simp [place5_0])
theorem tile5_1 {X : Mat} (h : IsTile X 0 0 (V c main_arg1)) (t : Fin cfg5.N) : IsTile X (t.val / 32 * 512) 0 (iblk5 V c 1 t) :=
  block h (((cfg5.win 1).blk t).view.emb) (fun j => by blk_simp [place5_1]) (fun j => by blk_simp [place5_1])
theorem tile5_2 {X : Mat} (h : IsTile X 0 0 (V c main_v1_1)) (t : Fin cfg5.N) : IsTile X (t.val % 32 * 512) 0 (iblk5 V c 2 t) :=
  block h (((cfg5.win 2).blk t).view.emb) (fun j => by blk_simp [place5_2]) (fun j => by blk_simp [place5_2])
theorem tile5_3 {X : Mat} (h : IsTile X 0 0 (V c main_arg2)) (t : Fin cfg5.N) : IsTile X (t.val / 32 * 512) 0 (iblk5 V c 3 t) :=
  block h (((cfg5.win 3).blk t).view.emb) (fun j => by blk_simp [place5_3]) (fun j => by blk_simp [place5_3])
/- What call 6 reads. -/
theorem tile6_0 {X : Mat} (h : IsTile X 0 0 (V c main_v0_2)) (t : Fin cfg6.N) : IsTile X (t.val * 512) 0 (iblk6 V c 0 t) :=
  block h (((cfg6.win 0).blk t).view.emb) (fun j => by blk_simp [place6_0]) (fun j => by blk_simp [place6_0])
theorem tile6_1 {X : Mat} (h : IsTile X 0 0 (V c main_arg3)) (t : Fin cfg6.N) : IsTile X 0 0 (iblk6 V c 1 t) :=
  block h (((cfg6.win 1).blk t).view.emb) (fun j => by blk_simp [place6_1]) (fun j => by blk_simp [place6_1])
theorem tile6_2 {X : Mat} (h : IsTile X 0 0 (V c main_arg5)) (t : Fin cfg6.N) : IsTile X (t.val * 512) 0 (iblk6 V c 2 t) :=
  block h (((cfg6.win 2).blk t).view.emb) (fun j => by blk_simp [place6_2]) (fun j => by blk_simp [place6_2])

end Cert.Kernel3Ideal.Ffn
-- ==== Proof.FfnResults.lean ====
/- What the feed-forward layer's tile by tile calls leave in their results. -/
module

public import proofs.«01_k».proof.Proof.FfnBlocks
public import Idealize.ShloMosaic.Lib.WritesUnit

@[expose] public section

set_option maxRecDepth 16384
set_option maxHeartbeats 400000

noncomputable section

namespace Cert.Kernel3Ideal.Ffn

open Cert.Kernel3Ideal Cert.Kernel3Ideal.Gen Idealize.ShloMosaic Idealize.ShloMosaic.TcCoe Idealize.ShloMosaic.Tactic Idealize.SL.Sem
open Cert.Ffn

/- What a point leaves in its results' blocks: its one store, of what its body computes from the blocks. -/
theorem out0_3_eq (x0 : Vec Ideal S512x1024 .bf16) (x1 : Vec Ideal S1024x1408 .bf16) (x2 : Vec Ideal S1024x1408 .bf16) : out0_3 x0 x1 x2 = k0_pay3 x0 x1 := by
  unfold out0_3
  rw [View.canon_unit_zero hz]
  simp only [View.ld_unit_zero (S := S1024x1408) hz, View.ld_unit_zero (S := S512x1024) hz]

theorem out0_4_eq (x0 : Vec Ideal S512x1024 .bf16) (x1 : Vec Ideal S1024x1408 .bf16) (x2 : Vec Ideal S1024x1408 .bf16) : out0_4 x0 x1 x2 = k0_pay4 x0 x2 := by
  unfold out0_4
  rw [View.canon_unit_zero hz]
  simp only [View.ld_unit_zero (S := S1024x1408) hz, View.ld_unit_zero (S := S512x1024) hz]

theorem out0_5_eq (x0 : Vec Ideal S512x1024 .bf16) (x1 : Vec Ideal S1024x1408 .bf16) (x2 : Vec Ideal S1024x1408 .bf16) : out0_5 x0 x1 x2 = k0_pay5 x0 x1 x2 := by
  unfold out0_5
  rw [View.canon_unit_zero hz]
  simp only [View.ld_unit_zero (S := S1024x1408) hz, View.ld_unit_zero (S := S512x1024) hz]

theorem out1_4_eq (x0 : Vec Ideal S512x1024 .f32) (x1 : Vec Ideal S1408x1024 .bf16) (x2 : Vec Ideal S512x1408 .bf16) (x3 : Vec Ideal S512x1408 .bf16) : out1_4 x0 x1 x2 x3 = k1_pay4 x0 x1 x2 x3 := by
  unfold out1_4
  rw [View.canon_unit_zero hz]
  simp only [View.ld_unit_zero (S := S1408x1024) hz, View.ld_unit_zero (S := S512x1024) hz, View.ld_unit_zero (S := S512x1408) hz]

theorem out1_5_eq (x0 : Vec Ideal S512x1024 .f32) (x1 : Vec Ideal S1408x1024 .bf16) (x2 : Vec Ideal S512x1408 .bf16) (x3 : Vec Ideal S512x1408 .bf16) : out1_5 x0 x1 x2 x3 = k1_pay5 x0 x1 x2 := by
  unfold out1_5
  rw [View.canon_unit_zero hz]
  simp only [View.ld_unit_zero (S := S1408x1024) hz, View.ld_unit_zero (S := S512x1024) hz, View.ld_unit_zero (S := S512x1408) hz]

theorem out5_4_eq (x0 : Vec Ideal S512x2816 .bf16) (x1 : Vec Ideal S512x2816 .bf16) (x2 : Vec Ideal S512x2816 .bf16) (x3 : Vec Ideal S512x2816 .bf16) : out5_4 x0 x1 x2 x3 = k5_pay1 x0 x1 x2 x3 := by
  unfold out5_4
  rw [View.canon_unit_zero hz]
  simp only [View.ld_unit_zero (S := S512x2816) hz]

theorem out6_3_eq (x0 : Vec Ideal S512x2816 .bf16) (x1 : Vec Ideal S2816x1024 .bf16) (x2 : Vec Ideal S512x1024 .f32) : out6_3 x0 x1 x2 = k6_pay1 x0 x1 x2 := by
  unfold out6_3
  rw [View.canon_unit_zero hz]
  simp only [View.ld_unit_zero (S := S512x2816) hz, View.ld_unit_zero (S := S2816x1024) hz, View.ld_unit_zero (S := S512x1024) hz]

variable (V : (c : Dev nD) → (b : Ref sig .tc) → Buf (Elt Ideal) ((c : Thread nD τ).loc b)) (c : Dev nD)

/-- The gate before its swish. -/
theorem result_g {H G : Mat} (h0 : IsTile H 0 0 (V c main_arg0)) (h1 : IsTile G 0 0 (V c main_arg1)) :
    IsTile (nn H G 1024) 0 0 ((dat0 V c).arrAt 3 cfg0.N) := by
  refine whole ((dat0 V c).arrAt_eq_of_covers 3 _ (by decide +kernel) fun t hf y => ?_)
  have e0 : (((cfg0.win 3).blk t).view.emb y 0).val = t.val % 32 * 512 + (y 0).val := by blk_simp [place0_3]
  have e1 : (((cfg0.win 3).blk t).view.emb y 1).val = t.val / 32 * 1408 + (y 1).val := by blk_simp [place0_3]
  refine Eq.trans ?_ (congrArg₂ (nn H G 1024) e0 e1).symm
  blk_simp
  rw [after0_3]
  rw [out0_3_eq]
  exact g_tile (tile0_0 V c h0 t) (tile0_1 V c h1 t) y

/-- The other branch. -/
theorem result_u {H U : Mat} (h0 : IsTile H 0 0 (V c main_arg0)) (h2 : IsTile U 0 0 (V c main_arg2)) :
    IsTile (nn H U 1024) 0 0 ((dat0 V c).arrAt 4 cfg0.N) := by
  refine whole ((dat0 V c).arrAt_eq_of_covers 4 _ (by decide +kernel) fun t hf y => ?_)
  have e0 : (((cfg0.win 4).blk t).view.emb y 0).val = t.val % 32 * 512 + (y 0).val := by blk_simp [place0_4]
  have e1 : (((cfg0.win 4).blk t).view.emb y 1).val = t.val / 32 * 1408 + (y 1).val := by blk_simp [place0_4]
  refine Eq.trans ?_ (congrArg₂ (nn H U 1024) e0 e1).symm
  blk_simp
  rw [after0_4]
  rw [out0_4_eq]
  exact u_tile (tile0_0 V c h0 t) (tile0_2 V c h2 t) y

/-- The activation. -/
theorem result_a {H G U : Mat} (h0 : IsTile H 0 0 (V c main_arg0)) (h1 : IsTile G 0 0 (V c main_arg1)) (h2 : IsTile U 0 0 (V c main_arg2)) :
    IsTile (act (nn H G 1024) (nn H U 1024)) 0 0 ((dat0 V c).arrAt 5 cfg0.N) := by
  refine whole ((dat0 V c).arrAt_eq_of_covers 5 _ (by decide +kernel) fun t hf y => ?_)
  have e0 : (((cfg0.win 5).blk t).view.emb y 0).val = t.val % 32 * 512 + (y 0).val := by blk_simp [place0_5]
  have e1 : (((cfg0.win 5).blk t).view.emb y 1).val = t.val / 32 * 1408 + (y 1).val := by blk_simp [place0_5]
  refine Eq.trans ?_ (congrArg₂ (act (nn H G 1024) (nn H U 1024)) e0 e1).symm
  blk_simp
  rw [after0_5]
  rw [out0_5_eq]
  exact act_tile (tile0_0 V c h0 t) (tile0_1 V c h1 t) (tile0_2 V c h2 t) y

/-- The gate's gradient. -/
theorem result_dg {D W G U : Mat} (h0 : IsTile D 0 0 (V c main_arg4)) (h1 : IsTile W 0 0 (V c main_arg3)) (h2 : IsTile G 0 0 (V c main_v0_0)) (h3 : IsTile U 0 0 (V c main_v0_1)) :
    IsTile (dgate (nt D W 1024) G U) 0 0 ((dat1 V c).arrAt 4 cfg1.N) := by
  refine whole ((dat1 V c).arrAt_eq_of_covers 4 _ (by decide +kernel) fun t hf y => ?_)
  have e0 : (((cfg1.win 4).blk t).view.emb y 0).val = t.val % 32 * 512 + (y 0).val := by blk_simp [place1_4]
  have e1 : (((cfg1.win 4).blk t).view.emb y 1).val = t.val / 32 * 1408 + (y 1).val := by blk_simp [place1_4]
  refine Eq.trans ?_ (congrArg₂ (dgate (nt D W 1024) G U) e0 e1).symm
  blk_simp
  rw [after1_4]
  rw [out1_4_eq]
  exact dg_tile (tile1_0 V c h0 t) (tile1_1 V c h1 t) (tile1_2 V c h2 t) (tile1_3 V c h3 t) y

/-- The other branch's gradient. -/
theorem result_du {D W G : Mat} (h0 : IsTile D 0 0 (V c main_arg4)) (h1 : IsTile W 0 0 (V c main_arg3)) (h2 : IsTile G 0 0 (V c main_v0_0)) :
    IsTile (dbranch (nt D W 1024) G) 0 0 ((dat1 V c).arrAt 5 cfg1.N) := by
  refine whole ((dat1 V c).arrAt_eq_of_covers 5 _ (by decide +kernel) fun t hf y => ?_)
  have e0 : (((cfg1.win 5).blk t).view.emb y 0).val = t.val % 32 * 512 + (y 0).val := by blk_simp [place1_5]
  have e1 : (((cfg1.win 5).blk t).view.emb y 1).val = t.val / 32 * 1408 + (y 1).val := by blk_simp [place1_5]
  refine Eq.trans ?_ (congrArg₂ (dbranch (nt D W 1024) G) e0 e1).symm
  blk_simp
  rw [after1_5]
  rw [out1_5_eq]
  exact du_tile (tile1_0 V c h0 t) (tile1_1 V c h1 t) (tile1_2 V c h2 t) y

/-- The input's gradient. -/
theorem result_dh {A B C D : Mat} (h0 : IsTile A 0 0 (V c main_v1_0)) (h1 : IsTile B 0 0 (V c main_arg1)) (h2 : IsTile C 0 0 (V c main_v1_1)) (h3 : IsTile D 0 0 (V c main_arg2)) :
    IsTile (fun i k => nt A B 2816 i k + nt C D 2816 i k) 0 0 ((dat5 V c).arrAt 4 cfg5.N) := by
  refine whole ((dat5 V c).arrAt_eq_of_covers 4 _ (by decide +kernel) fun t hf y => ?_)
  have e0 : (((cfg5.win 4).blk t).view.emb y 0).val = t.val % 32 * 512 + (y 0).val := by blk_simp [place5_4]
  have e1 : (((cfg5.win 4).blk t).view.emb y 1).val = t.val / 32 * 512 + (y 1).val := by blk_simp [place5_4]
  refine Eq.trans ?_ (congrArg₂ (fun i k => nt A B 2816 i k + nt C D 2816 i k) e0 e1).symm
  blk_simp
  rw [after5_4]
  rw [out5_4_eq]
  exact dh_tile (tile5_0 V c h0 t) (tile5_1 V c h1 t) (tile5_2 V c h2 t) (tile5_3 V c h3 t) y

/-- The layer's output. -/
theorem result_xout {A W X : Mat} (h0 : IsTile A 0 0 (V c main_v0_2)) (h1 : IsTile W 0 0 (V c main_arg3)) (h2 : IsTile X 0 0 (V c main_arg5)) :
    IsTile (fun i k => X i k + nn A W 2816 i k) 0 0 ((dat6 V c).arrAt 3 cfg6.N) := by
  refine whole ((dat6 V c).arrAt_eq_of_covers 3 _ (by decide +kernel) fun t hf y => ?_)
  have e0 : (((cfg6.win 3).blk t).view.emb y 0).val = t.val * 512 + (y 0).val := by blk_simp [place6_3]
  have e1 : (((cfg6.win 3).blk t).view.emb y 1).val = 0 + (y 1).val := by blk_simp [place6_3]
  refine Eq.trans ?_ (congrArg₂ (fun i k => X i k + nn A W 2816 i k) e0 e1).symm
  blk_simp
  rw [after6_3, out6_3_eq]
  exact (xout_tile (tile6_0 V c h0 t) (tile6_1 V c h1 t) (tile6_2 V c h2 t) y).trans (by simp only [Nat.zero_add])

end Cert.Kernel3Ideal.Ffn
-- ==== Proof.FfnSums.lean ====
/- What the feed-forward layer's accumulating calls leave in their results. -/
module

public import proofs.«01_k».proof.Proof.FfnResults
public import Idealize.ShloMosaic.Lib.WritesUnit

@[expose] public section

set_option maxRecDepth 16384
set_option maxHeartbeats 400000

noncomputable section

namespace Cert.Kernel3Ideal.Ffn

open Cert.Kernel3Ideal Cert.Kernel3Ideal.Gen Idealize.ShloMosaic Idealize.ShloMosaic.TcCoe Idealize.ShloMosaic.Tactic Idealize.SL.Sem
open Cert.Ffn

/-- What call 2's point leaves in its result's block, at the first rows of a block. -/
theorem out2_A (c : Dev nD) (i : grid2.Coords) (arg3 : Memref sig .tc .vmem S1024x1408 .bf16) (harg3 : arg3.IsWhole) (arg4 : Memref sig .tc .vmem S1024x1024 .f32) (harg4 : arg4.IsWhole) (arg5 : Memref sig .tc .vmem S1408x1024 .f32) (harg5 : arg5.IsWhole) (hc0 : cond2_0 i) (x0 : Vec Ideal S1024x1408 .bf16) (x1 : Vec Ideal S1024x1024 .f32) :
    out2_A_2 c i arg3 harg3 arg4 harg4 arg5 harg5 hc0 x0 x1 = k2_pay2 k2_pay1 x0 x1 := by
  unfold out2_A_2
  rw [View.read_writes_eq_canon _ _ _ (cover2_A_2 c i arg3 harg3 arg4 harg4 arg5 harg5 hc0 x0 x1)]
  unfold kernelRun2_A
  dsimp only
  sl_unfold_words
  rw [View.canon_cons_unit_zero hz, View.readCov_eq_canon', View.canon_unit_zero hz]
  simp only [View.readAt_eq_ld, harg3.read_unread, harg4.read_unread, harg5.read_unread, View.ld_unit_zero (S := S1024x1024) hz, View.ld_unit_zero (S := S1024x1408) hz, View.ld_unit_zero (S := S1408x1024) hz]
  exact congrArg (fun z => k2_pay2 z x0 x1) (funext fun _ => rfl)

/-- What call 2's point leaves in its result's block, at any other rows. -/
theorem out2_B (c : Dev nD) (i : grid2.Coords) (arg3 : Memref sig .tc .vmem S1024x1408 .bf16) (harg3 : arg3.IsWhole) (arg4 : Memref sig .tc .vmem S1024x1024 .f32) (harg4 : arg4.IsWhole) (arg5 : Memref sig .tc .vmem S1408x1024 .f32) (harg5 : arg5.IsWhole) (hc0 : ¬cond2_0 i) (x0 : Vec Ideal S1024x1408 .bf16) (x1 : Vec Ideal S1024x1024 .f32) (xo2 : Vec Ideal S1408x1024 .f32) :
    out2_B_2 c i arg3 harg3 arg4 harg4 arg5 harg5 hc0 x0 x1 xo2 = k2_pay2 xo2 x0 x1 := by
  unfold out2_B_2
  rw [View.read_writes_eq_canon _ _ _ (cover2_B_2 c i arg3 harg3 arg4 harg4 arg5 harg5 hc0 x0 x1 xo2)]
  unfold kernelRun2_B
  dsimp only
  sl_unfold_words
  rw [View.canon_unit_zero hz]
  simp only [View.readAt_eq_ld, harg3.read_unread, harg4.read_unread, harg5.read_unread, View.ld_unit_zero (S := S1024x1024) hz, View.ld_unit_zero (S := S1024x1408) hz, View.ld_unit_zero (S := S1408x1024) hz]

/-- What call 3's point leaves in its result's block, at the first rows of a block. -/
theorem out3_A (c : Dev nD) (i : grid3.Coords) (arg3 : Memref sig .tc .vmem S1024x1024 .bf16) (harg3 : arg3.IsWhole) (arg4 : Memref sig .tc .vmem S1024x1408 .bf16) (harg4 : arg4.IsWhole) (arg5 : Memref sig .tc .vmem S1024x1408 .f32) (harg5 : arg5.IsWhole) (hc0 : cond3_0 i) (x0 : Vec Ideal S1024x1024 .bf16) (x1 : Vec Ideal S1024x1408 .bf16) :
    out3_A_2 c i arg3 harg3 arg4 harg4 arg5 harg5 hc0 x0 x1 = k3_pay2 k3_pay1 x0 x1 := by
  unfold out3_A_2
  rw [View.read_writes_eq_canon _ _ _ (cover3_A_2 c i arg3 harg3 arg4 harg4 arg5 harg5 hc0 x0 x1)]
  unfold kernelRun3_A
  dsimp only
  sl_unfold_words
  rw [View.canon_cons_unit_zero hz, View.readCov_eq_canon', View.canon_unit_zero hz]
  simp only [View.readAt_eq_ld, harg3.read_unread, harg4.read_unread, harg5.read_unread, View.ld_unit_zero (S := S1024x1024) hz, View.ld_unit_zero (S := S1024x1408) hz, View.ld_unit_zero (S := S1408x1024) hz]
  exact congrArg (fun z => k3_pay2 z x0 x1) (funext fun _ => rfl)

/-- What call 3's point leaves in its result's block, at any other rows. -/
theorem out3_B (c : Dev nD) (i : grid3.Coords) (arg3 : Memref sig .tc .vmem S1024x1024 .bf16) (harg3 : arg3.IsWhole) (arg4 : Memref sig .tc .vmem S1024x1408 .bf16) (harg4 : arg4.IsWhole) (arg5 : Memref sig .tc .vmem S1024x1408 .f32) (harg5 : arg5.IsWhole) (hc0 : ¬cond3_0 i) (x0 : Vec Ideal S1024x1024 .bf16) (x1 : Vec Ideal S1024x1408 .bf16) (xo2 : Vec Ideal S1024x1408 .f32) :
    out3_B_2 c i arg3 harg3 arg4 harg4 arg5 harg5 hc0 x0 x1 xo2 = k3_pay2 xo2 x0 x1 := by
  unfold out3_B_2
  rw [View.read_writes_eq_canon _ _ _ (cover3_B_2 c i arg3 harg3 arg4 harg4 arg5 harg5 hc0 x0 x1 xo2)]
  unfold kernelRun3_B
  dsimp only
  sl_unfold_words
  rw [View.canon_unit_zero hz]
  simp only [View.readAt_eq_ld, harg3.read_unread, harg4.read_unread, harg5.read_unread, View.ld_unit_zero (S := S1024x1024) hz, View.ld_unit_zero (S := S1024x1408) hz, View.ld_unit_zero (S := S1408x1024) hz]

/-- What call 4's point leaves in its result's block, at the first rows of a block. -/
theorem out4_A (c : Dev nD) (i : grid4.Coords) (arg3 : Memref sig .tc .vmem S1024x1024 .bf16) (harg3 : arg3.IsWhole) (arg4 : Memref sig .tc .vmem S1024x1408 .bf16) (harg4 : arg4.IsWhole) (arg5 : Memref sig .tc .vmem S1024x1408 .f32) (harg5 : arg5.IsWhole) (hc0 : cond4_0 i) (x0 : Vec Ideal S1024x1024 .bf16) (x1 : Vec Ideal S1024x1408 .bf16) :
    out4_A_2 c i arg3 harg3 arg4 harg4 arg5 harg5 hc0 x0 x1 = k4_pay2 k4_pay1 x0 x1 := by
  unfold out4_A_2
  rw [View.read_writes_eq_canon _ _ _ (cover4_A_2 c i arg3 harg3 arg4 harg4 arg5 harg5 hc0 x0 x1)]
  unfold kernelRun4_A
  dsimp only
  sl_unfold_words
  rw [View.canon_cons_unit_zero hz, View.readCov_eq_canon', View.canon_unit_zero hz]
  simp only [View.readAt_eq_ld, harg3.read_unread, harg4.read_unread, harg5.read_unread, View.ld_unit_zero (S := S1024x1024) hz, View.ld_unit_zero (S := S1024x1408) hz, View.ld_unit_zero (S := S1408x1024) hz]
  exact congrArg (fun z => k4_pay2 z x0 x1) (funext fun _ => rfl)

/-- What call 4's point leaves in its result's block, at any other rows. -/
theorem out4_B (c : Dev nD) (i : grid4.Coords) (arg3 : Memref sig .tc .vmem S1024x1024 .bf16) (harg3 : arg3.IsWhole) (arg4 : Memref sig .tc .vmem S1024x1408 .bf16) (harg4 : arg4.IsWhole) (arg5 : Memref sig .tc .vmem S1024x1408 .f32) (harg5 : arg5.IsWhole) (hc0 : ¬cond4_0 i) (x0 : Vec Ideal S1024x1024 .bf16) (x1 : Vec Ideal S1024x1408 .bf16) (xo2 : Vec Ideal S1024x1408 .f32) :
    out4_B_2 c i arg3 harg3 arg4 harg4 arg5 harg5 hc0 x0 x1 xo2 = k4_pay2 xo2 x0 x1 := by
  unfold out4_B_2
  rw [View.read_writes_eq_canon _ _ _ (cover4_B_2 c i arg3 harg3 arg4 harg4 arg5 harg5 hc0 x0 x1 xo2)]
  unfold kernelRun4_B
  dsimp only
  sl_unfold_words
  rw [View.canon_unit_zero hz]
  simp only [View.readAt_eq_ld, harg3.read_unread, harg4.read_unread, harg5.read_unread, View.ld_unit_zero (S := S1024x1024) hz, View.ld_unit_zero (S := S1024x1408) hz, View.ld_unit_zero (S := S1408x1024) hz]

variable (V : (c : Dev nD) → (b : Ref sig .tc) → Buf (Elt Ideal) ((c : Thread nD τ).loc b)) (c : Dev nD)

/-- The last weights' gradient's block after a point: the sum over the rows so far. -/
theorem part_down {A D : Mat} (hA : IsTile A 0 0 (V c main_v0_2)) (hD : IsTile D 0 0 (V c main_arg4)) :
    ∀ (n : Nat) (hn : n < cfg2.N), IsTile (tn A D (n % 16 * 1024 + 1024)) (n / 16 * 1408) (0) (outsAt2 V c n hn)
  | n, hn => by
    have hx : IsTile A (n % 16 * 1024) (n / 16 * 1408) (iblk2 V c 0 ⟨n, hn⟩) := tile2_0 V c hA ⟨n, hn⟩
    have hy : IsTile D (n % 16 * 1024) 0 (iblk2 V c 1 ⟨n, hn⟩) := tile2_1 V c hD ⟨n, hn⟩
    by_cases h0 : n % 16 = 0
    · have e : outsAt2 V c n hn = k2_pay2 k2_pay1 (iblk2 V c 0 ⟨n, hn⟩) (iblk2 V c 1 ⟨n, hn⟩) := by
        rw [outsAt2_A V c ⟨n, hn⟩ h0]
        apply out2_A
      rw [h0, Nat.zero_mul] at hx hy
      rw [e, h0, Nat.zero_mul]
      exact down_tile (down_zero A D _ _) hx hy
    · have e : outsAt2 V c n hn = k2_pay2 (outsAt2 V c (n - 1) (Nat.lt_of_le_of_lt (Nat.sub_le _ _) hn)) (iblk2 V c 0 ⟨n, hn⟩) (iblk2 V c 1 ⟨n, hn⟩) := by
        rw [outsAt2_B V c ⟨n, hn⟩ h0]
        apply out2_B
      have i := part_down hA hD (n - 1) (Nat.lt_of_le_of_lt (Nat.sub_le _ _) hn)
      rw [show (n - 1) % 16 * 1024 + 1024 = n % 16 * 1024 by omega, show (n - 1) / 16 = n / 16 by omega] at i
      rw [e]
      exact down_tile i hx hy
  termination_by n => n
  decreasing_by omega

/-- The last weights' gradient. -/
theorem result_down {A D : Mat} (hA : IsTile A 0 0 (V c main_v0_2)) (hD : IsTile D 0 0 (V c main_arg4)) :
    IsTile (tn A D 16384) 0 0 ((dat2 V c).arrAt 2 cfg2.N) := by
  refine whole ((dat2 V c).arrAt_eq_of_covers 2 _ (by decide +kernel) fun t hf y => ?_)
  have ht : t.val % 16 = 15 := (by decide +kernel : ∀ t : Fin cfg2.N, (cfg2.win 2).flush t = true → t.val % 16 = 15) t hf
  have e0 : (((cfg2.win 2).blk t).view.emb y 0).val = t.val / 16 * 1408 + (y 0).val := by blk_simp [place2_2]
  have e1 : (((cfg2.win 2).blk t).view.emb y 1).val = 0 + (y 1).val := by blk_simp [place2_2]
  refine Eq.trans ?_ (congrArg₂ (tn A D 16384) e0 e1).symm
  blk_simp
  rw [after2_2]
  have q := part_down V c hA hD t.val t.isLt y
  rw [ht, show 15 * 1024 + 1024 = 16384 from rfl, Nat.zero_add] at q
  exact q

/-- The gate weights' gradient's block after a point: the sum over the rows so far. -/
theorem part_gate {A D : Mat} (hA : IsTile A 0 0 (V c main_arg0)) (hD : IsTile D 0 0 (V c main_v1_0)) :
    ∀ (n : Nat) (hn : n < cfg3.N), IsTile (tn A D (n % 16 * 1024 + 1024)) (0) (n / 16 * 1408) (outsAt3 V c n hn)
  | n, hn => by
    have hx : IsTile A (n % 16 * 1024) 0 (iblk3 V c 0 ⟨n, hn⟩) := tile3_0 V c hA ⟨n, hn⟩
    have hy : IsTile D (n % 16 * 1024) (n / 16 * 1408) (iblk3 V c 1 ⟨n, hn⟩) := tile3_1 V c hD ⟨n, hn⟩
    by_cases h0 : n % 16 = 0
    · have e : outsAt3 V c n hn = k3_pay2 k3_pay1 (iblk3 V c 0 ⟨n, hn⟩) (iblk3 V c 1 ⟨n, hn⟩) := by
        rw [outsAt3_A V c ⟨n, hn⟩ h0]
        apply out3_A
      rw [h0, Nat.zero_mul] at hx hy
      rw [e, h0, Nat.zero_mul]
      exact gate_tile (gate_zero A D _ _) hx hy
    · have e : outsAt3 V c n hn = k3_pay2 (outsAt3 V c (n - 1) (Nat.lt_of_le_of_lt (Nat.sub_le _ _) hn)) (iblk3 V c 0 ⟨n, hn⟩) (iblk3 V c 1 ⟨n, hn⟩) := by
        rw [outsAt3_B V c ⟨n, hn⟩ h0]
        apply out3_B
      have i := part_gate hA hD (n - 1) (Nat.lt_of_le_of_lt (Nat.sub_le _ _) hn)
      rw [show (n - 1) % 16 * 1024 + 1024 = n % 16 * 1024 by omega, show (n - 1) / 16 = n / 16 by omega] at i
      rw [e]
      exact gate_tile i hx hy
  termination_by n => n
  decreasing_by omega

/-- The gate weights' gradient. -/
theorem result_gate {A D : Mat} (hA : IsTile A 0 0 (V c main_arg0)) (hD : IsTile D 0 0 (V c main_v1_0)) :
    IsTile (tn A D 16384) 0 0 ((dat3 V c).arrAt 2 cfg3.N) := by
  refine whole ((dat3 V c).arrAt_eq_of_covers 2 _ (by decide +kernel) fun t hf y => ?_)
  have ht : t.val % 16 = 15 := (by decide +kernel : ∀ t : Fin cfg3.N, (cfg3.win 2).flush t = true → t.val % 16 = 15) t hf
  have e0 : (((cfg3.win 2).blk t).view.emb y 0).val = 0 + (y 0).val := by blk_simp [place3_2]
  have e1 : (((cfg3.win 2).blk t).view.emb y 1).val = t.val / 16 * 1408 + (y 1).val := by blk_simp [place3_2]
  refine Eq.trans ?_ (congrArg₂ (tn A D 16384) e0 e1).symm
  blk_simp
  rw [after3_2]
  have q := part_gate V c hA hD t.val t.isLt y
  rw [ht, show 15 * 1024 + 1024 = 16384 from rfl, Nat.zero_add] at q
  exact q

/-- The other branch's weights' gradient's block after a point: the sum over the rows so far. -/
theorem part_branch {A D : Mat} (hA : IsTile A 0 0 (V c main_arg0)) (hD : IsTile D 0 0 (V c main_v1_1)) :
    ∀ (n : Nat) (hn : n < cfg4.N), IsTile (tn A D (n % 16 * 1024 + 1024)) (0) (n / 16 * 1408) (outsAt4 V c n hn)
  | n, hn => by
    have hx : IsTile A (n % 16 * 1024) 0 (iblk4 V c 0 ⟨n, hn⟩) := tile4_0 V c hA ⟨n, hn⟩
    have hy : IsTile D (n % 16 * 1024) (n / 16 * 1408) (iblk4 V c 1 ⟨n, hn⟩) := tile4_1 V c hD ⟨n, hn⟩
    by_cases h0 : n % 16 = 0
    · have e : outsAt4 V c n hn = k4_pay2 k4_pay1 (iblk4 V c 0 ⟨n, hn⟩) (iblk4 V c 1 ⟨n, hn⟩) := by
        rw [outsAt4_A V c ⟨n, hn⟩ h0]
        apply out4_A
      rw [h0, Nat.zero_mul] at hx hy
      rw [e, h0, Nat.zero_mul]
      exact branch_tile (branch_zero A D _ _) hx hy
    · have e : outsAt4 V c n hn = k4_pay2 (outsAt4 V c (n - 1) (Nat.lt_of_le_of_lt (Nat.sub_le _ _) hn)) (iblk4 V c 0 ⟨n, hn⟩) (iblk4 V c 1 ⟨n, hn⟩) := by
        rw [outsAt4_B V c ⟨n, hn⟩ h0]
        apply out4_B
      have i := part_branch hA hD (n - 1) (Nat.lt_of_le_of_lt (Nat.sub_le _ _) hn)
      rw [show (n - 1) % 16 * 1024 + 1024 = n % 16 * 1024 by omega, show (n - 1) / 16 = n / 16 by omega] at i
      rw [e]
      exact branch_tile i hx hy
  termination_by n => n
  decreasing_by omega

/-- The other branch's weights' gradient. -/
theorem result_branch {A D : Mat} (hA : IsTile A 0 0 (V c main_arg0)) (hD : IsTile D 0 0 (V c main_v1_1)) :
    IsTile (tn A D 16384) 0 0 ((dat4 V c).arrAt 2 cfg4.N) := by
  refine whole ((dat4 V c).arrAt_eq_of_covers 2 _ (by decide +kernel) fun t hf y => ?_)
  have ht : t.val % 16 = 15 := (by decide +kernel : ∀ t : Fin cfg4.N, (cfg4.win 2).flush t = true → t.val % 16 = 15) t hf
  have e0 : (((cfg4.win 2).blk t).view.emb y 0).val = 0 + (y 0).val := by blk_simp [place4_2]
  have e1 : (((cfg4.win 2).blk t).view.emb y 1).val = t.val / 16 * 1408 + (y 1).val := by blk_simp [place4_2]
  refine Eq.trans ?_ (congrArg₂ (tn A D 16384) e0 e1).symm
  blk_simp
  rw [after4_2]
  have q := part_branch V c hA hD t.val t.isLt y
  rw [ht, show 15 * 1024 + 1024 = 16384 from rfl, Nat.zero_add] at q
  exact q

end Cert.Kernel3Ideal.Ffn
-- ==== Proof.FfnValue.lean ====
/- What the feed-forward layer's seven calls leave in their five results at the end of the run. -/
module

public import proofs.«01_k».proof.Proof.FfnSums

@[expose] public section

set_option maxRecDepth 16384
set_option maxHeartbeats 400000

noncomputable section

namespace Cert.Kernel3Ideal.Ffn

open Cert.Kernel3Ideal Cert.Kernel3Ideal.Gen Idealize.ShloMosaic Idealize.ShloMosaic.TcCoe Idealize.SL.Sem
open Cert.Ffn
open Cert.Conv (at2 at2_eq)

variable (m : (l : Loc nD τ sig) → Buf (Elt Ideal) l) (ρ : Dev nD → PrngReg) (c : Dev nD)

/-- The input. -/
def inH : Mat := at2 (m := 16384) (n := 1024) (m ((c.tc : Thread nD τ).loc main_arg0))
/-- The gate weights. -/
def inG : Mat := at2 (m := 1024) (n := 2816) (m ((c.tc : Thread nD τ).loc main_arg1))
/-- The other branch's weights. -/
def inU : Mat := at2 (m := 1024) (n := 2816) (m ((c.tc : Thread nD τ).loc main_arg2))
/-- The last weights. -/
def inW : Mat := at2 (m := 2816) (n := 1024) (m ((c.tc : Thread nD τ).loc main_arg3))
/-- The output's gradient. -/
def inD : Mat := at2 (m := 16384) (n := 1024) (m ((c.tc : Thread nD τ).loc main_arg4))

/-- What came into the layer. -/
def inX : Mat := at2 (m := 16384) (n := 1024) (m ((c.tc : Thread nD τ).loc main_arg5))

/- The arguments are as they were at every call. -/
theorem at0_arg0 : IsTile (inH m c) 0 0 (V0 m ρ c main_arg0) := by
  have e : V0 m ρ c main_arg0 = m ((c.tc : Thread nD τ).loc main_arg0) := W0_args m ρ c main_arg0 (by decide)
  rw [e]
  exact tile_at2 _
theorem at0_arg1 : IsTile (inG m c) 0 0 (V0 m ρ c main_arg1) := by
  have e : V0 m ρ c main_arg1 = m ((c.tc : Thread nD τ).loc main_arg1) := W0_args m ρ c main_arg1 (by decide)
  rw [e]
  exact tile_at2 _
theorem at0_arg2 : IsTile (inU m c) 0 0 (V0 m ρ c main_arg2) := by
  have e : V0 m ρ c main_arg2 = m ((c.tc : Thread nD τ).loc main_arg2) := W0_args m ρ c main_arg2 (by decide)
  rw [e]
  exact tile_at2 _
theorem at1_arg3 : IsTile (inW m c) 0 0 (V1 m ρ c main_arg3) := by
  have e : V1 m ρ c main_arg3 = m ((c.tc : Thread nD τ).loc main_arg3) := W1_args m ρ c main_arg3 (by decide)
  rw [e]
  exact tile_at2 _
theorem at1_arg4 : IsTile (inD m c) 0 0 (V1 m ρ c main_arg4) := by
  have e : V1 m ρ c main_arg4 = m ((c.tc : Thread nD τ).loc main_arg4) := W1_args m ρ c main_arg4 (by decide)
  rw [e]
  exact tile_at2 _
theorem at2_arg4 : IsTile (inD m c) 0 0 (V2 m ρ c main_arg4) := by
  have e : V2 m ρ c main_arg4 = m ((c.tc : Thread nD τ).loc main_arg4) := W2_args m ρ c main_arg4 (by decide)
  rw [e]
  exact tile_at2 _
theorem at3_arg0 : IsTile (inH m c) 0 0 (V3 m ρ c main_arg0) := by
  have e : V3 m ρ c main_arg0 = m ((c.tc : Thread nD τ).loc main_arg0) := W3_args m ρ c main_arg0 (by decide)
  rw [e]
  exact tile_at2 _
theorem at4_arg0 : IsTile (inH m c) 0 0 (V4 m ρ c main_arg0) := by
  have e : V4 m ρ c main_arg0 = m ((c.tc : Thread nD τ).loc main_arg0) := W4_args m ρ c main_arg0 (by decide)
  rw [e]
  exact tile_at2 _
theorem at5_arg1 : IsTile (inG m c) 0 0 (V5 m ρ c main_arg1) := by
  have e : V5 m ρ c main_arg1 = m ((c.tc : Thread nD τ).loc main_arg1) := W5_args m ρ c main_arg1 (by decide)
  rw [e]
  exact tile_at2 _
theorem at5_arg2 : IsTile (inU m c) 0 0 (V5 m ρ c main_arg2) := by
  have e : V5 m ρ c main_arg2 = m ((c.tc : Thread nD τ).loc main_arg2) := W5_args m ρ c main_arg2 (by decide)
  rw [e]
  exact tile_at2 _
theorem at6_arg3 : IsTile (inW m c) 0 0 (V6 m ρ c main_arg3) := by
  have e : V6 m ρ c main_arg3 = m ((c.tc : Thread nD τ).loc main_arg3) := W6_args m ρ c main_arg3 (by decide)
  rw [e]
  exact tile_at2 _
theorem at6_arg5 : IsTile (inX m c) 0 0 (V6 m ρ c main_arg5) := by
  have e : V6 m ρ c main_arg5 = m ((c.tc : Thread nD τ).loc main_arg5) := W6_args m ρ c main_arg5 (by decide)
  rw [e]
  exact tile_at2 _

/-- The gate, when the second call reads it. -/
theorem at1_g : IsTile (g (inH m c) (inG m c)) 0 0 (V1 m ρ c main_v0_0) := by
  have e : V1 m ρ c main_v0_0 = (dat0 (V0 m ρ) c).arrAt 3 cfg0.N := W1_arr m ρ c 3
  rw [e]
  exact result_g _ c (at0_arg0 m ρ c) (at0_arg1 m ρ c)

/-- The other branch, when the second call reads it. -/
theorem at1_u : IsTile (u (inH m c) (inU m c)) 0 0 (V1 m ρ c main_v0_1) := by
  have e : V1 m ρ c main_v0_1 = (dat0 (V0 m ρ) c).arrAt 4 cfg0.N := W1_arr m ρ c 4
  rw [e]
  exact result_u _ c (at0_arg0 m ρ c) (at0_arg2 m ρ c)

/-- The activation, when the third call reads it. -/
theorem at2_a : IsTile (act (g (inH m c) (inG m c)) (u (inH m c) (inU m c))) 0 0 (V2 m ρ c main_v0_2) := by
  have e : V2 m ρ c main_v0_2 = (dat0 (V0 m ρ) c).arrAt 5 cfg0.N := (W2_of m ρ c main_v0_2 (by decide +kernel)).trans (W1_arr m ρ c 5)
  rw [e]
  exact result_a _ c (at0_arg0 m ρ c) (at0_arg1 m ρ c) (at0_arg2 m ρ c)

/-- The gate's gradient, when the fourth call reads it. -/
theorem at3_dg : IsTile (dg (inH m c) (inG m c) (inU m c) (inW m c) (inD m c)) 0 0 (V3 m ρ c main_v1_0) := by
  have e : V3 m ρ c main_v1_0 = (dat1 (V1 m ρ) c).arrAt 4 cfg1.N := (W3_of m ρ c main_v1_0 (by decide +kernel)).trans (W2_arr m ρ c 4)
  rw [e]
  exact result_dg _ c (at1_arg4 m ρ c) (at1_arg3 m ρ c) (at1_g m ρ c) (at1_u m ρ c)

/-- The other branch's gradient, when the fifth call reads it. -/
theorem at4_du : IsTile (du (inH m c) (inG m c) (inW m c) (inD m c)) 0 0 (V4 m ρ c main_v1_1) := by
  have e : V4 m ρ c main_v1_1 = (dat1 (V1 m ρ) c).arrAt 5 cfg1.N := (W4_of m ρ c main_v1_1 (by decide +kernel)).trans ((W3_of m ρ c main_v1_1 (by decide +kernel)).trans (W2_arr m ρ c 5))
  rw [e]
  exact result_du _ c (at1_arg4 m ρ c) (at1_arg3 m ρ c) (at1_g m ρ c)

/-- The gate's gradient, when the sixth call reads it. -/
theorem at5_dg : IsTile (dg (inH m c) (inG m c) (inU m c) (inW m c) (inD m c)) 0 0 (V5 m ρ c main_v1_0) := by
  have e : V5 m ρ c main_v1_0 = (dat1 (V1 m ρ) c).arrAt 4 cfg1.N := (W5_of m ρ c main_v1_0 (by decide +kernel)).trans ((W4_of m ρ c main_v1_0 (by decide +kernel)).trans ((W3_of m ρ c main_v1_0 (by decide +kernel)).trans (W2_arr m ρ c 4)))
  rw [e]
  exact result_dg _ c (at1_arg4 m ρ c) (at1_arg3 m ρ c) (at1_g m ρ c) (at1_u m ρ c)

/-- The other branch's gradient, when the sixth call reads it. -/
theorem at5_du : IsTile (du (inH m c) (inG m c) (inW m c) (inD m c)) 0 0 (V5 m ρ c main_v1_1) := by
  have e : V5 m ρ c main_v1_1 = (dat1 (V1 m ρ) c).arrAt 5 cfg1.N := (W5_of m ρ c main_v1_1 (by decide +kernel)).trans ((W4_of m ρ c main_v1_1 (by decide +kernel)).trans ((W3_of m ρ c main_v1_1 (by decide +kernel)).trans (W2_arr m ρ c 5)))
  rw [e]
  exact result_du _ c (at1_arg4 m ρ c) (at1_arg3 m ρ c) (at1_g m ρ c)

/-- The last weights' gradient at the end. -/
theorem at7_dwd : IsTile (dwd (inH m c) (inG m c) (inU m c) (inD m c)) 0 0 (V7 m ρ c main_v2) := by
  have e : V7 m ρ c main_v2 = (dat2 (V2 m ρ) c).arrAt 2 cfg2.N := (W7_of m ρ c main_v2 (by decide +kernel)).trans ((W6_of m ρ c main_v2 (by decide +kernel)).trans ((W5_of m ρ c main_v2 (by decide +kernel)).trans ((W4_of m ρ c main_v2 (by decide +kernel)).trans (W3_arr m ρ c 2))))
  rw [e]
  exact result_down _ c (at2_a m ρ c) (at2_arg4 m ρ c)

/-- The gate weights' gradient at the end. -/
theorem at7_dwg : IsTile (dwg (inH m c) (inG m c) (inU m c) (inW m c) (inD m c)) 0 0 (V7 m ρ c main_v3) := by
  have e : V7 m ρ c main_v3 = (dat3 (V3 m ρ) c).arrAt 2 cfg3.N := (W7_of m ρ c main_v3 (by decide +kernel)).trans ((W6_of m ρ c main_v3 (by decide +kernel)).trans ((W5_of m ρ c main_v3 (by decide +kernel)).trans (W4_arr m ρ c 2)))
  rw [e]
  exact result_gate _ c (at3_arg0 m ρ c) (at3_dg m ρ c)

/-- The other branch's weights' gradient at the end. -/
theorem at7_dwu : IsTile (dwu (inH m c) (inG m c) (inW m c) (inD m c)) 0 0 (V7 m ρ c main_v4) := by
  have e : V7 m ρ c main_v4 = (dat4 (V4 m ρ) c).arrAt 2 cfg4.N := (W7_of m ρ c main_v4 (by decide +kernel)).trans ((W6_of m ρ c main_v4 (by decide +kernel)).trans (W5_arr m ρ c 2))
  rw [e]
  exact result_branch _ c (at4_arg0 m ρ c) (at4_du m ρ c)

/-- The input's gradient at the end. -/
theorem at7_dh : IsTile (dh (inH m c) (inG m c) (inU m c) (inW m c) (inD m c)) 0 0 (V7 m ρ c main_v5) := by
  have e : V7 m ρ c main_v5 = (dat5 (V5 m ρ) c).arrAt 4 cfg5.N := (W7_of m ρ c main_v5 (by decide +kernel)).trans (W6_arr m ρ c 4)
  rw [e]
  exact result_dh _ c (at5_dg m ρ c) (at5_arg1 m ρ c) (at5_du m ρ c) (at5_arg2 m ρ c)

/-- The activation, when the last call reads it. -/
theorem at6_a : IsTile (act (g (inH m c) (inG m c)) (u (inH m c) (inU m c))) 0 0 (V6 m ρ c main_v0_2) := by
  have e : V6 m ρ c main_v0_2 = (dat0 (V0 m ρ) c).arrAt 5 cfg0.N := (W6_of m ρ c main_v0_2 (by decide +kernel)).trans ((W5_of m ρ c main_v0_2 (by decide +kernel)).trans ((W4_of m ρ c main_v0_2 (by decide +kernel)).trans ((W3_of m ρ c main_v0_2 (by decide +kernel)).trans ((W2_of m ρ c main_v0_2 (by decide +kernel)).trans (W1_arr m ρ c 5)))))
  rw [e]
  exact result_a _ c (at0_arg0 m ρ c) (at0_arg1 m ρ c) (at0_arg2 m ρ c)

/-- The layer's output at the end. -/
theorem at7_xout : IsTile (xout (inH m c) (inG m c) (inU m c) (inW m c) (inX m c)) 0 0 (V7 m ρ c main_v6) := by
  have e : V7 m ρ c main_v6 = (dat6 (V6 m ρ) c).arrAt 3 cfg6.N := W7_arr m ρ c 3
  rw [e]
  exact result_xout _ c (at6_a m ρ c) (at6_arg3 m ρ c) (at6_arg5 m ρ c)

end Cert.Kernel3Ideal.Ffn
-- ==== Proof.FfnRef.lean ====
/- What the feed-forward layer's reference computes, array by array. -/
module

public import proofs.«01_k».proof.Proof.FfnSpec
public import proofs.«01_k».proof.Proof.Gen.Reference3Ideal.Read
public import Idealize.ShloMosaic.Lib.Pointwise

@[expose] public section

set_option maxRecDepth 16384
set_option maxHeartbeats 400000

noncomputable section

namespace Cert.Reference3Ideal.Ffn

open Cert.Reference3Ideal Cert.Reference3Ideal.Gen Cert.Reference3Ideal.Read Idealize.ShloMosaic Idealize.ShloMosaic.TcCoe Idealize.SL.Sem
open Cert.Ffn
open Cert.Conv (at2 at2_eq)

variable {H G U W D X : Mat} {x0 : (⟨S16384x1024, .bf16⟩ : BufTy).Contents (Elt Ideal)} {x1 x2 : (⟨S1024x2816, .bf16⟩ : BufTy).Contents (Elt Ideal)}
  {x3 : (⟨S2816x1024, .bf16⟩ : BufTy).Contents (Elt Ideal)} {x4 x5 : (⟨S16384x1024, .f32⟩ : BufTy).Contents (Elt Ideal)}

/-- The gate before its swish. -/
theorem gate (h0 : IsTile H 0 0 x0) (h1 : IsTile G 0 0 x1) : IsTile (g H G) 0 0 (val_main_v4 (F := Ideal) x0 x1) := of_entries fun i => by
  rw [val_main_v4_apply]
  unfold g nn
  rw [Finset.sum_range]
  exact Finset.sum_congr rfl fun k _ => congrArg₂ (· * ·) (entry h0 _ _ _ rfl rfl) (entry h1 _ _ _ rfl rfl)

/-- The other branch. -/
theorem branch (h0 : IsTile H 0 0 x0) (h2 : IsTile U 0 0 x2) : IsTile (u H U) 0 0 (val_main_v6 (F := Ideal) x0 x2) := of_entries fun i => by
  rw [val_main_v6_apply]
  unfold u nn
  rw [Finset.sum_range]
  exact Finset.sum_congr rfl fun k _ => congrArg₂ (· * ·) (entry h0 _ _ _ rfl rfl) (entry h2 _ _ _ rfl rfl)

/-- The activation's gradient. -/
theorem grad (h3 : IsTile W 0 0 x3) (h4 : IsTile D 0 0 x4) : IsTile (da W D) 0 0 (val_main_v11 (F := Ideal) x3 x4) := of_entries fun i => by
  rw [val_main_v11_apply]
  unfold da nt
  rw [Finset.sum_range]
  exact Finset.sum_congr rfl fun k _ => congrArg₂ (· * ·) (entry h4 _ _ _ rfl rfl) (entry h3 _ _ _ rfl rfl)

/-- The gate's logistic function. -/
theorem sigma (i : S16384x2816.Idx) : val_main_v5_2 (F := Ideal) x0 x1 i = Ideal.logistic (val_main_v4 (F := Ideal) x0 x1 i) := by
  pointwise [val_main_v5_2, val_main_call0_v4, val_main_call0_v3, val_main_call0_v2, val_main_call0_v1, val_main_call0_v0, val_main_call0_cst, val_main_call0_cst_0]
  rfl

/-- One less it. -/
theorem cosigma (i : S16384x2816.Idx) : val_main_call0_v7 (F := Ideal) x0 x1 i = 1 - Ideal.logistic (val_main_v4 (F := Ideal) x0 x1 i) := by
  have h := sigma (x0 := x0) (x1 := x1) i
  show val_main_call0_v6 (F := Ideal) i - val_main_v5_2 (F := Ideal) x0 x1 i = _
  rw [h]
  refine congrArg (· - _) ?_
  pointwise [val_main_call0_v6, val_main_call0_cst_1]

/-- The activation. -/
theorem activation (h0 : IsTile H 0 0 x0) (h1 : IsTile G 0 0 x1) (h2 : IsTile U 0 0 x2) :
    IsTile (act (g H G) (u H U)) 0 0 (val_main_v7 (F := Ideal) x0 x1 x2) := fun i => by
  show val_main_v4 (F := Ideal) x0 x1 i * val_main_v5_2 (F := Ideal) x0 x1 i * val_main_v6 (F := Ideal) x0 x2 i = _
  rw [sigma, gate h0 h1, branch h0 h2]
  rfl

/-- The other branch's gradient. -/
theorem gradBranch (h0 : IsTile H 0 0 x0) (h1 : IsTile G 0 0 x1) (h3 : IsTile W 0 0 x3) (h4 : IsTile D 0 0 x4) :
    IsTile (du H G W D) 0 0 (val_main_v12 (F := Ideal) x0 x1 x3 x4) := fun i => by
  show val_main_v4 (F := Ideal) x0 x1 i * val_main_v5_2 (F := Ideal) x0 x1 i * val_main_v11 (F := Ideal) x3 x4 i = _
  rw [sigma, gate h0 h1, grad h3 h4]
  exact (mul_comm _ _).trans (mul_assoc _ _ _).symm

/-- The gate's gradient, where the input, the weights of the other branch, the last weights and the output's gradient are reals. -/
theorem gradGate (h0 : IsTile H 0 0 x0) (h1 : IsTile G 0 0 x1) (h2 : IsTile U 0 0 x2) (h3 : IsTile W 0 0 x3) (h4 : IsTile D 0 0 x4)
    (rH : ∀ r c, ∃ x : ℝ, H r c = x) (rU : ∀ r c, ∃ x : ℝ, U r c = x) (rW : ∀ r c, ∃ x : ℝ, W r c = x) (rD : ∀ r c, ∃ x : ℝ, D r c = x) :
    IsTile (dg H G U W D) 0 0 (val_main_v17 (F := Ideal) x0 x1 x2 x3 x4) := fun i => by
  show val_main_v11 (F := Ideal) x3 x4 i * val_main_v6 (F := Ideal) x0 x2 i * val_main_v5_2 (F := Ideal) x0 x1 i
    + val_main_v4 (F := Ideal) x0 x1 i * (val_main_v11 (F := Ideal) x3 x4 i * val_main_v6 (F := Ideal) x0 x2 i) * (val_main_v5_2 (F := Ideal) x0 x1 i * val_main_call0_v7 (F := Ideal) x0 x1 i) = _
  rw [cosigma, sigma, gate h0 h1, branch h0 h2, grad h3 h4]
  obtain ⟨x, hx⟩ : ∃ x : ℝ, da W D (0 + (i 0).val) (0 + (i 1).val) * u H U (0 + (i 0).val) (0 + (i 1).val) = x :=
    mul_real (sum_real _ _ fun k => mul_real (rD _ _) (rW _ _)) (sum_real _ _ fun k => mul_real (rH _ _) (rU _ _))
  unfold dg dgate
  rw [hx]
  exact (swish_grad x _).symm

/-- The last weights' gradient. -/
theorem resW (h0 : IsTile H 0 0 x0) (h1 : IsTile G 0 0 x1) (h2 : IsTile U 0 0 x2) (h4 : IsTile D 0 0 x4) (i : S2816x1024.Idx) :
    val_main_v10 (F := Ideal) x0 x1 x2 x4 i = dwd H G U D (i 0).val (i 1).val := by
  rw [val_main_v10_apply, val_main_v9_apply]
  unfold dwd tn
  rw [Finset.sum_range]
  exact Finset.sum_congr rfl fun k _ => (mul_comm _ _).trans (congrArg₂ (· * ·) (entry (activation h0 h1 h2) _ _ _ rfl rfl) (entry h4 _ _ _ rfl rfl))

/-- The other branch's weights' gradient. -/
theorem resU (h0 : IsTile H 0 0 x0) (h1 : IsTile G 0 0 x1) (h3 : IsTile W 0 0 x3) (h4 : IsTile D 0 0 x4) (i : S1024x2816.Idx) :
    val_main_v15 (F := Ideal) x0 x1 x3 x4 i = dwu H G W D (i 0).val (i 1).val := by
  rw [val_main_v15_apply, val_main_v14_apply]
  unfold dwu tn
  rw [Finset.sum_range]
  exact Finset.sum_congr rfl fun k _ => (mul_comm _ _).trans (congrArg₂ (· * ·) (entry h0 _ _ _ rfl rfl) (entry (gradBranch h0 h1 h3 h4) _ _ _ rfl rfl))

/-- The gate weights' gradient. -/
theorem resG (h0 : IsTile H 0 0 x0) (h1 : IsTile G 0 0 x1) (h2 : IsTile U 0 0 x2) (h3 : IsTile W 0 0 x3) (h4 : IsTile D 0 0 x4)
    (rH : ∀ r c, ∃ x : ℝ, H r c = x) (rU : ∀ r c, ∃ x : ℝ, U r c = x) (rW : ∀ r c, ∃ x : ℝ, W r c = x) (rD : ∀ r c, ∃ x : ℝ, D r c = x) (i : S1024x2816.Idx) :
    val_main_v19 (F := Ideal) x0 x1 x2 x3 x4 i = dwg H G U W D (i 0).val (i 1).val := by
  rw [val_main_v19_apply, val_main_v18_apply]
  unfold dwg tn
  rw [Finset.sum_range]
  exact Finset.sum_congr rfl fun k _ => (mul_comm _ _).trans (congrArg₂ (· * ·) (entry h0 _ _ _ rfl rfl) (entry (gradGate h0 h1 h2 h3 h4 rH rU rW rD) _ _ _ rfl rfl))

/-- The input's gradient. -/
theorem resH (h0 : IsTile H 0 0 x0) (h1 : IsTile G 0 0 x1) (h2 : IsTile U 0 0 x2) (h3 : IsTile W 0 0 x3) (h4 : IsTile D 0 0 x4)
    (rH : ∀ r c, ∃ x : ℝ, H r c = x) (rU : ∀ r c, ∃ x : ℝ, U r c = x) (rW : ∀ r c, ∃ x : ℝ, W r c = x) (rD : ∀ r c, ∃ x : ℝ, D r c = x) (i : S16384x1024.Idx) :
    val_main_v22 (F := Ideal) x0 x1 x2 x3 x4 i = dh H G U W D (i 0).val (i 1).val := by
  show val_main_v16 (F := Ideal) x0 x1 x2 x3 x4 i + val_main_v20 (F := Ideal) x0 x1 x2 x3 x4 i = _
  rw [val_main_v16_apply, val_main_v20_apply]
  unfold dh nt
  rw [Finset.sum_range, Finset.sum_range, add_comm]
  exact congrArg₂ (· + ·)
    (Finset.sum_congr rfl fun k _ => congrArg₂ (· * ·) (entry (gradGate h0 h1 h2 h3 h4 rH rU rW rD) _ _ _ rfl rfl) (entry h1 _ _ _ rfl rfl))
    (Finset.sum_congr rfl fun k _ => congrArg₂ (· * ·) (entry (gradBranch h0 h1 h3 h4) _ _ _ rfl rfl) (entry h2 _ _ _ rfl rfl))

/-- The layer's output. -/
theorem resX (h0 : IsTile H 0 0 x0) (h1 : IsTile G 0 0 x1) (h2 : IsTile U 0 0 x2) (h3 : IsTile W 0 0 x3) (h5 : IsTile X 0 0 x5) (i : S16384x1024.Idx) :
    val_main_v23 (F := Ideal) x0 x1 x2 x3 x5 i = xout H G U W X (i 0).val (i 1).val := by
  show x5 i + val_main_v8 (F := Ideal) x0 x1 x2 x3 i = _
  rw [val_main_v8_apply]
  unfold xout nn
  rw [Finset.sum_range]
  exact congrArg₂ (· + ·) (entry h5 _ _ _ rfl rfl)
    (Finset.sum_congr rfl fun k _ => congrArg₂ (· * ·) (entry (activation h0 h1 h2) _ _ _ rfl rfl) (entry h3 _ _ _ rfl rfl))

end Cert.Reference3Ideal.Ffn
-- ==== Proof.FfnFinite.lean ====
/- The precondition of the feed-forward layer's value: four of its six arguments hold reals. -/
module

public import proofs.«01_k».proof.Proof.FfnSpec
public import proofs.«01_k».proof.Proof.Gen.Pre_bounded
public import Idealize.ShloMosaic.Lib.Pipeline.Value
public import Idealize.ShloMosaic.Lib.Pointwise

@[expose] public section

set_option maxRecDepth 16384
set_option maxHeartbeats 400000

noncomputable section

namespace Cert.Pre_bounded.Ffn

open Cert.Pre_bounded Cert.Pre_bounded.Gen Idealize.ShloMosaic

/-- An extended real whose absolute value is below the positive infinity is a real. -/
theorem real_of_lt (e : Ideal .f32) (h : FloatOps.cmpf (F := Ideal) (φ := .f32) .olt (FloatOps.hostAbsf e) (FloatOps.ofBits .f32 0x7F800000#32) = 1#1) : ∃ x : ℝ, (e : EReal) = x := by
  have t : (FloatOps.ofBits .f32 0x7F800000#32 : Ideal .f32) = (⊤ : EReal) := by
    simp [Ideal.ofBits, Ideal.ieee]
  rw [t] at h
  have q : max (e : EReal) (-e) < ⊤ := by
    by_contra n
    have z : FloatOps.cmpf (F := Ideal) (φ := .f32) .olt (FloatOps.hostAbsf e) (⊤ : EReal) = 0#1 := by
      show Ideal.cmp .olt (max (e : EReal) (-e)) ⊤ = 0#1
      simp [Ideal.cmp, n]
    rw [z] at h
    exact absurd h (by decide)
  induction e using EReal.rec with
  | bot => exact absurd q (by simp)
  | coe r => exact ⟨r, rfl⟩
  | top => exact absurd q (by simp)

variable {x0 : FVec Ideal S16384x1024 .bf16} {x1 x2 : FVec Ideal S1024x2816 .bf16} {x3 : FVec Ideal S2816x1024 .bf16} {x4 x5 : FVec Ideal S16384x1024 .f32}

/-- The arrays the precondition reads. -/
abbrev pieces (x0 : FVec Ideal S16384x1024 .bf16) (x2 : FVec Ideal S1024x2816 .bf16) (x3 : FVec Ideal S2816x1024 .bf16) (x4 : FVec Ideal S16384x1024 .f32) : List (Σ s : Shape, s.Idx → EReal) :=
  [⟨S16384x1024, x0⟩, ⟨S2816x1024, transpose S2816x1024 [1, 0] x2 transposes_S1024x2816_S2816x1024_1_0⟩, ⟨S2816x1024, x3⟩, ⟨S16384x1024, x4⟩]

/-- The arrays the precondition reads, one above the other. -/
def stack (x0 : FVec Ideal S16384x1024 .bf16) (x2 : FVec Ideal S1024x2816 .bf16) (x3 : FVec Ideal S2816x1024 .bf16) (x4 : FVec Ideal S16384x1024 .f32) : FVec Ideal S38400x1024 .f32 :=
  concatenate S38400x1024 0 (pieces x0 x2 x3 x4) concatenates_S16384x1024_S2816x1024_S2816x1024_S16384x1024_S38400x1024_d0

/-- Every entry of the stack is a real. -/
theorem stack_real (h : fn (F := Ideal) x0 x1 x2 x3 x4 x5 = fun _ => 1#1) (j : S38400x1024.Idx) : ∃ x : ℝ, (stack x0 x2 x3 x4 j : EReal) = x :=
  real_of_lt _ (congrFun h j)

/-- A row and a column of the stack. -/
def at_ (r : Nat) (k : Fin 1024) (h : r < 38400) : S38400x1024.Idx := fun a => match a with
  | ⟨0, _⟩ => ⟨r, h⟩
  | ⟨1, _⟩ => k

/-- The input is real. -/
theorem input (h : fn (F := Ideal) x0 x1 x2 x3 x4 x5 = fun _ => 1#1) (i : S16384x1024.Idx) : ∃ x : ℝ, (x0 i : EReal) = x := by
  have l : (i 0).val < 16384 := (i 0).isLt
  obtain ⟨x, hx⟩ := stack_real h (at_ (0 + (i 0).val) (i 1) (by omega))
  refine ⟨x, Eq.trans ?_ hx⟩
  refine (concatenate_apply_piece 0 (pieces x0 x2 x3 x4) concatenates_S16384x1024_S2816x1024_S2816x1024_S16384x1024_S38400x1024_d0 _ 0 (by simp) S16384x1024 x0 rfl rfl 0 rfl i (fun b hb => ?_) rfl).symm
  match b with
  | ⟨0, _⟩ => exact absurd rfl hb
  | ⟨1, _⟩ => rfl

/-- The last weights are real. -/
theorem last (h : fn (F := Ideal) x0 x1 x2 x3 x4 x5 = fun _ => 1#1) (i : S2816x1024.Idx) : ∃ x : ℝ, (x3 i : EReal) = x := by
  have l : (i 0).val < 2816 := (i 0).isLt
  obtain ⟨x, hx⟩ := stack_real h (at_ (19200 + (i 0).val) (i 1) (by omega))
  refine ⟨x, Eq.trans ?_ hx⟩
  refine (concatenate_apply_piece 0 (pieces x0 x2 x3 x4) concatenates_S16384x1024_S2816x1024_S2816x1024_S16384x1024_S38400x1024_d0 _ 2 (by simp) S2816x1024 x3 rfl rfl 19200 rfl i (fun b hb => ?_) rfl).symm
  match b with
  | ⟨0, _⟩ => exact absurd rfl hb
  | ⟨1, _⟩ => rfl

/-- The output's gradient is real. -/
theorem output (h : fn (F := Ideal) x0 x1 x2 x3 x4 x5 = fun _ => 1#1) (i : S16384x1024.Idx) : ∃ x : ℝ, (x4 i : EReal) = x := by
  have l : (i 0).val < 16384 := (i 0).isLt
  obtain ⟨x, hx⟩ := stack_real h (at_ (22016 + (i 0).val) (i 1) (by omega))
  refine ⟨x, Eq.trans ?_ hx⟩
  refine (concatenate_apply_piece 0 (pieces x0 x2 x3 x4) concatenates_S16384x1024_S2816x1024_S2816x1024_S16384x1024_S38400x1024_d0 _ 3 (by simp) S16384x1024 x4 rfl rfl 22016 rfl i (fun b hb => ?_) rfl).symm
  match b with
  | ⟨0, _⟩ => exact absurd rfl hb
  | ⟨1, _⟩ => rfl

/-- The other branch's weights are real. -/
theorem branch (h : fn (F := Ideal) x0 x1 x2 x3 x4 x5 = fun _ => 1#1) (i : S1024x2816.Idx) : ∃ x : ℝ, (x2 i : EReal) = x := by
  have l : (i 1).val < 2816 := (i 1).isLt
  obtain ⟨x, hx⟩ := stack_real h (at_ (16384 + (i 1).val) (i 0) (by omega))
  refine ⟨x, Eq.trans ?_ hx⟩
  let i' : S2816x1024.Idx := fun a => match a with
    | ⟨0, _⟩ => i 1
    | ⟨1, _⟩ => i 0
  have e : transpose S2816x1024 [1, 0] x2 transposes_S1024x2816_S2816x1024_1_0 i' = x2 i := by
    refine congrArg x2 (funext fun a => Fin.ext ?_)
    match a with
    | ⟨0, _⟩ => rfl
    | ⟨1, _⟩ => rfl
  refine e.symm.trans (concatenate_apply_piece 0 (pieces x0 x2 x3 x4) concatenates_S16384x1024_S2816x1024_S2816x1024_S16384x1024_S38400x1024_d0 _ 1 (by simp) S2816x1024 (transpose S2816x1024 [1, 0] x2 transposes_S1024x2816_S2816x1024_1_0) rfl rfl 16384 rfl i' (fun b hb => ?_) rfl).symm
  match b with
  | ⟨0, _⟩ => exact absurd rfl hb
  | ⟨1, _⟩ => rfl

end Cert.Pre_bounded.Ffn
-- ==== Proof.FfnSame.lean ====
/- The feed-forward layer's calls compute what their reference computes, where the reference's arguments are real. -/
module

public import proofs.«01_k».proof.Defs
public import proofs.«01_k».proof.Proof.FfnRun
public import proofs.«01_k».proof.Proof.FfnValue
public import proofs.«01_k».proof.Proof.FfnRef
public import proofs.«01_k».proof.Proof.FfnFinite

@[expose] public section

set_option maxRecDepth 16384
set_option maxHeartbeats 1000000

noncomputable section

namespace Cert.Proof.Ffn

open Idealize.ShloMosaic Idealize.ShloMosaic.TcCoe Idealize.SL.Sem
open Cert.Ffn
open Cert.Conv (at2)
open Cert.Kernel3Ideal.Ffn (inH inG inU inW inD inX)

/-- An array of reals read by row and column, zero outside the array, is real everywhere. -/
theorem at2_real {p q : Nat} (x : (⟨2, ![p, q]⟩ : Shape).Idx → EReal) (h : ∀ i, ∃ y : ℝ, x i = y) (r c : Nat) : ∃ y : ℝ, at2 x r c = y := by
  unfold at2
  split
  · exact h _
  · exact ⟨0, rfl⟩

/-- The input's gradient, the three weights' gradients and the output are the reference's, element by element. -/
theorem same : Cert.algebraic_Kernel3Ideal_Reference3Ideal_pre_bounded (hKernel3Ideal := Cert.Kernel3Ideal.Gen.facts) (hReference3Ideal := Cert.Reference3Ideal.Gen.facts)
    (hPre_bounded := Cert.Pre_bounded.Gen.facts) := by
  intro m g m' g' hpre hin
  have rH : ∀ c r k, ∃ x : ℝ, inH m c r k = x := fun c => at2_real _ (Cert.Pre_bounded.Ffn.input (hpre c))
  have rU : ∀ c r k, ∃ x : ℝ, inU m c r k = x := fun c => at2_real _ (Cert.Pre_bounded.Ffn.branch (hpre c))
  have rW : ∀ c r k, ∃ x : ℝ, inW m c r k = x := fun c => at2_real _ (Cert.Pre_bounded.Ffn.last (hpre c))
  have rD : ∀ c r k, ∃ x : ℝ, inD m c r k = x := fun c => at2_real _ (Cert.Pre_bounded.Ffn.output (hpre c))
  refine ⟨fun c i => dh (inH m c) (inG m c) (inU m c) (inW m c) (inD m c) (i 0).val (i 1).val,
    fun c i => dwg (inH m c) (inG m c) (inU m c) (inW m c) (inD m c) (i 0).val (i 1).val,
    fun c i => dwu (inH m c) (inG m c) (inW m c) (inD m c) (i 0).val (i 1).val,
    fun c i => dwd (inH m c) (inG m c) (inU m c) (inD m c) (i 0).val (i 1).val,
    fun c i => xout (inH m c) (inG m c) (inU m c) (inW m c) (inX m c) (i 0).val (i 1).val,
    (θ_run Cert.Kernel3Ideal.defs _ _).mono (fun r h c => ?_) (Cert.Kernel3Ideal.Ffn.run (F := Ideal) m g),
    (θ_run Cert.Reference3Ideal.defs _ _).mono (fun r h c => ?_) (Cert.Reference3Ideal.Value.run (F := Ideal) m' g')⟩
  · obtain ⟨h0, h1, h2, h3, h4, k⟩ := h c
    exact ⟨h0.trans (of_tile (Cert.Kernel3Ideal.Ffn.at7_dh m g c)), h1.trans (of_tile (Cert.Kernel3Ideal.Ffn.at7_dwg m g c)),
      h2.trans (of_tile (Cert.Kernel3Ideal.Ffn.at7_dwu m g c)), h3.trans (of_tile (Cert.Kernel3Ideal.Ffn.at7_dwd m g c)),
      h4.trans (of_tile (Cert.Kernel3Ideal.Ffn.at7_xout m g c)), k⟩
  · obtain ⟨h0, h1, h2, h3, h4, k⟩ := h c
    obtain ⟨a0, a1, a2, a3, a4, a5⟩ := hin c
    have t0 : IsTile (inH m c) 0 0 (m' ((c.tc : Thread Cert.Reference3Ideal.nD Cert.Reference3Ideal.τ).loc Cert.Reference3Ideal.main_arg0)) := by
      rw [a0]; exact tile_at2 _
    have t1 : IsTile (inG m c) 0 0 (m' ((c.tc : Thread Cert.Reference3Ideal.nD Cert.Reference3Ideal.τ).loc Cert.Reference3Ideal.main_arg1)) := by
      rw [a1]; exact tile_at2 _
    have t2 : IsTile (inU m c) 0 0 (m' ((c.tc : Thread Cert.Reference3Ideal.nD Cert.Reference3Ideal.τ).loc Cert.Reference3Ideal.main_arg2)) := by
      rw [a2]; exact tile_at2 _
    have t3 : IsTile (inW m c) 0 0 (m' ((c.tc : Thread Cert.Reference3Ideal.nD Cert.Reference3Ideal.τ).loc Cert.Reference3Ideal.main_arg3)) := by
      rw [a3]; exact tile_at2 _
    have t4 : IsTile (inD m c) 0 0 (m' ((c.tc : Thread Cert.Reference3Ideal.nD Cert.Reference3Ideal.τ).loc Cert.Reference3Ideal.main_arg4)) := by
      rw [a4]; exact tile_at2 _
    have t5 : IsTile (inX m c) 0 0 (m' ((c.tc : Thread Cert.Reference3Ideal.nD Cert.Reference3Ideal.τ).loc Cert.Reference3Ideal.main_arg5)) := by
      rw [a5]; exact tile_at2 _
    exact ⟨h0.trans ((Cert.Reference3Ideal.Read.val_main_v22_eq _ _ _ _ _).trans (funext (Cert.Reference3Ideal.Ffn.resH t0 t1 t2 t3 t4 (rH c) (rU c) (rW c) (rD c)))),
      h1.trans ((Cert.Reference3Ideal.Read.val_main_v19_eq _ _ _ _ _).trans (funext (Cert.Reference3Ideal.Ffn.resG t0 t1 t2 t3 t4 (rH c) (rU c) (rW c) (rD c)))),
      h2.trans ((Cert.Reference3Ideal.Read.val_main_v15_eq _ _ _ _).trans (funext (Cert.Reference3Ideal.Ffn.resU t0 t1 t3 t4))),
      h3.trans ((Cert.Reference3Ideal.Read.val_main_v10_eq _ _ _ _).trans (funext (Cert.Reference3Ideal.Ffn.resW t0 t1 t2 t4))),
      h4.trans ((Cert.Reference3Ideal.Read.val_main_v23_eq _ _ _ _ _).trans (funext (Cert.Reference3Ideal.Ffn.resX t0 t1 t2 t3 t5))), k⟩

end Cert.Proof.Ffn
-- ==== Proof.LinRun.lean ====
/- The whole run of the mixer's six product calls: what every array holds at the end. -/
module

public import proofs.«01_k».proof.Proof.Gen.Kernel4Ideal.Frame

@[expose] public section

set_option maxRecDepth 16384
set_option maxHeartbeats 1000000

noncomputable section

namespace Cert.Kernel4Ideal.Lin

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- Every weakly fair run ends with the six results as the last call leaves them, and the arguments unchanged. -/
theorem run : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_v1) = W6 m ρ c (Proc.devRef .tc main_v1)
      ∧ r.2.mem ((c.tc : Thread nD τ).loc main_v2) = W6 m ρ c (Proc.devRef .tc main_v2)
      ∧ r.2.mem ((c.tc : Thread nD τ).loc main_v3) = W6 m ρ c (Proc.devRef .tc main_v3)
      ∧ r.2.mem ((c.tc : Thread nD τ).loc main_v4) = W6 m ρ c (Proc.devRef .tc main_v4)
      ∧ r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v0 (by decide)), h c _ (mem_uc main_v1 (by decide)), h c _ (mem_uc main_v2 (by decide)), h c _ (mem_uc main_v3 (by decide)), h c _ (mem_uc main_v4 (by decide)), h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.Kernel4Ideal.Lin
-- ==== Proof.LinTiles.lean ====
/- What a point of the mixer's six product calls computes and reads, as blocks of matrices. -/
module

public import proofs.«01_k».proof.Proof.FfnSpec
public import proofs.«01_k».proof.Proof.Gen.Kernel4Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel4Ideal.Lin

open Cert.Kernel4Ideal Cert.Kernel4Ideal.Gen Idealize.ShloMosaic Idealize.ShloMosaic.TcCoe Idealize.ShloMosaic.Tactic Idealize.SL.Sem
open Cert.Ffn

/-- A block of the projection. -/
theorem proj_tile {X W : Mat} {r c : Nat} {x : Vec Ideal S512x1024 .bf16} {w : Vec Ideal S1024x3072 .bf16} (hx : IsTile X r 0 x) (hw : IsTile W 0 c w) :
    IsTile (nn X W 1024) r c (k0_pay1 x w) := fun j => by
  pointwise [k0_pay1]
  unfold nn
  rw [Finset.sum_range]
  refine Finset.sum_congr rfl fun k _ => ?_
  rw [hx, hw]
  simp

/-- A block of the output projection, added to the block of what came in. -/
theorem out_tile {X W Y : Mat} {r c : Nat} {x : Vec Ideal S512x1024 .bf16} {w : Vec Ideal S1024x1024 .bf16} {y : Vec Ideal S512x1024 .f32} (hx : IsTile X r 0 x) (hw : IsTile W 0 c w) (hy : IsTile Y r c y) :
    IsTile (fun i k => Y i k + nn X W 1024 i k) r c (k1_pay1 x w y) := fun j => by
  pointwise [k1_pay1]
  unfold nn
  rw [Finset.sum_range, hy, add_comm]
  refine congrArg (_ + ·) (Finset.sum_congr rfl fun k _ => ?_)
  rw [hx, hw]
  simp

/-- A block of the output projection's input's gradient. -/
theorem dy_tile {X W : Mat} {r c : Nat} {x : Vec Ideal S512x1024 .f32} {w : Vec Ideal S1024x1024 .bf16} (hx : IsTile X r 0 x) (hw : IsTile W c 0 w) :
    IsTile (nt X W 1024) r c (k3_pay1 x w) := fun j => by
  pointwise [k3_pay1]
  unfold nt
  rw [Finset.sum_range]
  refine Finset.sum_congr rfl fun k _ => ?_
  rw [hx, hw]
  simp

/-- A block of the projection's input's gradient. -/
theorem dh_tile {X W : Mat} {r c : Nat} {x : Vec Ideal S512x3072 .bf16} {w : Vec Ideal S1024x3072 .bf16} (hx : IsTile X r 0 x) (hw : IsTile W c 0 w) :
    IsTile (nt X W 3072) r c (k5_pay1 x w) := fun j => by
  pointwise [k5_pay1]
  unfold nt
  rw [Finset.sum_range]
  refine Finset.sum_congr rfl fun k _ => ?_
  rw [hx, hw]
  simp

/-- A block summed over one more block of rows: the output projection's weights' gradient. -/
theorem wout_tile {A D : Mat} {n r c : Nat} {z : Vec Ideal S1024x1024 .f32} {x : Vec Ideal S1024x1024 .bf16} {y : Vec Ideal S1024x1024 .f32}
    (hz : IsTile (tn A D n) r c z) (hx : IsTile A n r x) (hy : IsTile D n c y) : IsTile (tn A D (n + 1024)) r c (k2_pay2 z x y) := fun j => by
  pointwise [k2_pay2]
  rw [tn_add, Finset.sum_range, hz]
  refine congrArg (_ + ·) (Finset.sum_congr rfl fun k _ => ?_)
  rw [hx, hy]
  simp

/-- A sum over no rows. -/
theorem wout_zero (A D : Mat) (r c : Nat) : IsTile (tn A D 0) r c (k2_pay1 (F := Ideal)) := fun _ => Ideal.ofBits_zero_f32

/-- The same of the projection's weights' gradient. -/
theorem win_tile {A D : Mat} {n r c : Nat} {z : Vec Ideal S1024x1536 .f32} {x : Vec Ideal S1024x1024 .bf16} {y : Vec Ideal S1024x1536 .bf16}
    (hz : IsTile (tn A D n) r c z) (hx : IsTile A n r x) (hy : IsTile D n c y) : IsTile (tn A D (n + 1024)) r c (k4_pay2 z x y) := fun j => by
  pointwise [k4_pay2]
  rw [tn_add, Finset.sum_range, hz]
  refine congrArg (_ + ·) (Finset.sum_congr rfl fun k _ => ?_)
  rw [hx, hy]
  simp

/-- A sum over no rows. -/
theorem win_zero (A D : Mat) (r c : Nat) : IsTile (tn A D 0) r c (k4_pay1 (F := Ideal)) := fun _ => Ideal.ofBits_zero_f32

/- Where call 0's blocks lie. -/
theorem place0_0 : ∀ t : Fin cfg0.N, win0_0.index t = ![t.val, 0] := (by decide +kernel : ∀ t : Fin grid0.N, win0_0.index t = ![t.val, 0])
theorem place0_1 : ∀ t : Fin cfg0.N, win0_1.index t = ![0, 0] := (by decide +kernel : ∀ t : Fin grid0.N, win0_1.index t = ![0, 0])
theorem place0_2 : ∀ t : Fin cfg0.N, win0_2.index t = ![t.val, 0] := (by decide +kernel : ∀ t : Fin grid0.N, win0_2.index t = ![t.val, 0])
/- Where call 1's blocks lie. -/
theorem place1_0 : ∀ t : Fin cfg1.N, win1_0.index t = ![t.val, 0] := (by decide +kernel : ∀ t : Fin grid1.N, win1_0.index t = ![t.val, 0])
theorem place1_1 : ∀ t : Fin cfg1.N, win1_1.index t = ![0, 0] := (by decide +kernel : ∀ t : Fin grid1.N, win1_1.index t = ![0, 0])
theorem place1_2 : ∀ t : Fin cfg1.N, win1_2.index t = ![t.val, 0] := (by decide +kernel : ∀ t : Fin grid1.N, win1_2.index t = ![t.val, 0])
theorem place1_3 : ∀ t : Fin cfg1.N, win1_3.index t = ![t.val, 0] := (by decide +kernel : ∀ t : Fin grid1.N, win1_3.index t = ![t.val, 0])
/- Where call 2's blocks lie. -/
theorem place2_0 : ∀ t : Fin cfg2.N, win2_0.index t = ![t.val % 16, 0] := (by decide +kernel : ∀ t : Fin grid2.N, win2_0.index t = ![t.val % 16, 0])
theorem place2_1 : ∀ t : Fin cfg2.N, win2_1.index t = ![t.val % 16, 0] := (by decide +kernel : ∀ t : Fin grid2.N, win2_1.index t = ![t.val % 16, 0])
theorem place2_2 : ∀ t : Fin cfg2.N, win2_2.index t = ![0, 0] := (by decide +kernel : ∀ t : Fin grid2.N, win2_2.index t = ![0, 0])
/- Where call 3's blocks lie. -/
theorem place3_0 : ∀ t : Fin cfg3.N, win3_0.index t = ![t.val, 0] := (by decide +kernel : ∀ t : Fin grid3.N, win3_0.index t = ![t.val, 0])
theorem place3_1 : ∀ t : Fin cfg3.N, win3_1.index t = ![0, 0] := (by decide +kernel : ∀ t : Fin grid3.N, win3_1.index t = ![0, 0])
theorem place3_2 : ∀ t : Fin cfg3.N, win3_2.index t = ![t.val, 0] := (by decide +kernel : ∀ t : Fin grid3.N, win3_2.index t = ![t.val, 0])
/- Where call 4's blocks lie. -/
theorem place4_0 : ∀ t : Fin cfg4.N, win4_0.index t = ![t.val % 16, 0] := (by decide +kernel : ∀ t : Fin grid4.N, win4_0.index t = ![t.val % 16, 0])
theorem place4_1 : ∀ t : Fin cfg4.N, win4_1.index t = ![t.val % 16, t.val / 16] := (by decide +kernel : ∀ t : Fin grid4.N, win4_1.index t = ![t.val % 16, t.val / 16])
theorem place4_2 : ∀ t : Fin cfg4.N, win4_2.index t = ![0, t.val / 16] := (by decide +kernel : ∀ t : Fin grid4.N, win4_2.index t = ![0, t.val / 16])
/- Where call 5's blocks lie. -/
theorem place5_0 : ∀ t : Fin cfg5.N, win5_0.index t = ![t.val, 0] := (by decide +kernel : ∀ t : Fin grid5.N, win5_0.index t = ![t.val, 0])
theorem place5_1 : ∀ t : Fin cfg5.N, win5_1.index t = ![0, 0] := (by decide +kernel : ∀ t : Fin grid5.N, win5_1.index t = ![0, 0])
theorem place5_2 : ∀ t : Fin cfg5.N, win5_2.index t = ![t.val, 0] := (by decide +kernel : ∀ t : Fin grid5.N, win5_2.index t = ![t.val, 0])

variable (V : (c : Dev nD) → (b : Ref sig .tc) → Buf (Elt Ideal) ((c : Thread nD τ).loc b)) (c : Dev nD) {X : Mat}

/- What call 0 reads. -/
theorem tile0_0 (h : IsTile X 0 0 (V c main_arg0)) (t : Fin cfg0.N) : IsTile X (t.val * 512) 0 (iblk0 V c 0 t) :=
  block h (((cfg0.win 0).blk t).view.emb) (fun j => by blk_simp [place0_0]) (fun j => by blk_simp [place0_0])
theorem tile0_1 (h : IsTile X 0 0 (V c main_arg1)) (t : Fin cfg0.N) : IsTile X 0 0 (iblk0 V c 1 t) :=
  block h (((cfg0.win 1).blk t).view.emb) (fun j => by blk_simp [place0_1]) (fun j => by blk_simp [place0_1])
/- What call 1 reads. -/
theorem tile1_0 (h : IsTile X 0 0 (V c main_arg3)) (t : Fin cfg1.N) : IsTile X (t.val * 512) 0 (iblk1 V c 0 t) :=
  block h (((cfg1.win 0).blk t).view.emb) (fun j => by blk_simp [place1_0]) (fun j => by blk_simp [place1_0])
theorem tile1_1 (h : IsTile X 0 0 (V c main_arg4)) (t : Fin cfg1.N) : IsTile X 0 0 (iblk1 V c 1 t) :=
  block h (((cfg1.win 1).blk t).view.emb) (fun j => by blk_simp [place1_1]) (fun j => by blk_simp [place1_1])
theorem tile1_2 (h : IsTile X 0 0 (V c main_arg5)) (t : Fin cfg1.N) : IsTile X (t.val * 512) 0 (iblk1 V c 2 t) :=
  block h (((cfg1.win 2).blk t).view.emb) (fun j => by blk_simp [place1_2]) (fun j => by blk_simp [place1_2])
/- What call 2 reads. -/
theorem tile2_0 (h : IsTile X 0 0 (V c main_arg3)) (t : Fin cfg2.N) : IsTile X (t.val % 16 * 1024) 0 (iblk2 V c 0 t) :=
  block h (((cfg2.win 0).blk t).view.emb) (fun j => by blk_simp [place2_0]) (fun j => by blk_simp [place2_0])
theorem tile2_1 (h : IsTile X 0 0 (V c main_arg6)) (t : Fin cfg2.N) : IsTile X (t.val % 16 * 1024) 0 (iblk2 V c 1 t) :=
  block h (((cfg2.win 1).blk t).view.emb) (fun j => by blk_simp [place2_1]) (fun j => by blk_simp [place2_1])
/- What call 3 reads. -/
theorem tile3_0 (h : IsTile X 0 0 (V c main_arg6)) (t : Fin cfg3.N) : IsTile X (t.val * 512) 0 (iblk3 V c 0 t) :=
  block h (((cfg3.win 0).blk t).view.emb) (fun j => by blk_simp [place3_0]) (fun j => by blk_simp [place3_0])
theorem tile3_1 (h : IsTile X 0 0 (V c main_arg4)) (t : Fin cfg3.N) : IsTile X 0 0 (iblk3 V c 1 t) :=
  block h (((cfg3.win 1).blk t).view.emb) (fun j => by blk_simp [place3_1]) (fun j => by blk_simp [place3_1])
/- What call 4 reads. -/
theorem tile4_0 (h : IsTile X 0 0 (V c main_arg0)) (t : Fin cfg4.N) : IsTile X (t.val % 16 * 1024) 0 (iblk4 V c 0 t) :=
  block h (((cfg4.win 0).blk t).view.emb) (fun j => by blk_simp [place4_0]) (fun j => by blk_simp [place4_0])
theorem tile4_1 (h : IsTile X 0 0 (V c main_arg2)) (t : Fin cfg4.N) : IsTile X (t.val % 16 * 1024) (t.val / 16 * 1536) (iblk4 V c 1 t) :=
  block h (((cfg4.win 1).blk t).view.emb) (fun j => by blk_simp [place4_1]) (fun j => by blk_simp [place4_1])
/- What call 5 reads. -/
theorem tile5_0 (h : IsTile X 0 0 (V c main_arg2)) (t : Fin cfg5.N) : IsTile X (t.val * 512) 0 (iblk5 V c 0 t) :=
  block h (((cfg5.win 0).blk t).view.emb) (fun j => by blk_simp [place5_0]) (fun j => by blk_simp [place5_0])
theorem tile5_1 (h : IsTile X 0 0 (V c main_arg1)) (t : Fin cfg5.N) : IsTile X 0 0 (iblk5 V c 1 t) :=
  block h (((cfg5.win 1).blk t).view.emb) (fun j => by blk_simp [place5_1]) (fun j => by blk_simp [place5_1])

end Cert.Kernel4Ideal.Lin
-- ==== Proof.LinResults.lean ====
/- What the mixer's six product calls leave in their results. -/
module

public import proofs.«01_k».proof.Proof.LinTiles
public import Idealize.ShloMosaic.Lib.WritesUnit

@[expose] public section

set_option maxRecDepth 16384
set_option maxHeartbeats 400000

noncomputable section

namespace Cert.Kernel4Ideal.Lin

open Cert.Kernel4Ideal Cert.Kernel4Ideal.Gen Idealize.ShloMosaic Idealize.ShloMosaic.TcCoe Idealize.ShloMosaic.Tactic Idealize.SL.Sem
open Cert.Ffn

/- What a point leaves in its result's block: its one store, of what its body computes from the blocks. -/
theorem out0_eq (x0 : Vec Ideal S512x1024 .bf16) (x1 : Vec Ideal S1024x3072 .bf16) : out0_2 x0 x1 = k0_pay1 x0 x1 := by
  unfold out0_2
  rw [View.canon_unit_zero hz]
  simp only [View.ld_unit_zero (S := S512x1024) hz, View.ld_unit_zero (S := S1024x3072) hz]
theorem out1_eq (x0 : Vec Ideal S512x1024 .bf16) (x1 : Vec Ideal S1024x1024 .bf16) (x2 : Vec Ideal S512x1024 .f32) : out1_3 x0 x1 x2 = k1_pay1 x0 x1 x2 := by
  unfold out1_3
  rw [View.canon_unit_zero hz]
  simp only [View.ld_unit_zero (S := S512x1024) hz, View.ld_unit_zero (S := S1024x1024) hz]
theorem out3_eq (x0 : Vec Ideal S512x1024 .f32) (x1 : Vec Ideal S1024x1024 .bf16) : out3_2 x0 x1 = k3_pay1 x0 x1 := by
  unfold out3_2
  rw [View.canon_unit_zero hz]
  simp only [View.ld_unit_zero (S := S512x1024) hz, View.ld_unit_zero (S := S1024x1024) hz]
theorem out5_eq (x0 : Vec Ideal S512x3072 .bf16) (x1 : Vec Ideal S1024x3072 .bf16) : out5_2 x0 x1 = k5_pay1 x0 x1 := by
  unfold out5_2
  rw [View.canon_unit_zero hz]
  simp only [View.ld_unit_zero (S := S512x3072) hz, View.ld_unit_zero (S := S1024x3072) hz]
/-- What call 2's point leaves in its result's block, at the first rows. -/
theorem out2_A (c : Dev nD) (i : grid2.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond2_0 i) (x0 : Vec Ideal S1024x1024 .bf16) (x1 : Vec Ideal S1024x1024 .f32) :
    out2_A_2 c i arg3 harg3 arg4 harg4 arg5 harg5 hc0 x0 x1 = k2_pay2 k2_pay1 x0 x1 := by
  unfold out2_A_2
  rw [View.read_writes_eq_canon _ _ _ (cover2_A_2 c i arg3 harg3 arg4 harg4 arg5 harg5 hc0 x0 x1)]
  unfold kernelRun2_A
  dsimp only
  sl_unfold_words
  rw [View.canon_cons_unit_zero hz, View.readCov_eq_canon', View.canon_unit_zero hz]
  simp only [View.readAt_eq_ld, harg3.read_unread, harg4.read_unread, harg5.read_unread, View.ld_unit_zero (S := S1024x1024) hz]
  exact congrArg (fun z => k2_pay2 z x0 x1) (funext fun _ => rfl)

/-- What call 2's point leaves in its result's block, at any other rows. -/
theorem out2_B (c : Dev nD) (i : grid2.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond2_0 i) (x0 : Vec Ideal S1024x1024 .bf16) (x1 : Vec Ideal S1024x1024 .f32) (xo2 : Vec Ideal S1024x1024 .f32) :
    out2_B_2 c i arg3 harg3 arg4 harg4 arg5 harg5 hc0 x0 x1 xo2 = k2_pay2 xo2 x0 x1 := by
  unfold out2_B_2
  rw [View.read_writes_eq_canon _ _ _ (cover2_B_2 c i arg3 harg3 arg4 harg4 arg5 harg5 hc0 x0 x1 xo2)]
  unfold kernelRun2_B
  dsimp only
  sl_unfold_words
  rw [View.canon_unit_zero hz]
  simp only [View.readAt_eq_ld, harg3.read_unread, harg4.read_unread, harg5.read_unread, View.ld_unit_zero (S := S1024x1024) hz]

/-- What call 4's point leaves in its result's block, at the first rows. -/
theorem out4_A (c : Dev nD) (i : grid4.Coords) (arg3 : Memref sig .tc .vmem S1024x1024 .bf16) (harg3 : arg3.IsWhole) (arg4 : Memref sig .tc .vmem S1024x1536 .bf16) (harg4 : arg4.IsWhole) (arg5 : Memref sig .tc .vmem S1024x1536 .f32) (harg5 : arg5.IsWhole) (hc0 : cond4_0 i) (x0 : Vec Ideal S1024x1024 .bf16) (x1 : Vec Ideal S1024x1536 .bf16) :
    out4_A_2 c i arg3 harg3 arg4 harg4 arg5 harg5 hc0 x0 x1 = k4_pay2 k4_pay1 x0 x1 := by
  unfold out4_A_2
  rw [View.read_writes_eq_canon _ _ _ (cover4_A_2 c i arg3 harg3 arg4 harg4 arg5 harg5 hc0 x0 x1)]
  unfold kernelRun4_A
  dsimp only
  sl_unfold_words
  rw [View.canon_cons_unit_zero hz, View.readCov_eq_canon', View.canon_unit_zero hz]
  simp only [View.readAt_eq_ld, harg3.read_unread, harg4.read_unread, harg5.read_unread, View.ld_unit_zero (S := S1024x1024) hz, View.ld_unit_zero (S := S1024x1536) hz]
  exact congrArg (fun z => k4_pay2 z x0 x1) (funext fun _ => rfl)

/-- What call 4's point leaves in its result's block, at any other rows. -/
theorem out4_B (c : Dev nD) (i : grid4.Coords) (arg3 : Memref sig .tc .vmem S1024x1024 .bf16) (harg3 : arg3.IsWhole) (arg4 : Memref sig .tc .vmem S1024x1536 .bf16) (harg4 : arg4.IsWhole) (arg5 : Memref sig .tc .vmem S1024x1536 .f32) (harg5 : arg5.IsWhole) (hc0 : ¬cond4_0 i) (x0 : Vec Ideal S1024x1024 .bf16) (x1 : Vec Ideal S1024x1536 .bf16) (xo2 : Vec Ideal S1024x1536 .f32) :
    out4_B_2 c i arg3 harg3 arg4 harg4 arg5 harg5 hc0 x0 x1 xo2 = k4_pay2 xo2 x0 x1 := by
  unfold out4_B_2
  rw [View.read_writes_eq_canon _ _ _ (cover4_B_2 c i arg3 harg3 arg4 harg4 arg5 harg5 hc0 x0 x1 xo2)]
  unfold kernelRun4_B
  dsimp only
  sl_unfold_words
  rw [View.canon_unit_zero hz]
  simp only [View.readAt_eq_ld, harg3.read_unread, harg4.read_unread, harg5.read_unread, View.ld_unit_zero (S := S1024x1024) hz, View.ld_unit_zero (S := S1024x1536) hz]

variable (V : (c : Dev nD) → (b : Ref sig .tc) → Buf (Elt Ideal) ((c : Thread nD τ).loc b)) (c : Dev nD)

/-- The projection. -/
theorem result_proj {X W : Mat} (h0 : IsTile X 0 0 (V c main_arg0)) (h1 : IsTile W 0 0 (V c main_arg1)) : IsTile (nn X W 1024) 0 0 ((dat0 V c).arrAt 2 cfg0.N) := by
  refine whole ((dat0 V c).arrAt_eq_of_covers 2 _ (by decide +kernel) fun t hf y => ?_)
  have e0 : (((cfg0.win 2).blk t).view.emb y 0).val = t.val * 512 + (y 0).val := by blk_simp [place0_2]
  have e1 : (((cfg0.win 2).blk t).view.emb y 1).val = 0 + (y 1).val := by blk_simp [place0_2]
  refine Eq.trans ?_ (congrArg₂ (nn X W 1024) e0 e1).symm
  blk_simp
  rw [after0_2]
  rw [out0_eq]
  exact (proj_tile (tile0_0 V c h0 t) (tile0_1 V c h1 t) y).trans (by simp only [Nat.zero_add])

/-- The output projection, added to what came in. -/
theorem result_out {X W Y : Mat} (h0 : IsTile X 0 0 (V c main_arg3)) (h1 : IsTile W 0 0 (V c main_arg4)) (h2 : IsTile Y 0 0 (V c main_arg5)) : IsTile (fun i k => Y i k + nn X W 1024 i k) 0 0 ((dat1 V c).arrAt 3 cfg1.N) := by
  refine whole ((dat1 V c).arrAt_eq_of_covers 3 _ (by decide +kernel) fun t hf y => ?_)
  have e0 : (((cfg1.win 3).blk t).view.emb y 0).val = t.val * 512 + (y 0).val := by blk_simp [place1_3]
  have e1 : (((cfg1.win 3).blk t).view.emb y 1).val = 0 + (y 1).val := by blk_simp [place1_3]
  refine Eq.trans ?_ (congrArg₂ (fun i k => Y i k + nn X W 1024 i k) e0 e1).symm
  blk_simp
  rw [after1_3]
  rw [out1_eq]
  exact (out_tile (tile1_0 V c h0 t) (tile1_1 V c h1 t) (tile1_2 V c h2 t) y).trans (by simp only [Nat.zero_add])

/-- The output projection's input's gradient. -/
theorem result_dy {X W : Mat} (h0 : IsTile X 0 0 (V c main_arg6)) (h1 : IsTile W 0 0 (V c main_arg4)) : IsTile (nt X W 1024) 0 0 ((dat3 V c).arrAt 2 cfg3.N) := by
  refine whole ((dat3 V c).arrAt_eq_of_covers 2 _ (by decide +kernel) fun t hf y => ?_)
  have e0 : (((cfg3.win 2).blk t).view.emb y 0).val = t.val * 512 + (y 0).val := by blk_simp [place3_2]
  have e1 : (((cfg3.win 2).blk t).view.emb y 1).val = 0 + (y 1).val := by blk_simp [place3_2]
  refine Eq.trans ?_ (congrArg₂ (nt X W 1024) e0 e1).symm
  blk_simp
  rw [after3_2]
  rw [out3_eq]
  exact (dy_tile (tile3_0 V c h0 t) (tile3_1 V c h1 t) y).trans (by simp only [Nat.zero_add])

/-- The projection's input's gradient. -/
theorem result_dh {X W : Mat} (h0 : IsTile X 0 0 (V c main_arg2)) (h1 : IsTile W 0 0 (V c main_arg1)) : IsTile (nt X W 3072) 0 0 ((dat5 V c).arrAt 2 cfg5.N) := by
  refine whole ((dat5 V c).arrAt_eq_of_covers 2 _ (by decide +kernel) fun t hf y => ?_)
  have e0 : (((cfg5.win 2).blk t).view.emb y 0).val = t.val * 512 + (y 0).val := by blk_simp [place5_2]
  have e1 : (((cfg5.win 2).blk t).view.emb y 1).val = 0 + (y 1).val := by blk_simp [place5_2]
  refine Eq.trans ?_ (congrArg₂ (nt X W 3072) e0 e1).symm
  blk_simp
  rw [after5_2]
  rw [out5_eq]
  exact (dh_tile (tile5_0 V c h0 t) (tile5_1 V c h1 t) y).trans (by simp only [Nat.zero_add])

/-- The output projection's weights' gradient's block after a point: the sum over the rows so far. -/
theorem part_wout {A D : Mat} (h0 : IsTile A 0 0 (V c main_arg3)) (h1 : IsTile D 0 0 (V c main_arg6)) :
    ∀ (n : Nat) (hn : n < cfg2.N), IsTile (tn A D (n % 16 * 1024 + 1024)) 0 0 (outsAt2 V c n hn)
  | n, hn => by
    have hx : IsTile A (n % 16 * 1024) 0 (iblk2 V c 0 ⟨n, hn⟩) := tile2_0 V c h0 ⟨n, hn⟩
    have hy : IsTile D (n % 16 * 1024) 0 (iblk2 V c 1 ⟨n, hn⟩) := tile2_1 V c h1 ⟨n, hn⟩
    by_cases z : n % 16 = 0
    · have e : outsAt2 V c n hn = k2_pay2 k2_pay1 (iblk2 V c 0 ⟨n, hn⟩) (iblk2 V c 1 ⟨n, hn⟩) := by
        rw [outsAt2_A V c ⟨n, hn⟩ z]
        apply out2_A
      rw [z, Nat.zero_mul] at hx hy
      rw [e, z, Nat.zero_mul]
      exact wout_tile (wout_zero A D _ _) hx hy
    · have e : outsAt2 V c n hn = k2_pay2 (outsAt2 V c (n - 1) (Nat.lt_of_le_of_lt (Nat.sub_le _ _) hn)) (iblk2 V c 0 ⟨n, hn⟩) (iblk2 V c 1 ⟨n, hn⟩) := by
        rw [outsAt2_B V c ⟨n, hn⟩ z]
        apply out2_B
      have i := part_wout h0 h1 (n - 1) (Nat.lt_of_le_of_lt (Nat.sub_le _ _) hn)
      rw [show (n - 1) % 16 * 1024 + 1024 = n % 16 * 1024 by omega] at i
      rw [e]
      exact wout_tile i hx hy
  termination_by n => n
  decreasing_by omega

/-- The output projection's weights' gradient. -/
theorem result_wout {A D : Mat} (h0 : IsTile A 0 0 (V c main_arg3)) (h1 : IsTile D 0 0 (V c main_arg6)) :
    IsTile (tn A D 16384) 0 0 ((dat2 V c).arrAt 2 cfg2.N) := by
  refine whole ((dat2 V c).arrAt_eq_of_covers 2 _ (by decide +kernel) fun t hf y => ?_)
  have ht : t.val % 16 = 15 := (by decide +kernel : ∀ t : Fin cfg2.N, (cfg2.win 2).flush t = true → t.val % 16 = 15) t hf
  have e0 : (((cfg2.win 2).blk t).view.emb y 0).val = 0 + (y 0).val := by blk_simp [place2_2]
  have e1 : (((cfg2.win 2).blk t).view.emb y 1).val = 0 + (y 1).val := by blk_simp [place2_2]
  refine Eq.trans ?_ (congrArg₂ (tn A D 16384) e0 e1).symm
  blk_simp
  rw [after2_2]
  have q := part_wout V c h0 h1 t.val t.isLt y
  rw [ht, show 15 * 1024 + 1024 = 16384 from rfl, Nat.zero_add, Nat.zero_add] at q
  exact q

/-- The projection's weights' gradient's block after a point: the sum over the rows so far. -/
theorem part_win {A D : Mat} (h0 : IsTile A 0 0 (V c main_arg0)) (h1 : IsTile D 0 0 (V c main_arg2)) :
    ∀ (n : Nat) (hn : n < cfg4.N), IsTile (tn A D (n % 16 * 1024 + 1024)) 0 (n / 16 * 1536) (outsAt4 V c n hn)
  | n, hn => by
    have hx : IsTile A (n % 16 * 1024) 0 (iblk4 V c 0 ⟨n, hn⟩) := tile4_0 V c h0 ⟨n, hn⟩
    have hy : IsTile D (n % 16 * 1024) (n / 16 * 1536) (iblk4 V c 1 ⟨n, hn⟩) := tile4_1 V c h1 ⟨n, hn⟩
    by_cases z : n % 16 = 0
    · have e : outsAt4 V c n hn = k4_pay2 k4_pay1 (iblk4 V c 0 ⟨n, hn⟩) (iblk4 V c 1 ⟨n, hn⟩) := by
        rw [outsAt4_A V c ⟨n, hn⟩ z]
        apply out4_A
      rw [z, Nat.zero_mul] at hx hy
      rw [e, z, Nat.zero_mul]
      exact win_tile (win_zero A D _ _) hx hy
    · have e : outsAt4 V c n hn = k4_pay2 (outsAt4 V c (n - 1) (Nat.lt_of_le_of_lt (Nat.sub_le _ _) hn)) (iblk4 V c 0 ⟨n, hn⟩) (iblk4 V c 1 ⟨n, hn⟩) := by
        rw [outsAt4_B V c ⟨n, hn⟩ z]
        apply out4_B
      have i := part_win h0 h1 (n - 1) (Nat.lt_of_le_of_lt (Nat.sub_le _ _) hn)
      rw [show (n - 1) % 16 * 1024 + 1024 = n % 16 * 1024 by omega, show (n - 1) / 16 = n / 16 by omega] at i
      rw [e]
      exact win_tile i hx hy
  termination_by n => n
  decreasing_by omega

/-- The projection's weights' gradient. -/
theorem result_win {A D : Mat} (h0 : IsTile A 0 0 (V c main_arg0)) (h1 : IsTile D 0 0 (V c main_arg2)) :
    IsTile (tn A D 16384) 0 0 ((dat4 V c).arrAt 2 cfg4.N) := by
  refine whole ((dat4 V c).arrAt_eq_of_covers 2 _ (by decide +kernel) fun t hf y => ?_)
  have ht : t.val % 16 = 15 := (by decide +kernel : ∀ t : Fin cfg4.N, (cfg4.win 2).flush t = true → t.val % 16 = 15) t hf
  have e0 : (((cfg4.win 2).blk t).view.emb y 0).val = 0 + (y 0).val := by blk_simp [place4_2]
  have e1 : (((cfg4.win 2).blk t).view.emb y 1).val = t.val / 16 * 1536 + (y 1).val := by blk_simp [place4_2]
  refine Eq.trans ?_ (congrArg₂ (tn A D 16384) e0 e1).symm
  blk_simp
  rw [after4_2]
  have q := part_win V c h0 h1 t.val t.isLt y
  rw [ht, show 15 * 1024 + 1024 = 16384 from rfl, Nat.zero_add] at q
  exact q

end Cert.Kernel4Ideal.Lin
-- ==== Proof.LinValue.lean ====
/- What the mixer's six product calls leave in their six results at the end of the run. -/
module

public import proofs.«01_k».proof.Proof.LinResults

@[expose] public section

set_option maxRecDepth 16384
set_option maxHeartbeats 400000

noncomputable section

namespace Cert.Kernel4Ideal.Lin

open Cert.Kernel4Ideal Cert.Kernel4Ideal.Gen Idealize.ShloMosaic Idealize.ShloMosaic.TcCoe Idealize.SL.Sem
open Cert.Ffn
open Cert.Conv (at2)

variable (m : (l : Loc nD τ sig) → Buf (Elt Ideal) l) (ρ : Dev nD → PrngReg) (c : Dev nD)

/-- The projection's input. -/
def inH : Mat := at2 (m := 16384) (n := 1024) (m ((c.tc : Thread nD τ).loc main_arg0))
/-- The projection's weights. -/
def inW : Mat := at2 (m := 1024) (n := 3072) (m ((c.tc : Thread nD τ).loc main_arg1))
/-- The projection's gradient. -/
def inP : Mat := at2 (m := 16384) (n := 3072) (m ((c.tc : Thread nD τ).loc main_arg2))
/-- The output projection's input. -/
def inY : Mat := at2 (m := 16384) (n := 1024) (m ((c.tc : Thread nD τ).loc main_arg3))
/-- The output projection's weights. -/
def inO : Mat := at2 (m := 1024) (n := 1024) (m ((c.tc : Thread nD τ).loc main_arg4))
/-- What came into the mixer. -/
def inX : Mat := at2 (m := 16384) (n := 1024) (m ((c.tc : Thread nD τ).loc main_arg5))
/-- The mixer's output's gradient. -/
def inD : Mat := at2 (m := 16384) (n := 1024) (m ((c.tc : Thread nD τ).loc main_arg6))

/- The arguments are as they were at every call. -/
theorem at0_arg0 : IsTile (inH m c) 0 0 (V0 m ρ c main_arg0) := by
  have e : V0 m ρ c main_arg0 = m ((c.tc : Thread nD τ).loc main_arg0) := W0_args m ρ c main_arg0 (by decide)
  rw [e]
  exact tile_at2 _
theorem at0_arg1 : IsTile (inW m c) 0 0 (V0 m ρ c main_arg1) := by
  have e : V0 m ρ c main_arg1 = m ((c.tc : Thread nD τ).loc main_arg1) := W0_args m ρ c main_arg1 (by decide)
  rw [e]
  exact tile_at2 _
theorem at1_arg3 : IsTile (inY m c) 0 0 (V1 m ρ c main_arg3) := by
  have e : V1 m ρ c main_arg3 = m ((c.tc : Thread nD τ).loc main_arg3) := W1_args m ρ c main_arg3 (by decide)
  rw [e]
  exact tile_at2 _
theorem at1_arg4 : IsTile (inO m c) 0 0 (V1 m ρ c main_arg4) := by
  have e : V1 m ρ c main_arg4 = m ((c.tc : Thread nD τ).loc main_arg4) := W1_args m ρ c main_arg4 (by decide)
  rw [e]
  exact tile_at2 _
theorem at1_arg5 : IsTile (inX m c) 0 0 (V1 m ρ c main_arg5) := by
  have e : V1 m ρ c main_arg5 = m ((c.tc : Thread nD τ).loc main_arg5) := W1_args m ρ c main_arg5 (by decide)
  rw [e]
  exact tile_at2 _
theorem at2_arg3 : IsTile (inY m c) 0 0 (V2 m ρ c main_arg3) := by
  have e : V2 m ρ c main_arg3 = m ((c.tc : Thread nD τ).loc main_arg3) := W2_args m ρ c main_arg3 (by decide)
  rw [e]
  exact tile_at2 _
theorem at2_arg6 : IsTile (inD m c) 0 0 (V2 m ρ c main_arg6) := by
  have e : V2 m ρ c main_arg6 = m ((c.tc : Thread nD τ).loc main_arg6) := W2_args m ρ c main_arg6 (by decide)
  rw [e]
  exact tile_at2 _
theorem at3_arg6 : IsTile (inD m c) 0 0 (V3 m ρ c main_arg6) := by
  have e : V3 m ρ c main_arg6 = m ((c.tc : Thread nD τ).loc main_arg6) := W3_args m ρ c main_arg6 (by decide)
  rw [e]
  exact tile_at2 _
theorem at3_arg4 : IsTile (inO m c) 0 0 (V3 m ρ c main_arg4) := by
  have e : V3 m ρ c main_arg4 = m ((c.tc : Thread nD τ).loc main_arg4) := W3_args m ρ c main_arg4 (by decide)
  rw [e]
  exact tile_at2 _
theorem at4_arg0 : IsTile (inH m c) 0 0 (V4 m ρ c main_arg0) := by
  have e : V4 m ρ c main_arg0 = m ((c.tc : Thread nD τ).loc main_arg0) := W4_args m ρ c main_arg0 (by decide)
  rw [e]
  exact tile_at2 _
theorem at4_arg2 : IsTile (inP m c) 0 0 (V4 m ρ c main_arg2) := by
  have e : V4 m ρ c main_arg2 = m ((c.tc : Thread nD τ).loc main_arg2) := W4_args m ρ c main_arg2 (by decide)
  rw [e]
  exact tile_at2 _
theorem at5_arg2 : IsTile (inP m c) 0 0 (V5 m ρ c main_arg2) := by
  have e : V5 m ρ c main_arg2 = m ((c.tc : Thread nD τ).loc main_arg2) := W5_args m ρ c main_arg2 (by decide)
  rw [e]
  exact tile_at2 _
theorem at5_arg1 : IsTile (inW m c) 0 0 (V5 m ρ c main_arg1) := by
  have e : V5 m ρ c main_arg1 = m ((c.tc : Thread nD τ).loc main_arg1) := W5_args m ρ c main_arg1 (by decide)
  rw [e]
  exact tile_at2 _

/-- The projection at the end. -/
theorem end_proj : IsTile (nn (inH m c) (inW m c) 1024) 0 0 (V6 m ρ c main_v0) := by
  have e : V6 m ρ c main_v0 = (dat0 (V0 m ρ) c).arrAt 2 cfg0.N := (W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans (W1_arr m ρ c 2)))))
  rw [e]
  exact result_proj _ c (at0_arg0 m ρ c) (at0_arg1 m ρ c)

/-- The mixer's output at the end. -/
theorem end_out : IsTile (fun i k => inX m c i k + nn (inY m c) (inO m c) 1024 i k) 0 0 (V6 m ρ c main_v1) := by
  have e : V6 m ρ c main_v1 = (dat1 (V1 m ρ) c).arrAt 3 cfg1.N := (W6_of m ρ c main_v1 (by decide +kernel)).trans ((W5_of m ρ c main_v1 (by decide +kernel)).trans ((W4_of m ρ c main_v1 (by decide +kernel)).trans ((W3_of m ρ c main_v1 (by decide +kernel)).trans (W2_arr m ρ c 3))))
  rw [e]
  exact result_out _ c (at1_arg3 m ρ c) (at1_arg4 m ρ c) (at1_arg5 m ρ c)

/-- The output projection's weights' gradient at the end. -/
theorem end_wout : IsTile (tn (inY m c) (inD m c) 16384) 0 0 (V6 m ρ c main_v2) := by
  have e : V6 m ρ c main_v2 = (dat2 (V2 m ρ) c).arrAt 2 cfg2.N := (W6_of m ρ c main_v2 (by decide +kernel)).trans ((W5_of m ρ c main_v2 (by decide +kernel)).trans ((W4_of m ρ c main_v2 (by decide +kernel)).trans (W3_arr m ρ c 2)))
  rw [e]
  exact result_wout _ c (at2_arg3 m ρ c) (at2_arg6 m ρ c)

/-- The output projection's input's gradient at the end. -/
theorem end_dy : IsTile (nt (inD m c) (inO m c) 1024) 0 0 (V6 m ρ c main_v3) := by
  have e : V6 m ρ c main_v3 = (dat3 (V3 m ρ) c).arrAt 2 cfg3.N := (W6_of m ρ c main_v3 (by decide +kernel)).trans ((W5_of m ρ c main_v3 (by decide +kernel)).trans (W4_arr m ρ c 2))
  rw [e]
  exact result_dy _ c (at3_arg6 m ρ c) (at3_arg4 m ρ c)

/-- The projection's weights' gradient at the end. -/
theorem end_win : IsTile (tn (inH m c) (inP m c) 16384) 0 0 (V6 m ρ c main_v4) := by
  have e : V6 m ρ c main_v4 = (dat4 (V4 m ρ) c).arrAt 2 cfg4.N := (W6_of m ρ c main_v4 (by decide +kernel)).trans (W5_arr m ρ c 2)
  rw [e]
  exact result_win _ c (at4_arg0 m ρ c) (at4_arg2 m ρ c)

/-- The projection's input's gradient at the end. -/
theorem end_dh : IsTile (nt (inP m c) (inW m c) 3072) 0 0 (V6 m ρ c main_v5) := by
  have e : V6 m ρ c main_v5 = (dat5 (V5 m ρ) c).arrAt 2 cfg5.N := W6_arr m ρ c 2
  rw [e]
  exact result_dh _ c (at5_arg2 m ρ c) (at5_arg1 m ρ c)

end Cert.Kernel4Ideal.Lin
-- ==== Proof.LinRef.lean ====
/- What the reference of the mixer's products computes, array by array. -/
module

public import proofs.«01_k».proof.Proof.FfnSpec
public import proofs.«01_k».proof.Proof.Gen.Reference4Ideal.Read

@[expose] public section

set_option maxRecDepth 16384
set_option maxHeartbeats 400000

noncomputable section

namespace Cert.Reference4Ideal.Lin

open Cert.Reference4Ideal Cert.Reference4Ideal.Gen Cert.Reference4Ideal.Read Idealize.ShloMosaic Idealize.ShloMosaic.TcCoe Idealize.SL.Sem
open Cert.Ffn

variable {H W P Y O X D : Mat} {x0 x3 : (⟨S16384x1024, .bf16⟩ : BufTy).Contents (Elt Ideal)} {x1 : (⟨S1024x3072, .bf16⟩ : BufTy).Contents (Elt Ideal)}
  {x2 : (⟨S16384x3072, .bf16⟩ : BufTy).Contents (Elt Ideal)} {x4 : (⟨S1024x1024, .bf16⟩ : BufTy).Contents (Elt Ideal)} {x5 x6 : (⟨S16384x1024, .f32⟩ : BufTy).Contents (Elt Ideal)}

/-- The projection. -/
theorem res_proj (h0 : IsTile H 0 0 x0) (h1 : IsTile W 0 0 x1) (i : S16384x3072.Idx) : val_main_v13 (F := Ideal) x0 x1 i = nn H W 1024 (i 0).val (i 1).val := by
  show val_main_v2 (F := Ideal) x0 x1 i = _
  rw [val_main_v2_apply]
  unfold nn
  rw [Finset.sum_range]
  exact Finset.sum_congr rfl fun k _ => congrArg₂ (· * ·) (entry h0 _ _ _ rfl rfl) (entry h1 _ _ _ rfl rfl)

/-- The mixer's output. -/
theorem res_out (h3 : IsTile Y 0 0 x3) (h4 : IsTile O 0 0 x4) (h5 : IsTile X 0 0 x5) (i : S16384x1024.Idx) : val_main_v14 (F := Ideal) x3 x4 x5 i = X (i 0).val (i 1).val + nn Y O 1024 (i 0).val (i 1).val := by
  show x5 i + val_main_v5 (F := Ideal) x3 x4 i = _
  rw [val_main_v5_apply]
  unfold nn
  rw [Finset.sum_range]
  exact congrArg₂ (· + ·) (entry h5 _ _ _ rfl rfl) (Finset.sum_congr rfl fun k _ => congrArg₂ (· * ·) (entry h3 _ _ _ rfl rfl) (entry h4 _ _ _ rfl rfl))

/-- The output projection's weights' gradient. -/
theorem res_wout (h3 : IsTile Y 0 0 x3) (h6 : IsTile D 0 0 x6) (i : S1024x1024.Idx) : val_main_v11 (F := Ideal) x3 x6 i = tn Y D 16384 (i 0).val (i 1).val := by
  rw [val_main_v11_apply, val_main_v10_apply]
  unfold tn
  rw [Finset.sum_range]
  exact Finset.sum_congr rfl fun k _ => (mul_comm _ _).trans (congrArg₂ (· * ·) (entry h3 _ _ _ rfl rfl) (entry h6 _ _ _ rfl rfl))

/-- The output projection's input's gradient. -/
theorem res_dy (h4 : IsTile O 0 0 x4) (h6 : IsTile D 0 0 x6) (i : S16384x1024.Idx) : val_main_v15 (F := Ideal) x4 x6 i = nt D O 1024 (i 0).val (i 1).val := by
  show val_main_v12 (F := Ideal) x4 x6 i = _
  rw [val_main_v12_apply]
  unfold nt
  rw [Finset.sum_range]
  exact Finset.sum_congr rfl fun k _ => congrArg₂ (· * ·) (entry h6 _ _ _ rfl rfl) (entry h4 _ _ _ rfl rfl)

/-- The projection's weights' gradient. -/
theorem res_win (h0 : IsTile H 0 0 x0) (h2 : IsTile P 0 0 x2) (i : S1024x3072.Idx) : val_main_v8 (F := Ideal) x0 x2 i = tn H P 16384 (i 0).val (i 1).val := by
  rw [val_main_v8_apply, val_main_v7_apply]
  unfold tn
  rw [Finset.sum_range]
  exact Finset.sum_congr rfl fun k _ => (mul_comm _ _).trans (congrArg₂ (· * ·) (entry h0 _ _ _ rfl rfl) (entry h2 _ _ _ rfl rfl))

/-- The projection's input's gradient. -/
theorem res_dh (h1 : IsTile W 0 0 x1) (h2 : IsTile P 0 0 x2) (i : S16384x1024.Idx) : val_main_v16 (F := Ideal) x1 x2 i = nt P W 3072 (i 0).val (i 1).val := by
  show val_main_v9 (F := Ideal) x1 x2 i = _
  rw [val_main_v9_apply]
  unfold nt
  rw [Finset.sum_range]
  exact Finset.sum_congr rfl fun k _ => congrArg₂ (· * ·) (entry h2 _ _ _ rfl rfl) (entry h1 _ _ _ rfl rfl)

end Cert.Reference4Ideal.Lin
-- ==== Proof.LinSame.lean ====
/- The mixer's product calls compute what their reference computes. -/
module

public import proofs.«01_k».proof.Defs
public import proofs.«01_k».proof.Proof.LinRun
public import proofs.«01_k».proof.Proof.LinValue
public import proofs.«01_k».proof.Proof.LinRef
public import proofs.«01_k».proof.Proof.Gen.Reference4Ideal.Run

@[expose] public section

set_option maxRecDepth 16384
set_option maxHeartbeats 1000000

noncomputable section

namespace Cert.Proof.Lin

open Idealize.ShloMosaic Idealize.ShloMosaic.TcCoe Idealize.SL.Sem
open Cert.Ffn
open Cert.Kernel4Ideal.Lin

/-- The two projections and the gradients of their inputs and weights are the reference's, element by element. -/
theorem same : Cert.algebraic_Kernel4Ideal_Reference4Ideal (hKernel4Ideal := Cert.Kernel4Ideal.Gen.facts) (hReference4Ideal := Cert.Reference4Ideal.Gen.facts) := by
  intro m g m' g' _ hin
  refine ⟨fun c i => nn (inH m c) (inW m c) 1024 (i 0).val (i 1).val,
    fun c i => inX m c (i 0).val (i 1).val + nn (inY m c) (inO m c) 1024 (i 0).val (i 1).val,
    fun c i => tn (inY m c) (inD m c) 16384 (i 0).val (i 1).val,
    fun c i => nt (inD m c) (inO m c) 1024 (i 0).val (i 1).val,
    fun c i => tn (inH m c) (inP m c) 16384 (i 0).val (i 1).val,
    fun c i => nt (inP m c) (inW m c) 3072 (i 0).val (i 1).val,
    (θ_run Cert.Kernel4Ideal.defs _ _).mono (fun r h c => ?_) (Cert.Kernel4Ideal.Lin.run (F := Ideal) m g),
    (θ_run Cert.Reference4Ideal.defs _ _).mono (fun r h c => ?_) (Cert.Reference4Ideal.Value.run (F := Ideal) m' g')⟩
  · obtain ⟨h0, h1, h2, h3, h4, h5, k⟩ := h c
    exact ⟨h0.trans (of_tile (end_proj m g c)),
      h1.trans (of_tile (end_out m g c)),
      h2.trans (of_tile (end_wout m g c)),
      h3.trans (of_tile (end_dy m g c)),
      h4.trans (of_tile (end_win m g c)),
      h5.trans (of_tile (end_dh m g c)), k⟩
  · obtain ⟨h0, h1, h2, h3, h4, h5, k⟩ := h c
    obtain ⟨a0, a1, a2, a3, a4, a5, a6⟩ := hin c
    have t0 : IsTile (inH m c) 0 0 (m' ((c.tc : Thread Cert.Reference4Ideal.nD Cert.Reference4Ideal.τ).loc Cert.Reference4Ideal.main_arg0)) := by
      rw [a0]; exact tile_at2 _
    have t1 : IsTile (inW m c) 0 0 (m' ((c.tc : Thread Cert.Reference4Ideal.nD Cert.Reference4Ideal.τ).loc Cert.Reference4Ideal.main_arg1)) := by
      rw [a1]; exact tile_at2 _
    have t2 : IsTile (inP m c) 0 0 (m' ((c.tc : Thread Cert.Reference4Ideal.nD Cert.Reference4Ideal.τ).loc Cert.Reference4Ideal.main_arg2)) := by
      rw [a2]; exact tile_at2 _
    have t3 : IsTile (inY m c) 0 0 (m' ((c.tc : Thread Cert.Reference4Ideal.nD Cert.Reference4Ideal.τ).loc Cert.Reference4Ideal.main_arg3)) := by
      rw [a3]; exact tile_at2 _
    have t4 : IsTile (inO m c) 0 0 (m' ((c.tc : Thread Cert.Reference4Ideal.nD Cert.Reference4Ideal.τ).loc Cert.Reference4Ideal.main_arg4)) := by
      rw [a4]; exact tile_at2 _
    have t5 : IsTile (inX m c) 0 0 (m' ((c.tc : Thread Cert.Reference4Ideal.nD Cert.Reference4Ideal.τ).loc Cert.Reference4Ideal.main_arg5)) := by
      rw [a5]; exact tile_at2 _
    have t6 : IsTile (inD m c) 0 0 (m' ((c.tc : Thread Cert.Reference4Ideal.nD Cert.Reference4Ideal.τ).loc Cert.Reference4Ideal.main_arg6)) := by
      rw [a6]; exact tile_at2 _
    exact ⟨h0.trans ((Cert.Reference4Ideal.Read.val_main_v13_eq _ _).trans (funext (Cert.Reference4Ideal.Lin.res_proj t0 t1))),
      h1.trans ((Cert.Reference4Ideal.Read.val_main_v14_eq _ _ _).trans (funext (Cert.Reference4Ideal.Lin.res_out t3 t4 t5))),
      h2.trans ((Cert.Reference4Ideal.Read.val_main_v11_eq _ _).trans (funext (Cert.Reference4Ideal.Lin.res_wout t3 t6))),
      h3.trans ((Cert.Reference4Ideal.Read.val_main_v15_eq _ _).trans (funext (Cert.Reference4Ideal.Lin.res_dy t4 t6))),
      h4.trans ((Cert.Reference4Ideal.Read.val_main_v8_eq _ _).trans (funext (Cert.Reference4Ideal.Lin.res_win t0 t2))),
      h5.trans ((Cert.Reference4Ideal.Read.val_main_v16_eq _ _).trans (funext (Cert.Reference4Ideal.Lin.res_dh t1 t2))), k⟩

end Cert.Proof.Lin
-- ==== Proof.RowRun.lean ====
/- The whole run of the normalisation's, its gradient's and the convolution's calls: what every array holds at the end. -/
module

public import proofs.«01_k».proof.Proof.Gen.Kernel5Ideal.Frame

@[expose] public section

set_option maxRecDepth 16384
set_option maxHeartbeats 1000000

noncomputable section

namespace Cert.Kernel5Ideal.Row

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- Every weakly fair run ends with the four results as the last operation leaves them, and the arguments unchanged. -/
theorem run : θ_run defs (onTc (τ := τ) (main (F := F))) ⟨m, fun _ => 0, ρ⟩ (fun r => ∀ c : Dev nD,
      r.2.mem ((c.tc : Thread nD τ).loc main_v1) = W7 m ρ c (Proc.devRef .tc main_v1)
      ∧ r.2.mem ((c.tc : Thread nD τ).loc main_v2_0) = W7 m ρ c (Proc.devRef .tc main_v2_0)
      ∧ r.2.mem ((c.tc : Thread nD τ).loc main_v5) = W7 m ρ c (Proc.devRef .tc main_v5)
      ∧ r.2.mem ((c.tc : Thread nD τ).loc main_v4) = W7 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v1 (by decide)), h c _ (mem_uc main_v2_0 (by decide)), h c _ (mem_uc main_v5 (by decide)), h c _ (mem_uc main_v4 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Kernel5Ideal.Row
-- ==== Proof.RowSpec.lean ====
/- A root-mean-square normalisation and its gradient, a loss and a sum over interleaved rows, over extended reals. -/
module

public import proofs.«01_k».proof.Proof.FfnSpec

@[expose] public section

noncomputable section

namespace Cert.Row

open Idealize.ShloMosaic
open Cert.Ffn (Mat)

/-- A list read at a place, 0 outside. -/
def at1 {n : Nat} (x : (⟨1, ![n]⟩ : Shape).Idx → EReal) (k : Nat) : EReal := if h : k < n then x (fun _ => ⟨k, by simpa using h⟩) else 0

theorem at1_eq {n : Nat} (x : (⟨1, ![n]⟩ : Shape).Idx → EReal) (j : (⟨1, ![n]⟩ : Shape).Idx) (k : Nat) (h : (j 0).val = k) : x j = at1 x k := by
  subst h
  unfold at1
  have q : (j 0).val < n := (j 0).isLt
  rw [dif_pos q]
  exact congrArg x (funext fun a => Fin.ext (match a with | ⟨0, _⟩ => rfl))

/-- The width of a row, as the programs write it. -/
theorem width : Ideal.ofBits .f32 0x44800000#32 = ((1024 : ℝ) : EReal) := by
  simp [Ideal.ofBits, Ideal.ieee]
  rw [← EReal.coe_mul]
  norm_num

/-- The width is not zero. -/
theorem div_width (x : EReal) : Ideal.div x (Ideal.ofBits .f32 0x44800000#32) = x * ((1 / 1024 : ℝ) : EReal) := by
  rw [width, Ideal.div_coe (by norm_num)]

/-- The number added to the mean square. -/
def eps : EReal := Ideal.ofBits .f32 0x358637BD#32

theorem eps_pos : ∃ e : ℝ, 0 < e ∧ eps = e := by
  refine ⟨8796093 * (2 : ℝ) ^ (-43 : Int), by positivity, ?_⟩
  simp [eps, Ideal.ofBits, Ideal.ieee]

theorem neg_half : Ideal.ofBits .f32 0xBF000000#32 = ((-(1 / 2) : ℝ) : EReal) := by
  simp [Ideal.ofBits, Ideal.ieee]
  rw [← EReal.coe_mul]
  norm_num

section
variable (X G D R : Mat)

/-- A row's mean square and a little more. -/
def ms (r : Nat) : EReal := (∑ k ∈ Finset.range 1024, X r k * X r k) * ((1 / 1024 : ℝ) : EReal) + eps
/-- One over a row's root mean square. -/
def rinv (r : Nat) : EReal := Ideal.rsqrt (ms X r)
/-- The row divided by its root mean square. -/
def unit : Mat := fun r c => X r c * rinv X r
/-- The normalised row. -/
def normed : Mat := fun r c => unit X r c * G 0 c
/-- The gradient that reaches the divided row. -/
def arrive : Mat := fun r c => D r c * G 0 c
/-- The input's gradient: what arrives without its part along the row, divided by the root mean square, and what came from elsewhere. -/
def dinput : Mat := fun r c => rinv X r * (arrive G D r c
  - unit X r c * ((∑ k ∈ Finset.range 1024, arrive G D r k * unit X r k) * ((1 / 1024 : ℝ) : EReal))) + R r c
/-- The gain's gradient. -/
def dgain (c : Nat) : EReal := ∑ r ∈ Finset.range 16384, D r c * unit X r c

/-- The gradient of the mean square's contribution, as the chain rule gives it. -/
def chain (r : Nat) : EReal :=
  (∑ k ∈ Finset.range 1024, X r k * arrive G D r k) * (((-(1 / 2) : ℝ) : EReal) * Ideal.div (rinv X r) (ms X r)) * ((1 / 1024 : ℝ) : EReal)
end

/-- A sum of squares is not negative. -/
theorem squares_nonneg (f : Nat → EReal) (n : Nat) : 0 ≤ ∑ k ∈ Finset.range n, f k * f k :=
  Finset.sum_nonneg fun k _ => by
    induction f k using EReal.rec with
    | bot => simp
    | coe x => exact_mod_cast mul_self_nonneg x
    | top => simp

/-- A factor that is a real and not negative is drawn out of a sum. -/
theorem sum_mul_real (f : Nat → EReal) (c : ℝ) (hc : 0 ≤ c) (n : Nat) : (∑ k ∈ Finset.range n, f k) * (c : EReal) = ∑ k ∈ Finset.range n, f k * (c : EReal) := by
  induction n with
  | zero => simp
  | succ n ih =>
    rw [Finset.sum_range_succ, Finset.sum_range_succ, ← ih]
    exact EReal.right_distrib_of_nonneg_of_ne_top (by exact_mod_cast hc) (EReal.coe_ne_top c) _ _

/-- A mean square is infinite, or every root is a positive real. -/
theorem rinv_cases (X : Mat) (r : Nat) : (ms X r = ⊤ ∧ rinv X r = 0)
    ∨ ∃ q : ℝ, 0 < q ∧ rinv X r = q ∧ Ideal.div (rinv X r) (ms X r) = ((q * q * q : ℝ) : EReal) ∧ ∀ k < 1024, ∃ x : ℝ, X r k = x := by
  obtain ⟨e, he, hE⟩ := eps_pos
  have h0 := squares_nonneg (X r) 1024
  by_cases hS : ∑ k ∈ Finset.range 1024, X r k * X r k = ⊤
  · left
    have : ms X r = ⊤ := by
      unfold ms
      rw [hS, hE, EReal.top_mul_coe_of_pos (by norm_num), EReal.top_add_coe]
    exact ⟨this, by rw [rinv, this, Ideal.rsqrt_top]⟩
  · right
    obtain ⟨s, hs⟩ : ∃ s : ℝ, ∑ k ∈ Finset.range 1024, X r k * X r k = s := by
      lift ∑ k ∈ Finset.range 1024, X r k * X r k to ℝ using ⟨hS, fun h => by rw [h] at h0; exact absurd h0 (by simp)⟩ with s
      exact ⟨s, rfl⟩
    rw [hs] at h0
    have hs0 : 0 ≤ s := by exact_mod_cast h0
    have hm : ms X r = ((s * (1 / 1024) + e : ℝ) : EReal) := by
      unfold ms
      rw [hs, hE, ← EReal.coe_mul, ← EReal.coe_add]
    have hp : 0 < s * (1 / 1024) + e := by positivity
    have hq : rinv X r = (((Real.sqrt (s * (1 / 1024) + e))⁻¹ : ℝ) : EReal) := by
      rw [rinv, hm, Ideal.rsqrt_coe, if_neg (not_lt.mpr hp.le), if_neg hp.ne']
    refine ⟨(Real.sqrt (s * (1 / 1024) + e))⁻¹, inv_pos.mpr (Real.sqrt_pos.mpr hp), hq, ?_, fun k hk => ?_⟩
    · rw [hq, hm, Ideal.div_coe hp.ne', ← EReal.coe_mul]
      congr 1
      have h2 : Real.sqrt (s * (1 / 1024) + e) * Real.sqrt (s * (1 / 1024) + e) = s * (1 / 1024) + e := Real.mul_self_sqrt hp.le
      rw [mul_assoc, ← mul_inv, h2]
      exact congrArg _ (one_div _)
    · have hle : X r k * X r k ≤ (s : EReal) := by
        rw [← hs]
        refine Finset.single_le_sum (f := fun k => X r k * X r k) (fun i _ => ?_) (Finset.mem_range.mpr hk)
        have := squares_nonneg (fun _ => X r i) 1
        simpa using this
      induction hx : X r k using EReal.rec with
      | bot => rw [hx] at hle; exact absurd hle (by simp)
      | coe x => exact ⟨x, rfl⟩
      | top => rw [hx] at hle; exact absurd hle (by simp)

/-- Twice the same. -/
theorem twice (s : EReal) (a : ℝ) : s * (a : EReal) + s * (a : EReal) = s * ((2 * a : ℝ) : EReal) := by
  induction s using EReal.rec with
  | coe x => norm_cast; ring
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl

/-- The input's gradient by the chain rule is the one with the part along the row taken off. -/
theorem dinput_eq (X G D R : Mat) (r c : Nat) (hc : c < 1024) :
    R r c + (arrive G D r c * rinv X r + X r c * chain X G D r + chain X G D r * X r c) = dinput X G D R r c := by
  unfold dinput
  rw [add_comm]
  congr 1
  rcases rinv_cases X r with ⟨hm, hi⟩ | ⟨q, hq, hi, hd, hx⟩
  · have : chain X G D r = 0 := by
      unfold chain
      rw [hi, hm]
      simp [Ideal.div]
    rw [this, hi]
    simp
  · obtain ⟨x, hx'⟩ := hx c hc
    have hs : (∑ k ∈ Finset.range 1024, arrive G D r k * unit X r k) = (∑ k ∈ Finset.range 1024, X r k * arrive G D r k) * (q : EReal) := by
      rw [sum_mul_real _ q hq.le]
      refine Finset.sum_congr rfl fun k _ => ?_
      unfold unit
      rw [hi, mul_comm (X r k) (arrive G D r k), mul_assoc]
    unfold chain
    rw [hs, hd]
    generalize ∑ k ∈ Finset.range 1024, X r k * arrive G D r k = s
    unfold unit
    rw [hi, hx', sub_eq_add_neg, EReal.left_distrib_of_nonneg_of_ne_top (by exact_mod_cast hq.le) (EReal.coe_ne_top q), mul_comm (q : EReal) (arrive G D r c), add_assoc]
    congr 1
    rw [show (x : EReal) * (s * (((-(1 / 2) : ℝ) : EReal) * ((q * q * q : ℝ) : EReal)) * ((1 / 1024 : ℝ) : EReal))
          = s * ((x * (-(1 / 2)) * (q * q * q) * (1 / 1024) : ℝ) : EReal) by push_cast; ac_rfl,
      show s * (((-(1 / 2) : ℝ) : EReal) * ((q * q * q : ℝ) : EReal)) * ((1 / 1024 : ℝ) : EReal) * (x : EReal)
          = s * ((x * (-(1 / 2)) * (q * q * q) * (1 / 1024) : ℝ) : EReal) by push_cast; ac_rfl, twice, ← neg_mul, ← EReal.coe_mul, ← EReal.coe_neg,
      show (q : EReal) * (((-(x * q) : ℝ) : EReal) * (s * (q : EReal) * ((1 / 1024 : ℝ) : EReal)))
          = s * ((q * (-(x * q)) * q * (1 / 1024) : ℝ) : EReal) by push_cast; ac_rfl]
    congr 2
    ring

/-- A sum over rows eight apart, from row `p`. -/
def strided (f : Nat → EReal) (n p : Nat) : EReal := ∑ k ∈ Finset.range n, f (8 * k + p)

theorem strided_add (f : Nat → EReal) (n k p : Nat) : strided f (n + k) p = strided f n p + ∑ i ∈ Finset.range k, f (8 * (n + i) + p) :=
  Finset.sum_range_add _ n k

/-- The eight sums together are the sum over all rows. -/
theorem strided_all (f : Nat → EReal) (n : Nat) : ∑ p ∈ Finset.range 8, strided f n p = ∑ r ∈ Finset.range (8 * n), f r := by
  induction n with
  | zero => simp [strided]
  | succ n ih =>
    rw [Nat.mul_succ, Finset.sum_range_add, ← ih, ← Finset.sum_add_distrib]
    refine Finset.sum_congr rfl fun p _ => ?_
    rw [strided_add]
    simp

end Cert.Row
-- ==== Proof.RowTiles.lean ====
/- What a point of the normalisation's two calls computes and reads, as blocks of matrices. -/
module

public import proofs.«01_k».proof.Proof.RowSpec
public import proofs.«01_k».proof.Proof.Gen.Kernel5Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel5Ideal.Row

open Cert.Kernel5Ideal Cert.Kernel5Ideal.Gen Idealize.ShloMosaic Idealize.ShloMosaic.TcCoe Idealize.ShloMosaic.Tactic Idealize.SL.Sem
open Cert.Ffn Cert.Row

/-- One over the root mean square of a block's rows. -/
theorem inv_tile {X : Mat} {r : Nat} {x : Vec Ideal S512x1024 .f32} (hx : IsTile X r 0 x) (j : S512x1.Idx) : k1_pay2 x j = rinv X (r + (j 0).val) := by
  pointwise [k1_pay2]
  simp only [Ideal.divf_def, Ideal.rsqrt_def, Ideal.ofBits_def, div_width]
  unfold rinv ms eps
  rw [Finset.sum_range]
  refine congrArg (fun s => Ideal.rsqrt (s * _ + _)) (Finset.sum_congr rfl fun k _ => ?_)
  rw [hx]
  simp

/-- A block of the normalised rows. -/
theorem norm_tile {X G : Mat} {r : Nat} {x : Vec Ideal S512x1024 .f32} {g : Vec Ideal S1x1024 .f32} (hx : IsTile X r 0 x) (hg : IsTile G 0 0 g) :
    IsTile (normed X G) r 0 (k0_pay1 x g) := fun j => by
  have i := inv_tile hx (ix2 (j 0) 0)
  revert i
  pointwise [k0_pay1, k1_pay2]
  intro i
  rw [i, hg, hx]
  unfold normed unit
  simp

/-- A block of the rows divided by their root mean squares. -/
theorem unit_tile {X : Mat} {r : Nat} {x : Vec Ideal S512x1024 .f32} (hx : IsTile X r 0 x) : IsTile (unit X) r 0 (k1_pay3 x) := fun j => by
  pointwise [k1_pay3]
  rw [inv_tile hx, hx]
  unfold unit
  simp

/-- A block of the input's gradient. -/
theorem dinput_tile {X G D R : Mat} {r : Nat} {x : Vec Ideal S512x1024 .f32} {d : Vec Ideal S512x1024 .bf16} {g : Vec Ideal S1x1024 .f32} {y : Vec Ideal S512x1024 .f32}
    (hx : IsTile X r 0 x) (hd : IsTile D r 0 d) (hg : IsTile G 0 0 g) (hy : IsTile R r 0 y) : IsTile (dinput X G D R) r 0 (k1_pay5 x d g y) := fun j => by
  have hd' : IsTile D r 0 (k1_pay4 d) := hd
  have hu := unit_tile hx
  pointwise [k1_pay5]
  simp only [Ideal.divf_def, Ideal.rsqrt_def, Ideal.ofBits_def, div_width]
  have e : ∀ k : Fin 1024, k1_pay4 d (ix2 (j 0) k) * g (ix2 0 k) * k1_pay3 x (ix2 (j 0) k) = arrive G D (r + (j 0).val) k * unit X (r + (j 0).val) k := fun k => by
    rw [hd', hg, hu]
    unfold arrive
    simp
  rw [Finset.sum_congr rfl fun k _ => e k, inv_tile hx, hd', hg, hu, hy]
  unfold dinput arrive
  rw [Finset.sum_range]
  simp

/-- The gain's gradient's sums over rows eight apart, with the rows of one more block. -/
theorem dgain_tile {X D : Mat} {n : Nat} {x : Vec Ideal S512x1024 .f32} {d : Vec Ideal S512x1024 .bf16} {z : Vec Ideal S8x1024 .f32}
    (hz : IsTile (fun p q => strided (fun i => D i q * unit X i q) n p) 0 0 z) (hx : IsTile X (8 * n) 0 x) (hd : IsTile D (8 * n) 0 d) :
    IsTile (fun p q => strided (fun i => D i q * unit X i q) (n + 64) p) 0 0 (k1_pay1 (k1_pay7 z) (k1_pay8 x d)) := fun j => by
  have hd' : IsTile D (8 * n) 0 (k1_pay4 d) := hd
  have hu := unit_tile hx
  pointwise [k1_pay1, k1_pay7, k1_pay8]
  rw [hz, strided_add, Finset.sum_range]
  simp only [Nat.zero_add]
  refine congrArg (_ + ·) (Finset.sum_congr rfl fun k _ => ?_)
  rw [hd', hu]
  have e : 8 * n + (k.val * 8 + (j 0).val) = 8 * (n + k.val) + (j 0).val := by omega
  simp [e]

/-- A sum over no rows. -/
theorem dgain_zero (X D : Mat) : IsTile (fun p q => strided (fun i => D i q * unit X i q) 0 p) 0 0 (k1_pay6 (F := Ideal)) := fun _ => Ideal.ofBits_zero_f32

/- Where the normalisation's blocks lie. -/
theorem place0_0 : ∀ t : Fin cfg0.N, win0_0.index t = ![t.val, 0] := (by decide +kernel : ∀ t : Fin grid0.N, win0_0.index t = ![t.val, 0])
theorem place0_1 : ∀ t : Fin cfg0.N, win0_1.index t = ![0, 0] := (by decide +kernel : ∀ t : Fin grid0.N, win0_1.index t = ![0, 0])
theorem place0_2 : ∀ t : Fin cfg0.N, win0_2.index t = ![t.val, 0] := (by decide +kernel : ∀ t : Fin grid0.N, win0_2.index t = ![t.val, 0])
/- Where its gradient's blocks lie. -/
theorem place1_0 : ∀ t : Fin cfg1.N, win1_0.index t = ![t.val, 0] := (by decide +kernel : ∀ t : Fin grid1.N, win1_0.index t = ![t.val, 0])
theorem place1_1 : ∀ t : Fin cfg1.N, win1_1.index t = ![0, 0] := (by decide +kernel : ∀ t : Fin grid1.N, win1_1.index t = ![0, 0])
theorem place1_2 : ∀ t : Fin cfg1.N, win1_2.index t = ![t.val, 0] := (by decide +kernel : ∀ t : Fin grid1.N, win1_2.index t = ![t.val, 0])
theorem place1_3 : ∀ t : Fin cfg1.N, win1_3.index t = ![t.val, 0] := (by decide +kernel : ∀ t : Fin grid1.N, win1_3.index t = ![t.val, 0])
theorem place1_4 : ∀ t : Fin cfg1.N, win1_4.index t = ![t.val, 0] := (by decide +kernel : ∀ t : Fin grid1.N, win1_4.index t = ![t.val, 0])
theorem place1_5 : ∀ t : Fin cfg1.N, win1_5.index t = ![0, 0] := (by decide +kernel : ∀ t : Fin grid1.N, win1_5.index t = ![0, 0])

variable (V : (c : Dev nD) → (b : Ref sig .tc) → Buf (Elt Ideal) ((c : Thread nD τ).loc b)) (c : Dev nD) {X : Mat}

/- What the normalisation reads. -/
theorem tile0_0 (h : IsTile X 0 0 (V c main_arg0)) (t : Fin cfg0.N) : IsTile X (t.val * 512) 0 (iblk0 V c 0 t) :=
  block h (((cfg0.win 0).blk t).view.emb) (fun j => by blk_simp [place0_0]) (fun j => by blk_simp [place0_0])
theorem tile0_1 (h : IsTile X 0 0 (V c main_v0)) (t : Fin cfg0.N) : IsTile X 0 0 (iblk0 V c 1 t) :=
  block h (((cfg0.win 1).blk t).view.emb) (fun j => by blk_simp [place0_1]) (fun j => by blk_simp [place0_1])
/- What its gradient reads. -/
theorem tile1_0 (h : IsTile X 0 0 (V c main_arg0)) (t : Fin cfg1.N) : IsTile X (t.val * 512) 0 (iblk1 V c 0 t) :=
  block h (((cfg1.win 0).blk t).view.emb) (fun j => by blk_simp [place1_0]) (fun j => by blk_simp [place1_0])
theorem tile1_1 (h : IsTile X 0 0 (V c main_v0)) (t : Fin cfg1.N) : IsTile X 0 0 (iblk1 V c 1 t) :=
  block h (((cfg1.win 1).blk t).view.emb) (fun j => by blk_simp [place1_1]) (fun j => by blk_simp [place1_1])
theorem tile1_2 (h : IsTile X 0 0 (V c main_arg2)) (t : Fin cfg1.N) : IsTile X (t.val * 512) 0 (iblk1 V c 2 t) :=
  block h (((cfg1.win 2).blk t).view.emb) (fun j => by blk_simp [place1_2]) (fun j => by blk_simp [place1_2])
theorem tile1_3 (h : IsTile X 0 0 (V c main_arg3)) (t : Fin cfg1.N) : IsTile X (t.val * 512) 0 (iblk1 V c 3 t) :=
  block h (((cfg1.win 3).blk t).view.emb) (fun j => by blk_simp [place1_3]) (fun j => by blk_simp [place1_3])

end Cert.Kernel5Ideal.Row
-- ==== Proof.RowResults.lean ====
/- What the normalisation's two calls leave in their results. -/
module

public import proofs.«01_k».proof.Proof.RowTiles
public import Idealize.ShloMosaic.Lib.WritesUnit

@[expose] public section

set_option maxRecDepth 16384
set_option maxHeartbeats 400000

noncomputable section

namespace Cert.Kernel5Ideal.Row

open Cert.Kernel5Ideal Cert.Kernel5Ideal.Gen Idealize.ShloMosaic Idealize.ShloMosaic.TcCoe Idealize.ShloMosaic.Tactic Idealize.SL.Sem
open Cert.Ffn Cert.Row

/-- What a point of the normalisation leaves in its result's block: its one store, of what its body computes from the blocks. -/
theorem out0_eq (x0 : Vec Ideal S512x1024 .f32) (x1 : Vec Ideal S1x1024 .f32) : out0_2 x0 x1 = k0_pay1 x0 x1 := by
  unfold out0_2
  rw [View.canon_unit_zero hz]
  simp only [View.ld_unit_zero (S := S512x1024) hz, View.ld_unit_zero (S := S1x1024) hz]

/-- The input's gradient's block after the first point. -/
theorem dx_A (c : Dev nD) (i : grid1.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : cond1_0 i) (x0 : Vec Ideal S512x1024 .f32) (x1 : Vec Ideal S1x1024 .f32) (x2 : Vec Ideal S512x1024 .bf16) (x3 : Vec Ideal S512x1024 .f32) :
    out1_A_4 c i arg1 harg1 arg2 harg2 arg3 harg3 arg4 harg4 arg5 harg5 arg6 harg6 hc0 x0 x1 x2 x3 = k1_pay5 x0 x2 x1 x3 := by
  unfold out1_A_4
  rw [View.read_writes_eq_canon _ _ _ (cover1_A_4 c i arg1 harg1 arg2 harg2 arg3 harg3 arg4 harg4 arg5 harg5 arg6 harg6 hc0 x0 x1 x2 x3)]
  unfold kernelRun1_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S8x1024) hz]

/-- The gain's gradient's block after the first point. -/
theorem dw_A (c : Dev nD) (i : grid1.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : cond1_0 i) (x0 : Vec Ideal S512x1024 .f32) (x1 : Vec Ideal S1x1024 .f32) (x2 : Vec Ideal S512x1024 .bf16) (x3 : Vec Ideal S512x1024 .f32) :
    out1_A_5 c i arg1 harg1 arg2 harg2 arg3 harg3 arg4 harg4 arg5 harg5 arg6 harg6 hc0 x0 x1 x2 x3 = k1_pay1 (k1_pay7 k1_pay6) (k1_pay8 x0 x2) := by
  unfold out1_A_5
  rw [View.read_writes_eq_canon _ _ _ (cover1_A_5 c i arg1 harg1 arg2 harg2 arg3 harg3 arg4 harg4 arg5 harg5 arg6 harg6 hc0 x0 x1 x2 x3)]
  unfold kernelRun1_A
  dsimp only
  sl_unfold_words
  rw [View.canon_cons_unit_zero hz, View.readCov_eq_canon', View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S8x1024) hz]
  exact congrArg (fun z => k1_pay1 (k1_pay7 z) (k1_pay8 x0 x2)) (funext fun _ => rfl)

/-- The input's gradient's block after any other point. -/
theorem dx_B (c : Dev nD) (i : grid1.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : ¬cond1_0 i) (x0 : Vec Ideal S512x1024 .f32) (x1 : Vec Ideal S1x1024 .f32) (x2 : Vec Ideal S512x1024 .bf16) (x3 : Vec Ideal S512x1024 .f32) (xo5 : Vec Ideal S8x1024 .f32) :
    out1_B_4 c i arg1 harg1 arg2 harg2 arg3 harg3 arg4 harg4 arg5 harg5 arg6 harg6 hc0 x0 x1 x2 x3 xo5 = k1_pay5 x0 x2 x1 x3 := by
  unfold out1_B_4
  rw [View.read_writes_eq_canon _ _ _ (cover1_B_4 c i arg1 harg1 arg2 harg2 arg3 harg3 arg4 harg4 arg5 harg5 arg6 harg6 hc0 x0 x1 x2 x3 xo5)]
  unfold kernelRun1_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S8x1024) hz]

/-- The gain's gradient's block after any other point. -/
theorem dw_B (c : Dev nD) (i : grid1.Coords) (arg1 : Memref sig .tc .vmem S512x1024 .f32) (harg1 : arg1.IsWhole) (arg2 : Memref sig .tc .vmem S1x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (hc0 : ¬cond1_0 i) (x0 : Vec Ideal S512x1024 .f32) (x1 : Vec Ideal S1x1024 .f32) (x2 : Vec Ideal S512x1024 .bf16) (x3 : Vec Ideal S512x1024 .f32) (xo5 : Vec Ideal S8x1024 .f32) :
    out1_B_5 c i arg1 harg1 arg2 harg2 arg3 harg3 arg4 harg4 arg5 harg5 arg6 harg6 hc0 x0 x1 x2 x3 xo5 = k1_pay1 (k1_pay7 xo5) (k1_pay8 x0 x2) := by
  unfold out1_B_5
  rw [View.read_writes_eq_canon _ _ _ (cover1_B_5 c i arg1 harg1 arg2 harg2 arg3 harg3 arg4 harg4 arg5 harg5 arg6 harg6 hc0 x0 x1 x2 x3 xo5)]
  unfold kernelRun1_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S8x1024) hz]

variable (V : (c : Dev nD) → (b : Ref sig .tc) → Buf (Elt Ideal) ((c : Thread nD τ).loc b)) (c : Dev nD) {X G D R : Mat}

/-- The normalised rows. -/
theorem result_norm (h0 : IsTile X 0 0 (V c main_arg0)) (h1 : IsTile G 0 0 (V c main_v0)) : IsTile (normed X G) 0 0 ((dat0 V c).arrAt 2 cfg0.N) := by
  refine whole ((dat0 V c).arrAt_eq_of_covers 2 _ (by decide +kernel) fun t hf y => ?_)
  have e0 : (((cfg0.win 2).blk t).view.emb y 0).val = t.val * 512 + (y 0).val := by blk_simp [place0_2]
  have e1 : (((cfg0.win 2).blk t).view.emb y 1).val = 0 + (y 1).val := by blk_simp [place0_2]
  refine Eq.trans ?_ (congrArg₂ (normed X G) e0 e1).symm
  blk_simp
  rw [after0_2]
  rw [out0_eq]
  exact (norm_tile (tile0_0 V c h0 t) (tile0_1 V c h1 t) y).trans (by simp only [Nat.zero_add])

/-- The gradient's blocks after a point: the input's gradient's own, and the gain's gradient's sums over the rows so far. -/
theorem part_grad (h0 : IsTile X 0 0 (V c main_arg0)) (h1 : IsTile G 0 0 (V c main_v0)) (h2 : IsTile D 0 0 (V c main_arg2)) (h3 : IsTile R 0 0 (V c main_arg3)) :
    ∀ (n : Nat) (hn : n < cfg1.N), IsTile (dinput X G D R) (n * 512) 0 (outsAt1 V c n hn).1
      ∧ IsTile (fun p q => strided (fun i => D i q * unit X i q) (64 * n + 64) p) 0 0 (outsAt1 V c n hn).2
  | n, hn => by
    have hx : IsTile X (n * 512) 0 (iblk1 V c 0 ⟨n, hn⟩) := tile1_0 V c h0 ⟨n, hn⟩
    have hg : IsTile G 0 0 (iblk1 V c 1 ⟨n, hn⟩) := tile1_1 V c h1 ⟨n, hn⟩
    have hd : IsTile D (n * 512) 0 (iblk1 V c 2 ⟨n, hn⟩) := tile1_2 V c h2 ⟨n, hn⟩
    have hr : IsTile R (n * 512) 0 (iblk1 V c 3 ⟨n, hn⟩) := tile1_3 V c h3 ⟨n, hn⟩
    have hx8 : IsTile X (8 * (64 * n)) 0 (iblk1 V c 0 ⟨n, hn⟩) := by rw [show 8 * (64 * n) = n * 512 by omega]; exact hx
    have hd8 : IsTile D (8 * (64 * n)) 0 (iblk1 V c 2 ⟨n, hn⟩) := by rw [show 8 * (64 * n) = n * 512 by omega]; exact hd
    have lt : n < 32 := hn
    by_cases z : n % 32 = 0
    · have n0 : n = 0 := by omega
      have e : (outsAt1 V c n hn).1 = k1_pay5 (iblk1 V c 0 ⟨n, hn⟩) (iblk1 V c 2 ⟨n, hn⟩) (iblk1 V c 1 ⟨n, hn⟩) (iblk1 V c 3 ⟨n, hn⟩) := by
        rw [outsAt1_A V c ⟨n, hn⟩ z]
        dsimp only
        apply dx_A
      have e' : (outsAt1 V c n hn).2 = k1_pay1 (k1_pay7 k1_pay6) (k1_pay8 (iblk1 V c 0 ⟨n, hn⟩) (iblk1 V c 2 ⟨n, hn⟩)) := by
        rw [outsAt1_A V c ⟨n, hn⟩ z]
        dsimp only
        apply dw_A
      rw [e, e']
      refine ⟨dinput_tile hx hd hg hr, dgain_tile ?_ hx8 hd8⟩
      rw [n0]
      exact dgain_zero X D
    · have e : (outsAt1 V c n hn).1 = k1_pay5 (iblk1 V c 0 ⟨n, hn⟩) (iblk1 V c 2 ⟨n, hn⟩) (iblk1 V c 1 ⟨n, hn⟩) (iblk1 V c 3 ⟨n, hn⟩) := by
        rw [outsAt1_B V c ⟨n, hn⟩ z]
        dsimp only
        apply dx_B
      have e' : (outsAt1 V c n hn).2 = k1_pay1 (k1_pay7 (outsAt1 V c (n - 1) (Nat.lt_of_le_of_lt (Nat.sub_le _ _) hn)).2) (k1_pay8 (iblk1 V c 0 ⟨n, hn⟩) (iblk1 V c 2 ⟨n, hn⟩)) := by
        rw [outsAt1_B V c ⟨n, hn⟩ z]
        dsimp only
        apply dw_B
      have i := (part_grad h0 h1 h2 h3 (n - 1) (Nat.lt_of_le_of_lt (Nat.sub_le _ _) hn)).2
      rw [show 64 * (n - 1) + 64 = 64 * n by omega] at i
      rw [e, e']
      exact ⟨dinput_tile hx hd hg hr, dgain_tile i hx8 hd8⟩
  termination_by n => n
  decreasing_by omega

/-- The input's gradient. -/
theorem result_dinput (h0 : IsTile X 0 0 (V c main_arg0)) (h1 : IsTile G 0 0 (V c main_v0)) (h2 : IsTile D 0 0 (V c main_arg2)) (h3 : IsTile R 0 0 (V c main_arg3)) :
    IsTile (dinput X G D R) 0 0 ((dat1 V c).arrAt 4 cfg1.N) := by
  refine whole ((dat1 V c).arrAt_eq_of_covers 4 _ (by decide +kernel) fun t hf y => ?_)
  have e0 : (((cfg1.win 4).blk t).view.emb y 0).val = t.val * 512 + (y 0).val := by blk_simp [place1_4]
  have e1 : (((cfg1.win 4).blk t).view.emb y 1).val = 0 + (y 1).val := by blk_simp [place1_4]
  refine Eq.trans ?_ (congrArg₂ (dinput X G D R) e0 e1).symm
  blk_simp
  rw [after1_4]
  exact ((part_grad V c h0 h1 h2 h3 t.val t.isLt).1 y).trans (by simp only [Nat.zero_add])

/-- The gain's gradient's sums over rows eight apart. -/
theorem result_dgain (h0 : IsTile X 0 0 (V c main_arg0)) (h1 : IsTile G 0 0 (V c main_v0)) (h2 : IsTile D 0 0 (V c main_arg2)) (h3 : IsTile R 0 0 (V c main_arg3)) :
    IsTile (fun p q => strided (fun i => D i q * unit X i q) 2048 p) 0 0 ((dat1 V c).arrAt 5 cfg1.N) := by
  refine whole ((dat1 V c).arrAt_eq_of_covers 5 _ (by decide +kernel) fun t hf y => ?_)
  have ht : t.val = 31 := (by decide +kernel : ∀ t : Fin cfg1.N, (cfg1.win 5).flush t = true → t.val = 31) t hf
  have e0 : (((cfg1.win 5).blk t).view.emb y 0).val = 0 + (y 0).val := by blk_simp [place1_5]
  have e1 : (((cfg1.win 5).blk t).view.emb y 1).val = 0 + (y 1).val := by blk_simp [place1_5]
  refine Eq.trans ?_ (congrArg₂ (fun p q => strided (fun i => D i q * unit X i q) 2048 p) e0 e1).symm
  blk_simp
  rw [after1_5]
  have q := (part_grad V c h0 h1 h2 h3 t.val t.isLt).2 y
  rw [show 64 * t.val + 64 = 2048 by omega] at q
  simp only [Nat.zero_add] at q
  exact q

end Cert.Kernel5Ideal.Row
-- ==== Proof.RowConv.lean ====
/- The convolution's forward call: what it leaves in its result. -/
module

public import proofs.«01_k».proof.Proof.RowResults
public import proofs.«01_k».proof.Proof.ConvBody

@[expose] public section

set_option maxRecDepth 16384
set_option maxHeartbeats 400000

noncomputable section

namespace Cert.Kernel5Ideal.Row

open Cert.Kernel5Ideal Cert.Kernel5Ideal.Gen Idealize.ShloMosaic Idealize.ShloMosaic.TcCoe Idealize.ShloMosaic.Tactic Idealize.SL.Sem
open Cert.Ffn Cert.Row
open Cert.Kernel2Ideal.Conv (IsBlock IsAbove convolved_apply)

/-- A point's result: the gate times the convolution. -/
theorem out2_eq (i : grid2.Coords) (x0 x1 x2 : Vec Ideal S512x256 .bf16) (x3 x4 : Vec Ideal S8x256 .bf16) (x5 : Vec Ideal S8x256 .f32) (j : S512x256.Idx) :
    out2_6 i x0 x1 x2 x3 x4 x5 j = x0 j * Cert.Kernel2Ideal.Conv.convolved (F := Ideal) i x1 x2 x3 x4 x5 j := by
  unfold out2_6
  rw [View.canon_unit_zero hz]
  simp only [View.ld_unit_zero (S := S512x256) hz, View.ld_unit_zero (S := S8x256) hz]
  have r0 : View.ld x5 r2_2 = Cert.Kernel2Ideal.Conv.rowOf 0 x5 := Cert.Kernel2Ideal.Conv.ld_row 0 x5 0 rfl _
  have r1 : View.ld x5 r2_3 = Cert.Kernel2Ideal.Conv.rowOf 1 x5 := Cert.Kernel2Ideal.Conv.ld_row 1 x5 1 rfl _
  have r2 : View.ld x5 r2_4 = Cert.Kernel2Ideal.Conv.rowOf 2 x5 := Cert.Kernel2Ideal.Conv.ld_row 2 x5 2 rfl _
  rw [r0, r1, r2]
  rfl

/- Where the convolution's blocks lie. -/
theorem place2_0 : ∀ t : Fin cfg2.N, win2_0.index t = ![(grid2.coords t 0).val, 9] := (by decide +kernel : ∀ t : Fin grid2.N, win2_0.index t = ![(grid2.coords t 0).val, 9])
theorem place2_1 : ∀ t : Fin cfg2.N, win2_1.index t = ![(grid2.coords t 0).val, 10] := (by decide +kernel : ∀ t : Fin grid2.N, win2_1.index t = ![(grid2.coords t 0).val, 10])
theorem place2_2 : ∀ t : Fin cfg2.N, win2_2.index t = ![(grid2.coords t 0).val, 11] := (by decide +kernel : ∀ t : Fin grid2.N, win2_2.index t = ![(grid2.coords t 0).val, 11])
theorem place2_3 : ∀ t : Fin cfg2.N, win2_3.index t = ![(grid2.coords t 0).val * 64 - 1, 10] := (by decide +kernel : ∀ t : Fin grid2.N, win2_3.index t = ![(grid2.coords t 0).val * 64 - 1, 10])
theorem place2_4 : ∀ t : Fin cfg2.N, win2_4.index t = ![(grid2.coords t 0).val * 64 - 1, 11] := (by decide +kernel : ∀ t : Fin grid2.N, win2_4.index t = ![(grid2.coords t 0).val * 64 - 1, 11])
theorem place2_5 : ∀ t : Fin cfg2.N, win2_5.index t = ![0, 0] := (by decide +kernel : ∀ t : Fin grid2.N, win2_5.index t = ![0, 0])
theorem place2_6 : ∀ t : Fin cfg2.N, win2_6.index t = ![(grid2.coords t 0).val, 0] := (by decide +kernel : ∀ t : Fin grid2.N, win2_6.index t = ![(grid2.coords t 0).val, 0])

variable (V : (c : Dev nD) → (b : Ref sig .tc) → Buf (Elt Ideal) ((c : Thread nD τ).loc b)) (c : Dev nD) {P T : Mat}

theorem gate2_0 (h : IsTile P 0 0 (V c main_arg4)) (t : Fin cfg2.N) : IsBlock (grid2.coords t) (fun r k => P r (2304 + k)) (iblk2 V c 0 t) := fun j =>
  entry h (((cfg2.win 0).blk t).view.emb j) _ _ (by blk_simp [place2_0]) (by blk_simp [place2_0])
theorem gate2_1 (h : IsTile P 0 0 (V c main_arg4)) (t : Fin cfg2.N) : IsBlock (grid2.coords t) (fun r k => P r (2560 + k)) (iblk2 V c 1 t) := fun j =>
  entry h (((cfg2.win 1).blk t).view.emb j) _ _ (by blk_simp [place2_1]) (by blk_simp [place2_1])
theorem gate2_2 (h : IsTile P 0 0 (V c main_arg4)) (t : Fin cfg2.N) : IsBlock (grid2.coords t) (fun r k => P r (2816 + k)) (iblk2 V c 2 t) := fun j =>
  entry h (((cfg2.win 2).blk t).view.emb j) _ _ (by blk_simp [place2_2]) (by blk_simp [place2_2])
theorem gate2_3 (h : IsTile P 0 0 (V c main_arg4)) (t : Fin cfg2.N) : IsAbove (grid2.coords t) (fun r k => P r (2560 + k)) (iblk2 V c 3 t) := fun j h0 =>
  entry h (((cfg2.win 3).blk t).view.emb j) _ _ (by blk_simp [place2_3]; omega) (by blk_simp [place2_3])
theorem gate2_4 (h : IsTile P 0 0 (V c main_arg4)) (t : Fin cfg2.N) : IsAbove (grid2.coords t) (fun r k => P r (2816 + k)) (iblk2 V c 4 t) := fun j h0 =>
  entry h (((cfg2.win 4).blk t).view.emb j) _ _ (by blk_simp [place2_4]; omega) (by blk_simp [place2_4])
theorem taps2_5 (h : IsTile T 0 0 (V c main_v3)) (t : Fin cfg2.N) (j : S8x256.Idx) : (iblk2 V c 5 t : Vec Ideal S8x256 .f32) j = T (j 0).val (j 1).val :=
  entry h (((cfg2.win 5).blk t).view.emb j) _ _ (by blk_simp [place2_5]) (by blk_simp [place2_5])

/-- The gated convolution of the projection's last three groups of columns. -/
def conv (P T : Mat) : Mat := fun r k => P r (2304 + k) * Cert.Conv.u (fun r k => P r (2560 + k)) (fun r k => P r (2816 + k)) T r k

/-- The convolution's result. -/
theorem result_conv (h : IsTile P 0 0 (V c main_arg4)) (h5 : IsTile T 0 0 (V c main_v3)) : IsTile (conv P T) 0 0 ((dat2 V c).arrAt 6 cfg2.N) := by
  refine whole ((dat2 V c).arrAt_eq_of_covers 6 _ (by decide +kernel) fun t hf y => ?_)
  have e0 : (((cfg2.win 6).blk t).view.emb y 0).val = (grid2.coords t 0).val * 512 + (y 0).val := by blk_simp [place2_6]
  have e1 : (((cfg2.win 6).blk t).view.emb y 1).val = (y 1).val := by blk_simp [place2_6]
  refine Eq.trans ?_ (congrArg₂ (conv P T) e0 e1).symm
  blk_simp
  rw [after2_6]
  refine (out2_eq (grid2.coords t) (iblk2 V c 0 t) (iblk2 V c 1 t) (iblk2 V c 2 t) (iblk2 V c 3 t) (iblk2 V c 4 t) (iblk2 V c 5 t) (y : S512x256.Idx)).trans ?_
  exact congrArg₂ (fun a b : EReal => a * b) (gate2_0 V c h t (y : S512x256.Idx))
    (convolved_apply (gate2_1 V c h t) (gate2_2 V c h t) (gate2_3 V c h t) (gate2_4 V c h t) (taps2_5 V c h5 t) (y : S512x256.Idx))

end Cert.Kernel5Ideal.Row
-- ==== Proof.RowValue.lean ====
/- What the normalisation's, its gradient's and the convolution's calls leave in their results at the end of the run. -/
module

public import proofs.«01_k».proof.Proof.RowConv
public import Idealize.ShloMosaic.Lib.Claim
public import Idealize.ShloMosaic.Lib.StableHlo.ReadAt

@[expose] public section

set_option maxRecDepth 16384
set_option maxHeartbeats 400000

noncomputable section

namespace Cert.Kernel5Ideal.Row

open Cert.Kernel5Ideal Cert.Kernel5Ideal.Gen Idealize.ShloMosaic Idealize.ShloMosaic.TcCoe Idealize.ShloMosaic.Tactic Idealize.SL.Sem
open Cert.Ffn Cert.Row
open Cert.Conv (at2 at2_eq)

variable (m : (l : Loc nD τ sig) → Buf (Elt Ideal) l) (ρ : Dev nD → PrngReg) (c : Dev nD)

/-- The rows. -/
def inX : Mat := at2 (m := 16384) (n := 1024) (m ((c.tc : Thread nD τ).loc main_arg0))
/-- The gain. -/
def inG : Mat := fun _ => at1 (n := 1024) (m ((c.tc : Thread nD τ).loc main_arg1))
/-- The normalised rows' gradient. -/
def inD : Mat := at2 (m := 16384) (n := 1024) (m ((c.tc : Thread nD τ).loc main_arg2))
/-- The gradient from elsewhere. -/
def inR : Mat := at2 (m := 16384) (n := 1024) (m ((c.tc : Thread nD τ).loc main_arg3))
/-- The projection. -/
def inP : Mat := at2 (m := 16384) (n := 3072) (m ((c.tc : Thread nD τ).loc main_arg4))
/-- The taps. -/
def inT : Mat := at2 (m := 3) (n := 256) (m ((c.tc : Thread nD τ).loc main_arg5))

/-- The gain as a row. -/
theorem gain_row : IsTile (inG m c) 0 0 (V1 m ρ c main_v0) := fun j => by
  show V1 m ρ c main_v0 j = _
  unfold V1 W1
  after_reads_at
  exact at1_eq (n := 1024) _ _ _ rfl

/-- The taps, with rows of zeros below. -/
theorem taps_rows : IsTile (inT m c) 0 0 (V5 m ρ c main_v3) := fun j => by
  show V5 m ρ c main_v3 j = _
  unfold V5 W5
  after_reads_at
  rw [W3_args m ρ c main_arg5 (by decide)]
  unfold inT
  by_cases h : (j 0).val < 3
  · rw [dif_pos h]
    exact at2_eq (m := 3) (n := 256) _ _ _ _ rfl rfl
  · rw [dif_neg h]
    unfold at2
    rw [dif_neg (fun q => h (by simpa using q.1))]
    show (((0#32 : BitVec 32).toInt : ℝ) : EReal) = 0
    simp

theorem at1_arg0 : IsTile (inX m c) 0 0 (V1 m ρ c main_arg0) := by
  have e : V1 m ρ c main_arg0 = m ((c.tc : Thread nD τ).loc main_arg0) := W1_args m ρ c main_arg0 (by decide)
  rw [e]
  exact tile_at2 _
theorem at2_arg0 : IsTile (inX m c) 0 0 (V2 m ρ c main_arg0) := by
  have e : V2 m ρ c main_arg0 = m ((c.tc : Thread nD τ).loc main_arg0) := W2_args m ρ c main_arg0 (by decide)
  rw [e]
  exact tile_at2 _
theorem at2_v0 : IsTile (inG m c) 0 0 (V2 m ρ c main_v0) := by
  have e : V2 m ρ c main_v0 = V1 m ρ c main_v0 := W2_of m ρ c main_v0 (by decide +kernel)
  rw [e]
  exact gain_row m ρ c
theorem at2_arg2 : IsTile (inD m c) 0 0 (V2 m ρ c main_arg2) := by
  have e : V2 m ρ c main_arg2 = m ((c.tc : Thread nD τ).loc main_arg2) := W2_args m ρ c main_arg2 (by decide)
  rw [e]
  exact tile_at2 _
theorem at2_arg3 : IsTile (inR m c) 0 0 (V2 m ρ c main_arg3) := by
  have e : V2 m ρ c main_arg3 = m ((c.tc : Thread nD τ).loc main_arg3) := W2_args m ρ c main_arg3 (by decide)
  rw [e]
  exact tile_at2 _
theorem at5_arg4 : IsTile (inP m c) 0 0 (V5 m ρ c main_arg4) := by
  have e : V5 m ρ c main_arg4 = m ((c.tc : Thread nD τ).loc main_arg4) := W5_args m ρ c main_arg4 (by decide)
  rw [e]
  exact tile_at2 _

/-- The gain's gradient at the end. -/
theorem end_dgain (j : S1024.Idx) : (W7 m ρ c (Proc.devRef .tc main_v5) : S1024.Idx → EReal) j = dgain (inX m c) (inD m c) (j 0).val := by
  unfold W7
  after_reads_at
  have e : W6 m ρ c (Proc.devRef .tc main_v2_1) = (dat1 (V2 m ρ) c).arrAt 5 cfg1.N := (W6_of m ρ c main_v2_1 (by decide +kernel)).trans
    ((W5_of m ρ c main_v2_1 (by decide +kernel)).trans ((W4_of m ρ c main_v2_1 (by decide +kernel)).trans (W3_arr m ρ c 5)))
  have r := result_dgain _ c (at2_arg0 m ρ c) (at2_v0 m ρ c) (at2_arg2 m ρ c) (at2_arg3 m ρ c)
  rw [← e] at r
  unfold dgain
  rw [← strided_all _ 2048, Finset.sum_range]
  refine Finset.sum_congr rfl fun k _ => ?_
  exact entry r (ix2 k (j 0)) _ _ rfl rfl

/-- The normalised rows at the end. -/
theorem end_norm : IsTile (normed (inX m c) (inG m c)) 0 0 (W7 m ρ c (Proc.devRef .tc main_v1)) := by
  have e : W7 m ρ c (Proc.devRef .tc main_v1) = (dat0 (V1 m ρ) c).arrAt 2 cfg0.N := (W7_of m ρ c main_v1 (by decide +kernel)).trans ((W6_of m ρ c main_v1 (by decide +kernel)).trans
    ((W5_of m ρ c main_v1 (by decide +kernel)).trans ((W4_of m ρ c main_v1 (by decide +kernel)).trans ((W3_of m ρ c main_v1 (by decide +kernel)).trans (W2_arr m ρ c 2)))))
  rw [e]
  exact result_norm _ c (at1_arg0 m ρ c) (gain_row m ρ c)

/-- The input's gradient at the end. -/
theorem end_dinput : IsTile (dinput (inX m c) (inG m c) (inD m c) (inR m c)) 0 0 (W7 m ρ c (Proc.devRef .tc main_v2_0)) := by
  have e : W7 m ρ c (Proc.devRef .tc main_v2_0) = (dat1 (V2 m ρ) c).arrAt 4 cfg1.N := (W7_of m ρ c main_v2_0 (by decide +kernel)).trans ((W6_of m ρ c main_v2_0 (by decide +kernel)).trans
    ((W5_of m ρ c main_v2_0 (by decide +kernel)).trans ((W4_of m ρ c main_v2_0 (by decide +kernel)).trans (W3_arr m ρ c 4))))
  rw [e]
  exact result_dinput _ c (at2_arg0 m ρ c) (at2_v0 m ρ c) (at2_arg2 m ρ c) (at2_arg3 m ρ c)

/-- The convolution's result at the end. -/
theorem end_conv : IsTile (conv (inP m c) (inT m c)) 0 0 (W7 m ρ c (Proc.devRef .tc main_v4)) := by
  have e : W7 m ρ c (Proc.devRef .tc main_v4) = (dat2 (V5 m ρ) c).arrAt 6 cfg2.N := (W7_of m ρ c main_v4 (by decide +kernel)).trans (W6_arr m ρ c 6)
  rw [e]
  exact result_conv _ c (at5_arg4 m ρ c) (taps_rows m ρ c)

end Cert.Kernel5Ideal.Row
-- ==== Proof.RowRef.lean ====
/- What the reference of the normalisation, its gradient and the convolution computes, array by array. -/
module

public import proofs.«01_k».proof.Proof.RowSpec
public import proofs.«01_k».proof.Proof.RowConv
public import proofs.«01_k».proof.Proof.Gen.Reference5Ideal.Read
public import Idealize.ShloMosaic.Lib.Pipeline.Value
public import Idealize.ShloMosaic.Lib.KernelVsHost

@[expose] public section

set_option maxRecDepth 16384
set_option maxHeartbeats 400000

noncomputable section

namespace Cert.Reference5Ideal.Row

open Cert.Reference5Ideal Cert.Reference5Ideal.Gen Cert.Reference5Ideal.Read Idealize.ShloMosaic Idealize.ShloMosaic.TcCoe
open Cert.Ffn Cert.Row
open Cert.Conv (hc hcd)

section
variable {X G D R : Mat} {x0 x3 : (⟨S16384x1024, .f32⟩ : BufTy).Contents (Elt Ideal)} {x1 : (⟨S1024, .f32⟩ : BufTy).Contents (Elt Ideal)} {x2 : (⟨S16384x1024, .bf16⟩ : BufTy).Contents (Elt Ideal)}

/-- A row's mean square and a little more. -/
theorem ms_apply (h0 : IsTile X 0 0 x0) (i : S16384x1.Idx) : val_main_v6 (F := Ideal) x0 i = ms X (i 0).val := by
  rw [val_main_v6_apply, val_main_v4_apply, val_main_v2_apply, val_main_v3_apply, val_main_v5_apply, val_main_v1_apply]
  show Ideal.div ((Ideal.ofBits .f32 0x00000000#32) + _) (Ideal.ofBits .f32 0x44800000#32) + eps = _
  rw [Ideal.ofBits_zero_f32, zero_add, div_width]
  unfold ms
  rw [Finset.sum_range]
  congr 2
  refine Finset.sum_congr rfl fun k _ => ?_
  rw [val_main_v0_apply]
  exact congrArg₂ (· * ·) (entry h0 _ _ _ rfl rfl) (entry h0 _ _ _ rfl rfl)

/-- One over a row's root mean square. -/
theorem rinv_apply (h0 : IsTile X 0 0 x0) (i : S16384x1.Idx) : val_main_v7 (F := Ideal) x0 i = rinv X (i 0).val := by
  rw [val_main_v7_apply, ms_apply h0]
  rfl

/-- The divided row. -/
theorem unit_apply (h0 : IsTile X 0 0 x0) (i : S16384x1024.Idx) : val_main_v12 (F := Ideal) x0 i = unit X (i 0).val (i 1).val := by
  rw [val_main_v12_apply, val_main_v11_apply, rinv_apply h0]
  exact congrArg (· * _) (entry h0 _ _ _ rfl rfl)

/-- The gain. -/
theorem gain_apply (h1 : ∀ j : S1024.Idx, x1 j = G 0 (j 0).val) (i : S1x1024.Idx) : val_main_v13 (F := Ideal) x1 i = G 0 (i 1).val := by
  rw [val_main_v13_apply]
  exact h1 _

/-- The normalised rows. -/
theorem res_norm (h0 : IsTile X 0 0 x0) (h1 : ∀ j : S1024.Idx, x1 j = G 0 (j 0).val) (i : S16384x1024.Idx) :
    val_main_v43 (F := Ideal) x0 x1 i = normed X G (i 0).val (i 1).val := by
  show val_main_v15 (F := Ideal) x0 x1 i = _
  rw [val_main_v15_apply, unit_apply h0, val_main_v14_apply, gain_apply h1]
  rfl

/-- The gain's gradient. -/
theorem res_dgain (h0 : IsTile X 0 0 x0) (h2 : IsTile D 0 0 x2) (i : S1024.Idx) : val_main_v22 (F := Ideal) x0 x2 i = dgain X D (i 0).val := by
  rw [val_main_v22_apply, show (val_main_cst_4 (F := Ideal)) (Shape.Idx.first h_S_) = 0 from Ideal.ofBits_zero_f32, zero_add, Fin.sum_univ_one, val_main_v19_apply, val_main_v18_apply,
    show (val_main_cst_3 (F := Ideal)) (Shape.Idx.first h_S_) = 0 from Ideal.ofBits_zero_f32, zero_add]
  unfold dgain
  rw [Finset.sum_range]
  refine Finset.sum_congr rfl fun r _ => ?_
  rw [val_main_v17_apply, unit_apply h0]
  refine (mul_comm _ _).trans (congrArg₂ (· * ·) (entry h2 _ _ _ rfl ?_) (congrArg (unit X r.val) ?_))
  · show 0 * 1024 + (i 0).val = _
    omega
  · show 0 * 1024 + (i 0).val = _
    omega

/-- What reaches the divided row. -/
theorem arrive_apply (h1 : ∀ j : S1024.Idx, x1 j = G 0 (j 0).val) (h2 : IsTile D 0 0 x2) (i : S16384x1024.Idx) : val_main_v21 (F := Ideal) x1 x2 i = arrive G D (i 0).val (i 1).val := by
  rw [val_main_v21_apply, val_main_v20_apply, gain_apply h1]
  exact congrArg (· * _) (entry h2 _ _ _ rfl rfl)

/-- The mean square's contribution. -/
theorem chain_apply (h0 : IsTile X 0 0 x0) (h1 : ∀ j : S1024.Idx, x1 j = G 0 (j 0).val) (h2 : IsTile D 0 0 x2) (i : S16384x1024.Idx) :
    val_main_v32 (F := Ideal) x0 x1 x2 i = chain X G D (i 0).val := by
  rw [val_main_v32_apply, val_main_v31_apply, show (val_main_cst_7 (F := Ideal)) (Shape.Idx.first h_S_) = 0 from Ideal.ofBits_zero_f32, zero_add, Fin.sum_univ_one,
    val_main_v30_apply, val_main_v29_apply, val_main_v28_apply, val_main_v10_apply, val_main_v9_apply, val_main_v8_apply, rinv_apply h0, ms_apply h0, val_main_v25_apply, val_main_v24_apply,
    show (val_main_cst_5 (F := Ideal)) (Shape.Idx.first h_S_) = 0 from Ideal.ofBits_zero_f32, zero_add]
  show Ideal.div (_ * (Ideal.ofBits .f32 0xBF000000#32 * Ideal.div (rinv X (i 0).val) (ms X (i 0).val))) (Ideal.ofBits .f32 0x44800000#32) = _
  rw [div_width, neg_half]
  unfold chain
  rw [Finset.sum_range]
  congr 2
  refine Finset.sum_congr rfl fun k _ => ?_
  rw [val_main_v23_apply, arrive_apply h1 h2]
  have e : (i 0).val * 1 + 0 = (i 0).val := by omega
  exact congrArg₂ (· * ·) (entry h0 _ _ _ e rfl) (congrArg (arrive G D · k.val) e)

/-- The input's gradient. -/
theorem res_dinput (h0 : IsTile X 0 0 x0) (h1 : ∀ j : S1024.Idx, x1 j = G 0 (j 0).val) (h2 : IsTile D 0 0 x2) (h3 : IsTile R 0 0 x3) (i : S16384x1024.Idx) :
    val_main_v44 (F := Ideal) x0 x1 x2 x3 i = dinput X G D R (i 0).val (i 1).val := by
  rw [val_main_v44_apply, val_main_v36_apply, val_main_v34_apply, val_main_v35_apply, val_main_v33_apply, val_main_v27_apply, val_main_v26_apply, chain_apply h0 h1 h2, arrive_apply h1 h2, rinv_apply h0,
    entry h0 i _ _ rfl rfl, entry h3 i _ _ rfl rfl]
  exact dinput_eq X G D R (i 0).val (i 1).val (i 1).isLt
end

section
variable {P T : Mat} {x4 : (⟨S16384x3072, .bf16⟩ : BufTy).Contents (Elt Ideal)} {x5 : (⟨S3x256, .f32⟩ : BufTy).Contents (Elt Ideal)}

/-- The gated input. -/
theorem hc_apply (h : IsTile P 0 0 x4) (i : S16384x256.Idx) : val_main_v45 (F := Ideal) x4 i = hc (fun r k => P r (2560 + k)) (fun r k => P r (2816 + k)) (i 0).val (i 1).val := by
  rw [val_main_v45_apply, val_main_v40_apply, val_main_v42_apply, val_main_v39_apply, val_main_v41_apply]
  exact congrArg₂ (· * ·) (entry h _ _ _ rfl rfl) (entry h _ _ _ rfl rfl)

/-- An index of a block of `k` rows. -/
abbrev cell {k : Nat} (r : Nat) (hr : r < k) (c : Nat) (hc : c < 256) : (⟨2, ![k, 256]⟩ : Shape).Idx := fun a => match a with
  | ⟨0, _⟩ => ⟨r, hr⟩
  | ⟨1, _⟩ => ⟨c, hc⟩

/-- The gated input 2 rows down. -/
theorem hcd2_apply (h : IsTile P 0 0 x4) (i : S16384x256.Idx) : val_main_v48 (F := Ideal) x4 i = hcd (fun r k => P r (2560 + k)) (fun r k => P r (2816 + k)) 2 (i 0).val (i 1).val := by
  have hi : (i 0).val < 16384 := (i 0).isLt
  have h1 : (i 1).val < 256 := (i 1).isLt
  unfold hcd val_main_v48
  by_cases q : 2 ≤ (i 0).val
  · rw [if_pos q]
    refine (concatenate_pair_apply_right (s₁ := S2x256) (s₂ := S16382x256) _ _ _ _ i rfl rfl (cell ((i 0).val - 2) (by omega) (i 1).val h1) (fun b hb => ?_) ?_).trans ?_
    · match b with
      | ⟨0, _⟩ => exact absurd rfl hb
      | ⟨1, _⟩ => rfl
    · show (i 0).val - 2 + 2 = (i 0).val
      omega
    · rw [val_main_v47_apply, hc_apply h]
  · rw [if_neg q]
    refine (concatenate_pair_apply_left (s₁ := S2x256) (s₂ := S16382x256) _ _ _ _ i rfl (cell (i 0).val (by omega) (i 1).val h1) (fun b => ?_)).trans ?_
    · match b with
      | ⟨0, _⟩ => rfl
      | ⟨1, _⟩ => rfl
    · rw [val_main_v46_apply]
      exact Ideal.ofBits_zero_f32

/-- The gated input 1 row down. -/
theorem hcd1_apply (h : IsTile P 0 0 x4) (i : S16384x256.Idx) : val_main_v51 (F := Ideal) x4 i = hcd (fun r k => P r (2560 + k)) (fun r k => P r (2816 + k)) 1 (i 0).val (i 1).val := by
  have hi : (i 0).val < 16384 := (i 0).isLt
  have h1 : (i 1).val < 256 := (i 1).isLt
  unfold hcd val_main_v51
  by_cases q : 1 ≤ (i 0).val
  · rw [if_pos q]
    refine (concatenate_pair_apply_right (s₁ := S1x256) (s₂ := S16383x256) _ _ _ _ i rfl rfl (cell ((i 0).val - 1) (by omega) (i 1).val h1) (fun b hb => ?_) ?_).trans ?_
    · match b with
      | ⟨0, _⟩ => exact absurd rfl hb
      | ⟨1, _⟩ => rfl
    · show (i 0).val - 1 + 1 = (i 0).val
      omega
    · rw [val_main_v50_apply, hc_apply h]
  · rw [if_neg q]
    refine (concatenate_pair_apply_left (s₁ := S1x256) (s₂ := S16383x256) _ _ _ _ i rfl (cell (i 0).val (by omega) (i 1).val h1) (fun b => ?_)).trans ?_
    · match b with
      | ⟨0, _⟩ => rfl
      | ⟨1, _⟩ => rfl
    · rw [val_main_v49_apply]
      exact Ideal.ofBits_zero_f32

theorem tap0_apply (h : IsTile T 0 0 x5) (i : S16384x256.Idx) : val_main_v55 (F := Ideal) x5 i = T 0 (i 1).val := by
  have h1 : (i 1).val < 256 := (i 1).isLt
  rw [val_main_v55_apply, val_main_v54_apply, val_main_v53_apply, val_main_v52_apply]
  exact entry h _ _ _ rfl (Nat.mod_eq_of_lt h1)
theorem tap1_apply (h : IsTile T 0 0 x5) (i : S16384x256.Idx) : val_main_v60 (F := Ideal) x5 i = T 1 (i 1).val := by
  have h1 : (i 1).val < 256 := (i 1).isLt
  rw [val_main_v60_apply, val_main_v59_apply, val_main_v58_apply, val_main_v57_apply]
  exact entry h _ _ _ rfl (Nat.mod_eq_of_lt h1)
theorem tap2_apply (h : IsTile T 0 0 x5) (i : S16384x256.Idx) : val_main_v66 (F := Ideal) x5 i = T 2 (i 1).val := by
  have h1 : (i 1).val < 256 := (i 1).isLt
  rw [val_main_v66_apply, val_main_v65_apply, val_main_v64_apply, val_main_v63_apply]
  exact entry h _ _ _ rfl (Nat.mod_eq_of_lt h1)

/-- The gated convolution. -/
theorem res_conv (h : IsTile P 0 0 x4) (h5 : IsTile T 0 0 x5) (i : S16384x256.Idx) : val_main_v70 (F := Ideal) x4 x5 i = Cert.Kernel5Ideal.Row.conv P T (i 0).val (i 1).val := by
  show val_main_v69 (F := Ideal) x4 x5 i = _
  rw [val_main_v69_apply, val_main_v68_apply, val_main_v62_apply, val_main_v56_apply, val_main_v61_apply, val_main_v67_apply, tap0_apply h5, tap1_apply h5, tap2_apply h5, hcd2_apply h, hcd1_apply h, hc_apply h,
    val_main_v38_apply, val_main_v37_apply]
  exact congrArg (· * _) (entry h _ _ _ rfl rfl)
end

end Cert.Reference5Ideal.Row
-- ==== Proof.RowSame.lean ====
/- The normalisation's, its gradient's and the convolution's calls compute what their reference computes. -/
module

public import proofs.«01_k».proof.Defs
public import proofs.«01_k».proof.Proof.RowRun
public import proofs.«01_k».proof.Proof.RowValue
public import proofs.«01_k».proof.Proof.RowRef
public import proofs.«01_k».proof.Proof.Gen.Reference5Ideal.Run

@[expose] public section

set_option maxRecDepth 16384
set_option maxHeartbeats 1000000

noncomputable section

namespace Cert.Proof.Row

open Idealize.ShloMosaic Idealize.ShloMosaic.TcCoe Idealize.SL.Sem
open Cert.Ffn Cert.Row
open Cert.Kernel5Ideal.Row

/-- The normalised rows, the gradients of the rows and of the gain, and the gated convolution are the reference's, element by element. -/
theorem same : Cert.algebraic_Kernel5Ideal_Reference5Ideal (hKernel5Ideal := Cert.Kernel5Ideal.Gen.facts) (hReference5Ideal := Cert.Reference5Ideal.Gen.facts) := by
  intro m g m' g' _ hin
  refine ⟨fun c i => normed (inX m c) (inG m c) (i 0).val (i 1).val,
    fun c i => dinput (inX m c) (inG m c) (inD m c) (inR m c) (i 0).val (i 1).val,
    fun c i => dgain (inX m c) (inD m c) (i 0).val,
    fun c i => conv (inP m c) (inT m c) (i 0).val (i 1).val,
    (θ_run Cert.Kernel5Ideal.defs _ _).mono (fun r h c => ?_) (Cert.Kernel5Ideal.Row.run (F := Ideal) m g),
    (θ_run Cert.Reference5Ideal.defs _ _).mono (fun r h c => ?_) (Cert.Reference5Ideal.Value.run (F := Ideal) m' g')⟩
  · obtain ⟨h0, h1, h2, h3, k⟩ := h c
    exact ⟨h0.trans (of_tile (end_norm m g c)),
      h1.trans (of_tile (end_dinput m g c)),
      h2.trans (funext (end_dgain m g c)),
      h3.trans (of_tile (end_conv m g c)), k⟩
  · obtain ⟨h0, h1, h2, h3, k⟩ := h c
    obtain ⟨a0, a1, a2, a3, a4, a5⟩ := hin c
    have t0 : IsTile (inX m c) 0 0 (m' ((c.tc : Thread Cert.Reference5Ideal.nD Cert.Reference5Ideal.τ).loc Cert.Reference5Ideal.main_arg0)) := by
      rw [a0]; exact tile_at2 _
    have t1 : ∀ j : Cert.Reference5Ideal.S1024.Idx, (m' ((c.tc : Thread Cert.Reference5Ideal.nD Cert.Reference5Ideal.τ).loc Cert.Reference5Ideal.main_arg1) : Cert.Reference5Ideal.S1024.Idx → EReal) j = inG m c 0 (j 0).val := by
      rw [a1]; exact fun j => at1_eq (n := 1024) _ _ _ rfl
    have t2 : IsTile (inD m c) 0 0 (m' ((c.tc : Thread Cert.Reference5Ideal.nD Cert.Reference5Ideal.τ).loc Cert.Reference5Ideal.main_arg2)) := by
      rw [a2]; exact tile_at2 _
    have t3 : IsTile (inR m c) 0 0 (m' ((c.tc : Thread Cert.Reference5Ideal.nD Cert.Reference5Ideal.τ).loc Cert.Reference5Ideal.main_arg3)) := by
      rw [a3]; exact tile_at2 _
    have t4 : IsTile (inP m c) 0 0 (m' ((c.tc : Thread Cert.Reference5Ideal.nD Cert.Reference5Ideal.τ).loc Cert.Reference5Ideal.main_arg4)) := by
      rw [a4]; exact tile_at2 _
    have t5 : IsTile (inT m c) 0 0 (m' ((c.tc : Thread Cert.Reference5Ideal.nD Cert.Reference5Ideal.τ).loc Cert.Reference5Ideal.main_arg5)) := by
      rw [a5]; exact tile_at2 _
    exact ⟨h0.trans ((Cert.Reference5Ideal.Read.val_main_v43_eq _ _).trans (funext (Cert.Reference5Ideal.Row.res_norm t0 t1))),
      h1.trans ((Cert.Reference5Ideal.Read.val_main_v44_eq _ _).trans (funext (Cert.Reference5Ideal.Row.res_dinput t0 t1 t2 t3))),
      h2.trans ((Cert.Reference5Ideal.Read.val_main_v22_eq _ _).trans (funext (Cert.Reference5Ideal.Row.res_dgain t0 t2))),
      h3.trans ((Cert.Reference5Ideal.Read.val_main_v70_eq _ _).trans (funext (Cert.Reference5Ideal.Row.res_conv t4 t5))), k⟩

end Cert.Proof.Row
-- ==== Proof.StepRun.lean ====
/- The whole run of the loss's and the optimiser's calls: what every array holds at the end. -/
module

public import proofs.«01_k».proof.Proof.Gen.Kernel6Ideal.Frame

@[expose] public section

set_option maxRecDepth 16384
set_option maxHeartbeats 1000000

noncomputable section

namespace Cert.Kernel6Ideal.Step

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- Every weakly fair run ends with the six results as the last operation leaves them, and the arguments unchanged. -/
theorem run : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v2) = W3 m ρ c (Proc.devRef .tc main_v2)
      ∧ r.2.mem ((c.tc : Thread nD τ).loc main_v3_0) = W3 m ρ c (Proc.devRef .tc main_v3_0)
      ∧ r.2.mem ((c.tc : Thread nD τ).loc main_v3_1) = W3 m ρ c (Proc.devRef .tc main_v3_1)
      ∧ r.2.mem ((c.tc : Thread nD τ).loc main_v3_2) = W3 m ρ c (Proc.devRef .tc main_v3_2)
      ∧ r.2.mem ((c.tc : Thread nD τ).loc main_v3_3) = W3 m ρ c (Proc.devRef .tc main_v3_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v0_0 (by decide)), h c _ (mem_uc main_v2 (by decide)), h c _ (mem_uc main_v3_0 (by decide)), h c _ (mem_uc main_v3_1 (by decide)), h c _ (mem_uc main_v3_2 (by decide)), h c _ (mem_uc main_v3_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.Kernel6Ideal.Step
-- ==== Proof.StepSpec.lean ====
/- The squared error's loss and its gradient, and a step of the optimiser, over extended reals. -/
module

public import proofs.«01_k».proof.Proof.RowSpec

@[expose] public section

noncomputable section

namespace Cert.Step

open Idealize.ShloMosaic
open Cert.Ffn (Mat)
open Cert.Row

/-- An array of matrices read at a place, 0 outside. -/
def at3 {n p q : Nat} (x : (⟨3, ![n, p, q]⟩ : Shape).Idx → EReal) (d r c : Nat) : EReal :=
  if h : d < n ∧ r < p ∧ c < q then x (fun a => match a with
    | ⟨0, _⟩ => ⟨d, h.1⟩
    | ⟨1, _⟩ => ⟨r, h.2.1⟩
    | ⟨2, _⟩ => ⟨c, h.2.2⟩) else 0

theorem at3_eq {n p q : Nat} (x : (⟨3, ![n, p, q]⟩ : Shape).Idx → EReal) (j : (⟨3, ![n, p, q]⟩ : Shape).Idx) (d r c : Nat)
    (hd : (j 0).val = d) (hr : (j 1).val = r) (hc : (j 2).val = c) : x j = at3 x d r c := by
  subst hd; subst hr; subst hc
  unfold at3
  rw [dif_pos ⟨(j 0).isLt, (j 1).isLt, (j 2).isLt⟩]
  exact congrArg x (funext fun a => Fin.ext (match a with | ⟨0, _⟩ => rfl | ⟨1, _⟩ => rfl | ⟨2, _⟩ => rfl))

/-- An array's block whose first entry is in matrix 0, at row `r` and column 0. -/
def IsStack {n p q : Nat} (P : Nat → Mat) (r : Nat) (x : (⟨3, ![n, p, q]⟩ : Shape).Idx → EReal) : Prop :=
  ∀ j, x j = P (j 0).val (r + (j 1).val) (j 2).val

theorem half : Ideal.ofBits .f32 0x3F000000#32 = ((1 / 2 : ℝ) : EReal) := by
  simp [Ideal.ofBits, Ideal.ieee]
  rw [← EReal.coe_mul]
  norm_num
theorem two : Ideal.ofBits .f32 0x40000000#32 = ((2 : ℝ) : EReal) := by
  simp [Ideal.ofBits, Ideal.ieee]
  rw [← EReal.coe_mul]
  norm_num
/-- One over the width of a row. -/
theorem per_width : Ideal.ofBits .f32 0x3A800000#32 = ((1 / 1024 : ℝ) : EReal) := by
  simp [Ideal.ofBits, Ideal.ieee]
  rw [← EReal.coe_mul]
  norm_num
/-- Half of that. -/
theorem half_per_width : Ideal.ofBits .f32 0x3A000000#32 = ((1 / 2048 : ℝ) : EReal) := by
  simp [Ideal.ofBits, Ideal.ieee]
  rw [← EReal.coe_mul]
  norm_num

section
variable (Y T : Mat)

/-- The error. -/
def err : Mat := fun r c => Y r c - T r c
/-- The loss's gradient. -/
def dloss : Mat := fun r c => err Y T r c * ((1 / 1024 : ℝ) : EReal)
/-- The loss: half of the sum over the rows of the mean squares of the error. -/
def loss : EReal := ((1 / 2048 : ℝ) : EReal) * ∑ r ∈ Finset.range 16384, ∑ k ∈ Finset.range 1024, err Y T r k * err Y T r k
/-- The squares' sums over rows eight apart. -/
def squares : Mat := fun p q => strided (fun i => err Y T i q * err Y T i q) 2048 p

/-- The loss from the rows' means. -/
theorem loss_means : ((1 / 2 : ℝ) : EReal) * ∑ r ∈ Finset.range 16384, (∑ k ∈ Finset.range 1024, err Y T r k * err Y T r k) * ((1 / 1024 : ℝ) : EReal) = loss Y T := by
  rw [← sum_mul_real _ _ (by norm_num), mul_comm _ ((1 / 1024 : ℝ) : EReal), ← mul_assoc, ← EReal.coe_mul]
  unfold loss
  norm_num

/-- The loss from the sums over rows eight apart. -/
theorem loss_squares : ((1 / 2048 : ℝ) : EReal) * ∑ p ∈ Finset.range 8, ∑ q ∈ Finset.range 1024, squares Y T p q = loss Y T := by
  unfold loss squares
  rw [Finset.sum_comm, Finset.sum_comm (s := Finset.range 16384)]
  refine congrArg (_ * ·) (Finset.sum_congr rfl fun q _ => ?_)
  exact strided_all (fun i => err Y T i q * err Y T i q) 2048

/-- The loss's gradient by the chain rule. -/
theorem dloss_eq (r c : Nat) : Ideal.div (((1 / 2 : ℝ) : EReal) * 1) (Ideal.ofBits .f32 0x44800000#32) * (((2 : ℝ) : EReal) * err Y T r c) = dloss Y T r c := by
  rw [div_width, mul_one, ← EReal.coe_mul, ← mul_assoc, ← EReal.coe_mul, mul_comm]
  unfold dloss
  norm_num
end

section
variable (P : Nat → Mat) (W M V : Mat)

/-- The gradient: the sum of its eight parts. -/
def grad : Mat := fun r c => ∑ d ∈ Finset.range 8, P d r c
/-- The first moment's estimate. -/
def newM : Mat := fun r c => Ideal.ofBits .f32 0x3F666666#32 * M r c + Ideal.ofBits .f32 0x3DCCCCCD#32 * grad P r c
/-- The second moment's estimate. -/
def newV : Mat := fun r c => Ideal.ofBits .f32 0x3F7FBE77#32 * V r c + Ideal.ofBits .f32 0x3A83126F#32 * (grad P r c * grad P r c)
/-- The step of the weights. -/
def delta : Mat := fun r c => Ideal.ofBits .f32 0xBA83126F#32 * (Ideal.div (Ideal.div (newM P M r c) (Ideal.ofBits .f32 0x3F26BD02#32))
  (Ideal.sqrt (Ideal.div (newV P V r c) (Ideal.ofBits .f32 0x3C231ACC#32)) + Ideal.ofBits .f32 0x322BCC77#32) + Ideal.ofBits .f32 0x3C23D70A#32 * W r c)
end

end Cert.Step
-- ==== Proof.StepTiles.lean ====
/- What a point of the loss's and the optimiser's calls computes and reads, as blocks of matrices. -/
module

public import proofs.«01_k».proof.Proof.StepSpec
public import proofs.«01_k».proof.Proof.Gen.Kernel6Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel6Ideal.Step

open Cert.Kernel6Ideal Cert.Kernel6Ideal.Gen Idealize.ShloMosaic Idealize.ShloMosaic.TcCoe Idealize.ShloMosaic.Tactic Idealize.SL.Sem
open Cert.Ffn Cert.Row Cert.Step

/-- A block of the error. -/
theorem err_tile {Y T : Mat} {r : Nat} {y t : Vec Ideal S512x1024 .f32} (hy : IsTile Y r 0 y) (ht : IsTile T r 0 t) : IsTile (err Y T) r 0 (k0_pay1 y t) := fun j => by
  pointwise [k0_pay1]
  rw [hy, ht]
  simp [err]

/-- A block of the loss's gradient. -/
theorem dloss_tile {Y T : Mat} {r : Nat} {y t : Vec Ideal S512x1024 .f32} (hy : IsTile Y r 0 y) (ht : IsTile T r 0 t) : IsTile (dloss Y T) r 0 (k0_pay2 y t) := fun j => by
  have he := err_tile hy ht
  pointwise [k0_pay2]
  simp only [Ideal.ofBits_def, per_width]
  rw [he]
  simp [dloss]

/-- The squares' sums over rows eight apart, with the rows of one more block. -/
theorem squares_tile {Y T : Mat} {n : Nat} {y t : Vec Ideal S512x1024 .f32} {z : Vec Ideal S8x1024 .f32}
    (hz : IsTile (fun p q => strided (fun i => err Y T i q * err Y T i q) n p) 0 0 z) (hy : IsTile Y (8 * n) 0 y) (ht : IsTile T (8 * n) 0 t) :
    IsTile (fun p q => strided (fun i => err Y T i q * err Y T i q) (n + 64) p) 0 0 (k0_pay4 y t z) := fun j => by
  have he := err_tile hy ht
  pointwise [k0_pay4]
  rw [hz, strided_add, Finset.sum_range]
  simp only [Nat.zero_add]
  refine congrArg (_ + ·) (Finset.sum_congr rfl fun k _ => ?_)
  rw [he]
  have e : 8 * n + (k.val * 8 + (j 0).val) = 8 * (n + k.val) + (j 0).val := by omega
  simp [e]

/-- A sum over no rows. -/
theorem squares_zero (Y T : Mat) : IsTile (fun p q => strided (fun i => err Y T i q * err Y T i q) 0 p) 0 0 (k0_pay3 (F := Ideal)) := fun _ => Ideal.ofBits_zero_f32

/-- A block of the gradient. -/
theorem grad_tile {P : Nat → Mat} {r : Nat} {x : Vec Ideal S8x512x384 .bf16} (hx : IsStack P r x) (x1 x2 x3 : Vec Ideal S512x384 .f32) : IsTile (grad P) r 0 (k1_pay5 x x1 x2 x3) := fun j => by
  unfold k1_pay5
  pointwise [k1_pay4]
  rw [hx, hx, hx, hx, hx, hx, hx, hx]
  unfold grad
  simp [Finset.sum_range_succ]

/-- A block of the first moment's estimate. -/
theorem newM_tile {P : Nat → Mat} {M : Mat} {r : Nat} {g m : Vec Ideal S512x384 .f32} (hg : IsTile (grad P) r 0 g) (hm : IsTile M r 0 m) :
    IsTile (newM P M) r 0 (k1_pay1 g m (Scalar.ofBits .f32 0x3F666666#32)) := fun j => by
  pointwise [k1_pay1]
  rw [hg, hm]
  simp only [Nat.zero_add]
  rfl

/-- A block of the second moment's estimate. -/
theorem newV_tile {P : Nat → Mat} {V : Mat} {r : Nat} {g v : Vec Ideal S512x384 .f32} (hg : IsTile (grad P) r 0 g) (hv : IsTile V r 0 v) :
    IsTile (newV P V) r 0 (k1_pay2 g v) := fun j => by
  pointwise [k1_pay2]
  rw [hg, hv]
  simp only [Nat.zero_add]
  rfl

/-- A block of the weights' step. -/
theorem delta_tile {P : Nat → Mat} {W M V : Mat} {r : Nat} {g w m v : Vec Ideal S512x384 .f32} (hg : IsTile (grad P) r 0 g) (hw : IsTile W r 0 w) (hm : IsTile M r 0 m) (hv : IsTile V r 0 v) :
    IsTile (delta P W M V) r 0 (k1_pay3 g m (Scalar.ofBits .f32 0x3F666666#32) v w) := fun j => by
  have e1 := newM_tile hg hm j
  have e2 := newV_tile hg hv j
  revert e1 e2
  pointwise [k1_pay3, k1_pay1, k1_pay2]
  intro e1 e2
  rw [e1, e2, hw]
  simp only [Nat.zero_add]
  rfl

/- Where the loss's blocks lie. -/
theorem place0_0 : ∀ t : Fin cfg0.N, win0_0.index t = ![t.val, 0] := (by decide +kernel : ∀ t : Fin grid0.N, win0_0.index t = ![t.val, 0])
theorem place0_1 : ∀ t : Fin cfg0.N, win0_1.index t = ![t.val, 0] := (by decide +kernel : ∀ t : Fin grid0.N, win0_1.index t = ![t.val, 0])
theorem place0_2 : ∀ t : Fin cfg0.N, win0_2.index t = ![t.val, 0] := (by decide +kernel : ∀ t : Fin grid0.N, win0_2.index t = ![t.val, 0])
theorem place0_3 : ∀ t : Fin cfg0.N, win0_3.index t = ![0, 0] := (by decide +kernel : ∀ t : Fin grid0.N, win0_3.index t = ![0, 0])
/- Where the optimiser's blocks lie. -/
theorem place1_0 : ∀ t : Fin cfg1.N, win1_0.index t = ![0, t.val, 0] := (by decide +kernel : ∀ t : Fin grid1.N, win1_0.index t = ![0, t.val, 0])
theorem place1_1 : ∀ t : Fin cfg1.N, win1_1.index t = ![t.val, 0] := (by decide +kernel : ∀ t : Fin grid1.N, win1_1.index t = ![t.val, 0])
theorem place1_2 : ∀ t : Fin cfg1.N, win1_2.index t = ![t.val, 0] := (by decide +kernel : ∀ t : Fin grid1.N, win1_2.index t = ![t.val, 0])
theorem place1_3 : ∀ t : Fin cfg1.N, win1_3.index t = ![t.val, 0] := (by decide +kernel : ∀ t : Fin grid1.N, win1_3.index t = ![t.val, 0])
theorem place1_4 : ∀ t : Fin cfg1.N, win1_4.index t = ![t.val, 0] := (by decide +kernel : ∀ t : Fin grid1.N, win1_4.index t = ![t.val, 0])
theorem place1_5 : ∀ t : Fin cfg1.N, win1_5.index t = ![t.val, 0] := (by decide +kernel : ∀ t : Fin grid1.N, win1_5.index t = ![t.val, 0])
theorem place1_6 : ∀ t : Fin cfg1.N, win1_6.index t = ![t.val, 0] := (by decide +kernel : ∀ t : Fin grid1.N, win1_6.index t = ![t.val, 0])
theorem place1_7 : ∀ t : Fin cfg1.N, win1_7.index t = ![t.val, 0] := (by decide +kernel : ∀ t : Fin grid1.N, win1_7.index t = ![t.val, 0])

variable (V : (c : Dev nD) → (b : Ref sig .tc) → Buf (Elt Ideal) ((c : Thread nD τ).loc b)) (c : Dev nD) {X : Mat}

/- What the loss reads. -/
theorem tile0_0 (h : IsTile X 0 0 (V c main_arg0)) (t : Fin cfg0.N) : IsTile X (t.val * 512) 0 (iblk0 V c 0 t) :=
  block h (((cfg0.win 0).blk t).view.emb) (fun j => by blk_simp [place0_0]) (fun j => by blk_simp [place0_0])
theorem tile0_1 (h : IsTile X 0 0 (V c main_arg1)) (t : Fin cfg0.N) : IsTile X (t.val * 512) 0 (iblk0 V c 1 t) :=
  block h (((cfg0.win 1).blk t).view.emb) (fun j => by blk_simp [place0_1]) (fun j => by blk_simp [place0_1])
/- What the optimiser reads. -/
theorem stack1_0 {P : Nat → Mat} (h : IsStack P 0 (V c main_arg2)) (t : Fin cfg1.N) : IsStack P (t.val * 512) (iblk1 V c 0 t) := fun j => by
  have e0 : (((cfg1.win 0).blk t).view.emb j 0).val = (j 0).val := by blk_simp [place1_0]
  have e1 : 0 + (((cfg1.win 0).blk t).view.emb j 1).val = t.val * 512 + (j 1).val := by blk_simp [place1_0]
  have e2 : (((cfg1.win 0).blk t).view.emb j 2).val = (j 2).val := by blk_simp [place1_0]
  refine (h (((cfg1.win 0).blk t).view.emb j)).trans ?_
  rw [e0, e1, e2]
theorem tile1_1 (h : IsTile X 0 0 (V c main_arg3)) (t : Fin cfg1.N) : IsTile X (t.val * 512) 0 (iblk1 V c 1 t) :=
  block h (((cfg1.win 1).blk t).view.emb) (fun j => by blk_simp [place1_1]) (fun j => by blk_simp [place1_1])
theorem tile1_2 (h : IsTile X 0 0 (V c main_arg4)) (t : Fin cfg1.N) : IsTile X (t.val * 512) 0 (iblk1 V c 2 t) :=
  block h (((cfg1.win 2).blk t).view.emb) (fun j => by blk_simp [place1_2]) (fun j => by blk_simp [place1_2])
theorem tile1_3 (h : IsTile X 0 0 (V c main_arg5)) (t : Fin cfg1.N) : IsTile X (t.val * 512) 0 (iblk1 V c 3 t) :=
  block h (((cfg1.win 3).blk t).view.emb) (fun j => by blk_simp [place1_3]) (fun j => by blk_simp [place1_3])

end Cert.Kernel6Ideal.Step
-- ==== Proof.StepResults.lean ====
/- What the loss's and the optimiser's calls leave in their results. -/
module

public import proofs.«01_k».proof.Proof.StepTiles
public import Idealize.ShloMosaic.Lib.WritesUnit

@[expose] public section

set_option maxRecDepth 16384
set_option maxHeartbeats 400000

noncomputable section

namespace Cert.Kernel6Ideal.Step

open Cert.Kernel6Ideal Cert.Kernel6Ideal.Gen Idealize.ShloMosaic Idealize.ShloMosaic.TcCoe Idealize.ShloMosaic.Tactic Idealize.SL.Sem
open Cert.Ffn Cert.Row Cert.Step

/-- The gradient's block after the first point. -/
theorem dx_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (hc0 : cond0_0 i) (x0 x1 : Vec Ideal S512x1024 .f32) :
    out0_A_2 c i arg1 harg1 arg2 harg2 arg3 harg3 arg4 harg4 hc0 x0 x1 = k0_pay2 x0 x1 := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S8x1024) hz]

/-- The squares' sums after the first point. -/
theorem sq_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (hc0 : cond0_0 i) (x0 x1 : Vec Ideal S512x1024 .f32) :
    out0_A_3 c i arg1 harg1 arg2 harg2 arg3 harg3 arg4 harg4 hc0 x0 x1 = k0_pay4 x0 x1 (k0_pay3 (F := Ideal)) := by
  unfold out0_A_3
  rw [View.read_writes_eq_canon _ _ _ (cover0_A_3 c i arg1 harg1 arg2 harg2 arg3 harg3 arg4 harg4 hc0 x0 x1)]
  unfold kernelRun0_A
  dsimp only
  sl_unfold_words
  rw [View.canon_cons_unit_zero hz, View.readCov_eq_canon', View.canon_unit_zero hz]
  simp only [View.readAt_eq_ld, harg1.read_unread, harg2.read_unread, harg3.read_unread, harg4.read_unread, View.ld_unit_zero (S := S512x1024) hz, View.ld_unit_zero (S := S8x1024) hz]
  exact congrArg (fun z => k0_pay4 x0 x1 z) (funext fun _ => rfl)

/-- The gradient's block after any other point. -/
theorem dx_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (hc0 : ¬cond0_0 i) (x0 x1 : Vec Ideal S512x1024 .f32) (xo3 : Vec Ideal S8x1024 .f32) :
    out0_B_2 c i arg1 harg1 arg2 harg2 arg3 harg3 arg4 harg4 hc0 x0 x1 xo3 = k0_pay2 x0 x1 := by
  unfold out0_B_2
  rw [View.read_writes_eq_canon _ _ _ (cover0_B_2 c i arg1 harg1 arg2 harg2 arg3 harg3 arg4 harg4 hc0 x0 x1 xo3)]
  unfold kernelRun0_B
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S8x1024) hz]

/-- The squares' sums after any other point. -/
theorem sq_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (hc0 : ¬cond0_0 i) (x0 x1 : Vec Ideal S512x1024 .f32) (xo3 : Vec Ideal S8x1024 .f32) :
    out0_B_3 c i arg1 harg1 arg2 harg2 arg3 harg3 arg4 harg4 hc0 x0 x1 xo3 = k0_pay4 x0 x1 xo3 := by
  unfold out0_B_3
  rw [View.read_writes_eq_canon _ _ _ (cover0_B_3 c i arg1 harg1 arg2 harg2 arg3 harg3 arg4 harg4 hc0 x0 x1 xo3)]
  unfold kernelRun0_B
  dsimp only
  sl_unfold_words
  rw [View.canon_unit_zero hz]
  simp only [View.readAt_eq_ld, harg1.read_unread, harg2.read_unread, harg3.read_unread, harg4.read_unread, View.ld_unit_zero (S := S512x1024) hz, View.ld_unit_zero (S := S8x1024) hz]

/-- A point's block of the gradient. -/
theorem grad_eq (x0 : Vec Ideal S8x512x384 .bf16) (x1 x2 x3 : Vec Ideal S512x384 .f32) : out1_4 x0 x1 x2 x3 = k1_pay5 x0 x1 x2 x3 := by
  unfold out1_4
  rw [View.canon_unit_zero hz]

/-- A point's block of the weights' step. -/
theorem delta_eq (x0 : Vec Ideal S8x512x384 .bf16) (x1 x2 x3 : Vec Ideal S512x384 .f32) : out1_5 x0 x1 x2 x3 = k1_pay3 (k1_pay5 x0 x1 x2 x3) x2 (Scalar.ofBits .f32 0x3F666666#32) x3 x1 := by
  unfold out1_5
  rw [View.canon_unit_zero hz]
  simp only [View.ld_unit_zero (S := S512x384) hz]

/-- A point's block of the first moment's estimate. -/
theorem newM_eq (x0 : Vec Ideal S8x512x384 .bf16) (x1 x2 x3 : Vec Ideal S512x384 .f32) : out1_6 x0 x1 x2 x3 = k1_pay1 (k1_pay5 x0 x1 x2 x3) x2 (Scalar.ofBits .f32 0x3F666666#32) := by
  unfold out1_6
  rw [View.canon_unit_zero hz]
  simp only [View.ld_unit_zero (S := S512x384) hz]

/-- A point's block of the second moment's estimate. -/
theorem newV_eq (x0 : Vec Ideal S8x512x384 .bf16) (x1 x2 x3 : Vec Ideal S512x384 .f32) : out1_7 x0 x1 x2 x3 = k1_pay2 (k1_pay5 x0 x1 x2 x3) x3 := by
  unfold out1_7
  rw [View.canon_unit_zero hz]
  simp only [View.ld_unit_zero (S := S512x384) hz]

variable (V : (c : Dev nD) → (b : Ref sig .tc) → Buf (Elt Ideal) ((c : Thread nD τ).loc b)) (c : Dev nD)

section
variable {Y T : Mat}

/-- The loss's blocks after a point: its gradient's own, and the squares' sums over the rows so far. -/
theorem part_loss (h0 : IsTile Y 0 0 (V c main_arg0)) (h1 : IsTile T 0 0 (V c main_arg1)) :
    ∀ (n : Nat) (hn : n < cfg0.N), IsTile (dloss Y T) (n * 512) 0 (outsAt0 V c n hn).1
      ∧ IsTile (fun p q => strided (fun i => err Y T i q * err Y T i q) (64 * n + 64) p) 0 0 (outsAt0 V c n hn).2
  | n, hn => by
    have hy : IsTile Y (n * 512) 0 (iblk0 V c 0 ⟨n, hn⟩) := tile0_0 V c h0 ⟨n, hn⟩
    have ht : IsTile T (n * 512) 0 (iblk0 V c 1 ⟨n, hn⟩) := tile0_1 V c h1 ⟨n, hn⟩
    have hy8 : IsTile Y (8 * (64 * n)) 0 (iblk0 V c 0 ⟨n, hn⟩) := by rw [show 8 * (64 * n) = n * 512 by omega]; exact hy
    have ht8 : IsTile T (8 * (64 * n)) 0 (iblk0 V c 1 ⟨n, hn⟩) := by rw [show 8 * (64 * n) = n * 512 by omega]; exact ht
    have lt : n < 32 := hn
    by_cases z : n % 32 = 0
    · have n0 : n = 0 := by omega
      have e : (outsAt0 V c n hn).1 = k0_pay2 (iblk0 V c 0 ⟨n, hn⟩) (iblk0 V c 1 ⟨n, hn⟩) := by
        rw [outsAt0_A V c ⟨n, hn⟩ z]
        dsimp only
        apply dx_A
      have e' : (outsAt0 V c n hn).2 = k0_pay4 (iblk0 V c 0 ⟨n, hn⟩) (iblk0 V c 1 ⟨n, hn⟩) (k0_pay3 (F := Ideal)) := by
        rw [outsAt0_A V c ⟨n, hn⟩ z]
        dsimp only
        apply sq_A
      rw [e, e']
      refine ⟨dloss_tile hy ht, squares_tile ?_ hy8 ht8⟩
      rw [n0]
      exact squares_zero Y T
    · have e : (outsAt0 V c n hn).1 = k0_pay2 (iblk0 V c 0 ⟨n, hn⟩) (iblk0 V c 1 ⟨n, hn⟩) := by
        rw [outsAt0_B V c ⟨n, hn⟩ z]
        dsimp only
        apply dx_B
      have e' : (outsAt0 V c n hn).2 = k0_pay4 (iblk0 V c 0 ⟨n, hn⟩) (iblk0 V c 1 ⟨n, hn⟩) (outsAt0 V c (n - 1) (Nat.lt_of_le_of_lt (Nat.sub_le _ _) hn)).2 := by
        rw [outsAt0_B V c ⟨n, hn⟩ z]
        dsimp only
        apply sq_B
      have i := (part_loss h0 h1 (n - 1) (Nat.lt_of_le_of_lt (Nat.sub_le _ _) hn)).2
      rw [show 64 * (n - 1) + 64 = 64 * n by omega] at i
      rw [e, e']
      exact ⟨dloss_tile hy ht, squares_tile i hy8 ht8⟩
  termination_by n => n
  decreasing_by omega

/-- The loss's gradient. -/
theorem result_dloss (h0 : IsTile Y 0 0 (V c main_arg0)) (h1 : IsTile T 0 0 (V c main_arg1)) : IsTile (dloss Y T) 0 0 ((dat0 V c).arrAt 2 cfg0.N) := by
  refine whole ((dat0 V c).arrAt_eq_of_covers 2 _ (by decide +kernel) fun t hf y => ?_)
  have e0 : (((cfg0.win 2).blk t).view.emb y 0).val = t.val * 512 + (y 0).val := by blk_simp [place0_2]
  have e1 : (((cfg0.win 2).blk t).view.emb y 1).val = 0 + (y 1).val := by blk_simp [place0_2]
  refine Eq.trans ?_ (congrArg₂ (dloss Y T) e0 e1).symm
  blk_simp
  rw [after0_2]
  exact ((part_loss V c h0 h1 t.val t.isLt).1 y).trans (by simp only [Nat.zero_add])

/-- The squares' sums over rows eight apart. -/
theorem result_squares (h0 : IsTile Y 0 0 (V c main_arg0)) (h1 : IsTile T 0 0 (V c main_arg1)) : IsTile (squares Y T) 0 0 ((dat0 V c).arrAt 3 cfg0.N) := by
  refine whole ((dat0 V c).arrAt_eq_of_covers 3 _ (by decide +kernel) fun t hf y => ?_)
  have ht : t.val = 31 := (by decide +kernel : ∀ t : Fin cfg0.N, (cfg0.win 3).flush t = true → t.val = 31) t hf
  have e0 : (((cfg0.win 3).blk t).view.emb y 0).val = 0 + (y 0).val := by blk_simp [place0_3]
  have e1 : (((cfg0.win 3).blk t).view.emb y 1).val = 0 + (y 1).val := by blk_simp [place0_3]
  refine Eq.trans ?_ (congrArg₂ (squares Y T) e0 e1).symm
  blk_simp
  rw [after0_3]
  have q := (part_loss V c h0 h1 t.val t.isLt).2 y
  rw [show 64 * t.val + 64 = 2048 by omega] at q
  simp only [Nat.zero_add] at q
  exact q
end

section
variable {P : Nat → Mat} {W M S : Mat}

/-- The gradient. -/
theorem result_grad (h0 : IsStack P 0 (V c main_arg2)) : IsTile (grad P) 0 0 ((dat1 V c).arrAt 4 cfg1.N) := by
  refine whole ((dat1 V c).arrAt_eq_of_covers 4 _ (by decide +kernel) fun t hf y => ?_)
  have e0 : (((cfg1.win 4).blk t).view.emb y 0).val = t.val * 512 + (y 0).val := by blk_simp [place1_4]
  have e1 : (((cfg1.win 4).blk t).view.emb y 1).val = 0 + (y 1).val := by blk_simp [place1_4]
  refine Eq.trans ?_ (congrArg₂ (grad P) e0 e1).symm
  blk_simp
  rw [after1_4]
  rw [grad_eq]
  exact (grad_tile (stack1_0 V c h0 t) _ _ _ y).trans (by simp only [Nat.zero_add])

/-- The weights' step. -/
theorem result_delta (h0 : IsStack P 0 (V c main_arg2)) (h1 : IsTile W 0 0 (V c main_arg3)) (h2 : IsTile M 0 0 (V c main_arg4)) (h3 : IsTile S 0 0 (V c main_arg5)) : IsTile (delta P W M S) 0 0 ((dat1 V c).arrAt 5 cfg1.N) := by
  refine whole ((dat1 V c).arrAt_eq_of_covers 5 _ (by decide +kernel) fun t hf y => ?_)
  have e0 : (((cfg1.win 5).blk t).view.emb y 0).val = t.val * 512 + (y 0).val := by blk_simp [place1_5]
  have e1 : (((cfg1.win 5).blk t).view.emb y 1).val = 0 + (y 1).val := by blk_simp [place1_5]
  refine Eq.trans ?_ (congrArg₂ (delta P W M S) e0 e1).symm
  blk_simp
  rw [after1_5]
  rw [delta_eq]
  exact (delta_tile (grad_tile (stack1_0 V c h0 t) _ _ _) (tile1_1 V c h1 t) (tile1_2 V c h2 t) (tile1_3 V c h3 t) y).trans (by simp only [Nat.zero_add])

/-- The first moment's estimate. -/
theorem result_newM (h0 : IsStack P 0 (V c main_arg2)) (h2 : IsTile M 0 0 (V c main_arg4)) : IsTile (newM P M) 0 0 ((dat1 V c).arrAt 6 cfg1.N) := by
  refine whole ((dat1 V c).arrAt_eq_of_covers 6 _ (by decide +kernel) fun t hf y => ?_)
  have e0 : (((cfg1.win 6).blk t).view.emb y 0).val = t.val * 512 + (y 0).val := by blk_simp [place1_6]
  have e1 : (((cfg1.win 6).blk t).view.emb y 1).val = 0 + (y 1).val := by blk_simp [place1_6]
  refine Eq.trans ?_ (congrArg₂ (newM P M) e0 e1).symm
  blk_simp
  rw [after1_6]
  rw [newM_eq]
  exact (newM_tile (grad_tile (stack1_0 V c h0 t) _ _ _) (tile1_2 V c h2 t) y).trans (by simp only [Nat.zero_add])

/-- The second moment's estimate. -/
theorem result_newV (h0 : IsStack P 0 (V c main_arg2)) (h3 : IsTile S 0 0 (V c main_arg5)) : IsTile (newV P S) 0 0 ((dat1 V c).arrAt 7 cfg1.N) := by
  refine whole ((dat1 V c).arrAt_eq_of_covers 7 _ (by decide +kernel) fun t hf y => ?_)
  have e0 : (((cfg1.win 7).blk t).view.emb y 0).val = t.val * 512 + (y 0).val := by blk_simp [place1_7]
  have e1 : (((cfg1.win 7).blk t).view.emb y 1).val = 0 + (y 1).val := by blk_simp [place1_7]
  refine Eq.trans ?_ (congrArg₂ (newV P S) e0 e1).symm
  blk_simp
  rw [after1_7]
  rw [newV_eq]
  exact (newV_tile (grad_tile (stack1_0 V c h0 t) _ _ _) (tile1_3 V c h3 t) y).trans (by simp only [Nat.zero_add])
end

end Cert.Kernel6Ideal.Step
-- ==== Proof.StepValue.lean ====
/- What the loss's and the optimiser's calls leave in their results at the end of the run. -/
module

public import proofs.«01_k».proof.Proof.StepResults
public import Idealize.ShloMosaic.Lib.Claim
public import Idealize.ShloMosaic.Lib.StableHlo.ReadAt

@[expose] public section

set_option maxRecDepth 16384
set_option maxHeartbeats 400000

noncomputable section

namespace Cert.Kernel6Ideal.Step

open Cert.Kernel6Ideal Cert.Kernel6Ideal.Gen Idealize.ShloMosaic Idealize.ShloMosaic.TcCoe Idealize.ShloMosaic.Tactic Idealize.SL.Sem
open Cert.Ffn Cert.Row Cert.Step
open Cert.Conv (at2 at2_eq)

variable (m : (l : Loc nD τ sig) → Buf (Elt Ideal) l) (ρ : Dev nD → PrngReg) (c : Dev nD)

/-- The last layer's rows. -/
def inY : Mat := at2 (m := 16384) (n := 1024) (m ((c.tc : Thread nD τ).loc main_arg0))
/-- The targets. -/
def inT : Mat := at2 (m := 16384) (n := 1024) (m ((c.tc : Thread nD τ).loc main_arg1))
/-- The gradient's parts. -/
def inP : Nat → Mat := at3 (n := 8) (p := 4096) (q := 384) (m ((c.tc : Thread nD τ).loc main_arg2))
/-- The weights. -/
def inW : Mat := at2 (m := 4096) (n := 384) (m ((c.tc : Thread nD τ).loc main_arg3))
/-- The first moment. -/
def inM : Mat := at2 (m := 4096) (n := 384) (m ((c.tc : Thread nD τ).loc main_arg4))
/-- The second moment. -/
def inV : Mat := at2 (m := 4096) (n := 384) (m ((c.tc : Thread nD τ).loc main_arg5))

theorem stack_at3 {n p q : Nat} (x : (⟨3, ![n, p, q]⟩ : Shape).Idx → EReal) : IsStack (at3 x) 0 x := fun j => at3_eq x j _ _ _ rfl (by omega) rfl

theorem at0_arg0 : IsTile (inY m c) 0 0 (V0 m ρ c main_arg0) := tile_at2 (m ((c.tc : Thread nD τ).loc main_arg0))
theorem at0_arg1 : IsTile (inT m c) 0 0 (V0 m ρ c main_arg1) := tile_at2 (m ((c.tc : Thread nD τ).loc main_arg1))
theorem at2_arg2 : IsStack (inP m c) 0 (V2 m ρ c main_arg2) := by
  have e : V2 m ρ c main_arg2 = m ((c.tc : Thread nD τ).loc main_arg2) := W2_args m ρ c main_arg2 (by decide)
  rw [e]
  exact stack_at3 _
theorem at2_arg3 : IsTile (inW m c) 0 0 (V2 m ρ c main_arg3) := by
  have e : V2 m ρ c main_arg3 = m ((c.tc : Thread nD τ).loc main_arg3) := W2_args m ρ c main_arg3 (by decide)
  rw [e]
  exact tile_at2 _
theorem at2_arg4 : IsTile (inM m c) 0 0 (V2 m ρ c main_arg4) := by
  have e : V2 m ρ c main_arg4 = m ((c.tc : Thread nD τ).loc main_arg4) := W2_args m ρ c main_arg4 (by decide)
  rw [e]
  exact tile_at2 _
theorem at2_arg5 : IsTile (inV m c) 0 0 (V2 m ρ c main_arg5) := by
  have e : V2 m ρ c main_arg5 = m ((c.tc : Thread nD τ).loc main_arg5) := W2_args m ρ c main_arg5 (by decide)
  rw [e]
  exact tile_at2 _

/-- The loss's gradient at the end. -/
theorem end_dloss : IsTile (dloss (inY m c) (inT m c)) 0 0 (W3 m ρ c (Proc.devRef .tc main_v0_0)) := by
  have e : W3 m ρ c (Proc.devRef .tc main_v0_0) = (dat0 (V0 m ρ) c).arrAt 2 cfg0.N := (W3_of m ρ c main_v0_0 (by decide +kernel)).trans ((W2_of m ρ c main_v0_0 (by decide +kernel)).trans (W1_arr m ρ c 2))
  rw [e]
  exact result_dloss _ c (at0_arg0 m ρ c) (at0_arg1 m ρ c)

/-- The loss at the end. -/
theorem end_loss (j : S_.Idx) : (W3 m ρ c (Proc.devRef .tc main_v2) : S_.Idx → EReal) j = loss (inY m c) (inT m c) := by
  rw [W3_of m ρ c main_v2 (by decide +kernel)]
  unfold W2
  after_reads_at
  have e : W1 m ρ c (Proc.devRef .tc main_v0_1) = (dat0 (V0 m ρ) c).arrAt 3 cfg0.N := W1_arr m ρ c 3
  have r := result_squares _ c (at0_arg0 m ρ c) (at0_arg1 m ρ c)
  rw [← e] at r
  rw [half_per_width, ← loss_squares, Finset.sum_range]
  refine congrArg (_ * ·) (Finset.sum_congr rfl fun p _ => ?_)
  rw [Finset.sum_range]
  exact Finset.sum_congr rfl fun q _ => entry r (ix2 p q) _ _ rfl rfl

/-- The gradient at the end. -/
theorem end_grad : IsTile (grad (inP m c)) 0 0 (W3 m ρ c (Proc.devRef .tc main_v3_0)) := by
  have e : W3 m ρ c (Proc.devRef .tc main_v3_0) = (dat1 (V2 m ρ) c).arrAt 4 cfg1.N := W3_arr m ρ c 4
  rw [e]
  exact result_grad _ c (at2_arg2 m ρ c)
/-- The weights' step at the end. -/
theorem end_delta : IsTile (delta (inP m c) (inW m c) (inM m c) (inV m c)) 0 0 (W3 m ρ c (Proc.devRef .tc main_v3_1)) := by
  have e : W3 m ρ c (Proc.devRef .tc main_v3_1) = (dat1 (V2 m ρ) c).arrAt 5 cfg1.N := W3_arr m ρ c 5
  rw [e]
  exact result_delta _ c (at2_arg2 m ρ c) (at2_arg3 m ρ c) (at2_arg4 m ρ c) (at2_arg5 m ρ c)
/-- The first moment's estimate at the end. -/
theorem end_newM : IsTile (newM (inP m c) (inM m c)) 0 0 (W3 m ρ c (Proc.devRef .tc main_v3_2)) := by
  have e : W3 m ρ c (Proc.devRef .tc main_v3_2) = (dat1 (V2 m ρ) c).arrAt 6 cfg1.N := W3_arr m ρ c 6
  rw [e]
  exact result_newM _ c (at2_arg2 m ρ c) (at2_arg4 m ρ c)
/-- The second moment's estimate at the end. -/
theorem end_newV : IsTile (newV (inP m c) (inV m c)) 0 0 (W3 m ρ c (Proc.devRef .tc main_v3_3)) := by
  have e : W3 m ρ c (Proc.devRef .tc main_v3_3) = (dat1 (V2 m ρ) c).arrAt 7 cfg1.N := W3_arr m ρ c 7
  rw [e]
  exact result_newV _ c (at2_arg2 m ρ c) (at2_arg5 m ρ c)

end Cert.Kernel6Ideal.Step
-- ==== Proof.StepRef.lean ====
/- What the reference of the loss and of the optimiser computes, array by array. -/
module

public import proofs.«01_k».proof.Proof.StepSpec
public import proofs.«01_k».proof.Proof.Gen.Reference6Ideal.Read
public import Idealize.ShloMosaic.Lib.Pipeline.Value
public import Idealize.ShloMosaic.Lib.Pointwise

@[expose] public section

set_option maxRecDepth 16384
set_option maxHeartbeats 400000

noncomputable section

namespace Cert.Reference6Ideal.Step

open Cert.Reference6Ideal Cert.Reference6Ideal.Gen Cert.Reference6Ideal.Read Idealize.ShloMosaic Idealize.ShloMosaic.TcCoe
open Cert.Ffn Cert.Row Cert.Step

section
variable {Y T : Mat} {x0 x1 : (⟨S16384x1024, .f32⟩ : BufTy).Contents (Elt Ideal)}

/-- The error. -/
theorem err_apply (h0 : IsTile Y 0 0 x0) (h1 : IsTile T 0 0 x1) (i : S16384x1024.Idx) : val_main_v0 (F := Ideal) x0 x1 i = err Y T (i 0).val (i 1).val := by
  rw [val_main_v0_apply, entry h0 i _ _ rfl rfl, entry h1 i _ _ rfl rfl]
  rfl

/-- A row's mean square. -/
theorem mean_apply (h0 : IsTile Y 0 0 x0) (h1 : IsTile T 0 0 x1) (i : S16384.Idx) :
    val_main_v6 (F := Ideal) x0 x1 i = (∑ k ∈ Finset.range 1024, err Y T (i 0).val k * err Y T (i 0).val k) * ((1 / 1024 : ℝ) : EReal) := by
  rw [val_main_v6_apply, val_main_v5_apply, val_main_v4_apply]
  show Ideal.div ((Ideal.ofBits .f32 0x00000000#32) + _) (Ideal.ofBits .f32 0x44800000#32) = _
  rw [Ideal.ofBits_zero_f32, zero_add, div_width, Finset.sum_range]
  refine congrArg (· * _) (Finset.sum_congr rfl fun k _ => ?_)
  rw [val_main_v1_apply, err_apply h0 h1]
  rfl

/-- The loss. -/
theorem res_loss (h0 : IsTile Y 0 0 x0) (h1 : IsTile T 0 0 x1) (i : S_.Idx) : val_main_v8 (F := Ideal) x0 x1 i = loss Y T := by
  rw [val_main_v8_apply, val_main_v7_apply]
  show Ideal.ofBits .f32 0x3F000000#32 * ((Ideal.ofBits .f32 0x00000000#32) + _) = _
  rw [Ideal.ofBits_zero_f32, zero_add, half, ← loss_means, Finset.sum_range]
  refine congrArg (_ * ·) ((sum_idx1 (n0 := 16384) _).trans (Finset.sum_congr rfl fun r _ => ?_))
  exact mean_apply h0 h1 _

/-- The loss's gradient. -/
theorem res_dloss (h0 : IsTile Y 0 0 x0) (h1 : IsTile T 0 0 x1) (i : S16384x1024.Idx) : val_main_v16 (F := Ideal) x0 x1 i = dloss Y T (i 0).val (i 1).val := by
  rw [val_main_v16_apply, val_main_v15_apply, val_main_v14_apply, val_main_v13_apply, val_main_v12_apply, val_main_v11_apply, val_main_v3_apply, val_main_v2_apply, err_apply h0 h1]
  show Ideal.div (Ideal.ofBits .f32 0x3F000000#32 * Ideal.ofBits .f32 0x3F800000#32) (Ideal.ofBits .f32 0x44800000#32) * (Ideal.ofBits .f32 0x40000000#32 * _) = _
  rw [half, two, Ideal.ofBits_one_f32]
  exact dloss_eq Y T _ _
end

section
variable {P : Nat → Mat} {W M V : Mat} {x2 : (⟨S8x4096x384, .bf16⟩ : BufTy).Contents (Elt Ideal)} {x3 x4 x5 : (⟨S4096x384, .f32⟩ : BufTy).Contents (Elt Ideal)}

/-- The gradient. -/
theorem res_grad (h2 : IsStack P 0 x2) (i : S4096x384.Idx) : val_main_v10 (F := Ideal) x2 i = grad P (i 0).val (i 1).val := by
  rw [val_main_v10_apply, show (val_main_cst_4 (F := Ideal)) (Shape.Idx.first h_S_) = 0 from Ideal.ofBits_zero_f32, zero_add]
  unfold grad
  rw [Finset.sum_range]
  refine Finset.sum_congr rfl fun k _ => ?_
  rw [val_main_v9_apply]
  refine (h2 _).trans ?_
  exact congrArg (fun r => P k.val r (i 1).val) (Nat.zero_add _)

/-- The first moment's estimate. -/
theorem res_newM (h2 : IsStack P 0 x2) (h4 : IsTile M 0 0 x4) (i : S4096x384.Idx) : val_main_v21 (F := Ideal) x2 x4 i = newM P M (i 0).val (i 1).val := by
  rw [val_main_v21_apply, val_main_v18_apply, val_main_v17_apply, val_main_v20_apply, val_main_v19_apply, res_grad h2, entry h4 i _ _ rfl rfl]
  rfl

/-- The second moment's estimate. -/
theorem res_newV (h2 : IsStack P 0 x2) (h5 : IsTile V 0 0 x5) (i : S4096x384.Idx) : val_main_v27 (F := Ideal) x2 x5 i = newV P V (i 0).val (i 1).val := by
  rw [val_main_v27_apply, val_main_v23_apply, val_main_v22_apply, val_main_v26_apply, val_main_v25_apply, val_main_v24_apply, res_grad h2, entry h5 i _ _ rfl rfl]
  rfl

/-- The weights' step. -/
theorem res_delta (h2 : IsStack P 0 x2) (h3 : IsTile W 0 0 x3) (h4 : IsTile M 0 0 x4) (h5 : IsTile V 0 0 x5) (i : S4096x384.Idx) :
    val_main_v40 (F := Ideal) x2 x3 x4 x5 i = delta P W M V (i 0).val (i 1).val := by
  rw [val_main_v40_apply, val_main_v39_apply, val_main_v38_apply, val_main_v37_apply, val_main_v36_apply, val_main_v35_apply, val_main_v34_apply, val_main_v33_apply, val_main_v32_apply,
    val_main_v31_apply, val_main_v30_apply, val_main_v29_apply, val_main_v28_apply, res_newM h2 h4, res_newV h2 h5, entry h3 i _ _ rfl rfl]
  rfl
end

end Cert.Reference6Ideal.Step
-- ==== Proof.StepSame.lean ====
/- The loss's and the optimiser's calls compute what their reference computes. -/
module

public import proofs.«01_k».proof.Defs
public import proofs.«01_k».proof.Proof.StepRun
public import proofs.«01_k».proof.Proof.StepValue
public import proofs.«01_k».proof.Proof.StepRef
public import proofs.«01_k».proof.Proof.Gen.Reference6Ideal.Run

@[expose] public section

set_option maxRecDepth 16384
set_option maxHeartbeats 1000000

noncomputable section

namespace Cert.Proof.Step

open Idealize.ShloMosaic Idealize.ShloMosaic.TcCoe Idealize.SL.Sem
open Cert.Ffn Cert.Row Cert.Step
open Cert.Kernel6Ideal.Step

/-- The loss, its gradient, the summed gradient, the weights' step and the two moments' estimates are the reference's, element by element. -/
theorem same : Cert.algebraic_Kernel6Ideal_Reference6Ideal (hKernel6Ideal := Cert.Kernel6Ideal.Gen.facts) (hReference6Ideal := Cert.Reference6Ideal.Gen.facts) := by
  intro m g m' g' _ hin
  refine ⟨fun c i => dloss (inY m c) (inT m c) (i 0).val (i 1).val,
    fun c _ => loss (inY m c) (inT m c),
    fun c i => grad (inP m c) (i 0).val (i 1).val,
    fun c i => delta (inP m c) (inW m c) (inM m c) (inV m c) (i 0).val (i 1).val,
    fun c i => newM (inP m c) (inM m c) (i 0).val (i 1).val,
    fun c i => newV (inP m c) (inV m c) (i 0).val (i 1).val,
    (θ_run Cert.Kernel6Ideal.defs _ _).mono (fun r h c => ?_) (Cert.Kernel6Ideal.Step.run (F := Ideal) m g),
    (θ_run Cert.Reference6Ideal.defs _ _).mono (fun r h c => ?_) (Cert.Reference6Ideal.Value.run (F := Ideal) m' g')⟩
  · obtain ⟨h0, h1, h2, h3, h4, h5, k⟩ := h c
    exact ⟨h0.trans (of_tile (end_dloss m g c)),
      h1.trans (funext (end_loss m g c)),
      h2.trans (of_tile (end_grad m g c)),
      h3.trans (of_tile (end_delta m g c)),
      h4.trans (of_tile (end_newM m g c)),
      h5.trans (of_tile (end_newV m g c)), k⟩
  · obtain ⟨h0, h1, h2, h3, h4, h5, k⟩ := h c
    obtain ⟨a0, a1, a2, a3, a4, a5⟩ := hin c
    have t0 : IsTile (inY m c) 0 0 (m' ((c.tc : Thread Cert.Reference6Ideal.nD Cert.Reference6Ideal.τ).loc Cert.Reference6Ideal.main_arg0)) := by
      rw [a0]; exact tile_at2 _
    have t1 : IsTile (inT m c) 0 0 (m' ((c.tc : Thread Cert.Reference6Ideal.nD Cert.Reference6Ideal.τ).loc Cert.Reference6Ideal.main_arg1)) := by
      rw [a1]; exact tile_at2 _
    have t2 : IsStack (inP m c) 0 (m' ((c.tc : Thread Cert.Reference6Ideal.nD Cert.Reference6Ideal.τ).loc Cert.Reference6Ideal.main_arg2)) := by
      rw [a2]; exact stack_at3 _
    have t3 : IsTile (inW m c) 0 0 (m' ((c.tc : Thread Cert.Reference6Ideal.nD Cert.Reference6Ideal.τ).loc Cert.Reference6Ideal.main_arg3)) := by
      rw [a3]; exact tile_at2 _
    have t4 : IsTile (inM m c) 0 0 (m' ((c.tc : Thread Cert.Reference6Ideal.nD Cert.Reference6Ideal.τ).loc Cert.Reference6Ideal.main_arg4)) := by
      rw [a4]; exact tile_at2 _
    have t5 : IsTile (inV m c) 0 0 (m' ((c.tc : Thread Cert.Reference6Ideal.nD Cert.Reference6Ideal.τ).loc Cert.Reference6Ideal.main_arg5)) := by
      rw [a5]; exact tile_at2 _
    exact ⟨h0.trans ((Cert.Reference6Ideal.Read.val_main_v16_eq _ _).trans (funext (Cert.Reference6Ideal.Step.res_dloss t0 t1))),
      h1.trans ((Cert.Reference6Ideal.Read.val_main_v8_eq _ _).trans (funext (Cert.Reference6Ideal.Step.res_loss t0 t1))),
      h2.trans ((Cert.Reference6Ideal.Read.val_main_v10_eq _).trans (funext (Cert.Reference6Ideal.Step.res_grad t2))),
      h3.trans ((Cert.Reference6Ideal.Read.val_main_v40_eq _ _ _ _).trans (funext (Cert.Reference6Ideal.Step.res_delta t2 t3 t4 t5))),
      h4.trans ((Cert.Reference6Ideal.Read.val_main_v21_eq _ _).trans (funext (Cert.Reference6Ideal.Step.res_newM t2 t4))),
      h5.trans ((Cert.Reference6Ideal.Read.val_main_v27_eq _ _).trans (funext (Cert.Reference6Ideal.Step.res_newV t2 t5))), k⟩

end Cert.Proof.Step
-- ==== Proof.RestRun.lean ====
/- The whole run of the optimiser's other calls: what every array holds at the end. -/
module

public import proofs.«01_k».proof.Proof.Gen.Kernel7Ideal.Frame

@[expose] public section

set_option maxRecDepth 16384
set_option maxHeartbeats 1000000

noncomputable section

namespace Cert.Kernel7Ideal.Rest

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- Every weakly fair run ends with the twenty results as the last call leaves them, and the arguments unchanged. -/
theorem run : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_v0_3) = W5 m ρ c (Proc.devRef .tc main_v0_3)
      ∧ r.2.mem ((c.tc : Thread nD τ).loc main_v1_0) = W5 m ρ c (Proc.devRef .tc main_v1_0)
      ∧ r.2.mem ((c.tc : Thread nD τ).loc main_v1_1) = W5 m ρ c (Proc.devRef .tc main_v1_1)
      ∧ r.2.mem ((c.tc : Thread nD τ).loc main_v1_2) = W5 m ρ c (Proc.devRef .tc main_v1_2)
      ∧ r.2.mem ((c.tc : Thread nD τ).loc main_v1_3) = W5 m ρ c (Proc.devRef .tc main_v1_3)
      ∧ r.2.mem ((c.tc : Thread nD τ).loc main_v2_0) = W5 m ρ c (Proc.devRef .tc main_v2_0)
      ∧ r.2.mem ((c.tc : Thread nD τ).loc main_v2_1) = W5 m ρ c (Proc.devRef .tc main_v2_1)
      ∧ r.2.mem ((c.tc : Thread nD τ).loc main_v2_2) = W5 m ρ c (Proc.devRef .tc main_v2_2)
      ∧ r.2.mem ((c.tc : Thread nD τ).loc main_v2_3) = W5 m ρ c (Proc.devRef .tc main_v2_3)
      ∧ r.2.mem ((c.tc : Thread nD τ).loc main_v3_0) = W5 m ρ c (Proc.devRef .tc main_v3_0)
      ∧ r.2.mem ((c.tc : Thread nD τ).loc main_v3_1) = W5 m ρ c (Proc.devRef .tc main_v3_1)
      ∧ r.2.mem ((c.tc : Thread nD τ).loc main_v3_2) = W5 m ρ c (Proc.devRef .tc main_v3_2)
      ∧ r.2.mem ((c.tc : Thread nD τ).loc main_v3_3) = W5 m ρ c (Proc.devRef .tc main_v3_3)
      ∧ r.2.mem ((c.tc : Thread nD τ).loc main_v4_0) = W5 m ρ c (Proc.devRef .tc main_v4_0)
      ∧ r.2.mem ((c.tc : Thread nD τ).loc main_v4_1) = W5 m ρ c (Proc.devRef .tc main_v4_1)
      ∧ r.2.mem ((c.tc : Thread nD τ).loc main_v4_2) = W5 m ρ c (Proc.devRef .tc main_v4_2)
      ∧ r.2.mem ((c.tc : Thread nD τ).loc main_v4_3) = W5 m ρ c (Proc.devRef .tc main_v4_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v0_0 (by decide)),
       h c _ (mem_uc main_v0_1 (by decide)),
       h c _ (mem_uc main_v0_2 (by decide)),
       h c _ (mem_uc main_v0_3 (by decide)),
       h c _ (mem_uc main_v1_0 (by decide)),
       h c _ (mem_uc main_v1_1 (by decide)),
       h c _ (mem_uc main_v1_2 (by decide)),
       h c _ (mem_uc main_v1_3 (by decide)),
       h c _ (mem_uc main_v2_0 (by decide)),
       h c _ (mem_uc main_v2_1 (by decide)),
       h c _ (mem_uc main_v2_2 (by decide)),
       h c _ (mem_uc main_v2_3 (by decide)),
       h c _ (mem_uc main_v3_0 (by decide)),
       h c _ (mem_uc main_v3_1 (by decide)),
       h c _ (mem_uc main_v3_2 (by decide)),
       h c _ (mem_uc main_v3_3 (by decide)),
       h c _ (mem_uc main_v4_0 (by decide)),
       h c _ (mem_uc main_v4_1 (by decide)),
       h c _ (mem_uc main_v4_2 (by decide)),
       h c _ (mem_uc main_v4_3 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c)⟩)

end Cert.Kernel7Ideal.Rest
-- ==== Proof.RestGate.lean ====
/- A point of the optimiser's call for the gate's weights: what it reads and computes, as blocks of matrices. -/
module

public import proofs.«01_k».proof.Proof.StepSpec
public import proofs.«01_k».proof.Proof.Gen.Kernel7Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel7Ideal.Gate

open Cert.Kernel7Ideal Cert.Kernel7Ideal.Gen Idealize.ShloMosaic Idealize.ShloMosaic.TcCoe Idealize.ShloMosaic.Tactic Idealize.SL.Sem
open Cert.Ffn Cert.Row Cert.Step

/-- A block of the gradient. -/
theorem grad_tile {P : Nat → Mat} {r : Nat} {x : Vec Ideal S8x512x352 .bf16} (hx : IsStack P r x) (x1 x2 x3 : Vec Ideal S512x352 .f32) : IsTile (grad P) r 0 (k0_pay5 x x1 x2 x3) := fun j => by
  unfold k0_pay5
  pointwise [k0_pay4]
  rw [hx, hx, hx, hx, hx, hx, hx, hx]
  unfold grad
  simp [Finset.sum_range_succ]

/-- A block of the first moment's estimate. -/
theorem newM_tile {P : Nat → Mat} {M : Mat} {r : Nat} {g m : Vec Ideal S512x352 .f32} (hg : IsTile (grad P) r 0 g) (hm : IsTile M r 0 m) :
    IsTile (newM P M) r 0 (k0_pay1 g m (Scalar.ofBits .f32 0x3F666666#32)) := fun j => by
  pointwise [k0_pay1]
  rw [hg, hm]
  simp only [Nat.zero_add]
  rfl

/-- A block of the second moment's estimate. -/
theorem newV_tile {P : Nat → Mat} {V : Mat} {r : Nat} {g v : Vec Ideal S512x352 .f32} (hg : IsTile (grad P) r 0 g) (hv : IsTile V r 0 v) :
    IsTile (newV P V) r 0 (k0_pay2 g v) := fun j => by
  pointwise [k0_pay2]
  rw [hg, hv]
  simp only [Nat.zero_add]
  rfl

/-- A block of the weights' step. -/
theorem delta_tile {P : Nat → Mat} {W M V : Mat} {r : Nat} {g w m v : Vec Ideal S512x352 .f32} (hg : IsTile (grad P) r 0 g) (hw : IsTile W r 0 w) (hm : IsTile M r 0 m) (hv : IsTile V r 0 v) :
    IsTile (delta P W M V) r 0 (k0_pay3 g m (Scalar.ofBits .f32 0x3F666666#32) v w) := fun j => by
  have e1 := newM_tile hg hm j
  have e2 := newV_tile hg hv j
  revert e1 e2
  pointwise [k0_pay3, k0_pay1, k0_pay2]
  intro e1 e2
  rw [e1, e2, hw]
  simp only [Nat.zero_add]
  rfl

/- Where the blocks lie. -/
theorem place_0 : ∀ t : Fin cfg0.N, win0_0.index t = ![0, t.val, 0] := (by decide +kernel : ∀ t : Fin grid0.N, win0_0.index t = ![0, t.val, 0])
theorem place_1 : ∀ t : Fin cfg0.N, win0_1.index t = ![t.val, 0] := (by decide +kernel : ∀ t : Fin grid0.N, win0_1.index t = ![t.val, 0])
theorem place_2 : ∀ t : Fin cfg0.N, win0_2.index t = ![t.val, 0] := (by decide +kernel : ∀ t : Fin grid0.N, win0_2.index t = ![t.val, 0])
theorem place_3 : ∀ t : Fin cfg0.N, win0_3.index t = ![t.val, 0] := (by decide +kernel : ∀ t : Fin grid0.N, win0_3.index t = ![t.val, 0])
theorem place_4 : ∀ t : Fin cfg0.N, win0_4.index t = ![t.val, 0] := (by decide +kernel : ∀ t : Fin grid0.N, win0_4.index t = ![t.val, 0])
theorem place_5 : ∀ t : Fin cfg0.N, win0_5.index t = ![t.val, 0] := (by decide +kernel : ∀ t : Fin grid0.N, win0_5.index t = ![t.val, 0])
theorem place_6 : ∀ t : Fin cfg0.N, win0_6.index t = ![t.val, 0] := (by decide +kernel : ∀ t : Fin grid0.N, win0_6.index t = ![t.val, 0])
theorem place_7 : ∀ t : Fin cfg0.N, win0_7.index t = ![t.val, 0] := (by decide +kernel : ∀ t : Fin grid0.N, win0_7.index t = ![t.val, 0])

variable (V : (c : Dev nD) → (b : Ref sig .tc) → Buf (Elt Ideal) ((c : Thread nD τ).loc b)) (c : Dev nD) {X : Mat}

/- What a point reads. -/
theorem stack_0 {P : Nat → Mat} (h : IsStack P 0 (V c main_arg0)) (t : Fin cfg0.N) : IsStack P (t.val * 512) (iblk0 V c 0 t) := fun j => by
  have e0 : (((cfg0.win 0).blk t).view.emb j 0).val = (j 0).val := by blk_simp [place_0]
  have e1 : 0 + (((cfg0.win 0).blk t).view.emb j 1).val = t.val * 512 + (j 1).val := by blk_simp [place_0]
  have e2 : (((cfg0.win 0).blk t).view.emb j 2).val = (j 2).val := by blk_simp [place_0]
  refine (h (((cfg0.win 0).blk t).view.emb j)).trans ?_
  rw [e0, e1, e2]
theorem tile_1 (h : IsTile X 0 0 (V c main_arg1)) (t : Fin cfg0.N) : IsTile X (t.val * 512) 0 (iblk0 V c 1 t) :=
  block h (((cfg0.win 1).blk t).view.emb) (fun j => by blk_simp [place_1]) (fun j => by blk_simp [place_1])
theorem tile_2 (h : IsTile X 0 0 (V c main_arg2)) (t : Fin cfg0.N) : IsTile X (t.val * 512) 0 (iblk0 V c 2 t) :=
  block h (((cfg0.win 2).blk t).view.emb) (fun j => by blk_simp [place_2]) (fun j => by blk_simp [place_2])
theorem tile_3 (h : IsTile X 0 0 (V c main_arg3)) (t : Fin cfg0.N) : IsTile X (t.val * 512) 0 (iblk0 V c 3 t) :=
  block h (((cfg0.win 3).blk t).view.emb) (fun j => by blk_simp [place_3]) (fun j => by blk_simp [place_3])

end Cert.Kernel7Ideal.Gate
-- ==== Proof.RestGateValue.lean ====
/- What the optimiser's call for the gate's weights leaves in its results at the end of the run. -/
module

public import proofs.«01_k».proof.Proof.RestGate
public import proofs.«01_k».proof.Proof.StepValue

@[expose] public section

set_option maxRecDepth 16384
set_option maxHeartbeats 400000

noncomputable section

namespace Cert.Kernel7Ideal.Gate

open Cert.Kernel7Ideal Cert.Kernel7Ideal.Gen Idealize.ShloMosaic Idealize.ShloMosaic.TcCoe Idealize.ShloMosaic.Tactic Idealize.SL.Sem
open Cert.Ffn Cert.Row Cert.Step

open Cert.Conv (at2 at2_eq)
open Cert.Kernel6Ideal.Step (stack_at3)

/-- A point's block of the gradient. -/
theorem grad_eq (x0 : Vec Ideal S8x512x352 .bf16) (x1 x2 x3 : Vec Ideal S512x352 .f32) : out0_4 x0 x1 x2 x3 = k0_pay5 x0 x1 x2 x3 := by
  unfold out0_4
  rw [View.canon_unit_zero hz]

/-- A point's block of the weights' step. -/
theorem delta_eq (x0 : Vec Ideal S8x512x352 .bf16) (x1 x2 x3 : Vec Ideal S512x352 .f32) : out0_5 x0 x1 x2 x3 = k0_pay3 (k0_pay5 x0 x1 x2 x3) x2 (Scalar.ofBits .f32 0x3F666666#32) x3 x1 := by
  unfold out0_5
  rw [View.canon_unit_zero hz]
  simp only [View.ld_unit_zero (S := S512x352) hz]

/-- A point's block of the first moment's estimate. -/
theorem newM_eq (x0 : Vec Ideal S8x512x352 .bf16) (x1 x2 x3 : Vec Ideal S512x352 .f32) : out0_6 x0 x1 x2 x3 = k0_pay1 (k0_pay5 x0 x1 x2 x3) x2 (Scalar.ofBits .f32 0x3F666666#32) := by
  unfold out0_6
  rw [View.canon_unit_zero hz]
  simp only [View.ld_unit_zero (S := S512x352) hz]

/-- A point's block of the second moment's estimate. -/
theorem newV_eq (x0 : Vec Ideal S8x512x352 .bf16) (x1 x2 x3 : Vec Ideal S512x352 .f32) : out0_7 x0 x1 x2 x3 = k0_pay2 (k0_pay5 x0 x1 x2 x3) x3 := by
  unfold out0_7
  rw [View.canon_unit_zero hz]
  simp only [View.ld_unit_zero (S := S512x352) hz]

section
variable (V : (c : Dev nD) → (b : Ref sig .tc) → Buf (Elt Ideal) ((c : Thread nD τ).loc b)) (c : Dev nD)
variable {P : Nat → Mat} {W M S : Mat}

/-- The gradient, over the whole array. -/
theorem result_grad (h0 : IsStack P 0 (V c main_arg0)) : IsTile (grad P) 0 0 ((dat0 V c).arrAt 4 cfg0.N) := by
  refine whole ((dat0 V c).arrAt_eq_of_covers 4 _ (by decide +kernel) fun t hf y => ?_)
  have e0 : (((cfg0.win 4).blk t).view.emb y 0).val = t.val * 512 + (y 0).val := by blk_simp [place_4]
  have e1 : (((cfg0.win 4).blk t).view.emb y 1).val = 0 + (y 1).val := by blk_simp [place_4]
  refine Eq.trans ?_ (congrArg₂ (grad P) e0 e1).symm
  blk_simp
  rw [after0_4]
  rw [grad_eq]
  exact ((grad_tile (stack_0 V c h0 t) _ _ _) y).trans (by simp only [Nat.zero_add])

/-- The weights' step, over the whole array. -/
theorem result_delta (h0 : IsStack P 0 (V c main_arg0)) (h1 : IsTile W 0 0 (V c main_arg1)) (h2 : IsTile M 0 0 (V c main_arg2)) (h3 : IsTile S 0 0 (V c main_arg3)) : IsTile (delta P W M S) 0 0 ((dat0 V c).arrAt 5 cfg0.N) := by
  refine whole ((dat0 V c).arrAt_eq_of_covers 5 _ (by decide +kernel) fun t hf y => ?_)
  have e0 : (((cfg0.win 5).blk t).view.emb y 0).val = t.val * 512 + (y 0).val := by blk_simp [place_5]
  have e1 : (((cfg0.win 5).blk t).view.emb y 1).val = 0 + (y 1).val := by blk_simp [place_5]
  refine Eq.trans ?_ (congrArg₂ (delta P W M S) e0 e1).symm
  blk_simp
  rw [after0_5]
  rw [delta_eq]
  exact ((delta_tile (grad_tile (stack_0 V c h0 t) _ _ _) (tile_1 V c h1 t) (tile_2 V c h2 t) (tile_3 V c h3 t)) y).trans (by simp only [Nat.zero_add])

/-- The first moment's estimate, over the whole array. -/
theorem result_newM (h0 : IsStack P 0 (V c main_arg0)) (h2 : IsTile M 0 0 (V c main_arg2)) : IsTile (newM P M) 0 0 ((dat0 V c).arrAt 6 cfg0.N) := by
  refine whole ((dat0 V c).arrAt_eq_of_covers 6 _ (by decide +kernel) fun t hf y => ?_)
  have e0 : (((cfg0.win 6).blk t).view.emb y 0).val = t.val * 512 + (y 0).val := by blk_simp [place_6]
  have e1 : (((cfg0.win 6).blk t).view.emb y 1).val = 0 + (y 1).val := by blk_simp [place_6]
  refine Eq.trans ?_ (congrArg₂ (newM P M) e0 e1).symm
  blk_simp
  rw [after0_6]
  rw [newM_eq]
  exact ((newM_tile (grad_tile (stack_0 V c h0 t) _ _ _) (tile_2 V c h2 t)) y).trans (by simp only [Nat.zero_add])

/-- The second moment's estimate, over the whole array. -/
theorem result_newV (h0 : IsStack P 0 (V c main_arg0)) (h3 : IsTile S 0 0 (V c main_arg3)) : IsTile (newV P S) 0 0 ((dat0 V c).arrAt 7 cfg0.N) := by
  refine whole ((dat0 V c).arrAt_eq_of_covers 7 _ (by decide +kernel) fun t hf y => ?_)
  have e0 : (((cfg0.win 7).blk t).view.emb y 0).val = t.val * 512 + (y 0).val := by blk_simp [place_7]
  have e1 : (((cfg0.win 7).blk t).view.emb y 1).val = 0 + (y 1).val := by blk_simp [place_7]
  refine Eq.trans ?_ (congrArg₂ (newV P S) e0 e1).symm
  blk_simp
  rw [after0_7]
  rw [newV_eq]
  exact ((newV_tile (grad_tile (stack_0 V c h0 t) _ _ _) (tile_3 V c h3 t)) y).trans (by simp only [Nat.zero_add])
end

section
variable (m : (l : Loc nD τ sig) → Buf (Elt Ideal) l) (ρ : Dev nD → PrngReg) (c : Dev nD)

/-- The gradient's parts. -/
def inP : Nat → Mat := at3 (n := 8) (p := 4096) (q := 352) (m ((c.tc : Thread nD τ).loc main_arg0))
/-- The weights. -/
def inW : Mat := at2 (m := 4096) (n := 352) (m ((c.tc : Thread nD τ).loc main_arg1))
/-- The first moment. -/
def inM : Mat := at2 (m := 4096) (n := 352) (m ((c.tc : Thread nD τ).loc main_arg2))
/-- The second moment. -/
def inV : Mat := at2 (m := 4096) (n := 352) (m ((c.tc : Thread nD τ).loc main_arg3))

/- The arguments are still there when the call starts. -/
theorem start_0 : IsStack (inP m c) 0 (V0 m ρ c main_arg0) := by
  have e : V0 m ρ c main_arg0 = m ((c.tc : Thread nD τ).loc main_arg0) := W0_args m ρ c main_arg0 (by decide)
  rw [e]
  exact stack_at3 _
theorem start_1 : IsTile (inW m c) 0 0 (V0 m ρ c main_arg1) := by
  have e : V0 m ρ c main_arg1 = m ((c.tc : Thread nD τ).loc main_arg1) := W0_args m ρ c main_arg1 (by decide)
  rw [e]
  exact tile_at2 _
theorem start_2 : IsTile (inM m c) 0 0 (V0 m ρ c main_arg2) := by
  have e : V0 m ρ c main_arg2 = m ((c.tc : Thread nD τ).loc main_arg2) := W0_args m ρ c main_arg2 (by decide)
  rw [e]
  exact tile_at2 _
theorem start_3 : IsTile (inV m c) 0 0 (V0 m ρ c main_arg3) := by
  have e : V0 m ρ c main_arg3 = m ((c.tc : Thread nD τ).loc main_arg3) := W0_args m ρ c main_arg3 (by decide)
  rw [e]
  exact tile_at2 _

/-- The gradient at the end. -/
theorem end_grad : IsTile (grad (inP m c)) 0 0 (W5 m ρ c (Proc.devRef .tc main_v0_0)) := by
  have e : W5 m ρ c (Proc.devRef .tc main_v0_0) = (dat0 (V0 m ρ) c).arrAt 4 cfg0.N := (W5_of m ρ c main_v0_0 (by decide +kernel)).trans ((W4_of m ρ c main_v0_0 (by decide +kernel)).trans ((W3_of m ρ c main_v0_0 (by decide +kernel)).trans ((W2_of m ρ c main_v0_0 (by decide +kernel)).trans (W1_arr m ρ c 4))))
  rw [e]
  exact result_grad _ c (start_0 m ρ c)

/-- The weights' step at the end. -/
theorem end_delta : IsTile (delta (inP m c) (inW m c) (inM m c) (inV m c)) 0 0 (W5 m ρ c (Proc.devRef .tc main_v0_1)) := by
  have e : W5 m ρ c (Proc.devRef .tc main_v0_1) = (dat0 (V0 m ρ) c).arrAt 5 cfg0.N := (W5_of m ρ c main_v0_1 (by decide +kernel)).trans ((W4_of m ρ c main_v0_1 (by decide +kernel)).trans ((W3_of m ρ c main_v0_1 (by decide +kernel)).trans ((W2_of m ρ c main_v0_1 (by decide +kernel)).trans (W1_arr m ρ c 5))))
  rw [e]
  exact result_delta _ c (start_0 m ρ c) (start_1 m ρ c) (start_2 m ρ c) (start_3 m ρ c)

/-- The first moment's estimate at the end. -/
theorem end_newM : IsTile (newM (inP m c) (inM m c)) 0 0 (W5 m ρ c (Proc.devRef .tc main_v0_2)) := by
  have e : W5 m ρ c (Proc.devRef .tc main_v0_2) = (dat0 (V0 m ρ) c).arrAt 6 cfg0.N := (W5_of m ρ c main_v0_2 (by decide +kernel)).trans ((W4_of m ρ c main_v0_2 (by decide +kernel)).trans ((W3_of m ρ c main_v0_2 (by decide +kernel)).trans ((W2_of m ρ c main_v0_2 (by decide +kernel)).trans (W1_arr m ρ c 6))))
  rw [e]
  exact result_newM _ c (start_0 m ρ c) (start_2 m ρ c)

/-- The second moment's estimate at the end. -/
theorem end_newV : IsTile (newV (inP m c) (inV m c)) 0 0 (W5 m ρ c (Proc.devRef .tc main_v0_3)) := by
  have e : W5 m ρ c (Proc.devRef .tc main_v0_3) = (dat0 (V0 m ρ) c).arrAt 7 cfg0.N := (W5_of m ρ c main_v0_3 (by decide +kernel)).trans ((W4_of m ρ c main_v0_3 (by decide +kernel)).trans ((W3_of m ρ c main_v0_3 (by decide +kernel)).trans ((W2_of m ρ c main_v0_3 (by decide +kernel)).trans (W1_arr m ρ c 7))))
  rw [e]
  exact result_newV _ c (start_0 m ρ c) (start_3 m ρ c)
end

end Cert.Kernel7Ideal.Gate
-- ==== Proof.RestUp.lean ====
/- A point of the optimiser's call for the up-projection's weights: what it reads and computes, as blocks of matrices. -/
module

public import proofs.«01_k».proof.Proof.StepSpec
public import proofs.«01_k».proof.Proof.Gen.Kernel7Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel7Ideal.Up

open Cert.Kernel7Ideal Cert.Kernel7Ideal.Gen Idealize.ShloMosaic Idealize.ShloMosaic.TcCoe Idealize.ShloMosaic.Tactic Idealize.SL.Sem
open Cert.Ffn Cert.Row Cert.Step

/-- A block of the gradient. -/
theorem grad_tile {P : Nat → Mat} {r : Nat} {x : Vec Ideal S8x512x352 .bf16} (hx : IsStack P r x) (x1 x2 x3 : Vec Ideal S512x352 .f32) : IsTile (grad P) r 0 (k1_pay5 x x1 x2 x3) := fun j => by
  unfold k1_pay5
  pointwise [k1_pay4]
  rw [hx, hx, hx, hx, hx, hx, hx, hx]
  unfold grad
  simp [Finset.sum_range_succ]

/-- A block of the first moment's estimate. -/
theorem newM_tile {P : Nat → Mat} {M : Mat} {r : Nat} {g m : Vec Ideal S512x352 .f32} (hg : IsTile (grad P) r 0 g) (hm : IsTile M r 0 m) :
    IsTile (newM P M) r 0 (k1_pay1 g m (Scalar.ofBits .f32 0x3F666666#32)) := fun j => by
  pointwise [k1_pay1]
  rw [hg, hm]
  simp only [Nat.zero_add]
  rfl

/-- A block of the second moment's estimate. -/
theorem newV_tile {P : Nat → Mat} {V : Mat} {r : Nat} {g v : Vec Ideal S512x352 .f32} (hg : IsTile (grad P) r 0 g) (hv : IsTile V r 0 v) :
    IsTile (newV P V) r 0 (k1_pay2 g v) := fun j => by
  pointwise [k1_pay2]
  rw [hg, hv]
  simp only [Nat.zero_add]
  rfl

/-- A block of the weights' step. -/
theorem delta_tile {P : Nat → Mat} {W M V : Mat} {r : Nat} {g w m v : Vec Ideal S512x352 .f32} (hg : IsTile (grad P) r 0 g) (hw : IsTile W r 0 w) (hm : IsTile M r 0 m) (hv : IsTile V r 0 v) :
    IsTile (delta P W M V) r 0 (k1_pay3 g m (Scalar.ofBits .f32 0x3F666666#32) v w) := fun j => by
  have e1 := newM_tile hg hm j
  have e2 := newV_tile hg hv j
  revert e1 e2
  pointwise [k1_pay3, k1_pay1, k1_pay2]
  intro e1 e2
  rw [e1, e2, hw]
  simp only [Nat.zero_add]
  rfl

/- Where the blocks lie. -/
theorem place_0 : ∀ t : Fin cfg1.N, win1_0.index t = ![0, t.val, 0] := (by decide +kernel : ∀ t : Fin grid1.N, win1_0.index t = ![0, t.val, 0])
theorem place_1 : ∀ t : Fin cfg1.N, win1_1.index t = ![t.val, 0] := (by decide +kernel : ∀ t : Fin grid1.N, win1_1.index t = ![t.val, 0])
theorem place_2 : ∀ t : Fin cfg1.N, win1_2.index t = ![t.val, 0] := (by decide +kernel : ∀ t : Fin grid1.N, win1_2.index t = ![t.val, 0])
theorem place_3 : ∀ t : Fin cfg1.N, win1_3.index t = ![t.val, 0] := (by decide +kernel : ∀ t : Fin grid1.N, win1_3.index t = ![t.val, 0])
theorem place_4 : ∀ t : Fin cfg1.N, win1_4.index t = ![t.val, 0] := (by decide +kernel : ∀ t : Fin grid1.N, win1_4.index t = ![t.val, 0])
theorem place_5 : ∀ t : Fin cfg1.N, win1_5.index t = ![t.val, 0] := (by decide +kernel : ∀ t : Fin grid1.N, win1_5.index t = ![t.val, 0])
theorem place_6 : ∀ t : Fin cfg1.N, win1_6.index t = ![t.val, 0] := (by decide +kernel : ∀ t : Fin grid1.N, win1_6.index t = ![t.val, 0])
theorem place_7 : ∀ t : Fin cfg1.N, win1_7.index t = ![t.val, 0] := (by decide +kernel : ∀ t : Fin grid1.N, win1_7.index t = ![t.val, 0])

variable (V : (c : Dev nD) → (b : Ref sig .tc) → Buf (Elt Ideal) ((c : Thread nD τ).loc b)) (c : Dev nD) {X : Mat}

/- What a point reads. -/
theorem stack_0 {P : Nat → Mat} (h : IsStack P 0 (V c main_arg4)) (t : Fin cfg1.N) : IsStack P (t.val * 512) (iblk1 V c 0 t) := fun j => by
  have e0 : (((cfg1.win 0).blk t).view.emb j 0).val = (j 0).val := by blk_simp [place_0]
  have e1 : 0 + (((cfg1.win 0).blk t).view.emb j 1).val = t.val * 512 + (j 1).val := by blk_simp [place_0]
  have e2 : (((cfg1.win 0).blk t).view.emb j 2).val = (j 2).val := by blk_simp [place_0]
  refine (h (((cfg1.win 0).blk t).view.emb j)).trans ?_
  rw [e0, e1, e2]
theorem tile_1 (h : IsTile X 0 0 (V c main_arg5)) (t : Fin cfg1.N) : IsTile X (t.val * 512) 0 (iblk1 V c 1 t) :=
  block h (((cfg1.win 1).blk t).view.emb) (fun j => by blk_simp [place_1]) (fun j => by blk_simp [place_1])
theorem tile_2 (h : IsTile X 0 0 (V c main_arg6)) (t : Fin cfg1.N) : IsTile X (t.val * 512) 0 (iblk1 V c 2 t) :=
  block h (((cfg1.win 2).blk t).view.emb) (fun j => by blk_simp [place_2]) (fun j => by blk_simp [place_2])
theorem tile_3 (h : IsTile X 0 0 (V c main_arg7)) (t : Fin cfg1.N) : IsTile X (t.val * 512) 0 (iblk1 V c 3 t) :=
  block h (((cfg1.win 3).blk t).view.emb) (fun j => by blk_simp [place_3]) (fun j => by blk_simp [place_3])

end Cert.Kernel7Ideal.Up
-- ==== Proof.RestUpValue.lean ====
/- What the optimiser's call for the up-projection's weights leaves in its results at the end of the run. -/
module

public import proofs.«01_k».proof.Proof.RestUp
public import proofs.«01_k».proof.Proof.StepValue

@[expose] public section

set_option maxRecDepth 16384
set_option maxHeartbeats 400000

noncomputable section

namespace Cert.Kernel7Ideal.Up

open Cert.Kernel7Ideal Cert.Kernel7Ideal.Gen Idealize.ShloMosaic Idealize.ShloMosaic.TcCoe Idealize.ShloMosaic.Tactic Idealize.SL.Sem
open Cert.Ffn Cert.Row Cert.Step

open Cert.Conv (at2 at2_eq)
open Cert.Kernel6Ideal.Step (stack_at3)

/-- A point's block of the gradient. -/
theorem grad_eq (x0 : Vec Ideal S8x512x352 .bf16) (x1 x2 x3 : Vec Ideal S512x352 .f32) : out1_4 x0 x1 x2 x3 = k1_pay5 x0 x1 x2 x3 := by
  unfold out1_4
  rw [View.canon_unit_zero hz]

/-- A point's block of the weights' step. -/
theorem delta_eq (x0 : Vec Ideal S8x512x352 .bf16) (x1 x2 x3 : Vec Ideal S512x352 .f32) : out1_5 x0 x1 x2 x3 = k1_pay3 (k1_pay5 x0 x1 x2 x3) x2 (Scalar.ofBits .f32 0x3F666666#32) x3 x1 := by
  unfold out1_5
  rw [View.canon_unit_zero hz]
  simp only [View.ld_unit_zero (S := S512x352) hz]

/-- A point's block of the first moment's estimate. -/
theorem newM_eq (x0 : Vec Ideal S8x512x352 .bf16) (x1 x2 x3 : Vec Ideal S512x352 .f32) : out1_6 x0 x1 x2 x3 = k1_pay1 (k1_pay5 x0 x1 x2 x3) x2 (Scalar.ofBits .f32 0x3F666666#32) := by
  unfold out1_6
  rw [View.canon_unit_zero hz]
  simp only [View.ld_unit_zero (S := S512x352) hz]

/-- A point's block of the second moment's estimate. -/
theorem newV_eq (x0 : Vec Ideal S8x512x352 .bf16) (x1 x2 x3 : Vec Ideal S512x352 .f32) : out1_7 x0 x1 x2 x3 = k1_pay2 (k1_pay5 x0 x1 x2 x3) x3 := by
  unfold out1_7
  rw [View.canon_unit_zero hz]
  simp only [View.ld_unit_zero (S := S512x352) hz]

section
variable (V : (c : Dev nD) → (b : Ref sig .tc) → Buf (Elt Ideal) ((c : Thread nD τ).loc b)) (c : Dev nD)
variable {P : Nat → Mat} {W M S : Mat}

/-- The gradient, over the whole array. -/
theorem result_grad (h0 : IsStack P 0 (V c main_arg4)) : IsTile (grad P) 0 0 ((dat1 V c).arrAt 4 cfg1.N) := by
  refine whole ((dat1 V c).arrAt_eq_of_covers 4 _ (by decide +kernel) fun t hf y => ?_)
  have e0 : (((cfg1.win 4).blk t).view.emb y 0).val = t.val * 512 + (y 0).val := by blk_simp [place_4]
  have e1 : (((cfg1.win 4).blk t).view.emb y 1).val = 0 + (y 1).val := by blk_simp [place_4]
  refine Eq.trans ?_ (congrArg₂ (grad P) e0 e1).symm
  blk_simp
  rw [after1_4]
  rw [grad_eq]
  exact ((grad_tile (stack_0 V c h0 t) _ _ _) y).trans (by simp only [Nat.zero_add])

/-- The weights' step, over the whole array. -/
theorem result_delta (h0 : IsStack P 0 (V c main_arg4)) (h1 : IsTile W 0 0 (V c main_arg5)) (h2 : IsTile M 0 0 (V c main_arg6)) (h3 : IsTile S 0 0 (V c main_arg7)) : IsTile (delta P W M S) 0 0 ((dat1 V c).arrAt 5 cfg1.N) := by
  refine whole ((dat1 V c).arrAt_eq_of_covers 5 _ (by decide +kernel) fun t hf y => ?_)
  have e0 : (((cfg1.win 5).blk t).view.emb y 0).val = t.val * 512 + (y 0).val := by blk_simp [place_5]
  have e1 : (((cfg1.win 5).blk t).view.emb y 1).val = 0 + (y 1).val := by blk_simp [place_5]
  refine Eq.trans ?_ (congrArg₂ (delta P W M S) e0 e1).symm
  blk_simp
  rw [after1_5]
  rw [delta_eq]
  exact ((delta_tile (grad_tile (stack_0 V c h0 t) _ _ _) (tile_1 V c h1 t) (tile_2 V c h2 t) (tile_3 V c h3 t)) y).trans (by simp only [Nat.zero_add])

/-- The first moment's estimate, over the whole array. -/
theorem result_newM (h0 : IsStack P 0 (V c main_arg4)) (h2 : IsTile M 0 0 (V c main_arg6)) : IsTile (newM P M) 0 0 ((dat1 V c).arrAt 6 cfg1.N) := by
  refine whole ((dat1 V c).arrAt_eq_of_covers 6 _ (by decide +kernel) fun t hf y => ?_)
  have e0 : (((cfg1.win 6).blk t).view.emb y 0).val = t.val * 512 + (y 0).val := by blk_simp [place_6]
  have e1 : (((cfg1.win 6).blk t).view.emb y 1).val = 0 + (y 1).val := by blk_simp [place_6]
  refine Eq.trans ?_ (congrArg₂ (newM P M) e0 e1).symm
  blk_simp
  rw [after1_6]
  rw [newM_eq]
  exact ((newM_tile (grad_tile (stack_0 V c h0 t) _ _ _) (tile_2 V c h2 t)) y).trans (by simp only [Nat.zero_add])

/-- The second moment's estimate, over the whole array. -/
theorem result_newV (h0 : IsStack P 0 (V c main_arg4)) (h3 : IsTile S 0 0 (V c main_arg7)) : IsTile (newV P S) 0 0 ((dat1 V c).arrAt 7 cfg1.N) := by
  refine whole ((dat1 V c).arrAt_eq_of_covers 7 _ (by decide +kernel) fun t hf y => ?_)
  have e0 : (((cfg1.win 7).blk t).view.emb y 0).val = t.val * 512 + (y 0).val := by blk_simp [place_7]
  have e1 : (((cfg1.win 7).blk t).view.emb y 1).val = 0 + (y 1).val := by blk_simp [place_7]
  refine Eq.trans ?_ (congrArg₂ (newV P S) e0 e1).symm
  blk_simp
  rw [after1_7]
  rw [newV_eq]
  exact ((newV_tile (grad_tile (stack_0 V c h0 t) _ _ _) (tile_3 V c h3 t)) y).trans (by simp only [Nat.zero_add])
end

section
variable (m : (l : Loc nD τ sig) → Buf (Elt Ideal) l) (ρ : Dev nD → PrngReg) (c : Dev nD)

/-- The gradient's parts. -/
def inP : Nat → Mat := at3 (n := 8) (p := 4096) (q := 352) (m ((c.tc : Thread nD τ).loc main_arg4))
/-- The weights. -/
def inW : Mat := at2 (m := 4096) (n := 352) (m ((c.tc : Thread nD τ).loc main_arg5))
/-- The first moment. -/
def inM : Mat := at2 (m := 4096) (n := 352) (m ((c.tc : Thread nD τ).loc main_arg6))
/-- The second moment. -/
def inV : Mat := at2 (m := 4096) (n := 352) (m ((c.tc : Thread nD τ).loc main_arg7))

/- The arguments are still there when the call starts. -/
theorem start_0 : IsStack (inP m c) 0 (V1 m ρ c main_arg4) := by
  have e : V1 m ρ c main_arg4 = m ((c.tc : Thread nD τ).loc main_arg4) := W1_args m ρ c main_arg4 (by decide)
  rw [e]
  exact stack_at3 _
theorem start_1 : IsTile (inW m c) 0 0 (V1 m ρ c main_arg5) := by
  have e : V1 m ρ c main_arg5 = m ((c.tc : Thread nD τ).loc main_arg5) := W1_args m ρ c main_arg5 (by decide)
  rw [e]
  exact tile_at2 _
theorem start_2 : IsTile (inM m c) 0 0 (V1 m ρ c main_arg6) := by
  have e : V1 m ρ c main_arg6 = m ((c.tc : Thread nD τ).loc main_arg6) := W1_args m ρ c main_arg6 (by decide)
  rw [e]
  exact tile_at2 _
theorem start_3 : IsTile (inV m c) 0 0 (V1 m ρ c main_arg7) := by
  have e : V1 m ρ c main_arg7 = m ((c.tc : Thread nD τ).loc main_arg7) := W1_args m ρ c main_arg7 (by decide)
  rw [e]
  exact tile_at2 _

/-- The gradient at the end. -/
theorem end_grad : IsTile (grad (inP m c)) 0 0 (W5 m ρ c (Proc.devRef .tc main_v1_0)) := by
  have e : W5 m ρ c (Proc.devRef .tc main_v1_0) = (dat1 (V1 m ρ) c).arrAt 4 cfg1.N := (W5_of m ρ c main_v1_0 (by decide +kernel)).trans ((W4_of m ρ c main_v1_0 (by decide +kernel)).trans ((W3_of m ρ c main_v1_0 (by decide +kernel)).trans (W2_arr m ρ c 4)))
  rw [e]
  exact result_grad _ c (start_0 m ρ c)

/-- The weights' step at the end. -/
theorem end_delta : IsTile (delta (inP m c) (inW m c) (inM m c) (inV m c)) 0 0 (W5 m ρ c (Proc.devRef .tc main_v1_1)) := by
  have e : W5 m ρ c (Proc.devRef .tc main_v1_1) = (dat1 (V1 m ρ) c).arrAt 5 cfg1.N := (W5_of m ρ c main_v1_1 (by decide +kernel)).trans ((W4_of m ρ c main_v1_1 (by decide +kernel)).trans ((W3_of m ρ c main_v1_1 (by decide +kernel)).trans (W2_arr m ρ c 5)))
  rw [e]
  exact result_delta _ c (start_0 m ρ c) (start_1 m ρ c) (start_2 m ρ c) (start_3 m ρ c)

/-- The first moment's estimate at the end. -/
theorem end_newM : IsTile (newM (inP m c) (inM m c)) 0 0 (W5 m ρ c (Proc.devRef .tc main_v1_2)) := by
  have e : W5 m ρ c (Proc.devRef .tc main_v1_2) = (dat1 (V1 m ρ) c).arrAt 6 cfg1.N := (W5_of m ρ c main_v1_2 (by decide +kernel)).trans ((W4_of m ρ c main_v1_2 (by decide +kernel)).trans ((W3_of m ρ c main_v1_2 (by decide +kernel)).trans (W2_arr m ρ c 6)))
  rw [e]
  exact result_newM _ c (start_0 m ρ c) (start_2 m ρ c)

/-- The second moment's estimate at the end. -/
theorem end_newV : IsTile (newV (inP m c) (inV m c)) 0 0 (W5 m ρ c (Proc.devRef .tc main_v1_3)) := by
  have e : W5 m ρ c (Proc.devRef .tc main_v1_3) = (dat1 (V1 m ρ) c).arrAt 7 cfg1.N := (W5_of m ρ c main_v1_3 (by decide +kernel)).trans ((W4_of m ρ c main_v1_3 (by decide +kernel)).trans ((W3_of m ρ c main_v1_3 (by decide +kernel)).trans (W2_arr m ρ c 7)))
  rw [e]
  exact result_newV _ c (start_0 m ρ c) (start_3 m ρ c)
end

end Cert.Kernel7Ideal.Up
-- ==== Proof.RestOut.lean ====
/- A point of the optimiser's call for the output projection's weights: what it reads and computes, as blocks of matrices. -/
module

public import proofs.«01_k».proof.Proof.StepSpec
public import proofs.«01_k».proof.Proof.Gen.Kernel7Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel7Ideal.Out

open Cert.Kernel7Ideal Cert.Kernel7Ideal.Gen Idealize.ShloMosaic Idealize.ShloMosaic.TcCoe Idealize.ShloMosaic.Tactic Idealize.SL.Sem
open Cert.Ffn Cert.Row Cert.Step

/-- A block of the gradient. -/
theorem grad_tile {P : Nat → Mat} {r : Nat} {x : Vec Ideal S8x512x1024 .bf16} (hx : IsStack P r x) (x1 x2 x3 : Vec Ideal S512x1024 .f32) : IsTile (grad P) r 0 (k2_pay5 x x1 x2 x3) := fun j => by
  unfold k2_pay5
  pointwise [k2_pay4]
  rw [hx, hx, hx, hx, hx, hx, hx, hx]
  unfold grad
  simp [Finset.sum_range_succ]

/-- A block of the first moment's estimate. -/
theorem newM_tile {P : Nat → Mat} {M : Mat} {r : Nat} {g m : Vec Ideal S512x1024 .f32} (hg : IsTile (grad P) r 0 g) (hm : IsTile M r 0 m) :
    IsTile (newM P M) r 0 (k2_pay1 g m (Scalar.ofBits .f32 0x3F666666#32)) := fun j => by
  pointwise [k2_pay1]
  rw [hg, hm]
  simp only [Nat.zero_add]
  rfl

/-- A block of the second moment's estimate. -/
theorem newV_tile {P : Nat → Mat} {V : Mat} {r : Nat} {g v : Vec Ideal S512x1024 .f32} (hg : IsTile (grad P) r 0 g) (hv : IsTile V r 0 v) :
    IsTile (newV P V) r 0 (k2_pay2 g v) := fun j => by
  pointwise [k2_pay2]
  rw [hg, hv]
  simp only [Nat.zero_add]
  rfl

/-- A block of the weights' step. -/
theorem delta_tile {P : Nat → Mat} {W M V : Mat} {r : Nat} {g w m v : Vec Ideal S512x1024 .f32} (hg : IsTile (grad P) r 0 g) (hw : IsTile W r 0 w) (hm : IsTile M r 0 m) (hv : IsTile V r 0 v) :
    IsTile (delta P W M V) r 0 (k2_pay3 g m (Scalar.ofBits .f32 0x3F666666#32) v w) := fun j => by
  have e1 := newM_tile hg hm j
  have e2 := newV_tile hg hv j
  revert e1 e2
  pointwise [k2_pay3, k2_pay1, k2_pay2]
  intro e1 e2
  rw [e1, e2, hw]
  simp only [Nat.zero_add]
  rfl

/- Where the blocks lie. -/
theorem place_0 : ∀ t : Fin cfg2.N, win2_0.index t = ![0, t.val, 0] := (by decide +kernel : ∀ t : Fin grid2.N, win2_0.index t = ![0, t.val, 0])
theorem place_1 : ∀ t : Fin cfg2.N, win2_1.index t = ![t.val, 0] := (by decide +kernel : ∀ t : Fin grid2.N, win2_1.index t = ![t.val, 0])
theorem place_2 : ∀ t : Fin cfg2.N, win2_2.index t = ![t.val, 0] := (by decide +kernel : ∀ t : Fin grid2.N, win2_2.index t = ![t.val, 0])
theorem place_3 : ∀ t : Fin cfg2.N, win2_3.index t = ![t.val, 0] := (by decide +kernel : ∀ t : Fin grid2.N, win2_3.index t = ![t.val, 0])
theorem place_4 : ∀ t : Fin cfg2.N, win2_4.index t = ![t.val, 0] := (by decide +kernel : ∀ t : Fin grid2.N, win2_4.index t = ![t.val, 0])
theorem place_5 : ∀ t : Fin cfg2.N, win2_5.index t = ![t.val, 0] := (by decide +kernel : ∀ t : Fin grid2.N, win2_5.index t = ![t.val, 0])
theorem place_6 : ∀ t : Fin cfg2.N, win2_6.index t = ![t.val, 0] := (by decide +kernel : ∀ t : Fin grid2.N, win2_6.index t = ![t.val, 0])
theorem place_7 : ∀ t : Fin cfg2.N, win2_7.index t = ![t.val, 0] := (by decide +kernel : ∀ t : Fin grid2.N, win2_7.index t = ![t.val, 0])

variable (V : (c : Dev nD) → (b : Ref sig .tc) → Buf (Elt Ideal) ((c : Thread nD τ).loc b)) (c : Dev nD) {X : Mat}

/- What a point reads. -/
theorem stack_0 {P : Nat → Mat} (h : IsStack P 0 (V c main_arg8)) (t : Fin cfg2.N) : IsStack P (t.val * 512) (iblk2 V c 0 t) := fun j => by
  have e0 : (((cfg2.win 0).blk t).view.emb j 0).val = (j 0).val := by blk_simp [place_0]
  have e1 : 0 + (((cfg2.win 0).blk t).view.emb j 1).val = t.val * 512 + (j 1).val := by blk_simp [place_0]
  have e2 : (((cfg2.win 0).blk t).view.emb j 2).val = (j 2).val := by blk_simp [place_0]
  refine (h (((cfg2.win 0).blk t).view.emb j)).trans ?_
  rw [e0, e1, e2]
theorem tile_1 (h : IsTile X 0 0 (V c main_arg9)) (t : Fin cfg2.N) : IsTile X (t.val * 512) 0 (iblk2 V c 1 t) :=
  block h (((cfg2.win 1).blk t).view.emb) (fun j => by blk_simp [place_1]) (fun j => by blk_simp [place_1])
theorem tile_2 (h : IsTile X 0 0 (V c main_arg10)) (t : Fin cfg2.N) : IsTile X (t.val * 512) 0 (iblk2 V c 2 t) :=
  block h (((cfg2.win 2).blk t).view.emb) (fun j => by blk_simp [place_2]) (fun j => by blk_simp [place_2])
theorem tile_3 (h : IsTile X 0 0 (V c main_arg11)) (t : Fin cfg2.N) : IsTile X (t.val * 512) 0 (iblk2 V c 3 t) :=
  block h (((cfg2.win 3).blk t).view.emb) (fun j => by blk_simp [place_3]) (fun j => by blk_simp [place_3])

end Cert.Kernel7Ideal.Out
-- ==== Proof.RestOutValue.lean ====
/- What the optimiser's call for the output projection's weights leaves in its results at the end of the run. -/
module

public import proofs.«01_k».proof.Proof.RestOut
public import proofs.«01_k».proof.Proof.StepValue

@[expose] public section

set_option maxRecDepth 16384
set_option maxHeartbeats 400000

noncomputable section

namespace Cert.Kernel7Ideal.Out

open Cert.Kernel7Ideal Cert.Kernel7Ideal.Gen Idealize.ShloMosaic Idealize.ShloMosaic.TcCoe Idealize.ShloMosaic.Tactic Idealize.SL.Sem
open Cert.Ffn Cert.Row Cert.Step

open Cert.Conv (at2 at2_eq)
open Cert.Kernel6Ideal.Step (stack_at3)

/-- A point's block of the gradient. -/
theorem grad_eq (x0 : Vec Ideal S8x512x1024 .bf16) (x1 x2 x3 : Vec Ideal S512x1024 .f32) : out2_4 x0 x1 x2 x3 = k2_pay5 x0 x1 x2 x3 := by
  unfold out2_4
  rw [View.canon_unit_zero hz]

/-- A point's block of the weights' step. -/
theorem delta_eq (x0 : Vec Ideal S8x512x1024 .bf16) (x1 x2 x3 : Vec Ideal S512x1024 .f32) : out2_5 x0 x1 x2 x3 = k2_pay3 (k2_pay5 x0 x1 x2 x3) x2 (Scalar.ofBits .f32 0x3F666666#32) x3 x1 := by
  unfold out2_5
  rw [View.canon_unit_zero hz]
  simp only [View.ld_unit_zero (S := S512x1024) hz]

/-- A point's block of the first moment's estimate. -/
theorem newM_eq (x0 : Vec Ideal S8x512x1024 .bf16) (x1 x2 x3 : Vec Ideal S512x1024 .f32) : out2_6 x0 x1 x2 x3 = k2_pay1 (k2_pay5 x0 x1 x2 x3) x2 (Scalar.ofBits .f32 0x3F666666#32) := by
  unfold out2_6
  rw [View.canon_unit_zero hz]
  simp only [View.ld_unit_zero (S := S512x1024) hz]

/-- A point's block of the second moment's estimate. -/
theorem newV_eq (x0 : Vec Ideal S8x512x1024 .bf16) (x1 x2 x3 : Vec Ideal S512x1024 .f32) : out2_7 x0 x1 x2 x3 = k2_pay2 (k2_pay5 x0 x1 x2 x3) x3 := by
  unfold out2_7
  rw [View.canon_unit_zero hz]
  simp only [View.ld_unit_zero (S := S512x1024) hz]

section
variable (V : (c : Dev nD) → (b : Ref sig .tc) → Buf (Elt Ideal) ((c : Thread nD τ).loc b)) (c : Dev nD)
variable {P : Nat → Mat} {W M S : Mat}

/-- The gradient, over the whole array. -/
theorem result_grad (h0 : IsStack P 0 (V c main_arg8)) : IsTile (grad P) 0 0 ((dat2 V c).arrAt 4 cfg2.N) := by
  refine whole ((dat2 V c).arrAt_eq_of_covers 4 _ (by decide +kernel) fun t hf y => ?_)
  have start : t.val = 0 := (by decide +kernel : ∀ t : Fin grid2.N, t.val = 0) t
  have e0 : (((cfg2.win 4).blk t).view.emb y 0).val = t.val * 512 + (y 0).val := by blk_simp [place_4]
  have e1 : (((cfg2.win 4).blk t).view.emb y 1).val = 0 + (y 1).val := by blk_simp [place_4]
  refine Eq.trans ?_ (congrArg₂ (grad P) e0 e1).symm
  blk_simp
  rw [after2_4]
  rw [grad_eq]
  exact ((grad_tile (stack_0 V c h0 t) _ _ _) y).trans (by simp only [start, Nat.zero_mul, Nat.zero_add])

/-- The weights' step, over the whole array. -/
theorem result_delta (h0 : IsStack P 0 (V c main_arg8)) (h1 : IsTile W 0 0 (V c main_arg9)) (h2 : IsTile M 0 0 (V c main_arg10)) (h3 : IsTile S 0 0 (V c main_arg11)) : IsTile (delta P W M S) 0 0 ((dat2 V c).arrAt 5 cfg2.N) := by
  refine whole ((dat2 V c).arrAt_eq_of_covers 5 _ (by decide +kernel) fun t hf y => ?_)
  have start : t.val = 0 := (by decide +kernel : ∀ t : Fin grid2.N, t.val = 0) t
  have e0 : (((cfg2.win 5).blk t).view.emb y 0).val = t.val * 512 + (y 0).val := by blk_simp [place_5]
  have e1 : (((cfg2.win 5).blk t).view.emb y 1).val = 0 + (y 1).val := by blk_simp [place_5]
  refine Eq.trans ?_ (congrArg₂ (delta P W M S) e0 e1).symm
  blk_simp
  rw [after2_5]
  rw [delta_eq]
  exact ((delta_tile (grad_tile (stack_0 V c h0 t) _ _ _) (tile_1 V c h1 t) (tile_2 V c h2 t) (tile_3 V c h3 t)) y).trans (by simp only [start, Nat.zero_mul, Nat.zero_add])

/-- The first moment's estimate, over the whole array. -/
theorem result_newM (h0 : IsStack P 0 (V c main_arg8)) (h2 : IsTile M 0 0 (V c main_arg10)) : IsTile (newM P M) 0 0 ((dat2 V c).arrAt 6 cfg2.N) := by
  refine whole ((dat2 V c).arrAt_eq_of_covers 6 _ (by decide +kernel) fun t hf y => ?_)
  have start : t.val = 0 := (by decide +kernel : ∀ t : Fin grid2.N, t.val = 0) t
  have e0 : (((cfg2.win 6).blk t).view.emb y 0).val = t.val * 512 + (y 0).val := by blk_simp [place_6]
  have e1 : (((cfg2.win 6).blk t).view.emb y 1).val = 0 + (y 1).val := by blk_simp [place_6]
  refine Eq.trans ?_ (congrArg₂ (newM P M) e0 e1).symm
  blk_simp
  rw [after2_6]
  rw [newM_eq]
  exact ((newM_tile (grad_tile (stack_0 V c h0 t) _ _ _) (tile_2 V c h2 t)) y).trans (by simp only [start, Nat.zero_mul, Nat.zero_add])

/-- The second moment's estimate, over the whole array. -/
theorem result_newV (h0 : IsStack P 0 (V c main_arg8)) (h3 : IsTile S 0 0 (V c main_arg11)) : IsTile (newV P S) 0 0 ((dat2 V c).arrAt 7 cfg2.N) := by
  refine whole ((dat2 V c).arrAt_eq_of_covers 7 _ (by decide +kernel) fun t hf y => ?_)
  have start : t.val = 0 := (by decide +kernel : ∀ t : Fin grid2.N, t.val = 0) t
  have e0 : (((cfg2.win 7).blk t).view.emb y 0).val = t.val * 512 + (y 0).val := by blk_simp [place_7]
  have e1 : (((cfg2.win 7).blk t).view.emb y 1).val = 0 + (y 1).val := by blk_simp [place_7]
  refine Eq.trans ?_ (congrArg₂ (newV P S) e0 e1).symm
  blk_simp
  rw [after2_7]
  rw [newV_eq]
  exact ((newV_tile (grad_tile (stack_0 V c h0 t) _ _ _) (tile_3 V c h3 t)) y).trans (by simp only [start, Nat.zero_mul, Nat.zero_add])
end

section
variable (m : (l : Loc nD τ sig) → Buf (Elt Ideal) l) (ρ : Dev nD → PrngReg) (c : Dev nD)

/-- The gradient's parts. -/
def inP : Nat → Mat := at3 (n := 8) (p := 512) (q := 1024) (m ((c.tc : Thread nD τ).loc main_arg8))
/-- The weights. -/
def inW : Mat := at2 (m := 512) (n := 1024) (m ((c.tc : Thread nD τ).loc main_arg9))
/-- The first moment. -/
def inM : Mat := at2 (m := 512) (n := 1024) (m ((c.tc : Thread nD τ).loc main_arg10))
/-- The second moment. -/
def inV : Mat := at2 (m := 512) (n := 1024) (m ((c.tc : Thread nD τ).loc main_arg11))

/- The arguments are still there when the call starts. -/
theorem start_0 : IsStack (inP m c) 0 (V2 m ρ c main_arg8) := by
  have e : V2 m ρ c main_arg8 = m ((c.tc : Thread nD τ).loc main_arg8) := W2_args m ρ c main_arg8 (by decide)
  rw [e]
  exact stack_at3 _
theorem start_1 : IsTile (inW m c) 0 0 (V2 m ρ c main_arg9) := by
  have e : V2 m ρ c main_arg9 = m ((c.tc : Thread nD τ).loc main_arg9) := W2_args m ρ c main_arg9 (by decide)
  rw [e]
  exact tile_at2 _
theorem start_2 : IsTile (inM m c) 0 0 (V2 m ρ c main_arg10) := by
  have e : V2 m ρ c main_arg10 = m ((c.tc : Thread nD τ).loc main_arg10) := W2_args m ρ c main_arg10 (by decide)
  rw [e]
  exact tile_at2 _
theorem start_3 : IsTile (inV m c) 0 0 (V2 m ρ c main_arg11) := by
  have e : V2 m ρ c main_arg11 = m ((c.tc : Thread nD τ).loc main_arg11) := W2_args m ρ c main_arg11 (by decide)
  rw [e]
  exact tile_at2 _

/-- The gradient at the end. -/
theorem end_grad : IsTile (grad (inP m c)) 0 0 (W5 m ρ c (Proc.devRef .tc main_v2_0)) := by
  have e : W5 m ρ c (Proc.devRef .tc main_v2_0) = (dat2 (V2 m ρ) c).arrAt 4 cfg2.N := (W5_of m ρ c main_v2_0 (by decide +kernel)).trans ((W4_of m ρ c main_v2_0 (by decide +kernel)).trans (W3_arr m ρ c 4))
  rw [e]
  exact result_grad _ c (start_0 m ρ c)

/-- The weights' step at the end. -/
theorem end_delta : IsTile (delta (inP m c) (inW m c) (inM m c) (inV m c)) 0 0 (W5 m ρ c (Proc.devRef .tc main_v2_1)) := by
  have e : W5 m ρ c (Proc.devRef .tc main_v2_1) = (dat2 (V2 m ρ) c).arrAt 5 cfg2.N := (W5_of m ρ c main_v2_1 (by decide +kernel)).trans ((W4_of m ρ c main_v2_1 (by decide +kernel)).trans (W3_arr m ρ c 5))
  rw [e]
  exact result_delta _ c (start_0 m ρ c) (start_1 m ρ c) (start_2 m ρ c) (start_3 m ρ c)

/-- The first moment's estimate at the end. -/
theorem end_newM : IsTile (newM (inP m c) (inM m c)) 0 0 (W5 m ρ c (Proc.devRef .tc main_v2_2)) := by
  have e : W5 m ρ c (Proc.devRef .tc main_v2_2) = (dat2 (V2 m ρ) c).arrAt 6 cfg2.N := (W5_of m ρ c main_v2_2 (by decide +kernel)).trans ((W4_of m ρ c main_v2_2 (by decide +kernel)).trans (W3_arr m ρ c 6))
  rw [e]
  exact result_newM _ c (start_0 m ρ c) (start_2 m ρ c)

/-- The second moment's estimate at the end. -/
theorem end_newV : IsTile (newV (inP m c) (inV m c)) 0 0 (W5 m ρ c (Proc.devRef .tc main_v2_3)) := by
  have e : W5 m ρ c (Proc.devRef .tc main_v2_3) = (dat2 (V2 m ρ) c).arrAt 7 cfg2.N := (W5_of m ρ c main_v2_3 (by decide +kernel)).trans ((W4_of m ρ c main_v2_3 (by decide +kernel)).trans (W3_arr m ρ c 7))
  rw [e]
  exact result_newV _ c (start_0 m ρ c) (start_3 m ρ c)
end

end Cert.Kernel7Ideal.Out
-- ==== Proof.RestDown.lean ====
/- A point of the optimiser's call for the down-projection's weights: what it reads and computes, as blocks of matrices. -/
module

public import proofs.«01_k».proof.Proof.StepSpec
public import proofs.«01_k».proof.Proof.Gen.Kernel7Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel7Ideal.Down

open Cert.Kernel7Ideal Cert.Kernel7Ideal.Gen Idealize.ShloMosaic Idealize.ShloMosaic.TcCoe Idealize.ShloMosaic.Tactic Idealize.SL.Sem
open Cert.Ffn Cert.Row Cert.Step

/-- A block of the gradient. -/
theorem grad_tile {P : Nat → Mat} {r : Nat} {x : Vec Ideal S8x128x1024 .bf16} (hx : IsStack P r x) (x1 x2 x3 : Vec Ideal S128x1024 .f32) : IsTile (grad P) r 0 (k3_pay5 x x1 x2 x3) := fun j => by
  unfold k3_pay5
  pointwise [k3_pay4]
  rw [hx, hx, hx, hx, hx, hx, hx, hx]
  unfold grad
  simp [Finset.sum_range_succ]

/-- A block of the first moment's estimate. -/
theorem newM_tile {P : Nat → Mat} {M : Mat} {r : Nat} {g m : Vec Ideal S128x1024 .f32} (hg : IsTile (grad P) r 0 g) (hm : IsTile M r 0 m) :
    IsTile (newM P M) r 0 (k3_pay1 g m (Scalar.ofBits .f32 0x3F666666#32)) := fun j => by
  pointwise [k3_pay1]
  rw [hg, hm]
  simp only [Nat.zero_add]
  rfl

/-- A block of the second moment's estimate. -/
theorem newV_tile {P : Nat → Mat} {V : Mat} {r : Nat} {g v : Vec Ideal S128x1024 .f32} (hg : IsTile (grad P) r 0 g) (hv : IsTile V r 0 v) :
    IsTile (newV P V) r 0 (k3_pay2 g v) := fun j => by
  pointwise [k3_pay2]
  rw [hg, hv]
  simp only [Nat.zero_add]
  rfl

/-- A block of the weights' step. -/
theorem delta_tile {P : Nat → Mat} {W M V : Mat} {r : Nat} {g w m v : Vec Ideal S128x1024 .f32} (hg : IsTile (grad P) r 0 g) (hw : IsTile W r 0 w) (hm : IsTile M r 0 m) (hv : IsTile V r 0 v) :
    IsTile (delta P W M V) r 0 (k3_pay3 g m (Scalar.ofBits .f32 0x3F666666#32) v w) := fun j => by
  have e1 := newM_tile hg hm j
  have e2 := newV_tile hg hv j
  revert e1 e2
  pointwise [k3_pay3, k3_pay1, k3_pay2]
  intro e1 e2
  rw [e1, e2, hw]
  simp only [Nat.zero_add]
  rfl

/- Where the blocks lie. -/
theorem place_0 : ∀ t : Fin cfg3.N, win3_0.index t = ![0, t.val, 0] := (by decide +kernel : ∀ t : Fin grid3.N, win3_0.index t = ![0, t.val, 0])
theorem place_1 : ∀ t : Fin cfg3.N, win3_1.index t = ![t.val, 0] := (by decide +kernel : ∀ t : Fin grid3.N, win3_1.index t = ![t.val, 0])
theorem place_2 : ∀ t : Fin cfg3.N, win3_2.index t = ![t.val, 0] := (by decide +kernel : ∀ t : Fin grid3.N, win3_2.index t = ![t.val, 0])
theorem place_3 : ∀ t : Fin cfg3.N, win3_3.index t = ![t.val, 0] := (by decide +kernel : ∀ t : Fin grid3.N, win3_3.index t = ![t.val, 0])
theorem place_4 : ∀ t : Fin cfg3.N, win3_4.index t = ![t.val, 0] := (by decide +kernel : ∀ t : Fin grid3.N, win3_4.index t = ![t.val, 0])
theorem place_5 : ∀ t : Fin cfg3.N, win3_5.index t = ![t.val, 0] := (by decide +kernel : ∀ t : Fin grid3.N, win3_5.index t = ![t.val, 0])
theorem place_6 : ∀ t : Fin cfg3.N, win3_6.index t = ![t.val, 0] := (by decide +kernel : ∀ t : Fin grid3.N, win3_6.index t = ![t.val, 0])
theorem place_7 : ∀ t : Fin cfg3.N, win3_7.index t = ![t.val, 0] := (by decide +kernel : ∀ t : Fin grid3.N, win3_7.index t = ![t.val, 0])

variable (V : (c : Dev nD) → (b : Ref sig .tc) → Buf (Elt Ideal) ((c : Thread nD τ).loc b)) (c : Dev nD) {X : Mat}

/- What a point reads. -/
theorem stack_0 {P : Nat → Mat} (h : IsStack P 0 (V c main_arg12)) (t : Fin cfg3.N) : IsStack P (t.val * 128) (iblk3 V c 0 t) := fun j => by
  have e0 : (((cfg3.win 0).blk t).view.emb j 0).val = (j 0).val := by blk_simp [place_0]
  have e1 : 0 + (((cfg3.win 0).blk t).view.emb j 1).val = t.val * 128 + (j 1).val := by blk_simp [place_0]
  have e2 : (((cfg3.win 0).blk t).view.emb j 2).val = (j 2).val := by blk_simp [place_0]
  refine (h (((cfg3.win 0).blk t).view.emb j)).trans ?_
  rw [e0, e1, e2]
theorem tile_1 (h : IsTile X 0 0 (V c main_arg13)) (t : Fin cfg3.N) : IsTile X (t.val * 128) 0 (iblk3 V c 1 t) :=
  block h (((cfg3.win 1).blk t).view.emb) (fun j => by blk_simp [place_1]) (fun j => by blk_simp [place_1])
theorem tile_2 (h : IsTile X 0 0 (V c main_arg14)) (t : Fin cfg3.N) : IsTile X (t.val * 128) 0 (iblk3 V c 2 t) :=
  block h (((cfg3.win 2).blk t).view.emb) (fun j => by blk_simp [place_2]) (fun j => by blk_simp [place_2])
theorem tile_3 (h : IsTile X 0 0 (V c main_arg15)) (t : Fin cfg3.N) : IsTile X (t.val * 128) 0 (iblk3 V c 3 t) :=
  block h (((cfg3.win 3).blk t).view.emb) (fun j => by blk_simp [place_3]) (fun j => by blk_simp [place_3])

end Cert.Kernel7Ideal.Down
-- ==== Proof.RestDownValue.lean ====
/- What the optimiser's call for the down-projection's weights leaves in its results at the end of the run. -/
module

public import proofs.«01_k».proof.Proof.RestDown
public import proofs.«01_k».proof.Proof.StepValue

@[expose] public section

set_option maxRecDepth 16384
set_option maxHeartbeats 400000

noncomputable section

namespace Cert.Kernel7Ideal.Down

open Cert.Kernel7Ideal Cert.Kernel7Ideal.Gen Idealize.ShloMosaic Idealize.ShloMosaic.TcCoe Idealize.ShloMosaic.Tactic Idealize.SL.Sem
open Cert.Ffn Cert.Row Cert.Step

open Cert.Conv (at2 at2_eq)
open Cert.Kernel6Ideal.Step (stack_at3)

/-- A point's block of the gradient. -/
theorem grad_eq (x0 : Vec Ideal S8x128x1024 .bf16) (x1 x2 x3 : Vec Ideal S128x1024 .f32) : out3_4 x0 x1 x2 x3 = k3_pay5 x0 x1 x2 x3 := by
  unfold out3_4
  rw [View.canon_unit_zero hz]

/-- A point's block of the weights' step. -/
theorem delta_eq (x0 : Vec Ideal S8x128x1024 .bf16) (x1 x2 x3 : Vec Ideal S128x1024 .f32) : out3_5 x0 x1 x2 x3 = k3_pay3 (k3_pay5 x0 x1 x2 x3) x2 (Scalar.ofBits .f32 0x3F666666#32) x3 x1 := by
  unfold out3_5
  rw [View.canon_unit_zero hz]
  simp only [View.ld_unit_zero (S := S128x1024) hz]

/-- A point's block of the first moment's estimate. -/
theorem newM_eq (x0 : Vec Ideal S8x128x1024 .bf16) (x1 x2 x3 : Vec Ideal S128x1024 .f32) : out3_6 x0 x1 x2 x3 = k3_pay1 (k3_pay5 x0 x1 x2 x3) x2 (Scalar.ofBits .f32 0x3F666666#32) := by
  unfold out3_6
  rw [View.canon_unit_zero hz]
  simp only [View.ld_unit_zero (S := S128x1024) hz]

/-- A point's block of the second moment's estimate. -/
theorem newV_eq (x0 : Vec Ideal S8x128x1024 .bf16) (x1 x2 x3 : Vec Ideal S128x1024 .f32) : out3_7 x0 x1 x2 x3 = k3_pay2 (k3_pay5 x0 x1 x2 x3) x3 := by
  unfold out3_7
  rw [View.canon_unit_zero hz]
  simp only [View.ld_unit_zero (S := S128x1024) hz]

section
variable (V : (c : Dev nD) → (b : Ref sig .tc) → Buf (Elt Ideal) ((c : Thread nD τ).loc b)) (c : Dev nD)
variable {P : Nat → Mat} {W M S : Mat}

/-- The gradient, over the whole array. -/
theorem result_grad (h0 : IsStack P 0 (V c main_arg12)) : IsTile (grad P) 0 0 ((dat3 V c).arrAt 4 cfg3.N) := by
  refine whole ((dat3 V c).arrAt_eq_of_covers 4 _ (by decide +kernel) fun t hf y => ?_)
  have e0 : (((cfg3.win 4).blk t).view.emb y 0).val = t.val * 128 + (y 0).val := by blk_simp [place_4]
  have e1 : (((cfg3.win 4).blk t).view.emb y 1).val = 0 + (y 1).val := by blk_simp [place_4]
  refine Eq.trans ?_ (congrArg₂ (grad P) e0 e1).symm
  blk_simp
  rw [after3_4]
  rw [grad_eq]
  exact ((grad_tile (stack_0 V c h0 t) _ _ _) y).trans (by simp only [Nat.zero_add])

/-- The weights' step, over the whole array. -/
theorem result_delta (h0 : IsStack P 0 (V c main_arg12)) (h1 : IsTile W 0 0 (V c main_arg13)) (h2 : IsTile M 0 0 (V c main_arg14)) (h3 : IsTile S 0 0 (V c main_arg15)) : IsTile (delta P W M S) 0 0 ((dat3 V c).arrAt 5 cfg3.N) := by
  refine whole ((dat3 V c).arrAt_eq_of_covers 5 _ (by decide +kernel) fun t hf y => ?_)
  have e0 : (((cfg3.win 5).blk t).view.emb y 0).val = t.val * 128 + (y 0).val := by blk_simp [place_5]
  have e1 : (((cfg3.win 5).blk t).view.emb y 1).val = 0 + (y 1).val := by blk_simp [place_5]
  refine Eq.trans ?_ (congrArg₂ (delta P W M S) e0 e1).symm
  blk_simp
  rw [after3_5]
  rw [delta_eq]
  exact ((delta_tile (grad_tile (stack_0 V c h0 t) _ _ _) (tile_1 V c h1 t) (tile_2 V c h2 t) (tile_3 V c h3 t)) y).trans (by simp only [Nat.zero_add])

/-- The first moment's estimate, over the whole array. -/
theorem result_newM (h0 : IsStack P 0 (V c main_arg12)) (h2 : IsTile M 0 0 (V c main_arg14)) : IsTile (newM P M) 0 0 ((dat3 V c).arrAt 6 cfg3.N) := by
  refine whole ((dat3 V c).arrAt_eq_of_covers 6 _ (by decide +kernel) fun t hf y => ?_)
  have e0 : (((cfg3.win 6).blk t).view.emb y 0).val = t.val * 128 + (y 0).val := by blk_simp [place_6]
  have e1 : (((cfg3.win 6).blk t).view.emb y 1).val = 0 + (y 1).val := by blk_simp [place_6]
  refine Eq.trans ?_ (congrArg₂ (newM P M) e0 e1).symm
  blk_simp
  rw [after3_6]
  rw [newM_eq]
  exact ((newM_tile (grad_tile (stack_0 V c h0 t) _ _ _) (tile_2 V c h2 t)) y).trans (by simp only [Nat.zero_add])

/-- The second moment's estimate, over the whole array. -/
theorem result_newV (h0 : IsStack P 0 (V c main_arg12)) (h3 : IsTile S 0 0 (V c main_arg15)) : IsTile (newV P S) 0 0 ((dat3 V c).arrAt 7 cfg3.N) := by
  refine whole ((dat3 V c).arrAt_eq_of_covers 7 _ (by decide +kernel) fun t hf y => ?_)
  have e0 : (((cfg3.win 7).blk t).view.emb y 0).val = t.val * 128 + (y 0).val := by blk_simp [place_7]
  have e1 : (((cfg3.win 7).blk t).view.emb y 1).val = 0 + (y 1).val := by blk_simp [place_7]
  refine Eq.trans ?_ (congrArg₂ (newV P S) e0 e1).symm
  blk_simp
  rw [after3_7]
  rw [newV_eq]
  exact ((newV_tile (grad_tile (stack_0 V c h0 t) _ _ _) (tile_3 V c h3 t)) y).trans (by simp only [Nat.zero_add])
end

section
variable (m : (l : Loc nD τ sig) → Buf (Elt Ideal) l) (ρ : Dev nD → PrngReg) (c : Dev nD)

/-- The gradient's parts. -/
def inP : Nat → Mat := at3 (n := 8) (p := 1408) (q := 1024) (m ((c.tc : Thread nD τ).loc main_arg12))
/-- The weights. -/
def inW : Mat := at2 (m := 1408) (n := 1024) (m ((c.tc : Thread nD τ).loc main_arg13))
/-- The first moment. -/
def inM : Mat := at2 (m := 1408) (n := 1024) (m ((c.tc : Thread nD τ).loc main_arg14))
/-- The second moment. -/
def inV : Mat := at2 (m := 1408) (n := 1024) (m ((c.tc : Thread nD τ).loc main_arg15))

/- The arguments are still there when the call starts. -/
theorem start_0 : IsStack (inP m c) 0 (V3 m ρ c main_arg12) := by
  have e : V3 m ρ c main_arg12 = m ((c.tc : Thread nD τ).loc main_arg12) := W3_args m ρ c main_arg12 (by decide)
  rw [e]
  exact stack_at3 _
theorem start_1 : IsTile (inW m c) 0 0 (V3 m ρ c main_arg13) := by
  have e : V3 m ρ c main_arg13 = m ((c.tc : Thread nD τ).loc main_arg13) := W3_args m ρ c main_arg13 (by decide)
  rw [e]
  exact tile_at2 _
theorem start_2 : IsTile (inM m c) 0 0 (V3 m ρ c main_arg14) := by
  have e : V3 m ρ c main_arg14 = m ((c.tc : Thread nD τ).loc main_arg14) := W3_args m ρ c main_arg14 (by decide)
  rw [e]
  exact tile_at2 _
theorem start_3 : IsTile (inV m c) 0 0 (V3 m ρ c main_arg15) := by
  have e : V3 m ρ c main_arg15 = m ((c.tc : Thread nD τ).loc main_arg15) := W3_args m ρ c main_arg15 (by decide)
  rw [e]
  exact tile_at2 _

/-- The gradient at the end. -/
theorem end_grad : IsTile (grad (inP m c)) 0 0 (W5 m ρ c (Proc.devRef .tc main_v3_0)) := by
  have e : W5 m ρ c (Proc.devRef .tc main_v3_0) = (dat3 (V3 m ρ) c).arrAt 4 cfg3.N := (W5_of m ρ c main_v3_0 (by decide +kernel)).trans (W4_arr m ρ c 4)
  rw [e]
  exact result_grad _ c (start_0 m ρ c)

/-- The weights' step at the end. -/
theorem end_delta : IsTile (delta (inP m c) (inW m c) (inM m c) (inV m c)) 0 0 (W5 m ρ c (Proc.devRef .tc main_v3_1)) := by
  have e : W5 m ρ c (Proc.devRef .tc main_v3_1) = (dat3 (V3 m ρ) c).arrAt 5 cfg3.N := (W5_of m ρ c main_v3_1 (by decide +kernel)).trans (W4_arr m ρ c 5)
  rw [e]
  exact result_delta _ c (start_0 m ρ c) (start_1 m ρ c) (start_2 m ρ c) (start_3 m ρ c)

/-- The first moment's estimate at the end. -/
theorem end_newM : IsTile (newM (inP m c) (inM m c)) 0 0 (W5 m ρ c (Proc.devRef .tc main_v3_2)) := by
  have e : W5 m ρ c (Proc.devRef .tc main_v3_2) = (dat3 (V3 m ρ) c).arrAt 6 cfg3.N := (W5_of m ρ c main_v3_2 (by decide +kernel)).trans (W4_arr m ρ c 6)
  rw [e]
  exact result_newM _ c (start_0 m ρ c) (start_2 m ρ c)

/-- The second moment's estimate at the end. -/
theorem end_newV : IsTile (newV (inP m c) (inV m c)) 0 0 (W5 m ρ c (Proc.devRef .tc main_v3_3)) := by
  have e : W5 m ρ c (Proc.devRef .tc main_v3_3) = (dat3 (V3 m ρ) c).arrAt 7 cfg3.N := (W5_of m ρ c main_v3_3 (by decide +kernel)).trans (W4_arr m ρ c 7)
  rw [e]
  exact result_newV _ c (start_0 m ρ c) (start_3 m ρ c)
end

end Cert.Kernel7Ideal.Down
-- ==== Proof.RestSmall.lean ====
/- A point of the optimiser's call for the small weights: what it reads and computes, as blocks of matrices. -/
module

public import proofs.«01_k».proof.Proof.StepSpec
public import proofs.«01_k».proof.Proof.Gen.Kernel7Ideal.Frame
public import Idealize.ShloMosaic.Lib.Pointwise
public import Idealize.ShloMosaic.Lib.Pipeline.ValueKit.Geometry
public import Idealize.ShloMosaic.Lib.Pipeline.Value

@[expose] public section

set_option maxRecDepth 16384
set_option maxHeartbeats 400000

noncomputable section

namespace Cert.Kernel7Ideal.Small

open Cert.Kernel7Ideal Cert.Kernel7Ideal.Gen Idealize.ShloMosaic Idealize.ShloMosaic.TcCoe Idealize.ShloMosaic.Tactic Idealize.SL.Sem
open Cert.Ffn Cert.Row Cert.Step

/-- A block of the gradient. -/
theorem grad_tile {P : Nat → Mat} {r : Nat} {x : Vec Ideal S8x192x128 .f32} (hx : IsStack P r x) (x1 x2 x3 : Vec Ideal S192x128 .f32) : IsTile (grad P) r 0 (k4_pay5 x x1 x2 x3) := fun j => by
  unfold k4_pay5
  pointwise [k4_pay3]
  rw [hx, hx, hx, hx, hx, hx, hx, hx]
  unfold grad
  simp [Finset.sum_range_succ]

/-- A block of the first moment's estimate. -/
theorem newM_tile {P : Nat → Mat} {M : Mat} {r : Nat} {x : Vec Ideal S8x192x128 .f32} {m : Vec Ideal S192x128 .f32} (hx : IsStack P r x) (hm : IsTile M r 0 m) (x1 x3 : Vec Ideal S192x128 .f32) :
    IsTile (newM P M) r 0 (k4_pay6 x x1 m x3) := fun j => by
  have e := grad_tile hx x1 m x3 j
  unfold k4_pay5 at e
  unfold k4_pay6
  revert e
  pointwise [k4_pay4, k4_pay3]
  intro e
  rw [e, hm]
  simp only [Nat.zero_add]
  rfl

/-- A block of the second moment's estimate. -/
theorem newV_tile {P : Nat → Mat} {V : Mat} {r : Nat} {g v : Vec Ideal S192x128 .f32} (hg : IsTile (grad P) r 0 g) (hv : IsTile V r 0 v) :
    IsTile (newV P V) r 0 (k4_pay1 g v) := fun j => by
  pointwise [k4_pay1]
  rw [hg, hv]
  simp only [Nat.zero_add]
  rfl

/-- A block of the weights' step. -/
theorem delta_tile {P : Nat → Mat} {W M V : Mat} {r : Nat} {g a w v : Vec Ideal S192x128 .f32} (hg : IsTile (grad P) r 0 g) (ha : IsTile (newM P M) r 0 a) (hw : IsTile W r 0 w) (hv : IsTile V r 0 v) :
    IsTile (delta P W M V) r 0 (k4_pay2 g a v w) := fun j => by
  have e2 := newV_tile hg hv j
  revert e2
  pointwise [k4_pay2, k4_pay1]
  intro e2
  rw [e2, ha, hw]
  simp only [Nat.zero_add]
  rfl

/- Where the blocks lie. -/
theorem place_0 : ∀ t : Fin cfg4.N, win4_0.index t = ![0, t.val, 0] := (by decide +kernel : ∀ t : Fin grid4.N, win4_0.index t = ![0, t.val, 0])
theorem place_1 : ∀ t : Fin cfg4.N, win4_1.index t = ![t.val, 0] := (by decide +kernel : ∀ t : Fin grid4.N, win4_1.index t = ![t.val, 0])
theorem place_2 : ∀ t : Fin cfg4.N, win4_2.index t = ![t.val, 0] := (by decide +kernel : ∀ t : Fin grid4.N, win4_2.index t = ![t.val, 0])
theorem place_3 : ∀ t : Fin cfg4.N, win4_3.index t = ![t.val, 0] := (by decide +kernel : ∀ t : Fin grid4.N, win4_3.index t = ![t.val, 0])
theorem place_4 : ∀ t : Fin cfg4.N, win4_4.index t = ![t.val, 0] := (by decide +kernel : ∀ t : Fin grid4.N, win4_4.index t = ![t.val, 0])
theorem place_5 : ∀ t : Fin cfg4.N, win4_5.index t = ![t.val, 0] := (by decide +kernel : ∀ t : Fin grid4.N, win4_5.index t = ![t.val, 0])
theorem place_6 : ∀ t : Fin cfg4.N, win4_6.index t = ![t.val, 0] := (by decide +kernel : ∀ t : Fin grid4.N, win4_6.index t = ![t.val, 0])
theorem place_7 : ∀ t : Fin cfg4.N, win4_7.index t = ![t.val, 0] := (by decide +kernel : ∀ t : Fin grid4.N, win4_7.index t = ![t.val, 0])

variable (V : (c : Dev nD) → (b : Ref sig .tc) → Buf (Elt Ideal) ((c : Thread nD τ).loc b)) (c : Dev nD) {X : Mat}

/- What a point reads. -/
theorem stack_0 {P : Nat → Mat} (h : IsStack P 0 (V c main_arg16)) (t : Fin cfg4.N) : IsStack P (t.val * 192) (iblk4 V c 0 t) := fun j => by
  have e0 : (((cfg4.win 0).blk t).view.emb j 0).val = (j 0).val := by blk_simp [place_0]
  have e1 : 0 + (((cfg4.win 0).blk t).view.emb j 1).val = t.val * 192 + (j 1).val := by blk_simp [place_0]
  have e2 : (((cfg4.win 0).blk t).view.emb j 2).val = (j 2).val := by blk_simp [place_0]
  refine (h (((cfg4.win 0).blk t).view.emb j)).trans ?_
  rw [e0, e1, e2]
theorem tile_1 (h : IsTile X 0 0 (V c main_arg17)) (t : Fin cfg4.N) : IsTile X (t.val * 192) 0 (iblk4 V c 1 t) :=
  block h (((cfg4.win 1).blk t).view.emb) (fun j => by blk_simp [place_1]) (fun j => by blk_simp [place_1])
theorem tile_2 (h : IsTile X 0 0 (V c main_arg18)) (t : Fin cfg4.N) : IsTile X (t.val * 192) 0 (iblk4 V c 2 t) :=
  block h (((cfg4.win 2).blk t).view.emb) (fun j => by blk_simp [place_2]) (fun j => by blk_simp [place_2])
theorem tile_3 (h : IsTile X 0 0 (V c main_arg19)) (t : Fin cfg4.N) : IsTile X (t.val * 192) 0 (iblk4 V c 3 t) :=
  block h (((cfg4.win 3).blk t).view.emb) (fun j => by blk_simp [place_3]) (fun j => by blk_simp [place_3])

end Cert.Kernel7Ideal.Small
-- ==== Proof.RestSmallValue.lean ====
/- What the optimiser's call for the small weights leaves in its results at the end of the run. -/
module

public import proofs.«01_k».proof.Proof.RestSmall
public import proofs.«01_k».proof.Proof.StepValue

@[expose] public section

set_option maxRecDepth 16384
set_option maxHeartbeats 400000

noncomputable section

namespace Cert.Kernel7Ideal.Small

open Cert.Kernel7Ideal Cert.Kernel7Ideal.Gen Idealize.ShloMosaic Idealize.ShloMosaic.TcCoe Idealize.ShloMosaic.Tactic Idealize.SL.Sem
open Cert.Ffn Cert.Row Cert.Step

open Cert.Conv (at2 at2_eq)
open Cert.Kernel6Ideal.Step (stack_at3)

/-- A point's block of the gradient. -/
theorem grad_eq (x0 : Vec Ideal S8x192x128 .f32) (x1 x2 x3 : Vec Ideal S192x128 .f32) : out4_4 x0 x1 x2 x3 = k4_pay5 x0 x1 x2 x3 := by
  unfold out4_4
  rw [View.canon_unit_zero hz]

/-- A point's block of the weights' step. -/
theorem delta_eq (x0 : Vec Ideal S8x192x128 .f32) (x1 x2 x3 : Vec Ideal S192x128 .f32) : out4_5 x0 x1 x2 x3 = k4_pay2 (k4_pay5 x0 x1 x2 x3) (k4_pay6 x0 x1 x2 x3) x3 x1 := by
  unfold out4_5
  rw [View.canon_unit_zero hz]
  simp only [View.ld_unit_zero (S := S192x128) hz]

/-- A point's block of the first moment's estimate. -/
theorem newM_eq (x0 : Vec Ideal S8x192x128 .f32) (x1 x2 x3 : Vec Ideal S192x128 .f32) : out4_6 x0 x1 x2 x3 = k4_pay6 x0 x1 x2 x3 := by
  unfold out4_6
  rw [View.canon_unit_zero hz]

/-- A point's block of the second moment's estimate. -/
theorem newV_eq (x0 : Vec Ideal S8x192x128 .f32) (x1 x2 x3 : Vec Ideal S192x128 .f32) : out4_7 x0 x1 x2 x3 = k4_pay1 (k4_pay5 x0 x1 x2 x3) x3 := by
  unfold out4_7
  rw [View.canon_unit_zero hz]
  simp only [View.ld_unit_zero (S := S192x128) hz]

section
variable (V : (c : Dev nD) → (b : Ref sig .tc) → Buf (Elt Ideal) ((c : Thread nD τ).loc b)) (c : Dev nD)
variable {P : Nat → Mat} {W M S : Mat}

/-- The gradient, over the whole array. -/
theorem result_grad (h0 : IsStack P 0 (V c main_arg16)) : IsTile (grad P) 0 0 ((dat4 V c).arrAt 4 cfg4.N) := by
  refine whole ((dat4 V c).arrAt_eq_of_covers 4 _ (by decide +kernel) fun t hf y => ?_)
  have start : t.val = 0 := (by decide +kernel : ∀ t : Fin grid4.N, t.val = 0) t
  have e0 : (((cfg4.win 4).blk t).view.emb y 0).val = t.val * 192 + (y 0).val := by blk_simp [place_4]
  have e1 : (((cfg4.win 4).blk t).view.emb y 1).val = 0 + (y 1).val := by blk_simp [place_4]
  refine Eq.trans ?_ (congrArg₂ (grad P) e0 e1).symm
  blk_simp
  rw [after4_4]
  rw [grad_eq]
  exact ((grad_tile (stack_0 V c h0 t) _ _ _) y).trans (by simp only [start, Nat.zero_mul, Nat.zero_add])

/-- The weights' step, over the whole array. -/
theorem result_delta (h0 : IsStack P 0 (V c main_arg16)) (h1 : IsTile W 0 0 (V c main_arg17)) (h2 : IsTile M 0 0 (V c main_arg18)) (h3 : IsTile S 0 0 (V c main_arg19)) : IsTile (delta P W M S) 0 0 ((dat4 V c).arrAt 5 cfg4.N) := by
  refine whole ((dat4 V c).arrAt_eq_of_covers 5 _ (by decide +kernel) fun t hf y => ?_)
  have start : t.val = 0 := (by decide +kernel : ∀ t : Fin grid4.N, t.val = 0) t
  have e0 : (((cfg4.win 5).blk t).view.emb y 0).val = t.val * 192 + (y 0).val := by blk_simp [place_5]
  have e1 : (((cfg4.win 5).blk t).view.emb y 1).val = 0 + (y 1).val := by blk_simp [place_5]
  refine Eq.trans ?_ (congrArg₂ (delta P W M S) e0 e1).symm
  blk_simp
  rw [after4_5]
  rw [delta_eq]
  exact ((delta_tile (grad_tile (stack_0 V c h0 t) _ _ _) (newM_tile (stack_0 V c h0 t) (tile_2 V c h2 t) _ _) (tile_1 V c h1 t) (tile_3 V c h3 t)) y).trans (by simp only [start, Nat.zero_mul, Nat.zero_add])

/-- The first moment's estimate, over the whole array. -/
theorem result_newM (h0 : IsStack P 0 (V c main_arg16)) (h2 : IsTile M 0 0 (V c main_arg18)) : IsTile (newM P M) 0 0 ((dat4 V c).arrAt 6 cfg4.N) := by
  refine whole ((dat4 V c).arrAt_eq_of_covers 6 _ (by decide +kernel) fun t hf y => ?_)
  have start : t.val = 0 := (by decide +kernel : ∀ t : Fin grid4.N, t.val = 0) t
  have e0 : (((cfg4.win 6).blk t).view.emb y 0).val = t.val * 192 + (y 0).val := by blk_simp [place_6]
  have e1 : (((cfg4.win 6).blk t).view.emb y 1).val = 0 + (y 1).val := by blk_simp [place_6]
  refine Eq.trans ?_ (congrArg₂ (newM P M) e0 e1).symm
  blk_simp
  rw [after4_6]
  rw [newM_eq]
  exact ((newM_tile (stack_0 V c h0 t) (tile_2 V c h2 t) _ _) y).trans (by simp only [start, Nat.zero_mul, Nat.zero_add])

/-- The second moment's estimate, over the whole array. -/
theorem result_newV (h0 : IsStack P 0 (V c main_arg16)) (h3 : IsTile S 0 0 (V c main_arg19)) : IsTile (newV P S) 0 0 ((dat4 V c).arrAt 7 cfg4.N) := by
  refine whole ((dat4 V c).arrAt_eq_of_covers 7 _ (by decide +kernel) fun t hf y => ?_)
  have start : t.val = 0 := (by decide +kernel : ∀ t : Fin grid4.N, t.val = 0) t
  have e0 : (((cfg4.win 7).blk t).view.emb y 0).val = t.val * 192 + (y 0).val := by blk_simp [place_7]
  have e1 : (((cfg4.win 7).blk t).view.emb y 1).val = 0 + (y 1).val := by blk_simp [place_7]
  refine Eq.trans ?_ (congrArg₂ (newV P S) e0 e1).symm
  blk_simp
  rw [after4_7]
  rw [newV_eq]
  exact ((newV_tile (grad_tile (stack_0 V c h0 t) _ _ _) (tile_3 V c h3 t)) y).trans (by simp only [start, Nat.zero_mul, Nat.zero_add])
end

section
variable (m : (l : Loc nD τ sig) → Buf (Elt Ideal) l) (ρ : Dev nD → PrngReg) (c : Dev nD)

/-- The gradient's parts. -/
def inP : Nat → Mat := at3 (n := 8) (p := 192) (q := 128) (m ((c.tc : Thread nD τ).loc main_arg16))
/-- The weights. -/
def inW : Mat := at2 (m := 192) (n := 128) (m ((c.tc : Thread nD τ).loc main_arg17))
/-- The first moment. -/
def inM : Mat := at2 (m := 192) (n := 128) (m ((c.tc : Thread nD τ).loc main_arg18))
/-- The second moment. -/
def inV : Mat := at2 (m := 192) (n := 128) (m ((c.tc : Thread nD τ).loc main_arg19))

/- The arguments are still there when the call starts. -/
theorem start_0 : IsStack (inP m c) 0 (V4 m ρ c main_arg16) := by
  have e : V4 m ρ c main_arg16 = m ((c.tc : Thread nD τ).loc main_arg16) := W4_args m ρ c main_arg16 (by decide)
  rw [e]
  exact stack_at3 _
theorem start_1 : IsTile (inW m c) 0 0 (V4 m ρ c main_arg17) := by
  have e : V4 m ρ c main_arg17 = m ((c.tc : Thread nD τ).loc main_arg17) := W4_args m ρ c main_arg17 (by decide)
  rw [e]
  exact tile_at2 _
theorem start_2 : IsTile (inM m c) 0 0 (V4 m ρ c main_arg18) := by
  have e : V4 m ρ c main_arg18 = m ((c.tc : Thread nD τ).loc main_arg18) := W4_args m ρ c main_arg18 (by decide)
  rw [e]
  exact tile_at2 _
theorem start_3 : IsTile (inV m c) 0 0 (V4 m ρ c main_arg19) := by
  have e : V4 m ρ c main_arg19 = m ((c.tc : Thread nD τ).loc main_arg19) := W4_args m ρ c main_arg19 (by decide)
  rw [e]
  exact tile_at2 _

/-- The gradient at the end. -/
theorem end_grad : IsTile (grad (inP m c)) 0 0 (W5 m ρ c (Proc.devRef .tc main_v4_0)) := by
  have e : W5 m ρ c (Proc.devRef .tc main_v4_0) = (dat4 (V4 m ρ) c).arrAt 4 cfg4.N := W5_arr m ρ c 4
  rw [e]
  exact result_grad _ c (start_0 m ρ c)

/-- The weights' step at the end. -/
theorem end_delta : IsTile (delta (inP m c) (inW m c) (inM m c) (inV m c)) 0 0 (W5 m ρ c (Proc.devRef .tc main_v4_1)) := by
  have e : W5 m ρ c (Proc.devRef .tc main_v4_1) = (dat4 (V4 m ρ) c).arrAt 5 cfg4.N := W5_arr m ρ c 5
  rw [e]
  exact result_delta _ c (start_0 m ρ c) (start_1 m ρ c) (start_2 m ρ c) (start_3 m ρ c)

/-- The first moment's estimate at the end. -/
theorem end_newM : IsTile (newM (inP m c) (inM m c)) 0 0 (W5 m ρ c (Proc.devRef .tc main_v4_2)) := by
  have e : W5 m ρ c (Proc.devRef .tc main_v4_2) = (dat4 (V4 m ρ) c).arrAt 6 cfg4.N := W5_arr m ρ c 6
  rw [e]
  exact result_newM _ c (start_0 m ρ c) (start_2 m ρ c)

/-- The second moment's estimate at the end. -/
theorem end_newV : IsTile (newV (inP m c) (inV m c)) 0 0 (W5 m ρ c (Proc.devRef .tc main_v4_3)) := by
  have e : W5 m ρ c (Proc.devRef .tc main_v4_3) = (dat4 (V4 m ρ) c).arrAt 7 cfg4.N := W5_arr m ρ c 7
  rw [e]
  exact result_newV _ c (start_0 m ρ c) (start_3 m ρ c)
end

end Cert.Kernel7Ideal.Small
-- ==== Proof.RestRef.lean ====
/- What the reference of the optimiser's other calls computes, array by array. -/
module

public import proofs.«01_k».proof.Proof.StepSpec
public import proofs.«01_k».proof.Proof.Gen.Reference7Ideal.Read
public import Idealize.ShloMosaic.Lib.Pipeline.Value
public import Idealize.ShloMosaic.Lib.Pointwise

@[expose] public section

set_option maxRecDepth 16384
set_option maxHeartbeats 400000

noncomputable section

namespace Cert.Reference7Ideal.Rest

open Cert.Reference7Ideal Cert.Reference7Ideal.Gen Cert.Reference7Ideal.Read Idealize.ShloMosaic Idealize.ShloMosaic.TcCoe
open Cert.Ffn Cert.Row Cert.Step

section
variable {P : Nat → Mat} {W M V : Mat} {x0 : (⟨S8x4096x352, .bf16⟩ : BufTy).Contents (Elt Ideal)} {x1 x2 x3 : (⟨S4096x352, .f32⟩ : BufTy).Contents (Elt Ideal)}

/-- The gradient of the gate's weights. -/
theorem gate_grad (h0 : IsStack P 0 x0) (i : S4096x352.Idx) : val_main_v1 (F := Ideal) x0 i = grad P (i 0).val (i 1).val := by
  rw [val_main_v1_apply, show (val_main_cst (F := Ideal)) (Shape.Idx.first h_S_) = 0 from Ideal.ofBits_zero_f32, zero_add]
  unfold grad
  rw [Finset.sum_range]
  refine Finset.sum_congr rfl fun k _ => ?_
  rw [val_main_v0_apply]
  refine (h0 _).trans ?_
  exact congrArg (fun r => P k.val r (i 1).val) (Nat.zero_add _)

/-- Their first moment's estimate. -/
theorem gate_newM (h0 : IsStack P 0 x0) (h2 : IsTile M 0 0 x2) (i : S4096x352.Idx) : val_main_v6 (F := Ideal) x0 x2 i = newM P M (i 0).val (i 1).val := by
  rw [val_main_v6_apply, val_main_v3_apply, val_main_v2_apply, val_main_v5_apply, val_main_v4_apply, gate_grad h0, entry h2 i _ _ rfl rfl]
  rfl

/-- Their second moment's estimate. -/
theorem gate_newV (h0 : IsStack P 0 x0) (h3 : IsTile V 0 0 x3) (i : S4096x352.Idx) : val_main_v12 (F := Ideal) x0 x3 i = newV P V (i 0).val (i 1).val := by
  rw [val_main_v12_apply, val_main_v8_apply, val_main_v7_apply, val_main_v11_apply, val_main_v10_apply, val_main_v9_apply, gate_grad h0, entry h3 i _ _ rfl rfl]
  rfl

/-- Their step. -/
theorem gate_delta (h0 : IsStack P 0 x0) (h1 : IsTile W 0 0 x1) (h2 : IsTile M 0 0 x2) (h3 : IsTile V 0 0 x3) (i : S4096x352.Idx) :
    val_main_v25 (F := Ideal) x0 x1 x2 x3 i = delta P W M V (i 0).val (i 1).val := by
  rw [val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, gate_newM h0 h2, gate_newV h0 h3, entry h1 i _ _ rfl rfl]
  rfl
end

section
variable {P : Nat → Mat} {W M V : Mat} {x4 : (⟨S8x4096x352, .bf16⟩ : BufTy).Contents (Elt Ideal)} {x5 x6 x7 : (⟨S4096x352, .f32⟩ : BufTy).Contents (Elt Ideal)}

/-- The gradient of the up-projection's weights. -/
theorem up_grad (h0 : IsStack P 0 x4) (i : S4096x352.Idx) : val_main_v27 (F := Ideal) x4 i = grad P (i 0).val (i 1).val := by
  rw [val_main_v27_apply, show (val_main_cst_9 (F := Ideal)) (Shape.Idx.first h_S_) = 0 from Ideal.ofBits_zero_f32, zero_add]
  unfold grad
  rw [Finset.sum_range]
  refine Finset.sum_congr rfl fun k _ => ?_
  rw [val_main_v26_apply]
  refine (h0 _).trans ?_
  exact congrArg (fun r => P k.val r (i 1).val) (Nat.zero_add _)

/-- Their first moment's estimate. -/
theorem up_newM (h0 : IsStack P 0 x4) (h2 : IsTile M 0 0 x6) (i : S4096x352.Idx) : val_main_v32 (F := Ideal) x4 x6 i = newM P M (i 0).val (i 1).val := by
  rw [val_main_v32_apply, val_main_v29_apply, val_main_v28_apply, val_main_v31_apply, val_main_v30_apply, up_grad h0, entry h2 i _ _ rfl rfl]
  rfl

/-- Their second moment's estimate. -/
theorem up_newV (h0 : IsStack P 0 x4) (h3 : IsTile V 0 0 x7) (i : S4096x352.Idx) : val_main_v38 (F := Ideal) x4 x7 i = newV P V (i 0).val (i 1).val := by
  rw [val_main_v38_apply, val_main_v34_apply, val_main_v33_apply, val_main_v37_apply, val_main_v36_apply, val_main_v35_apply, up_grad h0, entry h3 i _ _ rfl rfl]
  rfl

/-- Their step. -/
theorem up_delta (h0 : IsStack P 0 x4) (h1 : IsTile W 0 0 x5) (h2 : IsTile M 0 0 x6) (h3 : IsTile V 0 0 x7) (i : S4096x352.Idx) :
    val_main_v51 (F := Ideal) x4 x5 x6 x7 i = delta P W M V (i 0).val (i 1).val := by
  rw [val_main_v51_apply, val_main_v50_apply, val_main_v49_apply, val_main_v48_apply, val_main_v47_apply, val_main_v46_apply, val_main_v45_apply, val_main_v44_apply,
    val_main_v43_apply, val_main_v42_apply, val_main_v41_apply, val_main_v40_apply, val_main_v39_apply, up_newM h0 h2, up_newV h0 h3, entry h1 i _ _ rfl rfl]
  rfl
end

section
variable {P : Nat → Mat} {W M V : Mat} {x8 : (⟨S8x512x1024, .bf16⟩ : BufTy).Contents (Elt Ideal)} {x9 x10 x11 : (⟨S512x1024, .f32⟩ : BufTy).Contents (Elt Ideal)}

/-- The gradient of the output projection's weights. -/
theorem out_grad (h0 : IsStack P 0 x8) (i : S512x1024.Idx) : val_main_v53 (F := Ideal) x8 i = grad P (i 0).val (i 1).val := by
  rw [val_main_v53_apply, show (val_main_cst_19 (F := Ideal)) (Shape.Idx.first h_S_) = 0 from Ideal.ofBits_zero_f32, zero_add]
  unfold grad
  rw [Finset.sum_range]
  refine Finset.sum_congr rfl fun k _ => ?_
  rw [val_main_v52_apply]
  refine (h0 _).trans ?_
  exact congrArg (fun r => P k.val r (i 1).val) (Nat.zero_add _)

/-- Their first moment's estimate. -/
theorem out_newM (h0 : IsStack P 0 x8) (h2 : IsTile M 0 0 x10) (i : S512x1024.Idx) : val_main_v58 (F := Ideal) x8 x10 i = newM P M (i 0).val (i 1).val := by
  rw [val_main_v58_apply, val_main_v55_apply, val_main_v54_apply, val_main_v57_apply, val_main_v56_apply, out_grad h0, entry h2 i _ _ rfl rfl]
  rfl

/-- Their second moment's estimate. -/
theorem out_newV (h0 : IsStack P 0 x8) (h3 : IsTile V 0 0 x11) (i : S512x1024.Idx) : val_main_v64 (F := Ideal) x8 x11 i = newV P V (i 0).val (i 1).val := by
  rw [val_main_v64_apply, val_main_v60_apply, val_main_v59_apply, val_main_v63_apply, val_main_v62_apply, val_main_v61_apply, out_grad h0, entry h3 i _ _ rfl rfl]
  rfl

/-- Their step. -/
theorem out_delta (h0 : IsStack P 0 x8) (h1 : IsTile W 0 0 x9) (h2 : IsTile M 0 0 x10) (h3 : IsTile V 0 0 x11) (i : S512x1024.Idx) :
    val_main_v77 (F := Ideal) x8 x9 x10 x11 i = delta P W M V (i 0).val (i 1).val := by
  rw [val_main_v77_apply, val_main_v76_apply, val_main_v75_apply, val_main_v74_apply, val_main_v73_apply, val_main_v72_apply, val_main_v71_apply, val_main_v70_apply,
    val_main_v69_apply, val_main_v68_apply, val_main_v67_apply, val_main_v66_apply, val_main_v65_apply, out_newM h0 h2, out_newV h0 h3, entry h1 i _ _ rfl rfl]
  rfl
end

section
variable {P : Nat → Mat} {W M V : Mat} {x12 : (⟨S8x1408x1024, .bf16⟩ : BufTy).Contents (Elt Ideal)} {x13 x14 x15 : (⟨S1408x1024, .f32⟩ : BufTy).Contents (Elt Ideal)}

/-- The gradient of the down-projection's weights. -/
theorem down_grad (h0 : IsStack P 0 x12) (i : S1408x1024.Idx) : val_main_v79 (F := Ideal) x12 i = grad P (i 0).val (i 1).val := by
  rw [val_main_v79_apply, show (val_main_cst_29 (F := Ideal)) (Shape.Idx.first h_S_) = 0 from Ideal.ofBits_zero_f32, zero_add]
  unfold grad
  rw [Finset.sum_range]
  refine Finset.sum_congr rfl fun k _ => ?_
  rw [val_main_v78_apply]
  refine (h0 _).trans ?_
  exact congrArg (fun r => P k.val r (i 1).val) (Nat.zero_add _)

/-- Their first moment's estimate. -/
theorem down_newM (h0 : IsStack P 0 x12) (h2 : IsTile M 0 0 x14) (i : S1408x1024.Idx) : val_main_v84 (F := Ideal) x12 x14 i = newM P M (i 0).val (i 1).val := by
  rw [val_main_v84_apply, val_main_v81_apply, val_main_v80_apply, val_main_v83_apply, val_main_v82_apply, down_grad h0, entry h2 i _ _ rfl rfl]
  rfl

/-- Their second moment's estimate. -/
theorem down_newV (h0 : IsStack P 0 x12) (h3 : IsTile V 0 0 x15) (i : S1408x1024.Idx) : val_main_v90 (F := Ideal) x12 x15 i = newV P V (i 0).val (i 1).val := by
  rw [val_main_v90_apply, val_main_v86_apply, val_main_v85_apply, val_main_v89_apply, val_main_v88_apply, val_main_v87_apply, down_grad h0, entry h3 i _ _ rfl rfl]
  rfl

/-- Their step. -/
theorem down_delta (h0 : IsStack P 0 x12) (h1 : IsTile W 0 0 x13) (h2 : IsTile M 0 0 x14) (h3 : IsTile V 0 0 x15) (i : S1408x1024.Idx) :
    val_main_v103 (F := Ideal) x12 x13 x14 x15 i = delta P W M V (i 0).val (i 1).val := by
  rw [val_main_v103_apply, val_main_v102_apply, val_main_v101_apply, val_main_v100_apply, val_main_v99_apply, val_main_v98_apply, val_main_v97_apply, val_main_v96_apply,
    val_main_v95_apply, val_main_v94_apply, val_main_v93_apply, val_main_v92_apply, val_main_v91_apply, down_newM h0 h2, down_newV h0 h3, entry h1 i _ _ rfl rfl]
  rfl
end

section
variable {P : Nat → Mat} {W M V : Mat} {x16 : (⟨S8x192x128, .f32⟩ : BufTy).Contents (Elt Ideal)} {x17 x18 x19 : (⟨S192x128, .f32⟩ : BufTy).Contents (Elt Ideal)}

/-- The gradient of the small weights. -/
theorem small_grad (h0 : IsStack P 0 x16) (i : S192x128.Idx) : val_main_v104 (F := Ideal) x16 i = grad P (i 0).val (i 1).val := by
  rw [val_main_v104_apply, show (val_main_cst_39 (F := Ideal)) (Shape.Idx.first h_S_) = 0 from Ideal.ofBits_zero_f32, zero_add]
  unfold grad
  rw [Finset.sum_range]
  refine Finset.sum_congr rfl fun k _ => ?_
  refine (h0 _).trans ?_
  exact congrArg (fun r => P k.val r (i 1).val) (Nat.zero_add _)

/-- Their first moment's estimate. -/
theorem small_newM (h0 : IsStack P 0 x16) (h2 : IsTile M 0 0 x18) (i : S192x128.Idx) : val_main_v109 (F := Ideal) x16 x18 i = newM P M (i 0).val (i 1).val := by
  rw [val_main_v109_apply, val_main_v106_apply, val_main_v105_apply, val_main_v108_apply, val_main_v107_apply, small_grad h0, entry h2 i _ _ rfl rfl]
  rfl

/-- Their second moment's estimate. -/
theorem small_newV (h0 : IsStack P 0 x16) (h3 : IsTile V 0 0 x19) (i : S192x128.Idx) : val_main_v115 (F := Ideal) x16 x19 i = newV P V (i 0).val (i 1).val := by
  rw [val_main_v115_apply, val_main_v111_apply, val_main_v110_apply, val_main_v114_apply, val_main_v113_apply, val_main_v112_apply, small_grad h0, entry h3 i _ _ rfl rfl]
  rfl

/-- Their step. -/
theorem small_delta (h0 : IsStack P 0 x16) (h1 : IsTile W 0 0 x17) (h2 : IsTile M 0 0 x18) (h3 : IsTile V 0 0 x19) (i : S192x128.Idx) :
    val_main_v128 (F := Ideal) x16 x17 x18 x19 i = delta P W M V (i 0).val (i 1).val := by
  rw [val_main_v128_apply, val_main_v127_apply, val_main_v126_apply, val_main_v125_apply, val_main_v124_apply, val_main_v123_apply, val_main_v122_apply, val_main_v121_apply,
    val_main_v120_apply, val_main_v119_apply, val_main_v118_apply, val_main_v117_apply, val_main_v116_apply, small_newM h0 h2, small_newV h0 h3, entry h1 i _ _ rfl rfl]
  rfl
end

end Cert.Reference7Ideal.Rest
-- ==== Proof.RestSame.lean ====
/- The optimiser's other calls compute what their reference computes. -/
module

public import proofs.«01_k».proof.Defs
public import proofs.«01_k».proof.Proof.RestRun
public import proofs.«01_k».proof.Proof.RestGateValue
public import proofs.«01_k».proof.Proof.RestUpValue
public import proofs.«01_k».proof.Proof.RestOutValue
public import proofs.«01_k».proof.Proof.RestDownValue
public import proofs.«01_k».proof.Proof.RestSmallValue
public import proofs.«01_k».proof.Proof.RestRef
public import proofs.«01_k».proof.Proof.Gen.Reference7Ideal.Run

@[expose] public section

set_option maxRecDepth 16384
set_option maxHeartbeats 1000000

noncomputable section

namespace Cert.Proof.Rest

open Idealize.ShloMosaic Idealize.ShloMosaic.TcCoe Idealize.SL.Sem
open Cert.Ffn Cert.Row Cert.Step
open Cert.Kernel6Ideal.Step (stack_at3)
open Cert.Kernel7Ideal

/-- For each weight, the summed gradient, the weights' step and the two moments' estimates are the reference's, element by element. -/
theorem same : Cert.algebraic_Kernel7Ideal_Reference7Ideal (hKernel7Ideal := Cert.Kernel7Ideal.Gen.facts) (hReference7Ideal := Cert.Reference7Ideal.Gen.facts) := by
  intro m g m' g' _ hin
  refine ⟨fun c i => grad (Gate.inP m c) (i 0).val (i 1).val,
    fun c i => delta (Gate.inP m c) (Gate.inW m c) (Gate.inM m c) (Gate.inV m c) (i 0).val (i 1).val,
    fun c i => newM (Gate.inP m c) (Gate.inM m c) (i 0).val (i 1).val,
    fun c i => newV (Gate.inP m c) (Gate.inV m c) (i 0).val (i 1).val,
    fun c i => grad (Up.inP m c) (i 0).val (i 1).val,
    fun c i => delta (Up.inP m c) (Up.inW m c) (Up.inM m c) (Up.inV m c) (i 0).val (i 1).val,
    fun c i => newM (Up.inP m c) (Up.inM m c) (i 0).val (i 1).val,
    fun c i => newV (Up.inP m c) (Up.inV m c) (i 0).val (i 1).val,
    fun c i => grad (Out.inP m c) (i 0).val (i 1).val,
    fun c i => delta (Out.inP m c) (Out.inW m c) (Out.inM m c) (Out.inV m c) (i 0).val (i 1).val,
    fun c i => newM (Out.inP m c) (Out.inM m c) (i 0).val (i 1).val,
    fun c i => newV (Out.inP m c) (Out.inV m c) (i 0).val (i 1).val,
    fun c i => grad (Down.inP m c) (i 0).val (i 1).val,
    fun c i => delta (Down.inP m c) (Down.inW m c) (Down.inM m c) (Down.inV m c) (i 0).val (i 1).val,
    fun c i => newM (Down.inP m c) (Down.inM m c) (i 0).val (i 1).val,
    fun c i => newV (Down.inP m c) (Down.inV m c) (i 0).val (i 1).val,
    fun c i => grad (Small.inP m c) (i 0).val (i 1).val,
    fun c i => delta (Small.inP m c) (Small.inW m c) (Small.inM m c) (Small.inV m c) (i 0).val (i 1).val,
    fun c i => newM (Small.inP m c) (Small.inM m c) (i 0).val (i 1).val,
    fun c i => newV (Small.inP m c) (Small.inV m c) (i 0).val (i 1).val,
    (θ_run Cert.Kernel7Ideal.defs _ _).mono (fun r h c => ?_) (Cert.Kernel7Ideal.Rest.run (F := Ideal) m g),
    (θ_run Cert.Reference7Ideal.defs _ _).mono (fun r h c => ?_) (Cert.Reference7Ideal.Value.run (F := Ideal) m' g')⟩
  · obtain ⟨h0, h1, h2, h3, h4, h5, h6, h7, h8, h9, h10, h11, h12, h13, h14, h15, h16, h17, h18, h19, k⟩ := h c
    exact ⟨h0.trans (of_tile (Gate.end_grad m g c)),
      h1.trans (of_tile (Gate.end_delta m g c)),
      h2.trans (of_tile (Gate.end_newM m g c)),
      h3.trans (of_tile (Gate.end_newV m g c)),
      h4.trans (of_tile (Up.end_grad m g c)),
      h5.trans (of_tile (Up.end_delta m g c)),
      h6.trans (of_tile (Up.end_newM m g c)),
      h7.trans (of_tile (Up.end_newV m g c)),
      h8.trans (of_tile (Out.end_grad m g c)),
      h9.trans (of_tile (Out.end_delta m g c)),
      h10.trans (of_tile (Out.end_newM m g c)),
      h11.trans (of_tile (Out.end_newV m g c)),
      h12.trans (of_tile (Down.end_grad m g c)),
      h13.trans (of_tile (Down.end_delta m g c)),
      h14.trans (of_tile (Down.end_newM m g c)),
      h15.trans (of_tile (Down.end_newV m g c)),
      h16.trans (of_tile (Small.end_grad m g c)),
      h17.trans (of_tile (Small.end_delta m g c)),
      h18.trans (of_tile (Small.end_newM m g c)),
      h19.trans (of_tile (Small.end_newV m g c)), k⟩
  · obtain ⟨h0, h1, h2, h3, h4, h5, h6, h7, h8, h9, h10, h11, h12, h13, h14, h15, h16, h17, h18, h19, k⟩ := h c
    obtain ⟨a0, a1, a2, a3, a4, a5, a6, a7, a8, a9, a10, a11, a12, a13, a14, a15, a16, a17, a18, a19⟩ := hin c
    have t0 : IsStack (Gate.inP m c) 0 (m' ((c.tc : Thread Cert.Reference7Ideal.nD Cert.Reference7Ideal.τ).loc Cert.Reference7Ideal.main_arg0)) := by
      rw [a0]; exact stack_at3 _
    have t1 : IsTile (Gate.inW m c) 0 0 (m' ((c.tc : Thread Cert.Reference7Ideal.nD Cert.Reference7Ideal.τ).loc Cert.Reference7Ideal.main_arg1)) := by
      rw [a1]; exact tile_at2 _
    have t2 : IsTile (Gate.inM m c) 0 0 (m' ((c.tc : Thread Cert.Reference7Ideal.nD Cert.Reference7Ideal.τ).loc Cert.Reference7Ideal.main_arg2)) := by
      rw [a2]; exact tile_at2 _
    have t3 : IsTile (Gate.inV m c) 0 0 (m' ((c.tc : Thread Cert.Reference7Ideal.nD Cert.Reference7Ideal.τ).loc Cert.Reference7Ideal.main_arg3)) := by
      rw [a3]; exact tile_at2 _
    have t4 : IsStack (Up.inP m c) 0 (m' ((c.tc : Thread Cert.Reference7Ideal.nD Cert.Reference7Ideal.τ).loc Cert.Reference7Ideal.main_arg4)) := by
      rw [a4]; exact stack_at3 _
    have t5 : IsTile (Up.inW m c) 0 0 (m' ((c.tc : Thread Cert.Reference7Ideal.nD Cert.Reference7Ideal.τ).loc Cert.Reference7Ideal.main_arg5)) := by
      rw [a5]; exact tile_at2 _
    have t6 : IsTile (Up.inM m c) 0 0 (m' ((c.tc : Thread Cert.Reference7Ideal.nD Cert.Reference7Ideal.τ).loc Cert.Reference7Ideal.main_arg6)) := by
      rw [a6]; exact tile_at2 _
    have t7 : IsTile (Up.inV m c) 0 0 (m' ((c.tc : Thread Cert.Reference7Ideal.nD Cert.Reference7Ideal.τ).loc Cert.Reference7Ideal.main_arg7)) := by
      rw [a7]; exact tile_at2 _
    have t8 : IsStack (Out.inP m c) 0 (m' ((c.tc : Thread Cert.Reference7Ideal.nD Cert.Reference7Ideal.τ).loc Cert.Reference7Ideal.main_arg8)) := by
      rw [a8]; exact stack_at3 _
    have t9 : IsTile (Out.inW m c) 0 0 (m' ((c.tc : Thread Cert.Reference7Ideal.nD Cert.Reference7Ideal.τ).loc Cert.Reference7Ideal.main_arg9)) := by
      rw [a9]; exact tile_at2 _
    have t10 : IsTile (Out.inM m c) 0 0 (m' ((c.tc : Thread Cert.Reference7Ideal.nD Cert.Reference7Ideal.τ).loc Cert.Reference7Ideal.main_arg10)) := by
      rw [a10]; exact tile_at2 _
    have t11 : IsTile (Out.inV m c) 0 0 (m' ((c.tc : Thread Cert.Reference7Ideal.nD Cert.Reference7Ideal.τ).loc Cert.Reference7Ideal.main_arg11)) := by
      rw [a11]; exact tile_at2 _
    have t12 : IsStack (Down.inP m c) 0 (m' ((c.tc : Thread Cert.Reference7Ideal.nD Cert.Reference7Ideal.τ).loc Cert.Reference7Ideal.main_arg12)) := by
      rw [a12]; exact stack_at3 _
    have t13 : IsTile (Down.inW m c) 0 0 (m' ((c.tc : Thread Cert.Reference7Ideal.nD Cert.Reference7Ideal.τ).loc Cert.Reference7Ideal.main_arg13)) := by
      rw [a13]; exact tile_at2 _
    have t14 : IsTile (Down.inM m c) 0 0 (m' ((c.tc : Thread Cert.Reference7Ideal.nD Cert.Reference7Ideal.τ).loc Cert.Reference7Ideal.main_arg14)) := by
      rw [a14]; exact tile_at2 _
    have t15 : IsTile (Down.inV m c) 0 0 (m' ((c.tc : Thread Cert.Reference7Ideal.nD Cert.Reference7Ideal.τ).loc Cert.Reference7Ideal.main_arg15)) := by
      rw [a15]; exact tile_at2 _
    have t16 : IsStack (Small.inP m c) 0 (m' ((c.tc : Thread Cert.Reference7Ideal.nD Cert.Reference7Ideal.τ).loc Cert.Reference7Ideal.main_arg16)) := by
      rw [a16]; exact stack_at3 _
    have t17 : IsTile (Small.inW m c) 0 0 (m' ((c.tc : Thread Cert.Reference7Ideal.nD Cert.Reference7Ideal.τ).loc Cert.Reference7Ideal.main_arg17)) := by
      rw [a17]; exact tile_at2 _
    have t18 : IsTile (Small.inM m c) 0 0 (m' ((c.tc : Thread Cert.Reference7Ideal.nD Cert.Reference7Ideal.τ).loc Cert.Reference7Ideal.main_arg18)) := by
      rw [a18]; exact tile_at2 _
    have t19 : IsTile (Small.inV m c) 0 0 (m' ((c.tc : Thread Cert.Reference7Ideal.nD Cert.Reference7Ideal.τ).loc Cert.Reference7Ideal.main_arg19)) := by
      rw [a19]; exact tile_at2 _
    exact ⟨h0.trans ((Cert.Reference7Ideal.Read.val_main_v1_eq _).trans (funext (Cert.Reference7Ideal.Rest.gate_grad t0))),
      h1.trans ((Cert.Reference7Ideal.Read.val_main_v25_eq _ _ _ _).trans (funext (Cert.Reference7Ideal.Rest.gate_delta t0 t1 t2 t3))),
      h2.trans ((Cert.Reference7Ideal.Read.val_main_v6_eq _ _).trans (funext (Cert.Reference7Ideal.Rest.gate_newM t0 t2))),
      h3.trans ((Cert.Reference7Ideal.Read.val_main_v12_eq _ _).trans (funext (Cert.Reference7Ideal.Rest.gate_newV t0 t3))),
      h4.trans ((Cert.Reference7Ideal.Read.val_main_v27_eq _).trans (funext (Cert.Reference7Ideal.Rest.up_grad t4))),
      h5.trans ((Cert.Reference7Ideal.Read.val_main_v51_eq _ _ _ _).trans (funext (Cert.Reference7Ideal.Rest.up_delta t4 t5 t6 t7))),
      h6.trans ((Cert.Reference7Ideal.Read.val_main_v32_eq _ _).trans (funext (Cert.Reference7Ideal.Rest.up_newM t4 t6))),
      h7.trans ((Cert.Reference7Ideal.Read.val_main_v38_eq _ _).trans (funext (Cert.Reference7Ideal.Rest.up_newV t4 t7))),
      h8.trans ((Cert.Reference7Ideal.Read.val_main_v53_eq _).trans (funext (Cert.Reference7Ideal.Rest.out_grad t8))),
      h9.trans ((Cert.Reference7Ideal.Read.val_main_v77_eq _ _ _ _).trans (funext (Cert.Reference7Ideal.Rest.out_delta t8 t9 t10 t11))),
      h10.trans ((Cert.Reference7Ideal.Read.val_main_v58_eq _ _).trans (funext (Cert.Reference7Ideal.Rest.out_newM t8 t10))),
      h11.trans ((Cert.Reference7Ideal.Read.val_main_v64_eq _ _).trans (funext (Cert.Reference7Ideal.Rest.out_newV t8 t11))),
      h12.trans ((Cert.Reference7Ideal.Read.val_main_v79_eq _).trans (funext (Cert.Reference7Ideal.Rest.down_grad t12))),
      h13.trans ((Cert.Reference7Ideal.Read.val_main_v103_eq _ _ _ _).trans (funext (Cert.Reference7Ideal.Rest.down_delta t12 t13 t14 t15))),
      h14.trans ((Cert.Reference7Ideal.Read.val_main_v84_eq _ _).trans (funext (Cert.Reference7Ideal.Rest.down_newM t12 t14))),
      h15.trans ((Cert.Reference7Ideal.Read.val_main_v90_eq _ _).trans (funext (Cert.Reference7Ideal.Rest.down_newV t12 t15))),
      h16.trans ((Cert.Reference7Ideal.Read.val_main_v104_eq _).trans (funext (Cert.Reference7Ideal.Rest.small_grad t16))),
      h17.trans ((Cert.Reference7Ideal.Read.val_main_v128_eq _ _ _ _).trans (funext (Cert.Reference7Ideal.Rest.small_delta t16 t17 t18 t19))),
      h18.trans ((Cert.Reference7Ideal.Read.val_main_v109_eq _ _).trans (funext (Cert.Reference7Ideal.Rest.small_newM t16 t18))),
      h19.trans ((Cert.Reference7Ideal.Read.val_main_v115_eq _ _).trans (funext (Cert.Reference7Ideal.Rest.small_newV t16 t19))), k⟩

end Cert.Proof.Rest
-- ==== Proof.SbSame.lean ====
/- The attention's backward call prints the same text at bits and idealized: the two programs, named in two places, are equal
   at any float values. -/
module

public import proofs.«01_k».proof.Proof.Gen.Kernel
public import proofs.«01_k».proof.Proof.Gen.KernelIdeal

@[expose] public section

set_option maxRecDepth 16384
set_option maxHeartbeats 4000000

noncomputable section

namespace Cert.Proof

open Idealize.ShloMosaic

variable {F : FTy → Type} [FloatOps F]
attribute [local instance] Cert.Kernel.Gen.facts Cert.KernelIdeal.Gen.facts

/-- The kernel bodies are equal. -/
theorem body_eq : @Cert.Kernel.cc0_sb0 F _ _ = @Cert.KernelIdeal.cc0_sb0 F _ _ := rfl
/-- The tables of functions a launch runs are equal. -/
theorem defs0_eq : Cert.Kernel.defs₀ (F := F) = Cert.KernelIdeal.defs₀ := by
  unfold Cert.Kernel.defs₀ Cert.KernelIdeal.defs₀
  refine congrArg Defs.onTc (funext fun l => funext fun x => ?_)
  match l, x with
  | 0, (t, s) => rfl
/-- So are the tables with the pipeline's own functions. -/
theorem defs_eq : Cert.Kernel.defs (F := F) = Cert.KernelIdeal.defs := by
  unfold Cert.Kernel.defs Cert.KernelIdeal.defs
  rw [defs0_eq]
  rfl
theorem main_part0_eq : @Cert.Kernel.main_part0 F _ _ = @Cert.KernelIdeal.main_part0 F _ _ := rfl
theorem main_part1_eq : @Cert.Kernel.main_part1 F _ _ = @Cert.KernelIdeal.main_part1 F _ _ := rfl
/-- The programs are equal. -/
theorem main_eq : Cert.Kernel.main (F := F) = Cert.KernelIdeal.main := by
  unfold Cert.Kernel.main Cert.KernelIdeal.main
  rw [main_part0_eq, main_part1_eq]
  rfl

end Cert.Proof
-- ==== Proof.SbLoop.lean ====
/- The counted loops inside one block of queries of the attention's backward call.

   A block of 128 queries walks the keys from the left, eight blocks of 128 keys a trip.  A trip carries two
   columns and two matrices (the running sums of the two heads) and adds to the gradients of the keys and of the
   values that the call keeps in its scratch.  This file runs one trip and states the loop's invariant: the carried
   value and the two scratch buffers before trip `k` are those of a recursion over the trips. -/
module

public import proofs.«01_k».proof.Proof.Gen.KernelIdeal.Loops
public import Idealize.ShloMosaic.Lib.Pipeline.FrameValue

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The carried value: for each of the two heads a column of running sums, then a matrix of running sums. -/
abbrev Carry (F : FTy → Type) : Type :=
  FVec F S128x1 .f32 × FVec F S128x1 .f32 × FVec F S128x128 .f32 × FVec F S128x128 .f32

/-- A whole buffer's contents at thread `c`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f

variable (c : Dev nD) (i : grid0.Coords)
  (arg1 : Memref sig .tc .vmem S512x128 .bf16) (harg1 : arg1.IsWhole)
  (arg2 : Memref sig .tc .vmem S512x128 .f32) (harg2 : arg2.IsWhole)
  (arg3 : Memref sig .tc .vmem S512x128 .f32) (harg3 : arg3.IsWhole)
  (arg4 : Memref sig .tc .vmem S512x128 .bf16) (harg4 : arg4.IsWhole)
  (arg5 : Memref sig .tc .hbm S16384x3072 .bf16) (harg5 : arg5.IsWhole)
  (arg6 : Memref sig .tc .vmem S512x128 .bf16) (harg6 : arg6.IsWhole)
  (arg7 : Memref sig .tc .hbm S16384x128 .f32) (harg7 : arg7.IsWhole)
  (arg8 : Memref sig .tc .hbm S16384x128 .f32) (harg8 : arg8.IsWhole)
  (arg9 : Memref sig .tc .vmem S16384x128 .bf16) (harg9 : arg9.IsWhole)
  (arg10 : Memref sig .tc .vmem S16384x128 .bf16) (harg10 : arg10.IsWhole)
  (arg11 : Memref sig .tc .vmem S16384x128 .f32) (harg11 : arg11.IsWhole)
  (arg12 : Memref sig .tc .vmem S16384x128 .f32) (harg12 : arg12.IsWhole)
  (arg13 : DmaSems sig S2) (j : Fin k0_t1_loop.trips) (v2 v4 : BitVec 32) (v9 : IVec S128x128 32)
  (v15 v19 : FVec F S128x128 .bf16) (v30 v41 : FVec F S256x128 .bf16) (v43 : Vec F S128x128 .bf16)
  (v44 : IVec S128x128 32) (v52 v55 : Vec F S128x128 .f32)

/-- One trip of the loop over eight key blocks: from the keys and values read and any contents of the two gradient
    buffers, it yields a value and leaves pieces written, both functions of what it found. -/
@[irreducible] def trip (X9 : BufTy.Contents (Elt F) arg9.view.ty) (X10 : BufTy.Contents (Elt F) arg10.view.ty)
    (k : Fin (k0_t2_loop i j).trips) :
    Σ' (R : Carry F → BufTy.Contents (Elt F) arg11.view.ty → BufTy.Contents (Elt F) arg12.view.ty → Carry F)
       (L11 : Carry F → BufTy.Contents (Elt F) arg11.view.ty → BufTy.Contents (Elt F) arg12.view.ty →
          List (View.Piece (Elt F) S16384x128 .f32)),
      { L12 : Carry F → BufTy.Contents (Elt F) arg11.view.ty → BufTy.Contents (Elt F) arg12.view.ty →
          List (View.Piece (Elt F) S16384x128 .f32) //
        ∀ (E : Set ℕ) (acc : Carry F) (f11 : BufTy.Contents (Elt F) arg11.view.ty)
          (f12 : BufTy.Contents (Elt F) arg12.view.ty),
          (iprop(pt c arg9 X9 ∗ pt c arg10 X10 ∗ pt c arg11 f11 ∗ pt c arg12 f12) : sProp 𝕄)
          ⊢ wp frame (wpE (defs₀ (F := F)) Variants.none (c : Thread nD τ) none) E
              (k0_t2_body (F := F) i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 k acc)
              (fun yld => iprop(⌜yld = R acc f11 f12⌝ ∗ pt c arg9 X9 ∗ pt c arg10 X10
                ∗ pt c arg11 (arg11.view.writes (Elt F) f11 (L11 acc f11 f12))
                ∗ pt c arg12 (arg12.view.writes (Elt F) f12 (L12 acc f11 f12)))) } := by
  refine ⟨?_, ?_, ?_, fun E acc f11 f12 => ?run⟩
  case run =>
    unfold k0_t2_body
    iintro ⟨H9, H10, H11, H12⟩
    sl_exec
    sl_step
    sl_close

/-- What one trip makes of the carried value and of the two gradient buffers (past the last trip: nothing). -/
@[irreducible] def stepState (X9 : BufTy.Contents (Elt F) arg9.view.ty) (X10 : BufTy.Contents (Elt F) arg10.view.ty)
    (k : ℕ) (s : Carry F × BufTy.Contents (Elt F) arg11.view.ty × BufTy.Contents (Elt F) arg12.view.ty) :
    Carry F × BufTy.Contents (Elt F) arg11.view.ty × BufTy.Contents (Elt F) arg12.view.ty :=
  if h : k < (k0_t2_loop i j).trips then
    let T := trip (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 ⟨k, h⟩
    (T.1 s.1 s.2.1 s.2.2, arg11.view.writes (Elt F) s.2.1 (T.2.1 s.1 s.2.1 s.2.2),
      arg12.view.writes (Elt F) s.2.2 (T.2.2.1 s.1 s.2.1 s.2.2))
  else s

/-- The carried value and the two gradient buffers before trip `k`. -/
def state (X9 : BufTy.Contents (Elt F) arg9.view.ty) (X10 : BufTy.Contents (Elt F) arg10.view.ty)
    (init : Carry F) (G11 : BufTy.Contents (Elt F) arg11.view.ty) (G12 : BufTy.Contents (Elt F) arg12.view.ty) :
    ℕ → Carry F × BufTy.Contents (Elt F) arg11.view.ty × BufTy.Contents (Elt F) arg12.view.ty
  | 0 => (init, G11, G12)
  | k + 1 => stepState (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 k (state X9 X10 init G11 G12 k)

theorem state_succ (X9 : BufTy.Contents (Elt F) arg9.view.ty) (X10 : BufTy.Contents (Elt F) arg10.view.ty)
    (init : Carry F) (G11 : BufTy.Contents (Elt F) arg11.view.ty) (G12 : BufTy.Contents (Elt F) arg12.view.ty)
    (k : Fin (k0_t2_loop i j).trips) :
    state (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 init G11 G12 (k.val + 1)
      = (let T := trip (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 k
         let s := state (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 init G11 G12 k.val
         (T.1 s.1 s.2.1 s.2.2, arg11.view.writes (Elt F) s.2.1 (T.2.1 s.1 s.2.1 s.2.2),
           arg12.view.writes (Elt F) s.2.2 (T.2.2.1 s.1 s.2.1 s.2.2))) := by
  rw [state.eq_2]; unfold stepState; exact dif_pos k.isLt

set_option warn.classDefReducibility false in
/-- The loop over eight key blocks by its invariant. -/
@[sl_loop] def loopKeys (E : Set ℕ) (X9 : BufTy.Contents (Elt F) arg9.view.ty) (X10 : BufTy.Contents (Elt F) arg10.view.ty)
    (G11 : BufTy.Contents (Elt F) arg11.view.ty) (G12 : BufTy.Contents (Elt F) arg12.view.ty) (init : Carry F) :
    LoopInvTy_k0_t2 (F := F) Unit ℕ (Pipeline.UD sig nD τ) ℕ Variants.none c none E i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 init where
  inv k acc := iprop(pt c arg9 X9 ∗ pt c arg10 X10
    ∗ (∃ f, pt c arg11 f ∗ ⌜f = (state (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 init G11 G12 k).2.1⌝)
    ∗ (∃ f, pt c arg12 f ∗ ⌜f = (state (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 init G11 G12 k).2.2⌝)
    ∗ ⌜acc = (state (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 init G11 G12 k).1⌝)
  step k acc := by
    iintro ⟨H9, H10, ⟨%f11, H11, %h11⟩, ⟨%f12, H12, %h12⟩, %hacc⟩
    subst hacc
    iapply (wp_wand_r Idealize.ShloMosaic.frame (wpE (defs₀ (F := F)) Variants.none (c : Thread nD τ) none) E)
    isplitl [H9 H10 H11 H12]
    · iapply ((trip (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 k).2.2.2 E (state (F := F) c i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 X9 X10 init G11 G12 k).1 f11 f12)
      isplitl [H9]; · iexact H9
      isplitl [H10]; · iexact H10
      isplitl [H11]; · iexact H11
      iexact H12
    · iintro %yld ⟨%hres, H9, H10, H11, H12⟩
      isplitl [H9]; · iexact H9
      isplitl [H10]; · iexact H10
      simp only [state_succ]
      isplitl [H11]
      · iexists _; isplitl [H11]; · iexact H11
        ipureintro; rw [h11, h12]
      isplitl [H12]
      · iexists _; isplitl [H12]; · iexact H12
        ipureintro; rw [h11, h12]
      ipureintro; rw [hres, h11, h12]

/-- The second key loop of a block never runs: its bounds are equal. -/
theorem trips_rest : ∀ (i : grid0.Coords) (j : Fin k0_t1_loop.trips), (k0_t3_loop i j).trips = 0 := by decide +kernel

set_option warn.classDefReducibility false in
/-- The second key loop by its invariant: the carried value is the initial one. -/
@[sl_loop] def loopRest (E : Set ℕ) (v80 : BitVec 32) (init : Carry F) :
    LoopInvTy_k0_t3 (F := F) Unit ℕ (Pipeline.UD sig nD τ) ℕ Variants.none c none E i arg1 harg1 arg2 harg2 arg3 harg3 arg4 harg4 arg5 harg5 arg6 harg6 arg7 harg7 arg8 harg8 arg9 harg9 arg10 harg10 arg11 harg11 arg12 harg12 arg13 j v2 v4 v9 v15 v19 v30 v41 v43 v44 v52 v55 v80 init where
  inv k acc := iprop(⌜acc = init⌝)
  step k acc := (Nat.not_lt_zero _ (Nat.lt_of_lt_of_eq k.isLt (trips_rest i j))).elim

/-- How many trips of eight key blocks a block of queries takes. -/
theorem trips_keys : ∀ (i : grid0.Coords) (j : Fin k0_t1_loop.trips),
    (k0_t2_loop i j).trips = (4 * (i 0).val + j.val) / 8 := by decide +kernel

end Cert.KernelIdeal.Sb

end
-- ==== Proof.SbBlock.lean ====
/- The body of the attention's backward call on one block of 128 queries.

   A block is one of four kinds: the first of all (the keys and values arrive in the scratch and the gradient
   buffers are zeroed), one whose masked half stops at four key blocks, one whose masked half takes eight, and the
   last of all (which also sends the two gradient buffers out).  Each kind is run once; what it writes is found by
   the run, as a function of what it reads. -/
module

public import proofs.«01_k».proof.Proof.SbLoop
public import proofs.«01_k».proof.Proof.Gen.KernelIdeal.Frame
public import Idealize.ShloMosaic.Lib.Tactic
public import Idealize.ShloMosaic.Lib.WordCmp

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch: the keys, the values, and the gradients of the keys and of the values. -/
abbrev scK : Memref sig .tc .vmem S16384x128 .bf16 := Memref.whole cc0_scratch0
abbrev scV : Memref sig .tc .vmem S16384x128 .bf16 := Memref.whole cc0_scratch1
abbrev scDK : Memref sig .tc .vmem S16384x128 .f32 := Memref.whole cc0_scratch2
abbrev scDV : Memref sig .tc .vmem S16384x128 .f32 := Memref.whole cc0_scratch3
/-- The array the keys and values are read from, and the two results the call sends out itself. -/
abbrev hbP : Memref sig .tc .hbm S16384x3072 .bf16 := Memref.whole main_arg1
abbrev hbDK : Memref sig .tc .hbm S16384x128 .f32 := Memref.whole main_v76_1
abbrev hbDV : Memref sig .tc .hbm S16384x128 .f32 := Memref.whole main_v76_2

/-- Block `j` of point `i` is the first of all. -/
abbrev isFirst (i : grid0.Coords) (j : Fin k0_t1_loop.trips) : Prop :=
  (Scalar.cmpi .ne (Scalar.extui (Scalar.cmpi .eq (Scalar.addi (Scalar.muli (BitVec.ofNat 32 (i 0).val) 4#32) (Scf.iv 0#32 1#32 j)) 0#32)) 0#32) = 1#1
/-- Block `j` of point `i` is the last of all. -/
abbrev isLast (i : grid0.Coords) (j : Fin k0_t1_loop.trips) : Prop :=
  (Scalar.cmpi .ne (Scalar.extui (Scalar.cmpi .eq (Scalar.addi (Scalar.muli (BitVec.ofNat 32 (i 0).val) 4#32) (Scf.iv 0#32 1#32 j)) 127#32)) 0#32) = 1#1
/-- The masked half of block `j` of point `i` takes eight key blocks. -/
abbrev isUpper (i : grid0.Coords) (j : Fin k0_t1_loop.trips) : Prop := k0_cond2 i j = 1#1

theorem isFirst_iff : ∀ (i : grid0.Coords) (j : Fin k0_t1_loop.trips), isFirst i j ↔ 4 * (i 0).val + j.val = 0 := by decide +kernel
theorem isLast_iff : ∀ (i : grid0.Coords) (j : Fin k0_t1_loop.trips), isLast i j ↔ 4 * (i 0).val + j.val = 127 := by decide +kernel
theorem isUpper_iff : ∀ (i : grid0.Coords) (j : Fin k0_t1_loop.trips), isUpper i j ↔ 4 ≤ (4 * (i 0).val + j.val) % 8 := by decide +kernel

/-- Where the masked half's two groups of four key blocks begin. -/
theorem off7_eq : ∀ (i : grid0.Coords) (j : Fin k0_t1_loop.trips), k0_off7 i j = ![1024 * ((4 * (i 0).val + j.val) / 8), 0] := by decide +kernel
theorem off9_eq : ∀ (i : grid0.Coords) (j : Fin k0_t1_loop.trips), k0_off9 i j = ![1024 * ((4 * (i 0).val + j.val) / 8) + 512, 0] := by decide +kernel
instance closed7 (i : grid0.Coords) (j : Fin k0_t1_loop.trips) : ClosedOff (k0_off7 i j) := ⟨_, off7_eq i j⟩
instance closed9 (i : grid0.Coords) (j : Fin k0_t1_loop.trips) : ClosedOff (k0_off9 i j) := ⟨_, off9_eq i j⟩

variable (c : Dev nD) (i : grid0.Coords) (j : Fin k0_t1_loop.trips)
  (arg1 : Memref sig .tc .vmem S512x128 .bf16) (harg1 : arg1.IsWhole)
  (arg2 : Memref sig .tc .vmem S512x128 .f32) (harg2 : arg2.IsWhole)
  (arg3 : Memref sig .tc .vmem S512x128 .f32) (harg3 : arg3.IsWhole)
  (arg4 : Memref sig .tc .vmem S512x128 .bf16) (harg4 : arg4.IsWhole)
  (arg6 : Memref sig .tc .vmem S512x128 .bf16) (harg6 : arg6.IsWhole)
  (g1 : BufTy.Contents (Elt F) arg1.view.ty) (g2 : BufTy.Contents (Elt F) arg2.view.ty)
  (g3 : BufTy.Contents (Elt F) arg3.view.ty) (g4 : BufTy.Contents (Elt F) arg4.view.ty)

/-- The program of one block. -/
abbrev blockProg : Prog (TpuEff nD τ sig (Elt F) Λ₀ .tc) Unit :=
  k0_t1_body (F := F) i arg1 harg1 arg2 harg2 arg3 harg3 arg4 harg4 hbP (Memref.isWhole_whole _) arg6 harg6 hbDK (Memref.isWhole_whole _) hbDV (Memref.isWhole_whole _)
    scK (Memref.isWhole_whole _) scV (Memref.isWhole_whole _) scDK (Memref.isWhole_whole _) scDV (Memref.isWhole_whole _) cc0_scratch4 (BitVec.ofNat 32 (i 0).val) j ()

/-- The queries' gradient of block `j` put in its 128 rows of the staged block. -/
abbrev wrote6 (f6 : BufTy.Contents (Elt F) arg6.view.ty) (w6 : Vec F S128x128 .bf16) : BufTy.Contents (Elt F) arg6.view.ty :=
  arg6.view.writes (Elt F) f6 [⟨Rect.unit (s := S512x128) (k0_off1 j) S128x128.size (k0_off1_inb j), w6⟩]

/-- The staged blocks a block of queries reads. -/
abbrev staged : sProp 𝕄 := iprop(pt c arg1 g1 ∗ pt c arg2 g2 ∗ pt c arg3 g3 ∗ pt c arg4 g4)

/-- A block in the middle whose masked half takes four key blocks: what it writes to the block of the queries' gradient,
    and what it leaves in the two gradient buffers. -/
@[irreducible] def runLower (h1 : ¬ isFirst i j) (h2 : ¬ isUpper i j) (h3 : ¬ isLast i j)
    (X9 : BufTy.Contents (Elt F) scK.view.ty) (X10 : BufTy.Contents (Elt F) scV.view.ty)
    (f11 : BufTy.Contents (Elt F) scDK.view.ty) (f12 : BufTy.Contents (Elt F) scDV.view.ty) :
    Σ' (w6 : Vec F S128x128 .bf16) (W11 : BufTy.Contents (Elt F) scDK.view.ty),
      { W12 : BufTy.Contents (Elt F) scDV.view.ty //
        ∀ (f6 : BufTy.Contents (Elt F) arg6.view.ty),
          (iprop(staged c arg1 arg2 arg3 arg4 g1 g2 g3 g4 ∗ pt c arg6 f6 ∗ pt c scK X9 ∗ pt c scV X10 ∗ pt c scDK f11 ∗ pt c scDV f12) : sProp 𝕄)
          ⊢ wp frame (wpE (defs₀ (F := F)) Variants.none (c : Thread nD τ) none) Set.univ
              (blockProg (F := F) i j arg1 harg1 arg2 harg2 arg3 harg3 arg4 harg4 arg6 harg6)
              (fun _ => iprop(staged c arg1 arg2 arg3 arg4 g1 g2 g3 g4
                ∗ pt c arg6 (wrote6 j arg6 f6 w6) ∗ pt c scK X9 ∗ pt c scV X10 ∗ pt c scDK W11 ∗ pt c scDV W12)) } := by
  refine ⟨?_, ?_, ?_, fun f6 => ?run⟩
  case run =>
    unfold blockProg k0_t1_body
    simp only [k0_part49_eq_skeleton]; unfold k0_part49_skel
    iintro ⟨⟨H1, H2, H3, H4⟩, H6, H9, H10, H11, H12⟩
    sl_exec (disch := first | sl_exact h1 | sl_exact h2 | sl_exact h3)
    sl_step
    isplitl [H1 H2 H3 H4]
    · isplitl [H1]; · iexact H1
      isplitl [H2]; · iexact H2
      isplitl [H3]; · iexact H3
      iexact H4
    isplitl [H6]; · iexact H6
    isplitl [H9]; · iexact H9
    isplitl [H10]; · iexact H10
    isplitl [H11]; · iexact H11
    iexact H12

/-- A block in the middle whose masked half takes eight key blocks. -/
@[irreducible] def runUpper (h1 : ¬ isFirst i j) (h2 : isUpper i j) (h3 : ¬ isLast i j)
    (X9 : BufTy.Contents (Elt F) scK.view.ty) (X10 : BufTy.Contents (Elt F) scV.view.ty)
    (f11 : BufTy.Contents (Elt F) scDK.view.ty) (f12 : BufTy.Contents (Elt F) scDV.view.ty) :
    Σ' (w6 : Vec F S128x128 .bf16) (W11 : BufTy.Contents (Elt F) scDK.view.ty),
      { W12 : BufTy.Contents (Elt F) scDV.view.ty //
        ∀ (f6 : BufTy.Contents (Elt F) arg6.view.ty),
          (iprop(staged c arg1 arg2 arg3 arg4 g1 g2 g3 g4 ∗ pt c arg6 f6 ∗ pt c scK X9 ∗ pt c scV X10 ∗ pt c scDK f11 ∗ pt c scDV f12) : sProp 𝕄)
          ⊢ wp frame (wpE (defs₀ (F := F)) Variants.none (c : Thread nD τ) none) Set.univ
              (blockProg (F := F) i j arg1 harg1 arg2 harg2 arg3 harg3 arg4 harg4 arg6 harg6)
              (fun _ => iprop(staged c arg1 arg2 arg3 arg4 g1 g2 g3 g4
                ∗ pt c arg6 (wrote6 j arg6 f6 w6) ∗ pt c scK X9 ∗ pt c scV X10 ∗ pt c scDK W11 ∗ pt c scDV W12)) } := by
  refine ⟨?_, ?_, ?_, fun f6 => ?run⟩
  case run =>
    unfold blockProg k0_t1_body
    simp only [k0_part49_eq_skeleton]; unfold k0_part49_skel
    iintro ⟨⟨H1, H2, H3, H4⟩, H6, H9, H10, H11, H12⟩
    sl_exec (disch := first | sl_exact h1 | sl_exact h2 | sl_exact h3)
    sl_step
    isplitl [H1 H2 H3 H4]
    · isplitl [H1]; · iexact H1
      isplitl [H2]; · iexact H2
      isplitl [H3]; · iexact H3
      iexact H4
    isplitl [H6]; · iexact H6
    isplitl [H9]; · iexact H9
    isplitl [H10]; · iexact H10
    isplitl [H11]; · iexact H11
    iexact H12

/-- The keys as they arrive in the scratch: columns 256 to 383 of the array. -/
abbrev keysIn (gP : BufTy.Contents (Elt F) hbP.view.ty) : BufTy.Contents (Elt F) scK.view.ty :=
  (hbP.slice (Rect.unit (s := S16384x3072) ![0, 256] S16384x128.size inb_S16384x3072_S16384x128_0_256) (fun _ => rfl)).view.read (Elt F) gP
/-- The values as they arrive in the scratch: columns 512 to 639 of the array. -/
abbrev valuesIn (gP : BufTy.Contents (Elt F) hbP.view.ty) : BufTy.Contents (Elt F) scV.view.ty :=
  (hbP.slice (Rect.unit (s := S16384x3072) ![0, 512] S16384x128.size inb_S16384x3072_S16384x128_0_512) (fun _ => rfl)).view.read (Elt F) gP
/-- A gradient buffer zeroed. -/
abbrev zeros11 : BufTy.Contents (Elt F) scDK.view.ty := k0_pay542 (F := F)
abbrev zeros12 : BufTy.Contents (Elt F) scDV.view.ty := k0_pay543 (F := F)

/-- A write that covers a whole buffer leaves what is written. -/
theorem writes_whole (b : Ref sig .tc) (f w : BufTy.Contents (Elt F) b.ty) :
    (Memref.whole b).view.writes (Elt F) f [⟨Rect.whole b.ty.shape, w⟩] = w := by
  rw [View.writes_singleton]; exact Memref.write_access_whole_univ (Elt F) b f w
theorem writes_zero (b : Ref sig .tc) {off : Fin b.ty.shape.rank → Nat} (h : off = fun _ => 0)
    (inb : ∀ a, off a + b.ty.shape.size a ≤ b.ty.shape.size a) (f w : BufTy.Contents (Elt F) b.ty) :
    (Memref.whole b).view.writes (Elt F) f [⟨Rect.unit off b.ty.shape.size inb, w⟩] = w := by
  rw [View.writes_singleton]; exact Memref.write_access_unit_zero_univ (Elt F) b h inb f w

theorem pt_congr {sp : Space} {S : Shape} {e : EltTy} (M : Memref sig .tc sp S e) {f g : BufTy.Contents (Elt F) M.view.ty} (h : f = g) :
    (pt c M f : sProp 𝕄) ⊢ pt c M g := by rw [h]

/-- What the beginning of the first block hands on: the words, the lane and sublane numbers, and the loaded blocks. -/
abbrev startValues : Σ' (v2 : BitVec 32) (v4 : BitVec 32) (v8 : IVec S128x128 32) (v9 : IVec S128x128 32) (v11 : IVec S128x128 1) (v15 : FVec F S128x128 .bf16) (v19 : FVec F S128x128 .bf16) (v30 : FVec F S256x128 .bf16) (v41 : FVec F S256x128 .bf16) (v43 : Vec F S128x128 .bf16), IVec S128x128 32 :=
  ⟨Scalar.muli (Scf.iv 0#32 1#32 j) 128#32, Scalar.addi (Scalar.muli (BitVec.ofNat 32 (i 0).val) 4#32) (Scf.iv 0#32 1#32 j),
   iota .tc S128x128 32 [0] iota_S128x128_d0_w32, iota .tc S128x128 32 [1] iota_S128x128_d1_w32,
   k0_pay544, k0_pay545, k0_pay546,
   k0_pay547 (arg1.view.readAt (Elt F) (Rect.unit (s := S512x128) (k0_off1 j) S128x128.size (k0_off1_inb j)).toLoadRect g1),
   k0_pay548 (arg1.view.readAt (Elt F) (Rect.unit (s := S512x128) (k0_off1 j) S128x128.size (k0_off1_inb j)).toLoadRect g1),
   arg4.view.readAt (Elt F) (Rect.unit (s := S512x128) (k0_off1 j) S128x128.size (k0_off1_inb j)).toLoadRect g4,
   iota .tc S128x128 32 [1] iota_S128x128_d1_w32⟩

/-- The beginning of the first block: the keys and values arrive, the gradient buffers are zeroed. -/
theorem first_start (h1 : isFirst i j) (gP : BufTy.Contents (Elt F) hbP.view.ty) (W : Waits sig Unit)
    (X9 : BufTy.Contents (Elt F) scK.view.ty) (X10 : BufTy.Contents (Elt F) scV.view.ty)
    (f11 : BufTy.Contents (Elt F) scDK.view.ty) (f12 : BufTy.Contents (Elt F) scDV.view.ty) :
    (iprop(pt c arg1 g1 ∗ pt c arg4 g4 ∗ pt c scK X9 ∗ pt c scV X10 ∗ pt c scDK f11 ∗ pt c scDV f12 ∗ pt c hbP gP ∗ semVal ((c : Thread nD τ), SemLoc.dma 10) 0 ∗ semVal ((c : Thread nD τ), SemLoc.dma 11) 0 ∗ owes (c : Thread nD τ) 0 W) : sProp 𝕄)
      ⊢ wp frame (wpE (defs₀ (F := F)) Variants.none (c : Thread nD τ) none) Set.univ
          (k0_part38_skel (F := F) i arg1 harg1 arg2 harg2 arg3 harg3 arg4 harg4 hbP (Memref.isWhole_whole _) arg6 harg6 hbDK (Memref.isWhole_whole _) hbDV (Memref.isWhole_whole _)
    scK (Memref.isWhole_whole _) scV (Memref.isWhole_whole _) scDK (Memref.isWhole_whole _) scDV (Memref.isWhole_whole _) cc0_scratch4 (BitVec.ofNat 32 (i 0).val) 0#32 1#32 j)
          (fun r => iprop(⌜r = startValues i j arg1 arg4 g1 g4⌝ ∗ pt c arg1 g1 ∗ pt c arg4 g4 ∗ pt c scK (keysIn gP) ∗ pt c scV (valuesIn gP) ∗ pt c scDK (zeros11 (F := F)) ∗ pt c scDV (zeros12 (F := F))
            ∗ pt c hbP gP ∗ semVal ((c : Thread nD τ), SemLoc.dma 10) 0 ∗ semVal ((c : Thread nD τ), SemLoc.dma 11) 0 ∗ (∃ W', owes (c : Thread nD τ) 0 W'))) := by
    unfold k0_part38_skel
    iintro ⟨H1, H4, H9, H10, H11, H12, HP, Hs0, Hs1, HW⟩
    sl_exec (disch := first | sl_exact h1)
    sl_step
    have e11 : scDK.view.writes (Elt F) f11 [⟨Rect.unit ![0, 0] S16384x128.size inb_S16384x128_S16384x128_0_0, k0_pay542⟩] = zeros11 (F := F) :=
      writes_zero cc0_scratch2 (by decide) _ f11 k0_pay542
    have e12 : scDV.view.writes (Elt F) f12 [⟨Rect.unit ![0, 0] S16384x128.size inb_S16384x128_S16384x128_0_0, k0_pay543⟩] = zeros12 (F := F) :=
      writes_zero cc0_scratch3 (by decide) _ f12 k0_pay543
    have e9 : scK.view.writes (Elt F) X9 [⟨Rect.whole S16384x128, keysIn gP⟩] = keysIn gP := writes_whole cc0_scratch0 X9 _
    have e10 : scV.view.writes (Elt F) X10 [⟨Rect.whole S16384x128, valuesIn gP⟩] = valuesIn gP := writes_whole cc0_scratch1 X10 _
    isplitr; · ipureintro; rfl
    isplitl [H1]; · iexact H1
    isplitl [H4]; · iexact H4
    isplitl [H9]; · iapply (pt_congr c scK e9); iexact H9
    isplitl [H10]; · iapply (pt_congr c scV e10); iexact H10
    isplitl [H11]; · iapply (pt_congr c scDK e11); iexact H11
    isplitl [H12]; · iapply (pt_congr c scDV e12); iexact H12
    isplitl [HP]; · iexact HP
    isplitl [Hs0]; · iexact Hs0
    isplitl [Hs1]; · iexact Hs1
    iexists _; iexact HW

/-- The first block of all: what it writes and leaves. -/
@[irreducible] def runFirst (h1 : isFirst i j) (h2 : ¬ isUpper i j) (h3 : ¬ isLast i j) (gP : BufTy.Contents (Elt F) hbP.view.ty) :
    Σ' (w6 : Vec F S128x128 .bf16) (W11 : BufTy.Contents (Elt F) scDK.view.ty),
      { W12 : BufTy.Contents (Elt F) scDV.view.ty //
        ∀ (f6 : BufTy.Contents (Elt F) arg6.view.ty) (X9 : BufTy.Contents (Elt F) scK.view.ty) (X10 : BufTy.Contents (Elt F) scV.view.ty)
          (f11 : BufTy.Contents (Elt F) scDK.view.ty) (f12 : BufTy.Contents (Elt F) scDV.view.ty) (W : Waits sig Unit),
          (iprop(staged c arg1 arg2 arg3 arg4 g1 g2 g3 g4 ∗ pt c arg6 f6 ∗ pt c scK X9 ∗ pt c scV X10 ∗ pt c scDK f11 ∗ pt c scDV f12 ∗ pt c hbP gP ∗ semVal ((c : Thread nD τ), SemLoc.dma 10) 0 ∗ semVal ((c : Thread nD τ), SemLoc.dma 11) 0 ∗ owes (c : Thread nD τ) 0 W) : sProp 𝕄)
          ⊢ wp frame (wpE (defs₀ (F := F)) Variants.none (c : Thread nD τ) none) Set.univ
              (blockProg (F := F) i j arg1 harg1 arg2 harg2 arg3 harg3 arg4 harg4 arg6 harg6)
              (fun _ => iprop(staged c arg1 arg2 arg3 arg4 g1 g2 g3 g4
                ∗ pt c arg6 (wrote6 j arg6 f6 w6) ∗ pt c scK (keysIn gP) ∗ pt c scV (valuesIn gP) ∗ pt c scDK W11 ∗ pt c scDV W12 ∗ pt c hbP gP ∗ semVal ((c : Thread nD τ), SemLoc.dma 10) 0 ∗ semVal ((c : Thread nD τ), SemLoc.dma 11) 0 ∗ (∃ W', owes (c : Thread nD τ) 0 W'))) } := by
  refine ⟨?_, ?_, ?_, fun f6 X9 X10 f11 f12 W => ?run⟩
  case run =>
    unfold blockProg k0_t1_body
    simp only [k0_part49_eq_skeleton]; unfold k0_part49_skel
    simp only [k0_part38_eq_skeleton]
    rw [wp_bind, wp_bind]
    iintro ⟨⟨H1, H2, H3, H4⟩, H6, H9, H10, H11, H12, HP, Hs0, Hs1, HW⟩
    iapply (wp_wand_r Idealize.ShloMosaic.frame (wpE (defs₀ (F := F)) Variants.none (c : Thread nD τ) none) Set.univ)
    isplitl [H1 H4 H9 H10 H11 H12 HP Hs0 Hs1 HW]
    · iapply (first_start c i j arg1 harg1 arg2 harg2 arg3 harg3 arg4 harg4 arg6 harg6 g1 g4 h1 gP W X9 X10 f11 f12)
      isplitl [H1]; · iexact H1
      isplitl [H4]; · iexact H4
      isplitl [H9]; · iexact H9
      isplitl [H10]; · iexact H10
      isplitl [H11]; · iexact H11
      isplitl [H12]; · iexact H12
      isplitl [HP]; · iexact HP
      isplitl [Hs0]; · iexact Hs0
      isplitl [Hs1]; · iexact Hs1
      iexact HW
    iintro %r ⟨%hr, H1, H4, H9, H10, H11, H12, HP, Hs0, Hs1, HW⟩
    subst hr
    sl_exec (disch := first | sl_exact h1 | sl_exact h2 | sl_exact h3)
    sl_step
    isplitl [H1 H2 H3 H4]
    · isplitl [H1]; · iexact H1
      isplitl [H2]; · iexact H2
      isplitl [H3]; · iexact H3
      iexact H4
    isplitl [H6]; · iexact H6
    isplitl [H9]; · iexact H9
    isplitl [H10]; · iexact H10
    isplitl [H11]; · iexact H11
    isplitl [H12]; · iexact H12
    isplitl [HP]; · iexact HP
    isplitl [Hs0]; · iexact Hs0
    isplitl [Hs1]; · iexact Hs1
    iexact HW

/-- The last block of all: its masked half takes eight key blocks, and the two gradient buffers are sent out. -/
@[irreducible] def runLast (h1 : ¬ isFirst i j) (h2 : isUpper i j) (h3 : isLast i j)
    (X9 : BufTy.Contents (Elt F) scK.view.ty) (X10 : BufTy.Contents (Elt F) scV.view.ty)
    (f11 : BufTy.Contents (Elt F) scDK.view.ty) (f12 : BufTy.Contents (Elt F) scDV.view.ty) :
    Σ' (w6 : Vec F S128x128 .bf16) (W11 : BufTy.Contents (Elt F) scDK.view.ty),
      { W12 : BufTy.Contents (Elt F) scDV.view.ty //
        ∀ (f6 : BufTy.Contents (Elt F) arg6.view.ty) (f7 : BufTy.Contents (Elt F) hbDK.view.ty) (f8 : BufTy.Contents (Elt F) hbDV.view.ty) (W : Waits sig Unit),
          (iprop(staged c arg1 arg2 arg3 arg4 g1 g2 g3 g4 ∗ pt c arg6 f6 ∗ pt c scK X9 ∗ pt c scV X10 ∗ pt c scDK f11 ∗ pt c scDV f12 ∗ pt c hbDK f7 ∗ pt c hbDV f8 ∗ semVal ((c : Thread nD τ), SemLoc.dma 10) 0 ∗ semVal ((c : Thread nD τ), SemLoc.dma 11) 0 ∗ owes (c : Thread nD τ) 0 W) : sProp 𝕄)
          ⊢ wp frame (wpE (defs₀ (F := F)) Variants.none (c : Thread nD τ) none) Set.univ
              (blockProg (F := F) i j arg1 harg1 arg2 harg2 arg3 harg3 arg4 harg4 arg6 harg6)
              (fun _ => iprop(staged c arg1 arg2 arg3 arg4 g1 g2 g3 g4
                ∗ pt c arg6 (wrote6 j arg6 f6 w6) ∗ pt c scK X9 ∗ pt c scV X10 ∗ pt c scDK W11 ∗ pt c scDV W12 ∗ pt c hbDK W11 ∗ pt c hbDV W12 ∗ semVal ((c : Thread nD τ), SemLoc.dma 10) 0 ∗ semVal ((c : Thread nD τ), SemLoc.dma 11) 0 ∗ (∃ W', owes (c : Thread nD τ) 0 W'))) } := by
  refine ⟨?_, ?_, ?_, fun f6 f7 f8 W => ?run⟩
  case run =>
    unfold blockProg k0_t1_body
    simp only [k0_part49_eq_skeleton]; unfold k0_part49_skel
    iintro ⟨⟨H1, H2, H3, H4⟩, H6, H9, H10, H11, H12, H7, H8, Hs0, Hs1, HW⟩
    sl_exec (disch := first | sl_exact h1 | sl_exact h2 | sl_exact h3)
    sl_step
    isplitl [H1 H2 H3 H4]
    · isplitl [H1]; · iexact H1
      isplitl [H2]; · iexact H2
      isplitl [H3]; · iexact H3
      iexact H4
    isplitl [H6]; · iexact H6
    isplitl [H9]; · iexact H9
    isplitl [H10]; · iexact H10
    isplitl [H11]; · iexact H11
    isplitl [H12]; · iexact H12
    isplitl [H7]; · iapply (pt_congr c hbDK (writes_whole main_v76_1 f7 _)); iexact H7
    isplitl [H8]; · iapply (pt_congr c hbDV (writes_whole main_v76_2 f8 _)); iexact H8
    isplitl [Hs0]; · iexact Hs0
    isplitl [Hs1]; · iexact Hs1
    iexists _; iexact HW

end Cert.KernelIdeal.Sb

end
-- ==== Proof.SbPoint.lean ====
/- One point of the attention's backward call: four blocks of 128 queries.

   A block's four kinds are put together into one step (`block`), which carries the two gradient buffers from one
   block to the next and makes the block's 128 rows of the queries' gradient. -/
module

public import proofs.«01_k».proof.Proof.SbBlock

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two gradient buffers' contents. -/
abbrev Grads (F : FTy → Type) [FloatOps F] : Type := BufTy.Contents (Elt F) scDK.view.ty × BufTy.Contents (Elt F) scDV.view.ty

theorem trips_blocks : k0_t1_loop.trips = 4 := by decide

section Block

variable (c : Dev nD) (i : grid0.Coords) (j : Fin k0_t1_loop.trips)
  (arg1 : Memref sig .tc .vmem S512x128 .bf16) (harg1 : arg1.IsWhole)
  (arg2 : Memref sig .tc .vmem S512x128 .f32) (harg2 : arg2.IsWhole)
  (arg3 : Memref sig .tc .vmem S512x128 .f32) (harg3 : arg3.IsWhole)
  (arg4 : Memref sig .tc .vmem S512x128 .bf16) (harg4 : arg4.IsWhole)
  (arg6 : Memref sig .tc .vmem S512x128 .bf16) (harg6 : arg6.IsWhole)
  (g1 : BufTy.Contents (Elt F) arg1.view.ty) (g2 : BufTy.Contents (Elt F) arg2.view.ty)
  (g3 : BufTy.Contents (Elt F) arg3.view.ty) (g4 : BufTy.Contents (Elt F) arg4.view.ty)
  (gP : BufTy.Contents (Elt F) hbP.view.ty)

theorem not_upper_of_first {i : grid0.Coords} {j : Fin k0_t1_loop.trips} (h : isFirst i j) : ¬ isUpper i j := by
  rw [isUpper_iff]; have := (isFirst_iff i j).mp h; omega
theorem not_last_of_first {i : grid0.Coords} {j : Fin k0_t1_loop.trips} (h : isFirst i j) : ¬ isLast i j := by
  rw [isLast_iff]; have := (isFirst_iff i j).mp h; omega
theorem upper_of_last {i : grid0.Coords} {j : Fin k0_t1_loop.trips} (h : isLast i j) : isUpper i j := by
  rw [isUpper_iff]; have := (isLast_iff i j).mp h; omega

/-- One block of queries: its rows of the queries' gradient, and the two gradient buffers after it. -/
def block (s : Grads F) : Vec F S128x128 .bf16 × Grads F :=
  if h1 : isFirst i j then
    ((runFirst c i j arg1 harg1 arg2 harg2 arg3 harg3 arg4 harg4 arg6 harg6 g1 g2 g3 g4 h1 (not_upper_of_first h1) (not_last_of_first h1) gP).1,
     (runFirst c i j arg1 harg1 arg2 harg2 arg3 harg3 arg4 harg4 arg6 harg6 g1 g2 g3 g4 h1 (not_upper_of_first h1) (not_last_of_first h1) gP).2.1,
     (runFirst c i j arg1 harg1 arg2 harg2 arg3 harg3 arg4 harg4 arg6 harg6 g1 g2 g3 g4 h1 (not_upper_of_first h1) (not_last_of_first h1) gP).2.2.1)
  else if h3 : isLast i j then
    ((runLast c i j arg1 harg1 arg2 harg2 arg3 harg3 arg4 harg4 arg6 harg6 g1 g2 g3 g4 h1 (upper_of_last h3) h3 (keysIn gP) (valuesIn gP) s.1 s.2).1,
     (runLast c i j arg1 harg1 arg2 harg2 arg3 harg3 arg4 harg4 arg6 harg6 g1 g2 g3 g4 h1 (upper_of_last h3) h3 (keysIn gP) (valuesIn gP) s.1 s.2).2.1,
     (runLast c i j arg1 harg1 arg2 harg2 arg3 harg3 arg4 harg4 arg6 harg6 g1 g2 g3 g4 h1 (upper_of_last h3) h3 (keysIn gP) (valuesIn gP) s.1 s.2).2.2.1)
  else if h2 : isUpper i j then
    ((runUpper c i j arg1 harg1 arg2 harg2 arg3 harg3 arg4 harg4 arg6 harg6 g1 g2 g3 g4 h1 h2 h3 (keysIn gP) (valuesIn gP) s.1 s.2).1,
     (runUpper c i j arg1 harg1 arg2 harg2 arg3 harg3 arg4 harg4 arg6 harg6 g1 g2 g3 g4 h1 h2 h3 (keysIn gP) (valuesIn gP) s.1 s.2).2.1,
     (runUpper c i j arg1 harg1 arg2 harg2 arg3 harg3 arg4 harg4 arg6 harg6 g1 g2 g3 g4 h1 h2 h3 (keysIn gP) (valuesIn gP) s.1 s.2).2.2.1)
  else
    ((runLower c i j arg1 harg1 arg2 harg2 arg3 harg3 arg4 harg4 arg6 harg6 g1 g2 g3 g4 h1 h2 h3 (keysIn gP) (valuesIn gP) s.1 s.2).1,
     (runLower c i j arg1 harg1 arg2 harg2 arg3 harg3 arg4 harg4 arg6 harg6 g1 g2 g3 g4 h1 h2 h3 (keysIn gP) (valuesIn gP) s.1 s.2).2.1,
     (runLower c i j arg1 harg1 arg2 harg2 arg3 harg3 arg4 harg4 arg6 harg6 g1 g2 g3 g4 h1 h2 h3 (keysIn gP) (valuesIn gP) s.1 s.2).2.2.1)

/-- The scratch before block `n`: anything before the first, then the keys, the values and the two gradients so far. -/
def scratchAt (s : Grads F) (n : ℕ) : sProp 𝕄 :=
  if n = 0 then iprop(∃ X9 X10 f11 f12, pt c scK X9 ∗ pt c scV X10 ∗ pt c scDK f11 ∗ pt c scDV f12)
  else iprop(pt c scK (keysIn gP) ∗ pt c scV (valuesIn gP) ∗ pt c scDK s.1 ∗ pt c scDV s.2)
/-- The two results sent out by hand, before block `n`: as they were found until the last block is done. -/
def sentAt (f7 : BufTy.Contents (Elt F) hbDK.view.ty) (f8 : BufTy.Contents (Elt F) hbDV.view.ty) (s : Grads F) (n : ℕ) : sProp 𝕄 :=
  if n = 128 then iprop(pt c hbDK s.1 ∗ pt c hbDV s.2) else iprop(pt c hbDK f7 ∗ pt c hbDV f8)
/-- What the core holds before block `n` beside the staged blocks and the pipeline's debts. -/
def restAt (f7 : BufTy.Contents (Elt F) hbDK.view.ty) (f8 : BufTy.Contents (Elt F) hbDV.view.ty) (s : Grads F) (n : ℕ) : sProp 𝕄 :=
  iprop(scratchAt c gP s n ∗ pt c hbP gP ∗ sentAt c f7 f8 s n ∗ semVal ((c : Thread nD τ), SemLoc.dma 10) 0 ∗ semVal ((c : Thread nD τ), SemLoc.dma 11) 0)
/-- Nothing is owed, whatever has been waited for. -/
abbrev free : sProp 𝕄 := iprop(∃ W, owes (c : Thread nD τ) 0 W)

/-- One block run. -/
theorem block_run (f7 : BufTy.Contents (Elt F) hbDK.view.ty) (f8 : BufTy.Contents (Elt F) hbDV.view.ty) (s : Grads F)
    (f6 : BufTy.Contents (Elt F) arg6.view.ty) :
    (iprop(staged c arg1 arg2 arg3 arg4 g1 g2 g3 g4 ∗ pt c arg6 f6 ∗ restAt c gP f7 f8 s (4 * (i 0).val + j.val) ∗ free c) : sProp 𝕄)
      ⊢ wp frame (wpE (defs₀ (F := F)) Variants.none (c : Thread nD τ) none) Set.univ
          (blockProg (F := F) i j arg1 harg1 arg2 harg2 arg3 harg3 arg4 harg4 arg6 harg6)
          (fun _ => iprop(staged c arg1 arg2 arg3 arg4 g1 g2 g3 g4
            ∗ pt c arg6 (wrote6 j arg6 f6 (block c i j arg1 harg1 arg2 harg2 arg3 harg3 arg4 harg4 arg6 harg6 g1 g2 g3 g4 gP s).1)
            ∗ restAt c gP f7 f8 (block c i j arg1 harg1 arg2 harg2 arg3 harg3 arg4 harg4 arg6 harg6 g1 g2 g3 g4 gP s).2 (4 * (i 0).val + j.val + 1) ∗ free c)) := by
  have hj : j.val < 4 := lt_of_lt_of_eq j.isLt trips_blocks
  have hi : (i 0).val < 32 := (i 0).isLt
  unfold restAt block
  by_cases h1 : isFirst i j
  · have hn := (isFirst_iff i j).mp h1
    simp only [dif_pos h1]
    rw [hn]
    simp only [scratchAt, sentAt, if_pos, Nat.zero_add, one_ne_zero, if_false, show (0:ℕ) ≠ 128 by decide, show (1:ℕ) ≠ 128 by decide]
    iintro ⟨HS, H6, ⟨⟨%X9, %X10, %f11, %f12, H9, H10, H11, H12⟩, HP, H78, Hs0, Hs1⟩, %W, HW⟩
    iapply (wp_wand_r Idealize.ShloMosaic.frame (wpE (defs₀ (F := F)) Variants.none (c : Thread nD τ) none) Set.univ)
    isplitl [HS H6 H9 H10 H11 H12 HP Hs0 Hs1 HW]
    · iapply ((runFirst c i j arg1 harg1 arg2 harg2 arg3 harg3 arg4 harg4 arg6 harg6 g1 g2 g3 g4 h1 (not_upper_of_first h1) (not_last_of_first h1) gP).2.2.2 f6 X9 X10 f11 f12 W)
      isplitl [HS]; · iexact HS
      isplitl [H6]; · iexact H6
      isplitl [H9]; · iexact H9
      isplitl [H10]; · iexact H10
      isplitl [H11]; · iexact H11
      isplitl [H12]; · iexact H12
      isplitl [HP]; · iexact HP
      isplitl [Hs0]; · iexact Hs0
      isplitl [Hs1]; · iexact Hs1
      iexact HW
    iintro %r ⟨HS, H6, H9, H10, H11, H12, HP, Hs0, Hs1, HW⟩
    isplitl [HS]; · iexact HS
    isplitl [H6]; · iexact H6
    isplitr [HW]
    · isplitl [H9 H10 H11 H12]
      · isplitl [H9]; · iexact H9
        isplitl [H10]; · iexact H10
        isplitl [H11]; · iexact H11
        iexact H12
      isplitl [HP]; · iexact HP
      isplitl [H78]; · iexact H78
      isplitl [Hs0]; · iexact Hs0
      iexact Hs1
    iexact HW
  · have hn0 : ¬ 4 * (i 0).val + j.val = 0 := fun h => h1 ((isFirst_iff i j).mpr h)
    simp only [dif_neg h1]
    by_cases h3 : isLast i j
    · have hn := (isLast_iff i j).mp h3
      simp only [dif_pos h3]
      rw [hn]
      simp only [scratchAt, sentAt, show (127:ℕ) ≠ 0 by decide, show (127:ℕ) ≠ 128 by decide, show (127 + 1:ℕ) ≠ 0 by decide, show (127 + 1:ℕ) = 128 by decide, if_false, if_pos]
      iintro ⟨HS, H6, ⟨⟨H9, H10, H11, H12⟩, HP, ⟨H7, H8⟩, Hs0, Hs1⟩, %W, HW⟩
      iapply (wp_wand_r Idealize.ShloMosaic.frame (wpE (defs₀ (F := F)) Variants.none (c : Thread nD τ) none) Set.univ)
      isplitl [HS H6 H9 H10 H11 H12 H7 H8 Hs0 Hs1 HW]
      · iapply ((runLast c i j arg1 harg1 arg2 harg2 arg3 harg3 arg4 harg4 arg6 harg6 g1 g2 g3 g4 h1 (upper_of_last h3) h3 (keysIn gP) (valuesIn gP) s.1 s.2).2.2.2 f6 f7 f8 W)
        isplitl [HS]; · iexact HS
        isplitl [H6]; · iexact H6
        isplitl [H9]; · iexact H9
        isplitl [H10]; · iexact H10
        isplitl [H11]; · iexact H11
        isplitl [H12]; · iexact H12
        isplitl [H7]; · iexact H7
        isplitl [H8]; · iexact H8
        isplitl [Hs0]; · iexact Hs0
        isplitl [Hs1]; · iexact Hs1
        iexact HW
      iintro %r ⟨HS, H6, H9, H10, H11, H12, H7, H8, Hs0, Hs1, HW⟩
      isplitl [HS]; · iexact HS
      isplitl [H6]; · iexact H6
      isplitr [HW]
      · isplitl [H9 H10 H11 H12]
        · isplitl [H9]; · iexact H9
          isplitl [H10]; · iexact H10
          isplitl [H11]; · iexact H11
          iexact H12
        isplitl [HP]; · iexact HP
        isplitl [H7 H8]
        · isplitl [H7]; · iexact H7
          iexact H8
        isplitl [Hs0]; · iexact Hs0
        iexact Hs1
      iexact HW
    · have hn1 : ¬ 4 * (i 0).val + j.val + 1 = 128 := fun h => h3 ((isLast_iff i j).mpr (by omega))
      have hn2 : ¬ 4 * (i 0).val + j.val = 128 := by omega
      simp only [dif_neg h3, scratchAt, sentAt, if_neg hn0, if_neg hn1, if_neg hn2, Nat.succ_ne_zero, if_false]
      by_cases h2 : isUpper i j
      · simp only [dif_pos h2]
        iintro ⟨HS, H6, ⟨⟨H9, H10, H11, H12⟩, HP, H78, Hs0, Hs1⟩, HW⟩
        iapply (wp_wand_r Idealize.ShloMosaic.frame (wpE (defs₀ (F := F)) Variants.none (c : Thread nD τ) none) Set.univ)
        isplitl [HS H6 H9 H10 H11 H12]
        · iapply ((runUpper c i j arg1 harg1 arg2 harg2 arg3 harg3 arg4 harg4 arg6 harg6 g1 g2 g3 g4 h1 h2 h3 (keysIn gP) (valuesIn gP) s.1 s.2).2.2.2 f6)
          isplitl [HS]; · iexact HS
          isplitl [H6]; · iexact H6
          isplitl [H9]; · iexact H9
          isplitl [H10]; · iexact H10
          isplitl [H11]; · iexact H11
          iexact H12
        iintro %r ⟨HS, H6, H9, H10, H11, H12⟩
        isplitl [HS]; · iexact HS
        isplitl [H6]; · iexact H6
        isplitr [HW]
        · isplitl [H9 H10 H11 H12]
          · isplitl [H9]; · iexact H9
            isplitl [H10]; · iexact H10
            isplitl [H11]; · iexact H11
            iexact H12
          isplitl [HP]; · iexact HP
          isplitl [H78]; · iexact H78
          isplitl [Hs0]; · iexact Hs0
          iexact Hs1
        iexact HW
      · simp only [dif_neg h2]
        iintro ⟨HS, H6, ⟨⟨H9, H10, H11, H12⟩, HP, H78, Hs0, Hs1⟩, HW⟩
        iapply (wp_wand_r Idealize.ShloMosaic.frame (wpE (defs₀ (F := F)) Variants.none (c : Thread nD τ) none) Set.univ)
        isplitl [HS H6 H9 H10 H11 H12]
        · iapply ((runLower c i j arg1 harg1 arg2 harg2 arg3 harg3 arg4 harg4 arg6 harg6 g1 g2 g3 g4 h1 h2 h3 (keysIn gP) (valuesIn gP) s.1 s.2).2.2.2 f6)
          isplitl [HS]; · iexact HS
          isplitl [H6]; · iexact H6
          isplitl [H9]; · iexact H9
          isplitl [H10]; · iexact H10
          isplitl [H11]; · iexact H11
          iexact H12
        iintro %r ⟨HS, H6, H9, H10, H11, H12⟩
        isplitl [HS]; · iexact HS
        isplitl [H6]; · iexact H6
        isplitr [HW]
        · isplitl [H9 H10 H11 H12]
          · isplitl [H9]; · iexact H9
            isplitl [H10]; · iexact H10
            isplitl [H11]; · iexact H11
            iexact H12
          isplitl [HP]; · iexact HP
          isplitl [H78]; · iexact H78
          isplitl [Hs0]; · iexact Hs0
          iexact Hs1
        iexact HW

/-- The gradient buffers before block `k` of a point. -/
def within (s : Grads F) : ℕ → Grads F
  | 0 => s
  | k + 1 => if h : k < k0_t1_loop.trips then (block c i ⟨k, h⟩ arg1 harg1 arg2 harg2 arg3 harg3 arg4 harg4 arg6 harg6 g1 g2 g3 g4 gP (within s k)).2 else within s k
/-- The staged block of the queries' gradient before block `k` of a point. -/
def rows6 (s : Grads F) (f6 : BufTy.Contents (Elt F) arg6.view.ty) : ℕ → BufTy.Contents (Elt F) arg6.view.ty
  | 0 => f6
  | k + 1 => if h : k < k0_t1_loop.trips then
      wrote6 ⟨k, h⟩ arg6 (rows6 s f6 k) (block c i ⟨k, h⟩ arg1 harg1 arg2 harg2 arg3 harg3 arg4 harg4 arg6 harg6 g1 g2 g3 g4 gP (within c i arg1 harg1 arg2 harg2 arg3 harg3 arg4 harg4 arg6 harg6 g1 g2 g3 g4 gP s k)).1
    else rows6 s f6 k

theorem within_succ (s : Grads F) (j : Fin k0_t1_loop.trips) :
    within c i arg1 harg1 arg2 harg2 arg3 harg3 arg4 harg4 arg6 harg6 g1 g2 g3 g4 gP s (j.val + 1) = (block c i j arg1 harg1 arg2 harg2 arg3 harg3 arg4 harg4 arg6 harg6 g1 g2 g3 g4 gP (within c i arg1 harg1 arg2 harg2 arg3 harg3 arg4 harg4 arg6 harg6 g1 g2 g3 g4 gP s j.val)).2 := by
  rw [within, dif_pos j.isLt]
theorem rows6_succ (s : Grads F) (f6 : BufTy.Contents (Elt F) arg6.view.ty) (j : Fin k0_t1_loop.trips) :
    rows6 c i arg1 harg1 arg2 harg2 arg3 harg3 arg4 harg4 arg6 harg6 g1 g2 g3 g4 gP s f6 (j.val + 1)
      = wrote6 j arg6 (rows6 c i arg1 harg1 arg2 harg2 arg3 harg3 arg4 harg4 arg6 harg6 g1 g2 g3 g4 gP s f6 j.val) (block c i j arg1 harg1 arg2 harg2 arg3 harg3 arg4 harg4 arg6 harg6 g1 g2 g3 g4 gP (within c i arg1 harg1 arg2 harg2 arg3 harg3 arg4 harg4 arg6 harg6 g1 g2 g3 g4 gP s j.val)).1 := by
  rw [rows6, dif_pos j.isLt]

/-- One point run: four blocks in turn. -/
theorem point_run (f7 : BufTy.Contents (Elt F) hbDK.view.ty) (f8 : BufTy.Contents (Elt F) hbDV.view.ty) (s : Grads F)
    (f6 : BufTy.Contents (Elt F) arg6.view.ty) :
    (iprop(staged c arg1 arg2 arg3 arg4 g1 g2 g3 g4 ∗ pt c arg6 f6 ∗ restAt c gP f7 f8 s (4 * (i 0).val) ∗ free c) : sProp 𝕄)
      ⊢ wp frame (wpE (defs₀ (F := F)) Variants.none (c : Thread nD τ) none) Set.univ
          (cc0_sb0 (F := F) i arg1 harg1 arg2 harg2 arg3 harg3 arg4 harg4 hbP (Memref.isWhole_whole _) arg6 harg6 hbDK (Memref.isWhole_whole _) hbDV (Memref.isWhole_whole _)
    scK (Memref.isWhole_whole _) scV (Memref.isWhole_whole _) scDK (Memref.isWhole_whole _) scDV (Memref.isWhole_whole _) cc0_scratch4)
          (fun _ => iprop(staged c arg1 arg2 arg3 arg4 g1 g2 g3 g4
            ∗ pt c arg6 (rows6 c i arg1 harg1 arg2 harg2 arg3 harg3 arg4 harg4 arg6 harg6 g1 g2 g3 g4 gP s f6 4)
            ∗ restAt c gP f7 f8 (within c i arg1 harg1 arg2 harg2 arg3 harg3 arg4 harg4 arg6 harg6 g1 g2 g3 g4 gP s 4) (4 * (i 0).val + 4) ∗ free c)) := by
  simp only [cc0_sb0_eq_skeleton]; unfold cc0_sb0_skel
  rw [wp_bind]
  iintro HI
  iapply (Scf.wp_for Idealize.ShloMosaic.frame (wpE (defs₀ (F := F)) Variants.none (c : Thread nD τ) none) Set.univ
    k0_t1_loop.lb k0_t1_loop.ub k0_t1_loop.st k0_t1_ok ⟨⟩
    (k0_t1_body (F := F) i arg1 harg1 arg2 harg2 arg3 harg3 arg4 harg4 hbP (Memref.isWhole_whole _) arg6 harg6 hbDK (Memref.isWhole_whole _) hbDV (Memref.isWhole_whole _)
    scK (Memref.isWhole_whole _) scV (Memref.isWhole_whole _) scDK (Memref.isWhole_whole _) scDV (Memref.isWhole_whole _) cc0_scratch4 (BitVec.ofNat 32 (i 0).val))
    (fun k _ => iprop(staged c arg1 arg2 arg3 arg4 g1 g2 g3 g4
            ∗ pt c arg6 (rows6 c i arg1 harg1 arg2 harg2 arg3 harg3 arg4 harg4 arg6 harg6 g1 g2 g3 g4 gP s f6 k)
            ∗ restAt c gP f7 f8 (within c i arg1 harg1 arg2 harg2 arg3 harg3 arg4 harg4 arg6 harg6 g1 g2 g3 g4 gP s k) (4 * (i 0).val + k) ∗ free c))
    (fun j acc => by
      show _ ⊢ wp _ _ _ (blockProg (F := F) i j arg1 harg1 arg2 harg2 arg3 harg3 arg4 harg4 arg6 harg6) _
      rw [rows6_succ, within_succ]
      exact block_run c i j arg1 harg1 arg2 harg2 arg3 harg3 arg4 harg4 arg6 harg6 g1 g2 g3 g4 gP f7 f8 _ _))
  isplitl [HI]
  · iexact HI
  iintro %acc HI
  rw [wp_pure]
  imodintro
  iexact HI

end Block

end Cert.KernelIdeal.Sb

end
-- ==== Proof.SbFrame.lean ====
/- The attention's backward call launched: the pipeline's proof data, the body's obligation at every point, the run,
   and what the run leaves in the three results and in the arguments. -/
module

public import proofs.«01_k».proof.Proof.SbPoint
public import Idealize.ShloMosaic.Lib.Pipeline.FrameValue
public import Idealize.ShloMosaic.Lib.Pipeline.Value

@[expose] public section

set_option maxRecDepth 16384
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-! ## The launch -/

/-- The two results the body sends out itself. -/
def sentRefs : Finset (Ref sig .tc) := {main_v76_1, main_v76_2}
/-- The array the body's own transfers read. -/
def readRefs : Finset (Ref sig .tc) := {main_arg1}
theorem readRefs_sub : readRefs ⊆ Pipeline.restRefs sig spec0 := by decide
theorem sentRefs_sub : sentRefs ⊆ Pipeline.restRefs sig spec0 \ readRefs := by decide
/-- The body's two transfer semaphores. -/
abbrev ownSem : Fin 2 → SemLoc sig := fun k => (![SemLoc.dma 10, SemLoc.dma 11] : Fin 2 → SemLoc sig) k
theorem ownSem_facts : Pipeline.OwnSemFacts spec0 ownSem := by decide

set_option maxHeartbeats 8000000 in
/-- The program up to the launch: the host operations, then the region. -/
theorem hmainUD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh⟩) main_chain

theorem hst0_0 (t : Fin cfg0.N) : (st0_0 t).IsWhole := hstage0_0 ((cfg0.slots t 0).cast nbuf0_0)
theorem hst0_1 (t : Fin cfg0.N) : (st0_1 t).IsWhole := hstage0_1 ((cfg0.slots t 1).cast nbuf0_1)
theorem hst0_2 (t : Fin cfg0.N) : (st0_2 t).IsWhole := hstage0_2 ((cfg0.slots t 2).cast nbuf0_2)
theorem hst0_3 (t : Fin cfg0.N) : (st0_3 t).IsWhole := hstage0_3 ((cfg0.slots t 3).cast nbuf0_3)
theorem hst0_4 (t : Fin cfg0.N) : (st0_4 t).IsWhole := hstage0_4 ((cfg0.slots t 4).cast nbuf0_4)

/-- The four staged blocks at a point, as contents of their buffers. -/
def staged0 (c : Dev nD) (t : Fin cfg0.N) : BufTy.Contents (Elt F) (st0_0 t).view.ty := (hst0_0 t).unread (iblk m c 0 t)
def staged1 (c : Dev nD) (t : Fin cfg0.N) : BufTy.Contents (Elt F) (st0_1 t).view.ty := (hst0_1 t).unread (iblk m c 1 t)
def staged2 (c : Dev nD) (t : Fin cfg0.N) : BufTy.Contents (Elt F) (st0_2 t).view.ty := (hst0_2 t).unread (iblk m c 2 t)
def staged3 (c : Dev nD) (t : Fin cfg0.N) : BufTy.Contents (Elt F) (st0_3 t).view.ty := (hst0_3 t).unread (iblk m c 3 t)

/-- Block `j` of point `t`, from the gradient buffers before it. -/
def blockAt (c : Dev nD) (t : Fin cfg0.N) (j : Fin k0_t1_loop.trips) (s : Grads F) : Vec F S128x128 .bf16 × Grads F :=
  block c (grid0.coords t) j (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) s
/-- The gradient buffers before block `k` of point `t`. -/
def withinAt (c : Dev nD) (t : Fin cfg0.N) (s : Grads F) (k : ℕ) : Grads F :=
  within c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) s k
/-- The gradient buffers before point `p`. -/
def gradsAt (c : Dev nD) : ℕ → Grads F
  | 0 => (zeros11, zeros12)
  | p + 1 => if h : p < cfg0.N then withinAt m c ⟨p, h⟩ (gradsAt c p) 4 else gradsAt c p
theorem gradsAt_succ (c : Dev nD) (t : Fin cfg0.N) : gradsAt m c (t.val + 1) = withinAt m c t (gradsAt m c t.val) 4 := by
  rw [gradsAt, dif_pos t.isLt]
theorem withinAt_succ (c : Dev nD) (t : Fin cfg0.N) (s : Grads F) (j : Fin k0_t1_loop.trips) :
    withinAt m c t s (j.val + 1) = (blockAt m c t j (withinAt m c t s j.val)).2 := within_succ c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) s j

/-- Block `j`'s 128 rows of the queries' gradient. -/
def rowsOf (c : Dev nD) (t : Fin cfg0.N) (j : Fin k0_t1_loop.trips) : Vec F S128x128 .bf16 :=
  (blockAt m c t j (withinAt m c t (gradsAt m c t.val) j.val)).1
/-- One block's rows as a piece of the staged block. -/
abbrev pieceAt (c : Dev nD) (t : Fin cfg0.N) (j : Fin k0_t1_loop.trips) : View.Piece (Elt F) S512x128 .bf16 :=
  ⟨Rect.unit (s := S512x128) (k0_off1 j) S128x128.size (k0_off1_inb j), rowsOf m c t j⟩
abbrev jBlock (k : Fin 4) : Fin k0_t1_loop.trips := ⟨k.val, lt_of_lt_of_eq k.isLt trips_blocks.symm⟩
/-- The four pieces of a point. -/
def piecesAt (c : Dev nD) (t : Fin cfg0.N) : List (View.Piece (Elt F) S512x128 .bf16) :=
  [pieceAt m c t (jBlock 3), pieceAt m c t (jBlock 2), pieceAt m c t (jBlock 1), pieceAt m c t (jBlock 0)]

theorem off1_eq : ∀ j : Fin k0_t1_loop.trips, k0_off1 j = ![128 * j.val, 0] := by decide +kernel

/-- The four pieces cover the staged block. -/
theorem pieces_cover (c : Dev nD) (t : Fin cfg0.N) (y : S512x128.Idx) : ∃ p ∈ piecesAt m c t, y ∈ p.1.set := by
  have h0 : (y 0).val < 512 := (y 0).isLt
  have h1 : (y 1).val < 128 := (y 1).isLt
  have hmem : ∀ k : Fin 4, 128 * k.val ≤ (y 0).val → (y 0).val < 128 * k.val + 128 → y ∈ (pieceAt m c t (jBlock k)).1.set := by
    intro k ha hb
    show y ∈ (Rect.unit (s := S512x128) (k0_off1 (jBlock k)) S128x128.size (k0_off1_inb (jBlock k))).set
    rw [Rect.mem_set_unit]
    intro a
    rw [off1_eq]
    fin_cases a
    · exact ⟨ha, hb⟩
    · exact ⟨Nat.zero_le _, by simpa using h1⟩
  have : (y 0).val / 128 < 4 := by omega
  rcases (show (y 0).val / 128 = 0 ∨ (y 0).val / 128 = 1 ∨ (y 0).val / 128 = 2 ∨ (y 0).val / 128 = 3 by omega) with h | h | h | h
  · exact ⟨_, by simp [piecesAt], hmem 0 (by simp) (by show _ < 128 * 0 + 128; omega)⟩
  · exact ⟨_, by simp [piecesAt], hmem 1 (by show 128 * 1 ≤ _; omega) (by show _ < 128 * 1 + 128; omega)⟩
  · exact ⟨_, by simp [piecesAt], hmem 2 (by show 128 * 2 ≤ _; omega) (by show _ < 128 * 2 + 128; omega)⟩
  · exact ⟨_, by simp [piecesAt], hmem 3 (by show 128 * 3 ≤ _; omega) (by show _ < 128 * 3 + 128; omega)⟩

/-- What a point leaves in the staged block of the queries' gradient. -/
abbrev viewO : View sig .tc .vmem S512x128 .bf16 := (Memref.whole cc0_stg4_0 : Memref sig .tc .vmem S512x128 .bf16).view
def outAt (c : Dev nD) (t : Fin cfg0.N) : Vec F S512x128 .bf16 := viewO.read (Elt F) (viewO.writes (Elt F) viewO.junk (piecesAt m c t))

theorem rows6_four (c : Dev nD) (t : Fin cfg0.N) (f6 : BufTy.Contents (Elt F) (st0_4 t).view.ty) :
    rows6 c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) (gradsAt m c t.val) f6 4 = (st0_4 t).view.writes (Elt F) f6 (piecesAt m c t) := by
  have e3 := rows6_succ c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) (gradsAt m c t.val) f6 (jBlock 3)
  have e2 := rows6_succ c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) (gradsAt m c t.val) f6 (jBlock 2)
  have e1 := rows6_succ c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) (gradsAt m c t.val) f6 (jBlock 1)
  have e0 := rows6_succ c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) (gradsAt m c t.val) f6 (jBlock 0)
  refine e3.trans ?_
  refine (congrArg (fun x => wrote6 (jBlock 3) (st0_4 t) x (rowsOf m c t (jBlock 3))) e2).trans ?_
  refine (congrArg (fun x => wrote6 (jBlock 3) (st0_4 t) (wrote6 (jBlock 2) (st0_4 t) x (rowsOf m c t (jBlock 2))) (rowsOf m c t (jBlock 3))) e1).trans ?_
  exact congrArg (fun x => wrote6 (jBlock 3) (st0_4 t) (wrote6 (jBlock 2) (st0_4 t) (wrote6 (jBlock 1) (st0_4 t) x (rowsOf m c t (jBlock 1))) (rowsOf m c t (jBlock 2))) (rowsOf m c t (jBlock 3))) e0

/-- The proof data of the one pipeline: the arrays as found, the staged blocks, the queries' gradient of a point, and
    between points the scratch, the array read and the two results sent. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ p := iprop((∃ r, prngReg c r) ∗ restAt c (V m c main_arg1) (V m c main_v76_1) (V m c main_v76_2) (gradsAt m c p.val) (4 * p.val))
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
/-- Input 0's staged block is its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input 1's staged block is its block at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input 2's staged block is its block at every point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input 3's staged block is its block at every point. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem coords_val : ∀ t : Fin cfg0.N, ((grid0.coords t) 0).val = t.val := (by decide +kernel : ∀ t : Fin grid0.N, ((grid0.coords t) 0).val = t.val)

/-- A whole buffer at given contents, from its ownership at the block read there, and back. -/
theorem open_owns {S : Shape} {e : EltTy} (c : Dev nD) (M : Memref sig .tc .vmem S e) (h : M.IsWhole) (X : Vec F S e) :
    (owns (c : Thread nD τ) M fullShare X : sProp 𝕄) ⊢ pt c M (h.unread X) := by
  unfold owns
  iintro ⟨%f, %hf, H⟩
  have := h.eq_unread hf
  subst this
  iexact H
theorem close_owns {S : Shape} {e : EltTy} (c : Dev nD) (M : Memref sig .tc .vmem S e) (h : M.IsWhole) (X : Vec F S e) :
    (pt c M (h.unread X) : sProp 𝕄) ⊢ owns (c : Thread nD τ) M fullShare X := by
  unfold owns
  iintro H
  iexists _; isplitr
  swap; · iexact H
  ipureintro; exact h.read_unread X

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, after0_1, after0_2, after0_3, after0_4]
  simp only [before0_0, before0_1, before0_2, before0_3]
  rw [show (dats m 0 c).Φ t.castSucc = iprop((∃ r, prngReg c r) ∗ restAt c (V m c main_arg1) (V m c main_v76_1) (V m c main_v76_2) (gradsAt m c t.val) (4 * t.val)) from rfl,
    show (dats m 0 c).Φ t.succ = iprop((∃ r, prngReg c r) ∗ restAt c (V m c main_arg1) (V m c main_v76_1) (V m c main_v76_2) (gradsAt m c (t.val + 1)) (4 * (t.val + 1))) from rfl]
  unfold Dat.owesAt Pipeline.owesWithin
  rw [show (dats m 0 c).owed t.castSucc = 0 from rfl, show (dats m 0 c).owed t.succ = 0 from rfl]
  have key := point_run c (grid0.coords t) (st0_0 t) (hst0_0 t) (st0_1 t) (hst0_1 t) (st0_2 t) (hst0_2 t) (st0_3 t) (hst0_3 t) (st0_4 t) (hst0_4 t) (staged0 m c t) (staged1 m c t) (staged2 m c t) (staged3 m c t) (V m c main_arg1) (V m c main_v76_1) (V m c main_v76_2) (gradsAt m c t.val)
  rw [coords_val t] at key
  iintro ⟨⟨Hg, HR⟩, ⟨%W, -, HW⟩, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [HR HW H0 H1 H2 H3 H4]
  · iapply (key ((hst0_4 t).unread ((dats m 0 c).before 4 t d4)))
    isplitl [H0 H1 H2 H3]
    · isplitl [H0]; · iapply (open_owns c (st0_0 t) (hst0_0 t) (iblk m c 0 t)); iexact H0
      isplitl [H1]; · iapply (open_owns c (st0_1 t) (hst0_1 t) (iblk m c 1 t)); iexact H1
      isplitl [H2]; · iapply (open_owns c (st0_2 t) (hst0_2 t) (iblk m c 2 t)); iexact H2
      iapply (open_owns c (st0_3 t) (hst0_3 t) (iblk m c 3 t)); iexact H3
    isplitl [H4]; · iapply (open_owns c (st0_4 t) (hst0_4 t) ((dats m 0 c).before 4 t d4)); iexact H4
    isplitl [HR]; · iexact HR
    iexists _; iexact HW
  iintro %r ⟨⟨H0, H1, H2, H3⟩, H4, HR, ⟨%W', HW'⟩⟩
  isplitl [Hg HR]
  · isplitl [Hg]; · iexact Hg
    rw [gradsAt_succ, Nat.mul_add, Nat.mul_one]
    iexact HR
  isplitl [HW']
  · iexists W'; isplitr; · ipureintro; exact fun _ _ => Or.inl trivial
    iexact HW'
  isplitl [H0]; · iapply (close_owns c (st0_0 t) (hst0_0 t) (iblk m c 0 t)); iexact H0
  isplitl [H1]; · iapply (close_owns c (st0_1 t) (hst0_1 t) (iblk m c 1 t)); iexact H1
  isplitl [H2]; · iapply (close_owns c (st0_2 t) (hst0_2 t) (iblk m c 2 t)); iexact H2
  isplitl [H3]; · iapply (close_owns c (st0_3 t) (hst0_3 t) (iblk m c 3 t)); iexact H3
  rw [rows6_four]
  unfold owns outAt
  iexists _; isplitr
  swap; · iexact H4
  ipureintro; exact View.read_writes_of_cover _ _ _ _ _ (pieces_cover m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The contents the two sent results end with. -/
def sent (c : Dev nD) (b : Ref sig .tc) : Buf (Elt F) ((c : Thread nD τ).loc b) :=
  Function.update (Function.update (V m c) main_v76_1 (gradsAt m c 32).1) main_v76_2 (gradsAt m c 32).2 b
theorem sent_dk (c : Dev nD) : sent m c main_v76_1 = (gradsAt m c 32).1 := by
  unfold sent; rw [Function.update_of_ne (show main_v76_1 ≠ main_v76_2 by decide), Function.update_self]
theorem sent_dv (c : Dev nD) : sent m c main_v76_2 = (gradsAt m c 32).2 := by
  unfold sent; rw [Function.update_self]

theorem invariant_eq (G : (c : Dev nD) → (b : Ref sig .tc) → Buf (Elt F) ((c : Thread nD τ).loc b)) (c : Dev nD) :
    (Pipeline.ΦDRG ownSem spec0 readRefs sentRefs (V m) G c : sProp 𝕄)
      = iprop(iprop((∃ f, pt c scK f) ∗ (∃ f, pt c scV f) ∗ (∃ f, pt c scDK f) ∗ (∃ f, pt c scDV f))
          ∗ (∃ r, prngReg c r) ∗ iprop(semVal ((c : Thread nD τ), SemLoc.dma 10) 0 ∗ semVal ((c : Thread nD τ), SemLoc.dma 11) 0)
          ∗ pt c hbP (V m c main_arg1) ∗ iprop(pt c hbDK (G c main_v76_1) ∗ pt c hbDV (G c main_v76_2))) := by
  rw [Pipeline.ΦDRG_eq, scopedRest0_eq]
  rw [Pipeline.ownSems0_eq_of_list c ownSem [0, 1] (by decide) (by decide)]
  rw [BI.bigSep_eq_bigSepL_of_eq (S := readRefs) [main_arg1] (by decide) (by decide)]
  unfold Pipeline.routed
  rw [BI.bigSep_eq_bigSepL_of_eq (S := sentRefs) [main_v76_1, main_v76_2] (by decide) (by decide)]
  simp only [pt, View.set_whole]
  rfl

theorem invariant_in (c : Dev nD) : (Pipeline.ΦDRG ownSem spec0 readRefs sentRefs (V m) (V m) c : sProp 𝕄) ⊢ (dats m 0 c).Φ 0 := by
  rw [invariant_eq]
  show _ ⊢ iprop((∃ r, prngReg c r) ∗ restAt c (V m c main_arg1) (V m c main_v76_1) (V m c main_v76_2) (gradsAt m c 0) 0)
  unfold restAt scratchAt sentAt
  rw [if_pos rfl, if_neg (show ¬ (0:ℕ) = 128 by decide)]
  iintro ⟨⟨⟨%f0, H0⟩, ⟨%f1, H1⟩, ⟨%f2, H2⟩, ⟨%f3, H3⟩⟩, Hg, ⟨Hs0, Hs1⟩, HP, H78⟩
  isplitl [Hg]; · iexact Hg
  isplitl [H0 H1 H2 H3]
  · iexists f0; iexists f1; iexists f2; iexists f3
    isplitl [H0]; · iexact H0
    isplitl [H1]; · iexact H1
    isplitl [H2]; · iexact H2
    iexact H3
  isplitl [HP]; · iexact HP
  isplitl [H78]; · iexact H78
  isplitl [Hs0]; · iexact Hs0
  iexact Hs1

theorem invariant_out (c : Dev nD) : (dats m 0 c).Φ (Fin.last cfg0.N) ⊢ (Pipeline.ΦDRG ownSem spec0 readRefs sentRefs (V m) (sent m) c : sProp 𝕄) := by
  rw [invariant_eq, sent_dk, sent_dv]
  rw [show (dats m 0 c).Φ (Fin.last cfg0.N) = iprop((∃ r, prngReg c r) ∗ restAt c (V m c main_arg1) (V m c main_v76_1) (V m c main_v76_2) (gradsAt m c 32) 128) from by
    show iprop((∃ r, prngReg c r) ∗ restAt c (V m c main_arg1) (V m c main_v76_1) (V m c main_v76_2) (gradsAt m c grid0.N) (4 * grid0.N)) = _
    rw [N_0]]
  unfold restAt scratchAt sentAt
  rw [if_neg (show ¬ (128:ℕ) = 0 by decide), if_pos rfl]
  iintro ⟨Hg, ⟨H0, H1, H2, H3⟩, HP, H78, Hs0, Hs1⟩
  isplitl [H0 H1 H2 H3]
  · isplitl [H0]; · iexists _; iexact H0
    isplitl [H1]; · iexists _; iexact H1
    isplitl [H2]; · iexists _; iexact H2
    iexists _; iexact H3
  isplitl [Hg]; · iexact Hg
  isplitl [Hs0 Hs1]
  · isplitl [Hs0]; · iexact Hs0
    iexact Hs1
  isplitl [HP]; · iexact HP
  iexact H78

set_option backward.isDefEq.respectTransparency.types false in
theorem run_main : θ_run defs (onTc (τ := τ) (main (F := F))) (s₀ m ρ)
    (fun r => Pipeline.FramePostRG cfgs (dats m) 0 sentRefs (V m) (sent m) r ∧ r.2.sem = fun _ => 0) :=
  Pipeline.θ_run_frame_dmaRG (Q' := _) cfgs (dats m) (0 : Fin 1) launch0 ownSem defs₀ Variants.none ownSem_facts readRefs sentRefs readRefs_sub sentRefs_sub m ρ main
    (hbody := fun c => (body_obligation m c).loose) (hshare := fun c => (dats m 0 c).share_full fun _ => rfl)
    (howed := fun _ _ => rfl) (V := V m) (hmain := hmainUD m Variants.none) (hA := A_eq m) (G := sent m)
    (hin := invariant_in m) (hout := invariant_out m)

/-- The run: what the three results hold, the arguments unchanged, every semaphore back at zero. -/
theorem run : θ_run defs (onTc (τ := τ) (main (F := F))) ⟨m, fun _ => 0, ρ⟩ (fun r => (∀ c : Dev nD,
      r.2.mem ((c.tc : Thread nD τ).loc main_v76_0) = (dats m 0 c).arrAt 4 cfg0.N
      ∧ r.2.mem ((c.tc : Thread nD τ).loc main_v76_1) = (gradsAt m c 32).1
      ∧ r.2.mem ((c.tc : Thread nD τ).loc main_v76_2) = (gradsAt m c 32).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.toR c).1 4,
      (h.1.written c (by decide)).trans (sent_dk m c), (h.1.written c (by decide)).trans (sent_dv m c),
      ((h.1.toR c).1 0).trans (((dats m 0 c).arrAt_in 0 rfl _).trans ((A_eq m c 0).trans (V_main_arg0 m c))),
      ((h.1.toR c).2 main_arg1 (Finset.mem_sdiff.mpr ⟨Pipeline.mem_restRefs_of main_arg1 (by decide) (by decide), by decide⟩)).trans (V_main_arg1 m c),
      ((h.1.toR c).1 3).trans (((dats m 0 c).arrAt_in 3 rfl _).trans ((A_eq m c 3).trans (V_main_arg2 m c)))⟩, h.2⟩) (run_main m ρ)

/-- The run keeps the arguments and leaves every semaphore at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2, h.2⟩) (run m ρ)

end Cert.KernelIdeal.Sb

end
-- ==== Proof.lean ====
/- The claims assembled: the launched programs leave their arguments as they were and every semaphore at zero, the
   idealized programs are the printed ones, the convolution's backward call computes what its reference computes, so do the
   mixer's product calls, the normalisation's, its gradient's and the convolution's forward calls, the loss's and the optimiser's calls, and the feed-forward layer's calls compute what theirs computes where its arguments are real. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_bounded
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2Ideal.Value
public import proofs.«01_k».proof.Proof.Gen.Reference2Ideal.Read
public import proofs.«01_k».proof.Proof.ConvSame
public import proofs.«01_k».proof.Proof.FfnSame
public import proofs.«01_k».proof.Proof.LinSame
public import proofs.«01_k».proof.Proof.RowSame
public import proofs.«01_k».proof.Proof.StepSame
public import proofs.«01_k».proof.Proof.RestSame
public import proofs.«01_k».proof.Proof.SbSame
public import proofs.«01_k».proof.Proof.SbFrame

@[expose] public section

set_option maxRecDepth 16384

noncomputable section

namespace Cert.Proof

open Idealize.ShloMosaic Idealize.ShloMosaic.TcCoe Idealize.SL.Sem

set_option maxHeartbeats 4000000

/-- The attention's backward call, at bits. -/
theorem frame_kernel : Cert.quiescent_Kernel (hKernel := Cert.Kernel.Gen.facts) := by
  intro m ρ _
  rw [defs_eq, main_eq]
  exact Cert.KernelIdeal.Sb.run_args (F := Bits) m ρ
/-- The attention's backward call, idealized. -/
theorem frame_kernelIdeal : Cert.quiescent_KernelIdeal (hKernelIdeal := Cert.KernelIdeal.Gen.facts) := fun m ρ _ =>
  Cert.KernelIdeal.Sb.run_args (F := Ideal) m ρ
/-- The attention's reference, idealized. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩) (Cert.ReferenceIdeal.Value.run (F := Ideal) m ρ)
/-- The convolution's backward call, at bits. -/
theorem frame_kernel2 : Cert.quiescent_Kernel2 (hKernel2 := Cert.Kernel2.Gen.facts) := fun m ρ _ =>
  Cert.Kernel2.Gen.frame m ρ
/-- The convolution's backward call, idealized. -/
theorem frame_kernel2Ideal : Cert.quiescent_Kernel2Ideal (hKernel2Ideal := Cert.Kernel2Ideal.Gen.facts) := fun m ρ _ =>
  Cert.Kernel2Ideal.Gen.frame m ρ
/-- The convolution's reference, idealized. -/
theorem frame_reference2Ideal : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩) (Cert.Reference2Ideal.Value.run (F := Ideal) m ρ)

/-- The feed-forward layer's calls, at bits. -/
theorem frame_kernel3 : Cert.quiescent_Kernel3 (hKernel3 := Cert.Kernel3.Gen.facts) := fun m ρ _ =>
  Cert.Kernel3.Gen.frame m ρ
/-- The feed-forward layer's calls, idealized. -/
theorem frame_kernel3Ideal : Cert.quiescent_Kernel3Ideal (hKernel3Ideal := Cert.Kernel3Ideal.Gen.facts) := fun m ρ _ =>
  Cert.Kernel3Ideal.Gen.frame m ρ
/-- The feed-forward layer's reference, idealized. -/
theorem frame_reference3Ideal : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩) (Cert.Reference3Ideal.Value.run (F := Ideal) m ρ)

/-- The mixer's product calls, at bits. -/
theorem frame_kernel4 : Cert.quiescent_Kernel4 (hKernel4 := Cert.Kernel4.Gen.facts) := fun m ρ _ =>
  Cert.Kernel4.Gen.frame m ρ
/-- The mixer's product calls, idealized. -/
theorem frame_kernel4Ideal : Cert.quiescent_Kernel4Ideal (hKernel4Ideal := Cert.Kernel4Ideal.Gen.facts) := fun m ρ _ =>
  Cert.Kernel4Ideal.Gen.frame m ρ
/-- The reference of the mixer's products, idealized. -/
theorem frame_reference4Ideal : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩) (Cert.Reference4Ideal.Value.run (F := Ideal) m ρ)

/-- The normalisation's, its gradient's and the convolution's forward calls, at bits. -/
theorem frame_kernel5 : Cert.quiescent_Kernel5 (hKernel5 := Cert.Kernel5.Gen.facts) := fun m ρ _ =>
  Cert.Kernel5.Gen.frame m ρ
/-- The normalisation's, its gradient's and the convolution's forward calls, idealized. -/
theorem frame_kernel5Ideal : Cert.quiescent_Kernel5Ideal (hKernel5Ideal := Cert.Kernel5Ideal.Gen.facts) := fun m ρ _ =>
  Cert.Kernel5Ideal.Gen.frame m ρ
/-- Their reference, idealized. -/
theorem frame_reference5Ideal : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩) (Cert.Reference5Ideal.Value.run (F := Ideal) m ρ)

/-- The loss's and the optimiser's calls, at bits. -/
theorem frame_kernel6 : Cert.quiescent_Kernel6 (hKernel6 := Cert.Kernel6.Gen.facts) := fun m ρ _ =>
  Cert.Kernel6.Gen.frame m ρ
/-- The loss's and the optimiser's calls, idealized. -/
theorem frame_kernel6Ideal : Cert.quiescent_Kernel6Ideal (hKernel6Ideal := Cert.Kernel6Ideal.Gen.facts) := fun m ρ _ =>
  Cert.Kernel6Ideal.Gen.frame m ρ
/-- Their reference, idealized. -/
theorem frame_reference6Ideal : Cert.quiescent_Reference6Ideal (hReference6Ideal := Cert.Reference6Ideal.Gen.facts) := fun m ρ _ =>
  (θ_run Cert.Reference6Ideal.defs _ _).mono (fun r h => ⟨fun c => (h c).2.2.2.2.2.2, sem_eq_zero_of_no_sems (by decide) r.2⟩) (Cert.Reference6Ideal.Value.run (F := Ideal) m ρ)

/-- The optimiser's other calls, at bits. -/
theorem frame_kernel7 : Cert.quiescent_Kernel7 (hKernel7 := Cert.Kernel7.Gen.facts) := fun m ρ _ =>
  Cert.Kernel7.Gen.frame m ρ
/-- The optimiser's other calls, idealized. -/
theorem frame_kernel7Ideal : Cert.quiescent_Kernel7Ideal (hKernel7Ideal := Cert.Kernel7Ideal.Gen.facts) := fun m ρ _ =>
  Cert.Kernel7Ideal.Gen.frame m ρ
/-- Their reference, idealized. -/
theorem frame_reference7Ideal : Cert.quiescent_Reference7Ideal (hReference7Ideal := Cert.Reference7Ideal.Gen.facts) := fun m ρ _ =>
  (θ_run Cert.Reference7Ideal.defs _ _).mono (fun r h => ⟨fun c => (h c).2.2.2.2.2.2.2.2.2.2.2.2.2.2.2.2.2.2.2.2, sem_eq_zero_of_no_sems (by decide) r.2⟩) (Cert.Reference7Ideal.Value.run (F := Ideal) m ρ)

/-- Everything claimed. -/
theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel.Gen.facts, Cert.KernelIdeal.Gen.facts, Cert.ReferenceIdeal.Gen.facts, Cert.Pre_bounded.Gen.facts,
    frame_kernel2, frame_kernel2Ideal, frame_reference2Ideal, frame_kernel3, frame_kernel3Ideal, fun m ρ _ => frame_kernel3Ideal m ρ trivial,
    frame_reference3Ideal, fun m ρ _ => frame_reference3Ideal m ρ trivial, frame_kernel4, frame_kernel4Ideal, frame_reference4Ideal,
    frame_kernel5, frame_kernel5Ideal, frame_reference5Ideal, frame_kernel6, frame_kernel6Ideal, frame_reference6Ideal, frame_kernel7, frame_kernel7Ideal, frame_reference7Ideal, frame_kernel, frame_kernelIdeal, frame_referenceIdeal,
    trivial, Cert.Proof.Conv.same, trivial, Cert.Proof.Ffn.same, trivial, Cert.Proof.Lin.same, trivial, Cert.Proof.Row.same, trivial, Cert.Proof.Step.same, trivial, Cert.Proof.Rest.same, trivial⟩

end Cert.Proof
